-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_sb [hPre_finite_sb : Cert.Pre_finite_sb.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_sb.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))).1 = (fun _ => 1#1)
    ∧ (Cert.Pre_finite_sb.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_sb [hPre_finite_sb : Cert.Pre_finite_sb.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_sb.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))).1 = (fun _ => 1#1)
    ∧ (Cert.Pre_finite_sb.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_mix [hPre_finite_mix : Cert.Pre_finite_mix.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_mix.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_finite_mix.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_finite_mix.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.1 = (fun _ => 1#1)
    ∧ (Cert.Pre_finite_mix.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.1 = (fun _ => 1#1)
    ∧ (Cert.Pre_finite_mix.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.1 = (fun _ => 1#1)
    ∧ (Cert.Pre_finite_mix.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_mix [hPre_finite_mix : Cert.Pre_finite_mix.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_mix.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_finite_mix.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_finite_mix.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.1 = (fun _ => 1#1)
    ∧ (Cert.Pre_finite_mix.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.1 = (fun _ => 1#1)
    ∧ (Cert.Pre_finite_mix.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2.1 = (fun _ => 1#1)
    ∧ (Cert.Pre_finite_mix.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_in [hPre_finite_in : Cert.Pre_finite_in.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_in.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_finite_in.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_finite_in.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.1 = (fun _ => 1#1)
    ∧ (Cert.Pre_finite_in.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2.1 = (fun _ => 1#1)
    ∧ (Cert.Pre_finite_in.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_in [hPre_finite_in : Cert.Pre_finite_in.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_in.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_finite_in.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_finite_in.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.1 = (fun _ => 1#1)
    ∧ (Cert.Pre_finite_in.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2.1 = (fun _ => 1#1)
    ∧ (Cert.Pre_finite_in.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_up [hPre_finite_up : Cert.Pre_finite_up.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_up.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).1 = (fun _ => 1#1)
    ∧ (Cert.Pre_finite_up.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.1 = (fun _ => 1#1)
    ∧ (Cert.Pre_finite_up.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.1 = (fun _ => 1#1)
    ∧ (Cert.Pre_finite_up.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.2.1 = (fun _ => 1#1)
    ∧ (Cert.Pre_finite_up.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_up [hPre_finite_up : Cert.Pre_finite_up.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_up.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).1 = (fun _ => 1#1)
    ∧ (Cert.Pre_finite_up.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.1 = (fun _ => 1#1)
    ∧ (Cert.Pre_finite_up.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.1 = (fun _ => 1#1)
    ∧ (Cert.Pre_finite_up.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.2.1 = (fun _ => 1#1)
    ∧ (Cert.Pre_finite_up.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_ffn [hPre_finite_ffn : Cert.Pre_finite_ffn.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_ffn.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).1 = (fun _ => 1#1)
    ∧ (Cert.Pre_finite_ffn.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.1 = (fun _ => 1#1)
    ∧ (Cert.Pre_finite_ffn.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.2.1 = (fun _ => 1#1)
    ∧ (Cert.Pre_finite_ffn.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_ffn [hPre_finite_ffn : Cert.Pre_finite_ffn.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_ffn.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).1 = (fun _ => 1#1)
    ∧ (Cert.Pre_finite_ffn.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.1 = (fun _ => 1#1)
    ∧ (Cert.Pre_finite_ffn.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.2.1 = (fun _ => 1#1)
    ∧ (Cert.Pre_finite_ffn.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Kernel2Ideal_pre_finite_sb [hKernel2Ideal : Cert.Kernel2Ideal.Facts] [hPre_finite_sb : Cert.Pre_finite_sb.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_sb m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Reference2Ideal_pre_finite_sb [hReference2Ideal : Cert.Reference2Ideal.Facts] [hPre_finite_sb : Cert.Pre_finite_sb.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_sb m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite_mix [hKernel3Ideal : Cert.Kernel3Ideal.Facts] [hPre_finite_mix : Cert.Pre_finite_mix.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_mix m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite_mix [hReference3Ideal : Cert.Reference3Ideal.Facts] [hPre_finite_mix : Cert.Pre_finite_mix.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_mix m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite_in [hKernel4Ideal : Cert.Kernel4Ideal.Facts] [hPre_finite_in : Cert.Pre_finite_in.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_in m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite_in [hReference4Ideal : Cert.Reference4Ideal.Facts] [hPre_finite_in : Cert.Pre_finite_in.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_in m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite_up [hKernel5Ideal : Cert.Kernel5Ideal.Facts] [hPre_finite_up : Cert.Pre_finite_up.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_up m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite_up [hReference5Ideal : Cert.Reference5Ideal.Facts] [hPre_finite_up : Cert.Pre_finite_up.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_up m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite_ffn [hKernel6Ideal : Cert.Kernel6Ideal.Facts] [hPre_finite_ffn : Cert.Pre_finite_ffn.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_ffn m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite_ffn [hReference6Ideal : Cert.Reference6Ideal.Facts] [hPre_finite_ffn : Cert.Pre_finite_ffn.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_ffn m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_v53) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite_sb [hKernel2Ideal : Cert.Kernel2Ideal.Facts] [hReference2Ideal : Cert.Reference2Ideal.Facts] [hPre_finite_sb : Cert.Pre_finite_sb.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_sb m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v34_0)) (v1 : (c : Dev Cert.Kernel2Ideal.nD) → Buf (Elt Ideal) ((c.tc : Thread Cert.Kernel2Ideal.nD Cert.Kernel2Ideal.τ).loc Cert.Kernel2Ideal.main_v34_1)) (v2 : (c : Dev Cert.Kernel2Ideal.nD) → Buf (Elt Ideal) ((c.tc : Thread Cert.Kernel2Ideal.nD Cert.Kernel2Ideal.τ).loc Cert.Kernel2Ideal.main_v34_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v34_0) = v0 c
          ∧ r.2.mem ((c.tc : Thread Cert.Kernel2Ideal.nD Cert.Kernel2Ideal.τ).loc Cert.Kernel2Ideal.main_v34_1) = v1 c
          ∧ r.2.mem ((c.tc : Thread Cert.Kernel2Ideal.nD Cert.Kernel2Ideal.τ).loc Cert.Kernel2Ideal.main_v34_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_v52) = v1 c
          ∧ r.2.mem ((c.tc : Thread Cert.Reference2Ideal.nD Cert.Reference2Ideal.τ).loc Cert.Reference2Ideal.main_v53) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_finite_mix [hKernel3Ideal : Cert.Kernel3Ideal.Facts] [hReference3Ideal : Cert.Reference3Ideal.Facts] [hPre_finite_mix : Cert.Pre_finite_mix.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_mix m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)) (v3 : (c : Dev Cert.Kernel3Ideal.nD) → Buf (Elt Ideal) ((c.tc : Thread Cert.Kernel3Ideal.nD Cert.Kernel3Ideal.τ).loc Cert.Kernel3Ideal.main_v4_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_v4_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v76) = v0 c
          ∧ r.2.mem ((c.tc : Thread Cert.Reference3Ideal.nD Cert.Reference3Ideal.τ).loc Cert.Reference3Ideal.main_v56) = v1 c
          ∧ r.2.mem ((c.tc : Thread Cert.Reference3Ideal.nD Cert.Reference3Ideal.τ).loc Cert.Reference3Ideal.main_v77) = v2 c
          ∧ r.2.mem ((c.tc : Thread Cert.Reference3Ideal.nD Cert.Reference3Ideal.τ).loc Cert.Reference3Ideal.main_v78) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite_in [hKernel4Ideal : Cert.Kernel4Ideal.Facts] [hReference4Ideal : Cert.Reference4Ideal.Facts] [hPre_finite_in : Cert.Pre_finite_in.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_in m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)) (v2 : (c : Dev Cert.Kernel4Ideal.nD) → Buf (Elt Ideal) ((c.tc : Thread Cert.Kernel4Ideal.nD Cert.Kernel4Ideal.τ).loc Cert.Kernel4Ideal.main_v6_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_v6_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v39) = v1 c
          ∧ r.2.mem ((c.tc : Thread Cert.Reference4Ideal.nD Cert.Reference4Ideal.τ).loc Cert.Reference4Ideal.main_v40) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite_up [hKernel5Ideal : Cert.Kernel5Ideal.Facts] [hReference5Ideal : Cert.Reference5Ideal.Facts] [hPre_finite_up : Cert.Pre_finite_up.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_up m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)) (v2 : (c : Dev Cert.Kernel5Ideal.nD) → Buf (Elt Ideal) ((c.tc : Thread Cert.Kernel5Ideal.nD Cert.Kernel5Ideal.τ).loc Cert.Kernel5Ideal.main_v5_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_v5_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v45) = v0 c
          ∧ r.2.mem ((c.tc : Thread Cert.Reference5Ideal.nD Cert.Reference5Ideal.τ).loc Cert.Reference5Ideal.main_v46) = v1 c
          ∧ r.2.mem ((c.tc : Thread Cert.Reference5Ideal.nD Cert.Reference5Ideal.τ).loc Cert.Reference5Ideal.main_v47) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite_ffn [hKernel6Ideal : Cert.Kernel6Ideal.Facts] [hReference6Ideal : Cert.Reference6Ideal.Facts] [hPre_finite_ffn : Cert.Pre_finite_ffn.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_ffn m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v25_0)) (v1 : (c : Dev Cert.Kernel6Ideal.nD) → Buf (Elt Ideal) ((c.tc : Thread Cert.Kernel6Ideal.nD Cert.Kernel6Ideal.τ).loc Cert.Kernel6Ideal.main_v25_1)) (v2 : (c : Dev Cert.Kernel6Ideal.nD) → Buf (Elt Ideal) ((c.tc : Thread Cert.Kernel6Ideal.nD Cert.Kernel6Ideal.τ).loc Cert.Kernel6Ideal.main_v25_2)) (v3 : (c : Dev Cert.Kernel6Ideal.nD) → Buf (Elt Ideal) ((c.tc : Thread Cert.Kernel6Ideal.nD Cert.Kernel6Ideal.τ).loc Cert.Kernel6Ideal.main_v25_3)) (v4 : (c : Dev Cert.Kernel6Ideal.nD) → Buf (Elt Ideal) ((c.tc : Thread Cert.Kernel6Ideal.nD Cert.Kernel6Ideal.τ).loc Cert.Kernel6Ideal.main_v25_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v25_0) = v0 c
          ∧ r.2.mem ((c.tc : Thread Cert.Kernel6Ideal.nD Cert.Kernel6Ideal.τ).loc Cert.Kernel6Ideal.main_v25_1) = v1 c
          ∧ r.2.mem ((c.tc : Thread Cert.Kernel6Ideal.nD Cert.Kernel6Ideal.τ).loc Cert.Kernel6Ideal.main_v25_2) = v2 c
          ∧ r.2.mem ((c.tc : Thread Cert.Kernel6Ideal.nD Cert.Kernel6Ideal.τ).loc Cert.Kernel6Ideal.main_v25_3) = v3 c
          ∧ r.2.mem ((c.tc : Thread Cert.Kernel6Ideal.nD Cert.Kernel6Ideal.τ).loc Cert.Kernel6Ideal.main_v25_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_v11) = v1 c
          ∧ r.2.mem ((c.tc : Thread Cert.Reference6Ideal.nD Cert.Reference6Ideal.τ).loc Cert.Reference6Ideal.main_v25) = v2 c
          ∧ r.2.mem ((c.tc : Thread Cert.Reference6Ideal.nD Cert.Reference6Ideal.τ).loc Cert.Reference6Ideal.main_v20) = v3 c
          ∧ r.2.mem ((c.tc : Thread Cert.Reference6Ideal.nD Cert.Reference6Ideal.τ).loc Cert.Reference6Ideal.main_v26) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v46)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v46) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v46) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_v15) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)) (v2 : (c : Dev Cert.Kernel10Ideal.nD) → Buf (Elt Ideal) ((c.tc : Thread Cert.Kernel10Ideal.nD Cert.Kernel10Ideal.τ).loc Cert.Kernel10Ideal.main_v4_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_v4_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v29) = v0 c
          ∧ r.2.mem ((c.tc : Thread Cert.Reference10Ideal.nD Cert.Reference10Ideal.τ).loc Cert.Reference10Ideal.main_v28) = v1 c
          ∧ r.2.mem ((c.tc : Thread Cert.Reference10Ideal.nD Cert.Reference10Ideal.τ).loc Cert.Reference10Ideal.main_v43) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_v17) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite_sb : Cert.Pre_finite_sb.Facts) (hPre_finite_mix : Cert.Pre_finite_mix.Facts) (hPre_finite_in : Cert.Pre_finite_in.Facts) (hPre_finite_up : Cert.Pre_finite_up.Facts) (hPre_finite_ffn : Cert.Pre_finite_ffn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_sb (hKernel2Ideal := hKernel2Ideal) (hPre_finite_sb := hPre_finite_sb)
    ∧ quiescent_Reference2Ideal (hReference2Ideal := hReference2Ideal)
    ∧ quiescent_Reference2Ideal_pre_finite_sb (hReference2Ideal := hReference2Ideal) (hPre_finite_sb := hPre_finite_sb)
    ∧ quiescent_Kernel3 (hKernel3 := hKernel3)
    ∧ quiescent_Kernel3Ideal (hKernel3Ideal := hKernel3Ideal)
    ∧ quiescent_Kernel3Ideal_pre_finite_mix (hKernel3Ideal := hKernel3Ideal) (hPre_finite_mix := hPre_finite_mix)
    ∧ quiescent_Reference3Ideal (hReference3Ideal := hReference3Ideal)
    ∧ quiescent_Reference3Ideal_pre_finite_mix (hReference3Ideal := hReference3Ideal) (hPre_finite_mix := hPre_finite_mix)
    ∧ quiescent_Kernel4 (hKernel4 := hKernel4)
    ∧ quiescent_Kernel4Ideal (hKernel4Ideal := hKernel4Ideal)
    ∧ quiescent_Kernel4Ideal_pre_finite_in (hKernel4Ideal := hKernel4Ideal) (hPre_finite_in := hPre_finite_in)
    ∧ quiescent_Reference4Ideal (hReference4Ideal := hReference4Ideal)
    ∧ quiescent_Reference4Ideal_pre_finite_in (hReference4Ideal := hReference4Ideal) (hPre_finite_in := hPre_finite_in)
    ∧ quiescent_Kernel5 (hKernel5 := hKernel5)
    ∧ quiescent_Kernel5Ideal (hKernel5Ideal := hKernel5Ideal)
    ∧ quiescent_Kernel5Ideal_pre_finite_up (hKernel5Ideal := hKernel5Ideal) (hPre_finite_up := hPre_finite_up)
    ∧ quiescent_Reference5Ideal (hReference5Ideal := hReference5Ideal)
    ∧ quiescent_Reference5Ideal_pre_finite_up (hReference5Ideal := hReference5Ideal) (hPre_finite_up := hPre_finite_up)
    ∧ quiescent_Kernel6 (hKernel6 := hKernel6)
    ∧ quiescent_Kernel6Ideal (hKernel6Ideal := hKernel6Ideal)
    ∧ quiescent_Kernel6Ideal_pre_finite_ffn (hKernel6Ideal := hKernel6Ideal) (hPre_finite_ffn := hPre_finite_ffn)
    ∧ quiescent_Reference6Ideal (hReference6Ideal := hReference6Ideal)
    ∧ quiescent_Reference6Ideal_pre_finite_ffn (hReference6Ideal := hReference6Ideal) (hPre_finite_ffn := hPre_finite_ffn)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_sb (hKernel2Ideal := hKernel2Ideal) (hReference2Ideal := hReference2Ideal) (hPre_finite_sb := hPre_finite_sb)
    ∧ preserves_Kernel3_Kernel3Ideal
    ∧ algebraic_Kernel3Ideal_Reference3Ideal_pre_finite_mix (hKernel3Ideal := hKernel3Ideal) (hReference3Ideal := hReference3Ideal) (hPre_finite_mix := hPre_finite_mix)
    ∧ preserves_Kernel4_Kernel4Ideal
    ∧ algebraic_Kernel4Ideal_Reference4Ideal_pre_finite_in (hKernel4Ideal := hKernel4Ideal) (hReference4Ideal := hReference4Ideal) (hPre_finite_in := hPre_finite_in)
    ∧ preserves_Kernel5_Kernel5Ideal
    ∧ algebraic_Kernel5Ideal_Reference5Ideal_pre_finite_up (hKernel5Ideal := hKernel5Ideal) (hReference5Ideal := hReference5Ideal) (hPre_finite_up := hPre_finite_up)
    ∧ preserves_Kernel6_Kernel6Ideal
    ∧ algebraic_Kernel6Ideal_Reference6Ideal_pre_finite_ffn (hKernel6Ideal := hKernel6Ideal) (hReference6Ideal := hReference6Ideal) (hPre_finite_ffn := hPre_finite_ffn)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S2048x1024 : Shape := ⟨2, ![2048, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  bcast_S_S1024 : S_.BroadcastsInDim S1024 (![] : Fin 0 → Fin S1024.rank)

variable [Facts]

def fn {F : FTy → Type} [FloatOps F] (main_arg0 : FVec F S2048x1024 .f32) (main_arg1 : FVec F S1024 .f32) (main_arg2 : FVec F S2048x1024 .f32) : IVec S2048x1024 1 × IVec S1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  (main_v2, main_v5, main_v8)
-- ==== Pre_finite_ffn.lean ====
abbrev S2048x1024 : Shape := ⟨2, ![2048, 1024]⟩
abbrev S1024x5632 : Shape := ⟨2, ![1024, 5632]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S2048x1024 .f32) (main_arg1 : FVec F S2048x1024 .f32) (main_arg2 : FVec F S1024x5632 .f32) (main_arg3 : FVec F S2816x1024 .f32) : IVec S2048x1024 1 × IVec S2048x1024 1 × IVec S1024x5632 1 × IVec S2816x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  (main_v2, main_v5, main_v8, main_v11)
-- ==== Pre_finite_in.lean ====
abbrev S2048x2304 : Shape := ⟨2, ![2048, 2304]⟩
abbrev S1024x2304 : Shape := ⟨2, ![1024, 2304]⟩
abbrev S2048x1024 : Shape := ⟨2, ![2048, 1024]⟩
abbrev S1024 : Shape := ⟨1, ![1024]⟩
abbrev S_ : Shape := ⟨0, ![]⟩

class Facts : Prop where
  bcast_S_S2048x2304 : S_.BroadcastsInDim S2048x2304 (![] : Fin 0 → Fin S2048x2304.rank)
  bcast_S_S1024x2304 : S_.BroadcastsInDim S1024x2304 (![] : Fin 0 → Fin S1024x2304.rank)
  bcast_S_S2048x1024 : S_.BroadcastsInDim S2048x1024 (![] : Fin 0 → Fin S2048x1024.rank)
  bcast_S_S1024 : S_.BroadcastsInDim S1024 (![] : Fin 0 → Fin S1024.rank)

variable [Facts]

def fn {F : FTy → Type} [FloatOps F] (main_arg0 : FVec F S2048x2304 .f32) (main_arg1 : FVec F S1024x2304 .f32) (main_arg2 : FVec F S2048x1024 .f32) (main_arg3 : FVec F S1024 .f32) (main_arg4 : FVec F S2048x1024 .f32) : IVec S2048x2304 1 × IVec S1024x2304 1 × IVec S2048x1024 1 × IVec S1024 1 × IVec S2048x1024 1 :=
  let main_v0 : FVec F S2048x2304 .f32 := Host.absf main_arg0
  let main_cst : FVec F S_ .f32 := constant S_ .f32 0x7F800000#32
  let main_v1 : FVec F S2048x2304 .f32 := broadcastInDim S2048x2304 ![] bcast_S_S2048x2304 main_cst
  let main_v2 : IVec S2048x2304 1 := cmpf .olt main_v0 main_v1
  let main_v3 : FVec F S1024x2304 .f32 := Host.absf main_arg1
  let main_cst_0 : FVec F S_ .f32 := constant S_ .f32 0x7F800000#32
  let main_v4 : FVec F S1024x2304 .f32 := broadcastInDim S1024x2304 ![] bcast_S_S1024x2304 main_cst_0
  let main_v5 : IVec S1024x2304 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S2048x1024 .f32 := Host.absf main_arg4
  let main_cst_3 : FVec F S_ .f32 := constant S_ .f32 0x7F800000#32
  let main_v13 : FVec F S2048x1024 .f32 := broadcastInDim S2048x1024 ![] bcast_S_S2048x1024 main_cst_3
  let main_v14 : IVec S2048x1024 1 := cmpf .olt main_v12 main_v13
  (main_v2, main_v5, main_v8, main_v11, main_v14)
-- ==== Pre_finite_mix.lean ====
abbrev S2048x1024 : Shape := ⟨2, ![2048, 1024]⟩
abbrev S1024x1024 : Shape := ⟨2, ![1024, 1024]⟩
abbrev S2048x512 : Shape := ⟨2, ![2048, 512]⟩
abbrev S512 : Shape := ⟨1, ![512]⟩
abbrev S_ : Shape := ⟨0, ![]⟩

class Facts : Prop where
  bcast_S_S2048x1024 : S_.BroadcastsInDim S2048x1024 (![] : Fin 0 → Fin S2048x1024.rank)
  bcast_S_S1024x1024 : S_.BroadcastsInDim S1024x1024 (![] : Fin 0 → Fin S1024x1024.rank)
  bcast_S_S2048x512 : S_.BroadcastsInDim S2048x512 (![] : Fin 0 → Fin S2048x512.rank)
  bcast_S_S512 : S_.BroadcastsInDim S512 (![] : Fin 0 → Fin S512.rank)

variable [Facts]

def fn {F : FTy → Type} [FloatOps F] (main_arg0 : FVec F S2048x1024 .f32) (main_arg1 : FVec F S1024x1024 .f32) (main_arg2 : FVec F S2048x512 .f32) (main_arg3 : FVec F S2048x512 .f32) (main_arg4 : FVec F S512 .f32) (main_arg5 : FVec F S512 .f32) : IVec S2048x1024 1 × IVec S1024x1024 1 × IVec S2048x512 1 × IVec S2048x512 1 × IVec S512 1 × IVec S512 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S2048x512 .f32 := Host.absf main_arg2
  let main_cst_1 : FVec F S_ .f32 := constant S_ .f32 0x7F800000#32
  let main_v7 : FVec F S2048x512 .f32 := broadcastInDim S2048x512 ![] bcast_S_S2048x512 main_cst_1
  let main_v8 : IVec S2048x512 1 := cmpf .olt main_v6 main_v7
  let main_v9 : FVec F S2048x512 .f32 := Host.absf main_arg3
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_v12 : FVec F S512 .f32 := Host.absf main_arg4
  let main_cst_3 : FVec F S_ .f32 := constant S_ .f32 0x7F800000#32
  let main_v13 : FVec F S512 .f32 := broadcastInDim S512 ![] bcast_S_S512 main_cst_3
  let main_v14 : IVec S512 1 := cmpf .olt main_v12 main_v13
  let main_v15 : FVec F S512 .f32 := Host.absf main_arg5
  let main_cst_4 : FVec F S_ .f32 := constant S_ .f32 0x7F800000#32
  let main_v16 : FVec F S512 .f32 := broadcastInDim S512 ![] bcast_S_S512 main_cst_4
  let main_v17 : IVec S512 1 := cmpf .olt main_v15 main_v16
  (main_v2, main_v5, main_v8, main_v11, main_v14, main_v17)
-- ==== Pre_finite_sb.lean ====
abbrev S2048x2304 : Shape := ⟨2, ![2048, 2304]⟩
abbrev S2048x512 : Shape := ⟨2, ![2048, 512]⟩
abbrev S_ : Shape := ⟨0, ![]⟩

class Facts : Prop where
  bcast_S_S2048x2304 : S_.BroadcastsInDim S2048x2304 (![] : Fin 0 → Fin S2048x2304.rank)
  bcast_S_S2048x512 : S_.BroadcastsInDim S2048x512 (![] : Fin 0 → Fin S2048x512.rank)

variable [Facts]

def fn {F : FTy → Type} [FloatOps F] (main_arg0 : FVec F S2048x2304 .f32) (main_arg1 : FVec F S2048x512 .f32) : IVec S2048x2304 1 × IVec S2048x512 1 :=
  let main_v0 : FVec F S2048x2304 .f32 := Host.absf main_arg0
  let main_cst : FVec F S_ .f32 := constant S_ .f32 0x7F800000#32
  let main_v1 : FVec F S2048x2304 .f32 := broadcastInDim S2048x2304 ![] bcast_S_S2048x2304 main_cst
  let main_v2 : IVec S2048x2304 1 := cmpf .olt main_v0 main_v1
  let main_v3 : FVec F S2048x512 .f32 := Host.absf main_arg1
  let main_cst_0 : FVec F S_ .f32 := constant S_ .f32 0x7F800000#32
  let main_v4 : FVec F S2048x512 .f32 := broadcastInDim S2048x512 ![] bcast_S_S2048x512 main_cst_0
  let main_v5 : IVec S2048x512 1 := cmpf .olt main_v3 main_v4
  (main_v2, main_v5)
-- ==== Pre_finite_up.lean ====
abbrev S2x2048x2816 : Shape := ⟨3, ![2, 2048, 2816]⟩
abbrev S1024x5632 : Shape := ⟨2, ![1024, 5632]⟩
abbrev S2048x1024 : Shape := ⟨2, ![2048, 1024]⟩
abbrev S1024 : Shape := ⟨1, ![1024]⟩
abbrev S_ : Shape := ⟨0, ![]⟩

class Facts : Prop where
  bcast_S_S2x2048x2816 : S_.BroadcastsInDim S2x2048x2816 (![] : Fin 0 → Fin S2x2048x2816.rank)
  bcast_S_S1024x5632 : S_.BroadcastsInDim S1024x5632 (![] : Fin 0 → Fin S1024x5632.rank)
  bcast_S_S2048x1024 : S_.BroadcastsInDim S2048x1024 (![] : Fin 0 → Fin S2048x1024.rank)
  bcast_S_S1024 : S_.BroadcastsInDim S1024 (![] : Fin 0 → Fin S1024.rank)

variable [Facts]

def fn {F : FTy → Type} [FloatOps F] (main_arg0 : FVec F S2x2048x2816 .f32) (main_arg1 : FVec F S1024x5632 .f32) (main_arg2 : FVec F S2048x1024 .f32) (main_arg3 : FVec F S1024 .f32) (main_arg4 : FVec F S2048x1024 .f32) : IVec S2x2048x2816 1 × IVec S1024x5632 1 × IVec S2048x1024 1 × IVec S1024 1 × IVec S2048x1024 1 :=
  let main_v0 : FVec F S2x2048x2816 .f32 := Host.absf main_arg0
  let main_cst : FVec F S_ .f32 := constant S_ .f32 0x7F800000#32
  let main_v1 : FVec F S2x2048x2816 .f32 := broadcastInDim S2x2048x2816 ![] bcast_S_S2x2048x2816 main_cst
  let main_v2 : IVec S2x2048x2816 1 := cmpf .olt main_v0 main_v1
  let main_v3 : FVec F S1024x5632 .f32 := Host.absf main_arg1
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S2048x1024 .f32 := Host.absf main_arg4
  let main_cst_3 : FVec F S_ .f32 := constant S_ .f32 0x7F800000#32
  let main_v13 : FVec F S2048x1024 .f32 := broadcastInDim S2048x1024 ![] bcast_S_S2048x1024 main_cst_3
  let main_v14 : IVec S2048x1024 1 := cmpf .olt main_v12 main_v13
  (main_v2, main_v5, main_v8, main_v11, main_v14)
-- ==== Kernel.lean ====
abbrev S2048x1024 : Shape := ⟨2, ![2048, 1024]⟩
abbrev S1024 : Shape := ⟨1, ![1024]⟩
abbrev S1x1024 : Shape := ⟨2, ![1, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1x256 : Shape := ⟨2, ![1, 256]⟩
abbrev S1 : Shape := ⟨1, ![1]⟩
abbrev S1x1 : Shape := ⟨2, ![1, 1]⟩

abbrev nBuf : Space → Nat
  | .hbm => 8
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S1x1024, .f32⟩
  | .hbm, ⟨4, _⟩ => ⟨S1x128, .f32⟩
  | .hbm, ⟨5, _⟩ => ⟨S2048x1024, .f32⟩
  | .hbm, ⟨6, _⟩ => ⟨S2048x1024, .bf16⟩
  | .hbm, ⟨7, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S1x128, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S2048x1024, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x1024, .f32⟩
  | .hbm, ⟨59, _⟩ => ⟨S2048x1024, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S1x128, .f32⟩
  | .hbm, ⟨72, _⟩ => ⟨S2048x1024, .bf16⟩
  | .hbm, ⟨73, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Kernel2.lean ====
abbrev S2048x2304 : Shape := ⟨2, ![2048, 2304]⟩
abbrev S2048x512 : Shape := ⟨2, ![2048, 512]⟩
abbrev S128x128 : Shape := ⟨2, ![128, 128]⟩
abbrev S_ : Shape := ⟨0, ![]⟩
abbrev S128x256 : Shape := ⟨2, ![128, 256]⟩
abbrev S2048x8x64 : Shape := ⟨3, ![2048, 8, 64]⟩
abbrev S8x2048x2048 : Shape := ⟨3, ![8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S2048x8 : Shape := ⟨2, ![2048, 8]⟩
abbrev S2048x8x1 : Shape := ⟨3, ![2048, 8, 1]⟩
abbrev S2048x8x128 : Shape := ⟨3, ![2048, 8, 128]⟩
abbrev S2048x1024 : Shape := ⟨2, ![2048, 1024]⟩
abbrev S128x512 : Shape := ⟨2, ![128, 512]⟩
abbrev S128x1024 : Shape := ⟨2, ![128, 1024]⟩
abbrev S4x128x128 : Shape := ⟨3, ![4, 128, 128]⟩
abbrev S8x256x128 : Shape := ⟨3, ![8, 256, 128]⟩
abbrev S16x128x128 : Shape := ⟨3, ![16, 128, 128]⟩
abbrev S8x128x256 : Shape := ⟨3, ![8, 128, 256]⟩
abbrev S1x128x128 : Shape := ⟨3, ![1, 128, 128]⟩
abbrev S256x128 : Shape := ⟨2, ![256, 128]⟩
abbrev S1x256x128 : Shape := ⟨3, ![1, 256, 128]⟩
abbrev S1x128x256 : Shape := ⟨3, ![1, 128, 256]⟩

abbrev nBuf : Space → Nat
  | .hbm => 59
  | .vmem => 22
  | .smem => 0
  | _ => 0

abbrev bufTy : (tb : Table) → Fin (tcTables nBuf tb) → BufTy
  | .hbm, ⟨0, _⟩ => ⟨S2048x2304, .f32⟩
  | .hbm, ⟨1, _⟩ => ⟨S2048x512, .f32⟩
  | .hbm, ⟨2, _⟩ => ⟨S128x128, .i32⟩
  | .hbm, ⟨3, _⟩ => ⟨S128x128, .i32⟩
  | .hbm, ⟨4, _⟩ => ⟨S_, .bf16⟩
  | .hbm, ⟨5, _⟩ => ⟨S128x128, .bf16⟩
  | .hbm, ⟨6, _⟩ => ⟨S128x128, .i1⟩
  | .hbm, ⟨7, _⟩ => ⟨S128x128, .bf16⟩
  | .hbm, ⟨8, _⟩ => ⟨S128x256, .bf16⟩
  | .hbm, ⟨9, _⟩ => ⟨S128x128, .i1⟩
  | .hbm, ⟨10, _⟩ => ⟨S128x128, .bf16⟩
  | .hbm, ⟨11, _⟩ => ⟨S128x256, .bf16⟩
  | .hbm, ⟨12, _⟩ => ⟨S128x128, .i1⟩
  | .hbm, ⟨13, _⟩ => ⟨S128x128, .bf16⟩
  | .hbm, ⟨14, _⟩ => ⟨S128x256, .bf16⟩
  | .hbm, ⟨15, _⟩ => ⟨S2048x512, .f32⟩
  | .hbm, ⟨16, _⟩ => ⟨S2048x512, .f32⟩
  | .hbm, ⟨17, _⟩ => ⟨S2048x8x64, .f32⟩
  | .hbm, ⟨18, _⟩ => ⟨S2048x8x64, .f32⟩
  | .hbm, ⟨19, _⟩ => ⟨S8x2048x2048, .f32⟩
  | .hbm, ⟨20, _⟩ => ⟨S_, .f32⟩
  | .hbm, ⟨21, _⟩ => ⟨S8x2048x2048, .f32⟩
  | .hbm, ⟨22, _⟩ => ⟨S8x2048x2048, .f32⟩
  | .hbm, ⟨23, _⟩ => ⟨S2048, .i32⟩
  | .hbm, ⟨24, _⟩ => ⟨S1x2048, .i32⟩
  | .hbm, ⟨25, _⟩ => ⟨S2048, .i32⟩
  | .hbm, ⟨26, _⟩ => ⟨S2048x1, .i32⟩
  | .hbm, ⟨27, _⟩ => ⟨S2048x2048, .i32⟩
  | .hbm, ⟨28, _⟩ => ⟨S2048x2048, .i32⟩
  | .hbm, ⟨29, _⟩ => ⟨S2048x2048, .i1⟩
  | .hbm, ⟨30, _⟩ => ⟨S_, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S8x2048x2048, .i1⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S8x2048x2048, .f32⟩
  | .hbm, ⟨41, _⟩ => ⟨S8x2048x2048, .f32⟩
  | .hbm, ⟨42, _⟩ => ⟨S8x2048x2048, .f32⟩
  | .hbm, ⟨43, _⟩ => ⟨S8x2048x2048, .f32⟩
  | .hbm, ⟨44, _⟩ => ⟨S_, .f32⟩
  | .hbm, ⟨45, _⟩ => ⟨S_, .f32⟩
  | .hbm, ⟨46, _⟩ => ⟨S8x2048x2048, .i1⟩
  | .hbm, ⟨47, _⟩ => ⟨S8x2048x2048, .f32⟩
  | .hbm, ⟨48, _⟩ => ⟨S8x2048x2048, .f32⟩
  | .hbm, ⟨49, _⟩ => ⟨S_, .f32⟩
  | .hbm, ⟨50, _⟩ => ⟨S8x2048, .f32⟩
  | .hbm, ⟨51, _⟩ => ⟨S2048x8, .f32⟩
  | .hbm, ⟨52, _⟩ => ⟨S2048x8x1, .f32⟩
  | .hbm, ⟨53, _⟩ => ⟨S2048x8x128, .f32⟩
  | .hbm, ⟨54, _⟩ => ⟨S2048x1024, .f32⟩
  | .hbm, ⟨55, _⟩ => ⟨S2048x2304, .bf16⟩
  | .hbm, ⟨56, _⟩ => ⟨S2048x512, .bf16⟩
  | .hbm, ⟨57, _⟩ => ⟨S2048x512, .bf16⟩
  | .hbm, ⟨58, _⟩ => ⟨S2048x512, .bf16⟩
  | .local _ .vmem, ⟨0, _⟩ => ⟨S128x512, .bf16⟩
  | .local _ .vmem, ⟨1, _⟩ => ⟨S128x512, .bf16⟩
  | .local _ .vmem, ⟨2, _⟩ => ⟨S2048x512, .bf16⟩
  | .local _ .vmem, ⟨3, _⟩ => ⟨S2048x512, .bf16⟩
  | .local _ .vmem, ⟨4, _⟩ => ⟨S128x512, .f32⟩
  | .local _ .vmem, ⟨5, _⟩ => ⟨S128x512, .f32⟩
  | .local _ .vmem, ⟨6, _⟩ => ⟨S128x1024, .f32⟩
  | .local _ .vmem, ⟨7, _⟩ => ⟨S128x1024, .f32⟩
  | .local _ .vmem, ⟨8, _⟩ => ⟨S128x256, .bf16⟩
  | .local _ .vmem, ⟨9, _⟩ => ⟨S128x256, .bf16⟩
  | .local _ .vmem, ⟨10, _⟩ => ⟨S128x512, .bf16⟩
  | .local _ .vmem, ⟨11, _⟩ => ⟨S128x512, .bf16⟩
  | .local _ .vmem, ⟨12, _⟩ => ⟨S2048x512, .bf16⟩
  | .local _ .vmem, ⟨13, _⟩ => ⟨S2048x512, .bf16⟩
  | .local _ .vmem, ⟨14, _⟩ => ⟨S4x128x128, .bf16⟩
  | .local _ .vmem, ⟨15, _⟩ => ⟨S4x128x128, .bf16⟩
  | .local _ .vmem, ⟨16, _⟩ => ⟨S8x256x128, .bf16⟩
  | .local _ .vmem, ⟨17, _⟩ => ⟨S16x128x128, .f32⟩
  | .local _ .vmem, ⟨18, _⟩ => ⟨S4x128x128, .f32⟩
  | .local _ .vmem, ⟨19, _⟩ => ⟨S2048x512, .f32⟩
  | .local _ .vmem, ⟨20, _⟩ => ⟨S2048x512, .f32⟩
  | .local _ .vmem, ⟨21, _⟩ => ⟨S8x128x256, .f32⟩
  | _, _ => ⟨S2048x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_call0_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_v26 : Ref sig .tc := ⟨.hbm, 43, rfl⟩
abbrev main_cst_1 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v27 : Ref sig .tc := ⟨.hbm, 48, rfl⟩
abbrev main_cst_2 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34_0 : Ref sig .tc := ⟨.hbm, 56, rfl⟩
abbrev main_v34_1 : Ref sig .tc := ⟨.hbm, 57, rfl⟩
abbrev main_v34_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def k0_mult1 : BitVec 32 :=
  let c0_i32_88 : BitVec 32 := 0#32
  c0_i32_88
def k0_mult2 : BitVec 32 :=
  let c0_i32_96 : BitVec 32 := 0#32
  c0_i32_96
def k0_mult3 : BitVec 32 :=
  let c0_i32_104 : BitVec 32 := 0#32
  c0_i32_104
def k0_mult4 : BitVec 32 :=
  let c0_i32_112 : BitVec 32 := 0#32
  c0_i32_112
def k0_mult5 : BitVec 32 :=
  let c0_i32_120 : BitVec 32 := 0#32
  c0_i32_120
def k0_mult6 : BitVec 32 :=
  let c0_i32_128 : BitVec 32 := 0#32
  c0_i32_128
def k0_mult7 : BitVec 32 :=
  let c0_i32_136 : BitVec 32 := 0#32
  c0_i32_136
def k0_mult8 : BitVec 32 :=
  let c0_i32_144 : BitVec 32 := 0#32
  c0_i32_144
@[reducible] def k0_t1_loop (i : grid0.Coords) : Scf.Loop 32 :=
  let c0_i32_174 : BitVec 32 := 0#32
  let arg0 : BitVec 32 := BitVec.ofNat 32 (i 0).val
  let v292 : BitVec 32 := Scalar.subi arg0 c0_i32_174
  let c1_i32 : BitVec 32 := 1#32
  let v294 : BitVec 32 := Scalar.divsi v292 c1_i32
  let v295 : BitVec 32 := Scalar.muli v294 c1_i32
  let v296 : BitVec 32 := Scalar.addi c0_i32_174 v295
  let c1_i32_175 : BitVec 32 := 1#32
  ⟨c0_i32_174, v296, c1_i32_175⟩
def k0_mult9 (i : grid0.Coords) (k0_t1 : Fin (k0_t1_loop i).trips) : BitVec 32 :=
  let c0_i32_174 : BitVec 32 := 0#32
  let c1_i32_175 : BitVec 32 := 1#32
  let arg19 : BitVec 32 := Scf.iv c0_i32_174 c1_i32_175 k0_t1
  let c128_i32_458 : BitVec 32 := 128#32
  let v870 : BitVec 32 := Scalar.muli arg19 c128_i32_458
  v870
def k0_mult10 (i : grid0.Coords) (k0_t1 : Fin (k0_t1_loop i).trips) : BitVec 32 :=
  let c0_i32_174 : BitVec 32 := 0#32
  let c1_i32_175 : BitVec 32 := 1#32
  let arg19 : BitVec 32 := Scf.iv c0_i32_174 c1_i32_175 k0_t1
  let c1_i32_507 : BitVec 32 := 1#32
  let v920 : BitVec 32 := Scalar.addi arg19 c1_i32_507
  let c128_i32_511 : BitVec 32 := 128#32
  let v923 : BitVec 32 := Scalar.muli v920 c128_i32_511
  v923
def k0_off1 (i : grid0.Coords) (k0_t1 : Fin (k0_t1_loop i).trips) : Fin 2 → Nat :=
  let c0_i32_174 : BitVec 32 := 0#32
  let c1_i32_175 : BitVec 32 := 1#32
  let arg19 : BitVec 32 := Scf.iv c0_i32_174 c1_i32_175 k0_t1
  let c1_i32_507 : BitVec 32 := 1#32
  let v920 : BitVec 32 := Scalar.addi arg19 c1_i32_507
  let c128_i32_511 : BitVec 32 := 128#32
  let v923 : BitVec 32 := Scalar.muli v920 c128_i32_511
  let v924 : BitVec 32 := v923
  let v925 : Index := Scalar.indexCast v924
  let c0_512 : Index := 0#32
  ![v925.toNat, 0]
def k0_mult11 (i : grid0.Coords) (k0_t1 : Fin (k0_t1_loop i).trips) : BitVec 32 :=
  let c0_i32_174 : BitVec 32 := 0#32
  let c1_i32_175 : BitVec 32 := 1#32
  let arg19 : BitVec 32 := Scf.iv c0_i32_174 c1_i32_175 k0_t1
  let c1_i32_507 : BitVec 32 := 1#32
  let v920 : BitVec 32 := Scalar.addi arg19 c1_i32_507
  let c128_i32_519 : BitVec 32 := 128#32
  let v938 : BitVec 32 := Scalar.muli v920 c128_i32_519
  v938
def k0_off2 (i : grid0.Coords) (k0_t1 : Fin (k0_t1_loop i).trips) : Fin 2 → Nat :=
  let c0_i32_174 : BitVec 32 := 0#32
  let c1_i32_175 : BitVec 32 := 1#32
  let arg19 : BitVec 32 := Scf.iv c0_i32_174 c1_i32_175 k0_t1
  let c1_i32_507 : BitVec 32 := 1#32
  let v920 : BitVec 32 := Scalar.addi arg19 c1_i32_507
  let c128_i32_519 : BitVec 32 := 128#32
  let v938 : BitVec 32 := Scalar.muli v920 c128_i32_519
  let v939 : BitVec 32 := v938
  let v940 : Index := Scalar.indexCast v939
  let c128_520 : Index := 128#32
  ![v940.toNat, 128]
def k0_mult12 (i : grid0.Coords) (k0_t1 : Fin (k0_t1_loop i).trips) : BitVec 32 :=
  let c0_i32_174 : BitVec 32 := 0#32
  let c1_i32_175 : BitVec 32 := 1#32
  let arg19 : BitVec 32 := Scf.iv c0_i32_174 c1_i32_175 k0_t1
  let c1_i32_507 : BitVec 32 := 1#32
  let v920 : BitVec 32 := Scalar.addi arg19 c1_i32_507
  let c128_i32_527 : BitVec 32 := 128#32
  let v953 : BitVec 32 := Scalar.muli v920 c128_i32_527
  v953
def k0_off3 (i : grid0.Coords) (k0_t1 : Fin (k0_t1_loop i).trips) : Fin 2 → Nat :=
  let c0_i32_174 : BitVec 32 := 0#32
  let c1_i32_175 : BitVec 32 := 1#32
  let arg19 : BitVec 32 := Scf.iv c0_i32_174 c1_i32_175 k0_t1
  let c1_i32_507 : BitVec 32 := 1#32
  let v920 : BitVec 32 := Scalar.addi arg19 c1_i32_507
  let c128_i32_527 : BitVec 32 := 128#32
  let v953 : BitVec 32 := Scalar.muli v920 c128_i32_527
  let v954 : BitVec 32 := v953
  let v955 : Index := Scalar.indexCast v954
  let c256_528 : Index := 256#32
  ![v955.toNat, 256]
def k0_mult13 (i : grid0.Coords) (k0_t1 : Fin (k0_t1_loop i).trips) : BitVec 32 :=
  let c0_i32_174 : BitVec 32 := 0#32
  let c1_i32_175 : BitVec 32 := 1#32
  let arg19 : BitVec 32 := Scf.iv c0_i32_174 c1_i32_175 k0_t1
  let c1_i32_507 : BitVec 32 := 1#32
  let v920 : BitVec 32 := Scalar.addi arg19 c1_i32_507
  let c128_i32_535 : BitVec 32 := 128#32
  let v968 : BitVec 32 := Scalar.muli v920 c128_i32_535
  v968
def k0_off4 (i : grid0.Coords) (k0_t1 : Fin (k0_t1_loop i).trips) : Fin 2 → Nat :=
  let c0_i32_174 : BitVec 32 := 0#32
  let c1_i32_175 : BitVec 32 := 1#32
  let arg19 : BitVec 32 := Scf.iv c0_i32_174 c1_i32_175 k0_t1
  let c1_i32_507 : BitVec 32 := 1#32
  let v920 : BitVec 32 := Scalar.addi arg19 c1_i32_507
  let c128_i32_535 : BitVec 32 := 128#32
  let v968 : BitVec 32 := Scalar.muli v920 c128_i32_535
  let v969 : BitVec 32 := v968
  let v970 : Index := Scalar.indexCast v969
  let c384_536 : Index := 384#32
  ![v970.toNat, 384]
def k0_mult14 (i : grid0.Coords) (k0_t1 : Fin (k0_t1_loop i).trips) : BitVec 32 :=
  let c0_i32_174 : BitVec 32 := 0#32
  let c1_i32_175 : BitVec 32 := 1#32
  let arg19 : BitVec 32 := Scf.iv c0_i32_174 c1_i32_175 k0_t1
  let c1_i32_507 : BitVec 32 := 1#32
  let v920 : BitVec 32 := Scalar.addi arg19 c1_i32_507
  let c128_i32_543 : BitVec 32 := 128#32
  let v983 : BitVec 32 := Scalar.muli v920 c128_i32_543
  v983
def k0_mult15 (i : grid0.Coords) (k0_t1 : Fin (k0_t1_loop i).trips) : BitVec 32 :=
  let c0_i32_174 : BitVec 32 := 0#32
  let c1_i32_175 : BitVec 32 := 1#32
  let arg19 : BitVec 32 := Scf.iv c0_i32_174 c1_i32_175 k0_t1
  let c1_i32_507 : BitVec 32 := 1#32
  let v920 : BitVec 32 := Scalar.addi arg19 c1_i32_507
  let c128_i32_551 : BitVec 32 := 128#32
  let v998 : BitVec 32 := Scalar.muli v920 c128_i32_551
  v998
def k0_mult16 (i : grid0.Coords) (k0_t1 : Fin (k0_t1_loop i).trips) : BitVec 32 :=
  let c0_i32_174 : BitVec 32 := 0#32
  let c1_i32_175 : BitVec 32 := 1#32
  let arg19 : BitVec 32 := Scf.iv c0_i32_174 c1_i32_175 k0_t1
  let c1_i32_507 : BitVec 32 := 1#32
  let v920 : BitVec 32 := Scalar.addi arg19 c1_i32_507
  let c128_i32_559 : BitVec 32 := 128#32
  let v1013 : BitVec 32 := Scalar.muli v920 c128_i32_559
  v1013
def k0_mult17 (i : grid0.Coords) (k0_t1 : Fin (k0_t1_loop i).trips) : BitVec 32 :=
  let c0_i32_174 : BitVec 32 := 0#32
  let c1_i32_175 : BitVec 32 := 1#32
  let arg19 : BitVec 32 := Scf.iv c0_i32_174 c1_i32_175 k0_t1
  let c1_i32_507 : BitVec 32 := 1#32
  let v920 : BitVec 32 := Scalar.addi arg19 c1_i32_507
  let c128_i32_567 : BitVec 32 := 128#32
  let v1028 : BitVec 32 := Scalar.muli v920 c128_i32_567
  v1028
def k0_mult18 (i : grid0.Coords) (k0_t1 : Fin (k0_t1_loop i).trips) : BitVec 32 :=
  let c0_i32_174 : BitVec 32 := 0#32
  let c1_i32_175 : BitVec 32 := 1#32
  let arg19 : BitVec 32 := Scf.iv c0_i32_174 c1_i32_175 k0_t1
  let c128_i32_596 : BitVec 32 := 128#32
  let v1065 : BitVec 32 := Scalar.muli arg19 c128_i32_596
  v1065
def k0_off5 (i : grid0.Coords) (k0_t1 : Fin (k0_t1_loop i).trips) : Fin 2 → Nat :=
  let c0_i32_174 : BitVec 32 := 0#32
  let c1_i32_175 : BitVec 32 := 1#32
  let arg19 : BitVec 32 := Scf.iv c0_i32_174 c1_i32_175 k0_t1
  let c128_i32_596 : BitVec 32 := 128#32
  let v1065 : BitVec 32 := Scalar.muli arg19 c128_i32_596
  let v1066 : BitVec 32 := v1065
  let v1067 : Index := Scalar.indexCast v1066
  let c0_597 : Index := 0#32
  ![v1067.toNat, 0]
def k0_mult19 (i : grid0.Coords) (k0_t1 : Fin (k0_t1_loop i).trips) : BitVec 32 :=
  let c0_i32_174 : BitVec 32 := 0#32
  let c1_i32_175 : BitVec 32 := 1#32
  let arg19 : BitVec 32 := Scf.iv c0_i32_174 c1_i32_175 k0_t1
  let c128_i32_600 : BitVec 32 := 128#32
  let v1077 : BitVec 32 := Scalar.muli arg19 c128_i32_600
  v1077
def k0_off6 (i : grid0.Coords) (k0_t1 : Fin (k0_t1_loop i).trips) : Fin 2 → Nat :=
  let c0_i32_174 : BitVec 32 := 0#32
  let c1_i32_175 : BitVec 32 := 1#32
  let arg19 : BitVec 32 := Scf.iv c0_i32_174 c1_i32_175 k0_t1
  let c128_i32_600 : BitVec 32 := 128#32
  let v1077 : BitVec 32 := Scalar.muli arg19 c128_i32_600
  let v1078 : BitVec 32 := v1077
  let v1079 : Index := Scalar.indexCast v1078
  let c128_601 : Index := 128#32
  ![v1079.toNat, 128]
def k0_mult20 (i : grid0.Coords) (k0_t1 : Fin (k0_t1_loop i).trips) : BitVec 32 :=
  let c0_i32_174 : BitVec 32 := 0#32
  let c1_i32_175 : BitVec 32 := 1#32
  let arg19 : BitVec 32 := Scf.iv c0_i32_174 c1_i32_175 k0_t1
  let c128_i32_604 : BitVec 32 := 128#32
  let v1089 : BitVec 32 := Scalar.muli arg19 c128_i32_604
  v1089
def k0_off7 (i : grid0.Coords) (k0_t1 : Fin (k0_t1_loop i).trips) : Fin 2 → Nat :=
  let c0_i32_174 : BitVec 32 := 0#32
  let c1_i32_175 : BitVec 32 := 1#32
  let arg19 : BitVec 32 := Scf.iv c0_i32_174 c1_i32_175 k0_t1
  let c128_i32_604 : BitVec 32 := 128#32
  let v1089 : BitVec 32 := Scalar.muli arg19 c128_i32_604
  let v1090 : BitVec 32 := v1089
  let v1091 : Index := Scalar.indexCast v1090
  let c256_605 : Index := 256#32
  ![v1091.toNat, 256]
def k0_mult21 (i : grid0.Coords) (k0_t1 : Fin (k0_t1_loop i).trips) : BitVec 32 :=
  let c0_i32_174 : BitVec 32 := 0#32
  let c1_i32_175 : BitVec 32 := 1#32
  let arg19 : BitVec 32 := Scf.iv c0_i32_174 c1_i32_175 k0_t1
  let c128_i32_608 : BitVec 32 := 128#32
  let v1101 : BitVec 32 := Scalar.muli arg19 c128_i32_608
  v1101
def k0_off8 (i : grid0.Coords) (k0_t1 : Fin (k0_t1_loop i).trips) : Fin 2 → Nat :=
  let c0_i32_174 : BitVec 32 := 0#32
  let c1_i32_175 : BitVec 32 := 1#32
  let arg19 : BitVec 32 := Scf.iv c0_i32_174 c1_i32_175 k0_t1
  let c128_i32_608 : BitVec 32 := 128#32
  let v1101 : BitVec 32 := Scalar.muli arg19 c128_i32_608
  let v1102 : BitVec 32 := v1101
  let v1103 : Index := Scalar.indexCast v1102
  let c384_609 : Index := 384#32
  ![v1103.toNat, 384]
@[reducible] def k0_t2_loop (i : grid0.Coords) : Scf.Loop 32 :=
  let c0_i32_174 : BitVec 32 := 0#32
  let arg0 : BitVec 32 := BitVec.ofNat 32 (i 0).val
  let v292 : BitVec 32 := Scalar.subi arg0 c0_i32_174
  let c1_i32 : BitVec 32 := 1#32
  let v294 : BitVec 32 := Scalar.divsi v292 c1_i32
  let v295 : BitVec 32 := Scalar.muli v294 c1_i32
  let v296 : BitVec 32 := Scalar.addi c0_i32_174 v295
  let v293 : BitVec 32 := Scalar.addi c0_i32_174 v292
  let c1_i32_176 : BitVec 32 := 1#32
  ⟨v296, v293, c1_i32_176⟩
def k0_mult22 (i : grid0.Coords) (k0_t2 : Fin (k0_t2_loop i).trips) : BitVec 32 :=
  let c0_i32_174 : BitVec 32 := 0#32
  let arg0 : BitVec 32 := BitVec.ofNat 32 (i 0).val
  let v292 : BitVec 32 := Scalar.subi arg0 c0_i32_174
  let c1_i32 : BitVec 32 := 1#32
  let v294 : BitVec 32 := Scalar.divsi v292 c1_i32
  let v295 : BitVec 32 := Scalar.muli v294 c1_i32
  let v296 : BitVec 32 := Scalar.addi c0_i32_174 v295
  let c1_i32_176 : BitVec 32 := 1#32
  let arg19 : BitVec 32 := Scf.iv v296 c1_i32_176 k0_t2
  let c128_i32_458 : BitVec 32 := 128#32
  let v870 : BitVec 32 := Scalar.muli arg19 c128_i32_458
  v870
def k0_mult23 (i : grid0.Coords) (k0_t2 : Fin (k0_t2_loop i).trips) : BitVec 32 :=
  let c0_i32_174 : BitVec 32 := 0#32
  let arg0 : BitVec 32 := BitVec.ofNat 32 (i 0).val
  let v292 : BitVec 32 := Scalar.subi arg0 c0_i32_174
  let c1_i32 : BitVec 32 := 1#32
  let v294 : BitVec 32 := Scalar.divsi v292 c1_i32
  let v295 : BitVec 32 := Scalar.muli v294 c1_i32
  let v296 : BitVec 32 := Scalar.addi c0_i32_174 v295
  let c1_i32_176 : BitVec 32 := 1#32
  let arg19 : BitVec 32 := Scf.iv v296 c1_i32_176 k0_t2
  let c1_i32_507 : BitVec 32 := 1#32
  let v920 : BitVec 32 := Scalar.addi arg19 c1_i32_507
  let c128_i32_511 : BitVec 32 := 128#32
  let v923 : BitVec 32 := Scalar.muli v920 c128_i32_511
  v923
def k0_off9 (i : grid0.Coords) (k0_t2 : Fin (k0_t2_loop i).trips) : Fin 2 → Nat :=
  let c0_i32_174 : BitVec 32 := 0#32
  let arg0 : BitVec 32 := BitVec.ofNat 32 (i 0).val
  let v292 : BitVec 32 := Scalar.subi arg0 c0_i32_174
  let c1_i32 : BitVec 32 := 1#32
  let v294 : BitVec 32 := Scalar.divsi v292 c1_i32
  let v295 : BitVec 32 := Scalar.muli v294 c1_i32
  let v296 : BitVec 32 := Scalar.addi c0_i32_174 v295
  let c1_i32_176 : BitVec 32 := 1#32
  let arg19 : BitVec 32 := Scf.iv v296 c1_i32_176 k0_t2
  let c1_i32_507 : BitVec 32 := 1#32
  let v920 : BitVec 32 := Scalar.addi arg19 c1_i32_507
  let c128_i32_511 : BitVec 32 := 128#32
  let v923 : BitVec 32 := Scalar.muli v920 c128_i32_511
  let v924 : BitVec 32 := v923
  let v925 : Index := Scalar.indexCast v924
  let c0_512 : Index := 0#32
  ![v925.toNat, 0]
def k0_mult24 (i : grid0.Coords) (k0_t2 : Fin (k0_t2_loop i).trips) : BitVec 32 :=
  let c0_i32_174 : BitVec 32 := 0#32
  let arg0 : BitVec 32 := BitVec.ofNat 32 (i 0).val
  let v292 : BitVec 32 := Scalar.subi arg0 c0_i32_174
  let c1_i32 : BitVec 32 := 1#32
  let v294 : BitVec 32 := Scalar.divsi v292 c1_i32
  let v295 : BitVec 32 := Scalar.muli v294 c1_i32
  let v296 : BitVec 32 := Scalar.addi c0_i32_174 v295
  let c1_i32_176 : BitVec 32 := 1#32
  let arg19 : BitVec 32 := Scf.iv v296 c1_i32_176 k0_t2
  let c1_i32_507 : BitVec 32 := 1#32
  let v920 : BitVec 32 := Scalar.addi arg19 c1_i32_507
  let c128_i32_519 : BitVec 32 := 128#32
  let v938 : BitVec 32 := Scalar.muli v920 c128_i32_519
  v938
def k0_off10 (i : grid0.Coords) (k0_t2 : Fin (k0_t2_loop i).trips) : Fin 2 → Nat :=
  let c0_i32_174 : BitVec 32 := 0#32
  let arg0 : BitVec 32 := BitVec.ofNat 32 (i 0).val
  let v292 : BitVec 32 := Scalar.subi arg0 c0_i32_174
  let c1_i32 : BitVec 32 := 1#32
  let v294 : BitVec 32 := Scalar.divsi v292 c1_i32
  let v295 : BitVec 32 := Scalar.muli v294 c1_i32
  let v296 : BitVec 32 := Scalar.addi c0_i32_174 v295
  let c1_i32_176 : BitVec 32 := 1#32
  let arg19 : BitVec 32 := Scf.iv v296 c1_i32_176 k0_t2
  let c1_i32_507 : BitVec 32 := 1#32
  let v920 : BitVec 32 := Scalar.addi arg19 c1_i32_507
  let c128_i32_519 : BitVec 32 := 128#32
  let v938 : BitVec 32 := Scalar.muli v920 c128_i32_519
  let v939 : BitVec 32 := v938
  let v940 : Index := Scalar.indexCast v939
  let c128_520 : Index := 128#32
  ![v940.toNat, 128]
def k0_mult25 (i : grid0.Coords) (k0_t2 : Fin (k0_t2_loop i).trips) : BitVec 32 :=
  let c0_i32_174 : BitVec 32 := 0#32
  let arg0 : BitVec 32 := BitVec.ofNat 32 (i 0).val
  let v292 : BitVec 32 := Scalar.subi arg0 c0_i32_174
  let c1_i32 : BitVec 32 := 1#32
  let v294 : BitVec 32 := Scalar.divsi v292 c1_i32
  let v295 : BitVec 32 := Scalar.muli v294 c1_i32
  let v296 : BitVec 32 := Scalar.addi c0_i32_174 v295
  let c1_i32_176 : BitVec 32 := 1#32
  let arg19 : BitVec 32 := Scf.iv v296 c1_i32_176 k0_t2
  let c1_i32_507 : BitVec 32 := 1#32
  let v920 : BitVec 32 := Scalar.addi arg19 c1_i32_507
  let c128_i32_527 : BitVec 32 := 128#32
  let v953 : BitVec 32 := Scalar.muli v920 c128_i32_527
  v953
def k0_off11 (i : grid0.Coords) (k0_t2 : Fin (k0_t2_loop i).trips) : Fin 2 → Nat :=
  let c0_i32_174 : BitVec 32 := 0#32
  let arg0 : BitVec 32 := BitVec.ofNat 32 (i 0).val
  let v292 : BitVec 32 := Scalar.subi arg0 c0_i32_174
  let c1_i32 : BitVec 32 := 1#32
  let v294 : BitVec 32 := Scalar.divsi v292 c1_i32
  let v295 : BitVec 32 := Scalar.muli v294 c1_i32
  let v296 : BitVec 32 := Scalar.addi c0_i32_174 v295
  let c1_i32_176 : BitVec 32 := 1#32
  let arg19 : BitVec 32 := Scf.iv v296 c1_i32_176 k0_t2
  let c1_i32_507 : BitVec 32 := 1#32
  let v920 : BitVec 32 := Scalar.addi arg19 c1_i32_507
  let c128_i32_527 : BitVec 32 := 128#32
  let v953 : BitVec 32 := Scalar.muli v920 c128_i32_527
  let v954 : BitVec 32 := v953
  let v955 : Index := Scalar.indexCast v954
  let c256_528 : Index := 256#32
  ![v955.toNat, 256]
def k0_mult26 (i : grid0.Coords) (k0_t2 : Fin (k0_t2_loop i).trips) : BitVec 32 :=
  let c0_i32_174 : BitVec 32 := 0#32
  let arg0 : BitVec 32 := BitVec.ofNat 32 (i 0).val
  let v292 : BitVec 32 := Scalar.subi arg0 c0_i32_174
  let c1_i32 : BitVec 32 := 1#32
  let v294 : BitVec 32 := Scalar.divsi v292 c1_i32
  let v295 : BitVec 32 := Scalar.muli v294 c1_i32
  let v296 : BitVec 32 := Scalar.addi c0_i32_174 v295
  let c1_i32_176 : BitVec 32 := 1#32
  let arg19 : BitVec 32 := Scf.iv v296 c1_i32_176 k0_t2
  let c1_i32_507 : BitVec 32 := 1#32
  let v920 : BitVec 32 := Scalar.addi arg19 c1_i32_507
  let c128_i32_535 : BitVec 32 := 128#32
  let v968 : BitVec 32 := Scalar.muli v920 c128_i32_535
  v968
def k0_off12 (i : grid0.Coords) (k0_t2 : Fin (k0_t2_loop i).trips) : Fin 2 → Nat :=
  let c0_i32_174 : BitVec 32 := 0#32
  let arg0 : BitVec 32 := BitVec.ofNat 32 (i 0).val
  let v292 : BitVec 32 := Scalar.subi arg0 c0_i32_174
  let c1_i32 : BitVec 32 := 1#32
  let v294 : BitVec 32 := Scalar.divsi v292 c1_i32
  let v295 : BitVec 32 := Scalar.muli v294 c1_i32
  let v296 : BitVec 32 := Scalar.addi c0_i32_174 v295
  let c1_i32_176 : BitVec 32 := 1#32
  let arg19 : BitVec 32 := Scf.iv v296 c1_i32_176 k0_t2
  let c1_i32_507 : BitVec 32 := 1#32
  let v920 : BitVec 32 := Scalar.addi arg19 c1_i32_507
  let c128_i32_535 : BitVec 32 := 128#32
  let v968 : BitVec 32 := Scalar.muli v920 c128_i32_535
  let v969 : BitVec 32 := v968
  let v970 : Index := Scalar.indexCast v969
  let c384_536 : Index := 384#32
  ![v970.toNat, 384]
def k0_mult27 (i : grid0.Coords) (k0_t2 : Fin (k0_t2_loop i).trips) : BitVec 32 :=
  let c0_i32_174 : BitVec 32 := 0#32
  let arg0 : BitVec 32 := BitVec.ofNat 32 (i 0).val
  let v292 : BitVec 32 := Scalar.subi arg0 c0_i32_174
  let c1_i32 : BitVec 32 := 1#32
  let v294 : BitVec 32 := Scalar.divsi v292 c1_i32
  let v295 : BitVec 32 := Scalar.muli v294 c1_i32
  let v296 : BitVec 32 := Scalar.addi c0_i32_174 v295
  let c1_i32_176 : BitVec 32 := 1#32
  let arg19 : BitVec 32 := Scf.iv v296 c1_i32_176 k0_t2
  let c1_i32_507 : BitVec 32 := 1#32
  let v920 : BitVec 32 := Scalar.addi arg19 c1_i32_507
  let c128_i32_543 : BitVec 32 := 128#32
  let v983 : BitVec 32 := Scalar.muli v920 c128_i32_543
  v983
def k0_mult28 (i : grid0.Coords) (k0_t2 : Fin (k0_t2_loop i).trips) : BitVec 32 :=
  let c0_i32_174 : BitVec 32 := 0#32
  let arg0 : BitVec 32 := BitVec.ofNat 32 (i 0).val
  let v292 : BitVec 32 := Scalar.subi arg0 c0_i32_174
  let c1_i32 : BitVec 32 := 1#32
  let v294 : BitVec 32 := Scalar.divsi v292 c1_i32
  let v295 : BitVec 32 := Scalar.muli v294 c1_i32
  let v296 : BitVec 32 := Scalar.addi c0_i32_174 v295
  let c1_i32_176 : BitVec 32 := 1#32
  let arg19 : BitVec 32 := Scf.iv v296 c1_i32_176 k0_t2
  let c1_i32_507 : BitVec 32 := 1#32
  let v920 : BitVec 32 := Scalar.addi arg19 c1_i32_507
  let c128_i32_551 : BitVec 32 := 128#32
  let v998 : BitVec 32 := Scalar.muli v920 c128_i32_551
  v998
def k0_mult29 (i : grid0.Coords) (k0_t2 : Fin (k0_t2_loop i).trips) : BitVec 32 :=
  let c0_i32_174 : BitVec 32 := 0#32
  let arg0 : BitVec 32 := BitVec.ofNat 32 (i 0).val
  let v292 : BitVec 32 := Scalar.subi arg0 c0_i32_174
  let c1_i32 : BitVec 32 := 1#32
  let v294 : BitVec 32 := Scalar.divsi v292 c1_i32
  let v295 : BitVec 32 := Scalar.muli v294 c1_i32
  let v296 : BitVec 32 := Scalar.addi c0_i32_174 v295
  let c1_i32_176 : BitVec 32 := 1#32
  let arg19 : BitVec 32 := Scf.iv v296 c1_i32_176 k0_t2
  let c1_i32_507 : BitVec 32 := 1#32
  let v920 : BitVec 32 := Scalar.addi arg19 c1_i32_507
  let c128_i32_559 : BitVec 32 := 128#32
  let v1013 : BitVec 32 := Scalar.muli v920 c128_i32_559
  v1013
def k0_mult30 (i : grid0.Coords) (k0_t2 : Fin (k0_t2_loop i).trips) : BitVec 32 :=
  let c0_i32_174 : BitVec 32 := 0#32
  let arg0 : BitVec 32 := BitVec.ofNat 32 (i 0).val
  let v292 : BitVec 32 := Scalar.subi arg0 c0_i32_174
  let c1_i32 : BitVec 32 := 1#32
  let v294 : BitVec 32 := Scalar.divsi v292 c1_i32
  let v295 : BitVec 32 := Scalar.muli v294 c1_i32
  let v296 : BitVec 32 := Scalar.addi c0_i32_174 v295
  let c1_i32_176 : BitVec 32 := 1#32
  let arg19 : BitVec 32 := Scf.iv v296 c1_i32_176 k0_t2
  let c1_i32_507 : BitVec 32 := 1#32
  let v920 : BitVec 32 := Scalar.addi arg19 c1_i32_507
  let c128_i32_567 : BitVec 32 := 128#32
  let v1028 : BitVec 32 := Scalar.muli v920 c128_i32_567
  v1028
def k0_mult31 (i : grid0.Coords) (k0_t2 : Fin (k0_t2_loop i).trips) : BitVec 32 :=
  let c0_i32_174 : BitVec 32 := 0#32
  let arg0 : BitVec 32 := BitVec.ofNat 32 (i 0).val
  let v292 : BitVec 32 := Scalar.subi arg0 c0_i32_174
  let c1_i32 : BitVec 32 := 1#32
  let v294 : BitVec 32 := Scalar.divsi v292 c1_i32
  let v295 : BitVec 32 := Scalar.muli v294 c1_i32
  let v296 : BitVec 32 := Scalar.addi c0_i32_174 v295
  let c1_i32_176 : BitVec 32 := 1#32
  let arg19 : BitVec 32 := Scf.iv v296 c1_i32_176 k0_t2
  let c128_i32_596 : BitVec 32 := 128#32
  let v1065 : BitVec 32 := Scalar.muli arg19 c128_i32_596
  v1065
def k0_off13 (i : grid0.Coords) (k0_t2 : Fin (k0_t2_loop i).trips) : Fin 2 → Nat :=
  let c0_i32_174 : BitVec 32 := 0#32
  let arg0 : BitVec 32 := BitVec.ofNat 32 (i 0).val
  let v292 : BitVec 32 := Scalar.subi arg0 c0_i32_174
  let c1_i32 : BitVec 32 := 1#32
  let v294 : BitVec 32 := Scalar.divsi v292 c1_i32
  let v295 : BitVec 32 := Scalar.muli v294 c1_i32
  let v296 : BitVec 32 := Scalar.addi c0_i32_174 v295
  let c1_i32_176 : BitVec 32 := 1#32
  let arg19 : BitVec 32 := Scf.iv v296 c1_i32_176 k0_t2
  let c128_i32_596 : BitVec 32 := 128#32
  let v1065 : BitVec 32 := Scalar.muli arg19 c128_i32_596
  let v1066 : BitVec 32 := v1065
  let v1067 : Index := Scalar.indexCast v1066
  let c0_597 : Index := 0#32
  ![v1067.toNat, 0]
def k0_mult32 (i : grid0.Coords) (k0_t2 : Fin (k0_t2_loop i).trips) : BitVec 32 :=
  let c0_i32_174 : BitVec 32 := 0#32
  let arg0 : BitVec 32 := BitVec.ofNat 32 (i 0).val
  let v292 : BitVec 32 := Scalar.subi arg0 c0_i32_174
  let c1_i32 : BitVec 32 := 1#32
  let v294 : BitVec 32 := Scalar.divsi v292 c1_i32
  let v295 : BitVec 32 := Scalar.muli v294 c1_i32
  let v296 : BitVec 32 := Scalar.addi c0_i32_174 v295
  let c1_i32_176 : BitVec 32 := 1#32
  let arg19 : BitVec 32 := Scf.iv v296 c1_i32_176 k0_t2
  let c128_i32_600 : BitVec 32 := 128#32
  let v1077 : BitVec 32 := Scalar.muli arg19 c128_i32_600
  v1077
def k0_off14 (i : grid0.Coords) (k0_t2 : Fin (k0_t2_loop i).trips) : Fin 2 → Nat :=
  let c0_i32_174 : BitVec 32 := 0#32
  let arg0 : BitVec 32 := BitVec.ofNat 32 (i 0).val
  let v292 : BitVec 32 := Scalar.subi arg0 c0_i32_174
  let c1_i32 : BitVec 32 := 1#32
  let v294 : BitVec 32 := Scalar.divsi v292 c1_i32
  let v295 : BitVec 32 := Scalar.muli v294 c1_i32
  let v296 : BitVec 32 := Scalar.addi c0_i32_174 v295
  let c1_i32_176 : BitVec 32 := 1#32
  let arg19 : BitVec 32 := Scf.iv v296 c1_i32_176 k0_t2
  let c128_i32_600 : BitVec 32 := 128#32
  let v1077 : BitVec 32 := Scalar.muli arg19 c128_i32_600
  let v1078 : BitVec 32 := v1077
  let v1079 : Index := Scalar.indexCast v1078
  let c128_601 : Index := 128#32
  ![v1079.toNat, 128]
def k0_mult33 (i : grid0.Coords) (k0_t2 : Fin (k0_t2_loop i).trips) : BitVec 32 :=
  let c0_i32_174 : BitVec 32 := 0#32
  let arg0 : BitVec 32 := BitVec.ofNat 32 (i 0).val
  let v292 : BitVec 32 := Scalar.subi arg0 c0_i32_174
  let c1_i32 : BitVec 32 := 1#32
  let v294 : BitVec 32 := Scalar.divsi v292 c1_i32
  let v295 : BitVec 32 := Scalar.muli v294 c1_i32
  let v296 : BitVec 32 := Scalar.addi c0_i32_174 v295
  let c1_i32_176 : BitVec 32 := 1#32
  let arg19 : BitVec 32 := Scf.iv v296 c1_i32_176 k0_t2
  let c128_i32_604 : BitVec 32 := 128#32
  let v1089 : BitVec 32 := Scalar.muli arg19 c128_i32_604
  v1089
def k0_off15 (i : grid0.Coords) (k0_t2 : Fin (k0_t2_loop i).trips) : Fin 2 → Nat :=
  let c0_i32_174 : BitVec 32 := 0#32
  let arg0 : BitVec 32 := BitVec.ofNat 32 (i 0).val
  let v292 : BitVec 32 := Scalar.subi arg0 c0_i32_174
  let c1_i32 : BitVec 32 := 1#32
  let v294 : BitVec 32 := Scalar.divsi v292 c1_i32
  let v295 : BitVec 32 := Scalar.muli v294 c1_i32
  let v296 : BitVec 32 := Scalar.addi c0_i32_174 v295
  let c1_i32_176 : BitVec 32 := 1#32
  let arg19 : BitVec 32 := Scf.iv v296 c1_i32_176 k0_t2
  let c128_i32_604 : BitVec 32 := 128#32
  let v1089 : BitVec 32 := Scalar.muli arg19 c128_i32_604
  let v1090 : BitVec 32 := v1089
  let v1091 : Index := Scalar.indexCast v1090
  let c256_605 : Index := 256#32
  ![v1091.toNat, 256]
def k0_mult34 (i : grid0.Coords) (k0_t2 : Fin (k0_t2_loop i).trips) : BitVec 32 :=
  let c0_i32_174 : BitVec 32 := 0#32
  let arg0 : BitVec 32 := BitVec.ofNat 32 (i 0).val
  let v292 : BitVec 32 := Scalar.subi arg0 c0_i32_174
  let c1_i32 : BitVec 32 := 1#32
  let v294 : BitVec 32 := Scalar.divsi v292 c1_i32
  let v295 : BitVec 32 := Scalar.muli v294 c1_i32
  let v296 : BitVec 32 := Scalar.addi c0_i32_174 v295
  let c1_i32_176 : BitVec 32 := 1#32
  let arg19 : BitVec 32 := Scf.iv v296 c1_i32_176 k0_t2
  let c128_i32_608 : BitVec 32 := 128#32
  let v1101 : BitVec 32 := Scalar.muli arg19 c128_i32_608
  v1101
def k0_off16 (i : grid0.Coords) (k0_t2 : Fin (k0_t2_loop i).trips) : Fin 2 → Nat :=
  let c0_i32_174 : BitVec 32 := 0#32
  let arg0 : BitVec 32 := BitVec.ofNat 32 (i 0).val
  let v292 : BitVec 32 := Scalar.subi arg0 c0_i32_174
  let c1_i32 : BitVec 32 := 1#32
  let v294 : BitVec 32 := Scalar.divsi v292 c1_i32
  let v295 : BitVec 32 := Scalar.muli v294 c1_i32
  let v296 : BitVec 32 := Scalar.addi c0_i32_174 v295
  let c1_i32_176 : BitVec 32 := 1#32
  let arg19 : BitVec 32 := Scf.iv v296 c1_i32_176 k0_t2
  let c128_i32_608 : BitVec 32 := 128#32
  let v1101 : BitVec 32 := Scalar.muli arg19 c128_i32_608
  let v1102 : BitVec 32 := v1101
  let v1103 : Index := Scalar.indexCast v1102
  let c384_609 : Index := 384#32
  ![v1103.toNat, 384]
def k0_mult35 (i : grid0.Coords) : BitVec 32 :=
  let arg0 : BitVec 32 := BitVec.ofNat 32 (i 0).val
  let c128_i32 : BitVec 32 := 128#32
  let v297 : BitVec 32 := Scalar.muli arg0 c128_i32
  v297
def k0_mult36 (i : grid0.Coords) : BitVec 32 :=
  let arg0 : BitVec 32 := BitVec.ofNat 32 (i 0).val
  let c128_i32_225 : BitVec 32 := 128#32
  let v347 : BitVec 32 := Scalar.muli arg0 c128_i32_225
  v347
def k0_off17 (i : grid0.Coords) : Fin 2 → Nat :=
  let arg0 : BitVec 32 := BitVec.ofNat 32 (i 0).val
  let c128_i32_225 : BitVec 32 := 128#32
  let v347 : BitVec 32 := Scalar.muli arg0 c128_i32_225
  let v348 : BitVec 32 := v347
  let v349 : Index := Scalar.indexCast v348
  let c0_226 : Index := 0#32
  ![v349.toNat, 0]
def k0_mult37 (i : grid0.Coords) : BitVec 32 :=
  let arg0 : BitVec 32 := BitVec.ofNat 32 (i 0).val
  let c128_i32_229 : BitVec 32 := 128#32
  let v359 : BitVec 32 := Scalar.muli arg0 c128_i32_229
  v359
def k0_off18 (i : grid0.Coords) : Fin 2 → Nat :=
  let arg0 : BitVec 32 := BitVec.ofNat 32 (i 0).val
  let c128_i32_229 : BitVec 32 := 128#32
  let v359 : BitVec 32 := Scalar.muli arg0 c128_i32_229
  let v360 : BitVec 32 := v359
  let v361 : Index := Scalar.indexCast v360
  let c128_230 : Index := 128#32
  ![v361.toNat, 128]
def k0_mult38 (i : grid0.Coords) : BitVec 32 :=
  let arg0 : BitVec 32 := BitVec.ofNat 32 (i 0).val
  let c128_i32_233 : BitVec 32 := 128#32
  let v371 : BitVec 32 := Scalar.muli arg0 c128_i32_233
  v371
def k0_off19 (i : grid0.Coords) : Fin 2 → Nat :=
  let arg0 : BitVec 32 := BitVec.ofNat 32 (i 0).val
  let c128_i32_233 : BitVec 32 := 128#32
  let v371 : BitVec 32 := Scalar.muli arg0 c128_i32_233
  let v372 : BitVec 32 := v371
  let v373 : Index := Scalar.indexCast v372
  let c256_234 : Index := 256#32
  ![v373.toNat, 256]
def k0_mult39 (i : grid0.Coords) : BitVec 32 :=
  let arg0 : BitVec 32 := BitVec.ofNat 32 (i 0).val
  let c128_i32_237 : BitVec 32 := 128#32
  let v383 : BitVec 32 := Scalar.muli arg0 c128_i32_237
  v383
def k0_off20 (i : grid0.Coords) : Fin 2 → Nat :=
  let arg0 : BitVec 32 := BitVec.ofNat 32 (i 0).val
  let c128_i32_237 : BitVec 32 := 128#32
  let v383 : BitVec 32 := Scalar.muli arg0 c128_i32_237
  let v384 : BitVec 32 := v383
  let v385 : Index := Scalar.indexCast v384
  let c384_238 : Index := 384#32
  ![v385.toNat, 384]
def k0_cond2 (i : grid0.Coords) : BitVec 1 :=
  let arg0 : BitVec 32 := BitVec.ofNat 32 (i 0).val
  let c15_i32 : BitVec 32 := 15#32
  let v867 : BitVec 1 := Scalar.cmpi .eq arg0 c15_i32
  let v868 : BitVec 32 := Scalar.extui v867
  let c0_i32_457 : BitVec 32 := 0#32
  let v869 : BitVec 1 := Scalar.cmpi .ne v868 c0_i32_457
  v869

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S2048x2304 : Shape := ⟨2, ![2048, 2304]⟩
abbrev S2048x512 : Shape := ⟨2, ![2048, 512]⟩
abbrev S2048x8x64 : Shape := ⟨3, ![2048, 8, 64]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x64x2048 : Shape := ⟨3, ![8, 64, 2048]⟩
abbrev S8x2048x64 : Shape := ⟨3, ![8, 2048, 64]⟩

abbrev nBuf : Space → Nat
  | .hbm => 172
  | .vmem => 0
  | .smem => 0
  | _ => 0

abbrev hbmTy0_0 (i : Nat) : BufTy := match i % 128 with
  | 0 => ⟨S2048x2304, .f32⟩
  | 1 => ⟨S2048x512, .f32⟩
  | 2 => ⟨S2048x512, .f32⟩
  | 3 => ⟨S2048x512, .f32⟩
  | 4 => ⟨S2048x512, .f32⟩
  | 5 => ⟨S2048x8x64, .f32⟩
  | 6 => ⟨S2048x8x64, .f32⟩
  | 7 => ⟨S2048x8x64, .f32⟩
  | 8 => ⟨S8x2048x2048, .f32⟩
  | 9 => ⟨S_, .f32⟩
  | 10 => ⟨S8x2048x2048, .f32⟩
  | 11 => ⟨S8x2048x2048, .f32⟩
  | 12 => ⟨S2048, .i32⟩
  | 13 => ⟨S1x2048, .i32⟩
  | 14 => ⟨S2048, .i32⟩
  | 15 => ⟨S2048x1, .i32⟩
  | 16 => ⟨S2048x2048, .i32⟩
  | 17 => ⟨S2048x2048, .i32⟩
  | 18 => ⟨S2048x2048, .i1⟩
  | 19 => ⟨S_, .f32⟩
  | 20 => ⟨S8x2048x2048, .f32⟩
  | 21 => ⟨S8x2048x2048, .f32⟩
  | 22 => ⟨S8x2048x2048, .f32⟩
  | 23 => ⟨S8x2048x2048, .f32⟩
  | 24 => ⟨S8x2048x2048, .i1⟩
  | 25 => ⟨S8x2048x2048, .f32⟩
  | 26 => ⟨S8x2048x2048, .f32⟩
  | 27 => ⟨S8x2048x2048, .f32⟩
  | 28 => ⟨S8x2048x2048, .f32⟩
  | 29 => ⟨S8x2048x2048, .f32⟩
  | 30 => ⟨S8x2048x2048, .f32⟩
  | 31 => ⟨S8x2048x2048, .f32⟩
  | 32 => ⟨S8x2048x2048, .f32⟩
  | 33 => ⟨S_, .f32⟩
  | 34 => ⟨S8x2048x2048, .f32⟩
  | 35 => ⟨S8x2048x2048, .i1⟩
  | 36 => ⟨S_, .f32⟩
  | 37 => ⟨S8x2048x2048, .f32⟩
  | 38 => ⟨S8x2048x2048, .f32⟩
  | 39 => ⟨S_, .f32⟩
  | 40 => ⟨S8x2048x2048, .f32⟩
  | 41 => ⟨S8x2048x2048, .i1⟩
  | 42 => ⟨S_, .f32⟩
  | 43 => ⟨S8x2048x2048, .f32⟩
  | 44 => ⟨S8x2048x2048, .f32⟩
  | 45 => ⟨S8x2048x2048, .f32⟩
  | 46 => ⟨S8x2048x2048, .f32⟩
  | 47 => ⟨S_, .f32⟩
  | 48 => ⟨S_, .f32⟩
  | 49 => ⟨S_, .i1⟩
  | 50 => ⟨S_, .f32⟩
  | 51 => ⟨S_, .f32⟩
  | 52 => ⟨S_, .f32⟩
  | 53 => ⟨S_, .f32⟩
  | 54 => ⟨S8x2048x2048, .f32⟩
  | 55 => ⟨S8x2048x2048, .i1⟩
  | 56 => ⟨S_, .f32⟩
  | 57 => ⟨S8x2048x2048, .f32⟩
  | 58 => ⟨S8x2048x2048, .f32⟩
  | 59 => ⟨S8x2048x2048, .f32⟩
  | 60 => ⟨S8x2048x2048, .f32⟩
  | 61 => ⟨S8x2048x2048, .f32⟩
  | 62 => ⟨S_, .f32⟩
  | 63 => ⟨S8x2048x2048, .f32⟩
  | 64 => ⟨S8x2048x2048, .f32⟩
  | 65 => ⟨S_, .f32⟩
  | 66 => ⟨S_, .f32⟩
  | 67 => ⟨S8x2048x2048, .i1⟩
  | 68 => ⟨S8x2048x2048, .f32⟩
  | 69 => ⟨S8x2048x2048, .f32⟩
  | 70 => ⟨S_, .f32⟩
  | 71 => ⟨S8x2048x2048, .f32⟩
  | 72 => ⟨S_, .f32⟩
  | 73 => ⟨S_, .f32⟩
  | 74 => ⟨S8x2048x2048, .f32⟩
  | 75 => ⟨S8x2048x2048, .f32⟩
  | 76 => ⟨S8x2048x2048, .f32⟩
  | 77 => ⟨S_, .f32⟩
  | 78 => ⟨S8x2048x2048, .f32⟩
  | 79 => ⟨S8x2048x2048, .f32⟩
  | 80 => ⟨S8x2048x2048, .f32⟩
  | 81 => ⟨S8x2048x2048, .f32⟩
  | 82 => ⟨S8x2048x2048, .i1⟩
  | 83 => ⟨S8x2048x2048, .f32⟩
  | 84 => ⟨S8x2048x2048, .f32⟩
  | 85 => ⟨S8x2048x2048, .f32⟩
  | 86 => ⟨S8x2048x2048, .f32⟩
  | 87 => ⟨S8x2048x2048, .f32⟩
  | 88 => ⟨S8x2048x2048, .f32⟩
  | 89 => ⟨S8x2048x2048, .f32⟩
  | 90 => ⟨S8x2048x2048, .f32⟩
  | 91 => ⟨S_, .f32⟩
  | 92 => ⟨S8x2048x2048, .f32⟩
  | 93 => ⟨S8x2048x2048, .i1⟩
  | 94 => ⟨S_, .f32⟩
  | 95 => ⟨S8x2048x2048, .f32⟩
  | 96 => ⟨S8x2048x2048, .f32⟩
  | 97 => ⟨S_, .f32⟩
  | 98 => ⟨S8x2048x2048, .f32⟩
  | 99 => ⟨S8x2048x2048, .i1⟩
  | 100 => ⟨S_, .f32⟩
  | 101 => ⟨S8x2048x2048, .f32⟩
  | 102 => ⟨S8x2048x2048, .f32⟩
  | 103 => ⟨S8x2048x2048, .f32⟩
  | 104 => ⟨S8x2048x2048, .f32⟩
  | 105 => ⟨S_, .f32⟩
  | 106 => ⟨S_, .f32⟩
  | 107 => ⟨S_, .i1⟩
  | 108 => ⟨S_, .f32⟩
  | 109 => ⟨S_, .f32⟩
  | 110 => ⟨S_, .f32⟩
  | 111 => ⟨S_, .f32⟩
  | 112 => ⟨S8x2048x2048, .f32⟩
  | 113 => ⟨S8x2048x2048, .i1⟩
  | 114 => ⟨S_, .f32⟩
  | 115 => ⟨S8x2048x2048, .f32⟩
  | 116 => ⟨S8x2048x2048, .f32⟩
  | 117 => ⟨S8x2048x2048, .f32⟩
  | 118 => ⟨S8x2048x2048, .f32⟩
  | 119 => ⟨S8x2048x2048, .f32⟩
  | 120 => ⟨S_, .f32⟩
  | 121 => ⟨S8x2048x2048, .f32⟩
  | 122 => ⟨S8x2048x2048, .f32⟩
  | 123 => ⟨S8x2048x2048, .f32⟩
  | 124 => ⟨S8x2048x2048, .f32⟩
  | 125 => ⟨S8x2048x2048, .f32⟩
  | 126 => ⟨S_, .f32⟩
  | 127 => ⟨S_, .f32⟩
  | _ => ⟨S2048x2304, .f32⟩

abbrev hbmTy0_1 (i : Nat) : BufTy := match i % 128 with
  | 0 => ⟨S8x2048x2048, .i1⟩
  | 1 => ⟨S8x2048x2048, .f32⟩
  | 2 => ⟨S8x2048x2048, .f32⟩
  | 3 => ⟨S_, .f32⟩
  | 4 => ⟨S8x2048x2048, .f32⟩
  | 5 => ⟨S8x64x2048, .f32⟩
  | 6 => ⟨S2048x8x64, .f32⟩
  | 7 => ⟨S2048x512, .f32⟩
  | 8 => ⟨S2048x8x64, .f32⟩
  | 9 => ⟨S8x64x2048, .f32⟩
  | 10 => ⟨S8x2048x2048, .f32⟩
  | 11 => ⟨S8x64x2048, .f32⟩
  | 12 => ⟨S2048x8x64, .f32⟩
  | 13 => ⟨S_, .f32⟩
  | 14 => ⟨S8x2048x2048, .f32⟩
  | 15 => ⟨S8x2048x2048, .f32⟩
  | 16 => ⟨S8x2048x2048, .f32⟩
  | 17 => ⟨S8x2048x2048, .f32⟩
  | 18 => ⟨S8x2048x2048, .f32⟩
  | 19 => ⟨S8x2048x2048, .f32⟩
  | 20 => ⟨S8x2048x2048, .f32⟩
  | 21 => ⟨S8x2048x2048, .f32⟩
  | 22 => ⟨S_, .f32⟩
  | 23 => ⟨S_, .f32⟩
  | 24 => ⟨S8x2048x2048, .f32⟩
  | 25 => ⟨S8x2048x2048, .f32⟩
  | 26 => ⟨S_, .f32⟩
  | 27 => ⟨S8x2048x2048, .f32⟩
  | 28 => ⟨S8x2048x2048, .f32⟩
  | 29 => ⟨S8x2048x2048, .f32⟩
  | 30 => ⟨S8x2048x2048, .f32⟩
  | 31 => ⟨S_, .f32⟩
  | 32 => ⟨S8x2048x2048, .f32⟩
  | 33 => ⟨S8x2048x2048, .f32⟩
  | 34 => ⟨S8x2048x64, .f32⟩
  | 35 => ⟨S2048x8x64, .f32⟩
  | 36 => ⟨S8x2048x64, .f32⟩
  | 37 => ⟨S2048x8x64, .f32⟩
  | 38 => ⟨S2048x512, .f32⟩
  | 39 => ⟨S2048x512, .f32⟩
  | 40 => ⟨S2048x512, .f32⟩
  | 41 => ⟨S2048x512, .bf16⟩
  | 42 => ⟨S2048x512, .bf16⟩
  | 43 => ⟨S2048x512, .bf16⟩
  | _ => ⟨S2048x2304, .f32⟩

abbrev hbmTy (i : Nat) : BufTy := match i / 128 with
  | 0 => hbmTy0_0 i
  | 1 => hbmTy0_1 i
  | _ => ⟨S2048x2304, .f32⟩

abbrev bufTy : (tb : Table) → Fin (tcTables nBuf tb) → BufTy
  | .hbm, ⟨i, _⟩ => hbmTy i
  | _, _ => ⟨S2048x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_v16_0 : Ref sig .tc := ⟨.hbm, 32, rfl⟩
abbrev main_call0_cst_0 : Ref sig .tc := ⟨.hbm, 33, rfl⟩
abbrev main_call0_v13 : Ref sig .tc := ⟨.hbm, 34, rfl⟩
abbrev main_call0_v14 : Ref sig .tc := ⟨.hbm, 35, rfl⟩
abbrev main_call0_cst_1 : Ref sig .tc := ⟨.hbm, 36, rfl⟩
abbrev main_call0_v15 : Ref sig .tc := ⟨.hbm, 37, rfl⟩
abbrev main_call0_v16 : Ref sig .tc := ⟨.hbm, 38, rfl⟩
abbrev main_call0_cst_2 : Ref sig .tc := ⟨.hbm, 39, rfl⟩
abbrev main_call0_v17 : Ref sig .tc := ⟨.hbm, 40, rfl⟩
abbrev main_call0_v18 : Ref sig .tc := ⟨.hbm, 41, rfl⟩
abbrev main_call0_cst_3 : Ref sig .tc := ⟨.hbm, 42, rfl⟩
abbrev main_call0_v19 : Ref sig .tc := ⟨.hbm, 43, rfl⟩
abbrev main_call0_v20 : Ref sig .tc := ⟨.hbm, 44, rfl⟩
abbrev main_call0_v21 : Ref sig .tc := ⟨.hbm, 45, rfl⟩
abbrev main_v16_1 : Ref sig .tc := ⟨.hbm, 46, rfl⟩
abbrev main_call0_cst_4 : Ref sig .tc := ⟨.hbm, 47, rfl⟩
abbrev main_call0_cst_5 : Ref sig .tc := ⟨.hbm, 48, rfl⟩
abbrev main_call0_v23 : Ref sig .tc := ⟨.hbm, 49, rfl⟩
abbrev main_call0_cst_6 : Ref sig .tc := ⟨.hbm, 50, rfl⟩
abbrev main_call0_cst_7 : Ref sig .tc := ⟨.hbm, 51, rfl⟩
abbrev main_call0_v24 : Ref sig .tc := ⟨.hbm, 52, rfl⟩
abbrev main_call0_cst_8 : Ref sig .tc := ⟨.hbm, 53, rfl⟩
abbrev main_call0_v25 : Ref sig .tc := ⟨.hbm, 54, rfl⟩
abbrev main_call0_v26 : Ref sig .tc := ⟨.hbm, 55, rfl⟩
abbrev main_call0_cst_9 : Ref sig .tc := ⟨.hbm, 56, rfl⟩
abbrev main_call0_v27 : Ref sig .tc := ⟨.hbm, 57, rfl⟩
abbrev main_call0_v28 : Ref sig .tc := ⟨.hbm, 58, rfl⟩
abbrev main_call0_v29 : Ref sig .tc := ⟨.hbm, 59, rfl⟩
abbrev main_call0_v30 : Ref sig .tc := ⟨.hbm, 60, rfl⟩
abbrev main_call0_v31 : Ref sig .tc := ⟨.hbm, 61, rfl⟩
abbrev main_call0_cst_10 : Ref sig .tc := ⟨.hbm, 62, rfl⟩
abbrev main_call0_v32 : Ref sig .tc := ⟨.hbm, 63, rfl⟩
abbrev main_v16_2 : Ref sig .tc := ⟨.hbm, 64, rfl⟩
abbrev main_cst_0 : Ref sig .tc := ⟨.hbm, 65, rfl⟩
abbrev main_call1_v0 : Ref sig .tc := ⟨.hbm, 66, rfl⟩
abbrev main_v17_1 : Ref sig .tc := ⟨.hbm, 67, rfl⟩
abbrev main_call1_v2 : Ref sig .tc := ⟨.hbm, 68, rfl⟩
abbrev main_v17_0 : Ref sig .tc := ⟨.hbm, 69, rfl⟩
abbrev main_call1_cst : Ref sig .tc := ⟨.hbm, 70, rfl⟩
abbrev main_v17_2 : Ref sig .tc := ⟨.hbm, 71, rfl⟩
abbrev main_call2_cst : Ref sig .tc := ⟨.hbm, 72, rfl⟩
abbrev main_call2_v0 : Ref sig .tc := ⟨.hbm, 73, rfl⟩
abbrev main_v18 : Ref sig .tc := ⟨.hbm, 74, rfl⟩
abbrev main_v19 : Ref sig .tc := ⟨.hbm, 75, rfl⟩
abbrev main_call3_v0 : Ref sig .tc := ⟨.hbm, 76, rfl⟩
abbrev main_call3_call0_cst : Ref sig .tc := ⟨.hbm, 77, rfl⟩
abbrev main_call3_call0_v0 : Ref sig .tc := ⟨.hbm, 78, rfl⟩
abbrev main_call3_call0_v1 : Ref sig .tc := ⟨.hbm, 79, rfl⟩
abbrev main_call3_call0_v2 : Ref sig .tc := ⟨.hbm, 80, rfl⟩
abbrev main_call3_call0_v3 : Ref sig .tc := ⟨.hbm, 81, rfl⟩
abbrev main_call3_call0_v4 : Ref sig .tc := ⟨.hbm, 82, rfl⟩
abbrev main_call3_call0_v5 : Ref sig .tc := ⟨.hbm, 83, rfl⟩
abbrev main_call3_call0_v6 : Ref sig .tc := ⟨.hbm, 84, rfl⟩
abbrev main_call3_call0_v7 : Ref sig .tc := ⟨.hbm, 85, rfl⟩
abbrev main_call3_call0_v8 : Ref sig .tc := ⟨.hbm, 86, rfl⟩
abbrev main_call3_call0_v9 : Ref sig .tc := ⟨.hbm, 87, rfl⟩
abbrev main_call3_call0_v10 : Ref sig .tc := ⟨.hbm, 88, rfl⟩
abbrev main_call3_call0_v11 : Ref sig .tc := ⟨.hbm, 89, rfl⟩
abbrev main_call3_v1_0 : Ref sig .tc := ⟨.hbm, 90, rfl⟩
abbrev main_call3_call0_cst_0 : Ref sig .tc := ⟨.hbm, 91, rfl⟩
abbrev main_call3_call0_v13 : Ref sig .tc := ⟨.hbm, 92, rfl⟩
abbrev main_call3_call0_v14 : Ref sig .tc := ⟨.hbm, 93, rfl⟩
abbrev main_call3_call0_cst_1 : Ref sig .tc := ⟨.hbm, 94, rfl⟩
abbrev main_call3_call0_v15 : Ref sig .tc := ⟨.hbm, 95, rfl⟩
abbrev main_call3_call0_v16 : Ref sig .tc := ⟨.hbm, 96, rfl⟩
abbrev main_call3_call0_cst_2 : Ref sig .tc := ⟨.hbm, 97, rfl⟩
abbrev main_call3_call0_v17 : Ref sig .tc := ⟨.hbm, 98, rfl⟩
abbrev main_call3_call0_v18 : Ref sig .tc := ⟨.hbm, 99, rfl⟩
abbrev main_call3_call0_cst_3 : Ref sig .tc := ⟨.hbm, 100, rfl⟩
abbrev main_call3_call0_v19 : Ref sig .tc := ⟨.hbm, 101, rfl⟩
abbrev main_call3_call0_v20 : Ref sig .tc := ⟨.hbm, 102, rfl⟩
abbrev main_call3_call0_v21 : Ref sig .tc := ⟨.hbm, 103, rfl⟩
abbrev main_v20_1 : Ref sig .tc := ⟨.hbm, 104, rfl⟩
abbrev main_call3_call0_cst_4 : Ref sig .tc := ⟨.hbm, 105, rfl⟩
abbrev main_call3_call0_cst_5 : Ref sig .tc := ⟨.hbm, 106, rfl⟩
abbrev main_call3_call0_v23 : Ref sig .tc := ⟨.hbm, 107, rfl⟩
abbrev main_call3_call0_cst_6 : Ref sig .tc := ⟨.hbm, 108, rfl⟩
abbrev main_call3_call0_cst_7 : Ref sig .tc := ⟨.hbm, 109, rfl⟩
abbrev main_call3_call0_v24 : Ref sig .tc := ⟨.hbm, 110, rfl⟩
abbrev main_call3_call0_cst_8 : Ref sig .tc := ⟨.hbm, 111, rfl⟩
abbrev main_call3_call0_v25 : Ref sig .tc := ⟨.hbm, 112, rfl⟩
abbrev main_call3_call0_v26 : Ref sig .tc := ⟨.hbm, 113, rfl⟩
abbrev main_call3_call0_cst_9 : Ref sig .tc := ⟨.hbm, 114, rfl⟩
abbrev main_call3_call0_v27 : Ref sig .tc := ⟨.hbm, 115, rfl⟩
abbrev main_call3_call0_v28 : Ref sig .tc := ⟨.hbm, 116, rfl⟩
abbrev main_call3_call0_v29 : Ref sig .tc := ⟨.hbm, 117, rfl⟩
abbrev main_call3_call0_v30 : Ref sig .tc := ⟨.hbm, 118, rfl⟩
abbrev main_call3_call0_v31 : Ref sig .tc := ⟨.hbm, 119, rfl⟩
abbrev main_call3_call0_cst_10 : Ref sig .tc := ⟨.hbm, 120, rfl⟩
abbrev main_call3_call0_v32 : Ref sig .tc := ⟨.hbm, 121, rfl⟩
abbrev main_v20_2 : Ref sig .tc := ⟨.hbm, 122, rfl⟩
abbrev main_v20_0 : Ref sig .tc := ⟨.hbm, 123, rfl⟩
abbrev main_v21 : Ref sig .tc := ⟨.hbm, 124, rfl⟩
abbrev main_v22 : Ref sig .tc := ⟨.hbm, 125, rfl⟩
abbrev main_cst_1 : Ref sig .tc := ⟨.hbm, 126, rfl⟩
abbrev main_call4_v0 : Ref sig .tc := ⟨.hbm, 127, rfl⟩
abbrev main_v23_1 : Ref sig .tc := ⟨.hbm, 128, rfl⟩
abbrev main_call4_v2 : Ref sig .tc := ⟨.hbm, 129, rfl⟩
abbrev main_v23_0 : Ref sig .tc := ⟨.hbm, 130, rfl⟩
abbrev main_call4_cst : Ref sig .tc := ⟨.hbm, 131, rfl⟩
abbrev main_v23_2 : Ref sig .tc := ⟨.hbm, 132, rfl⟩
abbrev main_v24 : Ref sig .tc := ⟨.hbm, 133, rfl⟩
abbrev main_v25 : Ref sig .tc := ⟨.hbm, 134, rfl⟩
abbrev main_v26 : Ref sig .tc := ⟨.hbm, 135, rfl⟩
abbrev main_v27 : Ref sig .tc := ⟨.hbm, 136, rfl⟩
abbrev main_v28 : Ref sig .tc := ⟨.hbm, 137, rfl⟩
abbrev main_v29 : Ref sig .tc := ⟨.hbm, 138, rfl⟩
abbrev main_v30 : Ref sig .tc := ⟨.hbm, 139, rfl⟩
abbrev main_v31 : Ref sig .tc := ⟨.hbm, 140, rfl⟩
abbrev main_call5_cst : Ref sig .tc := ⟨.hbm, 141, rfl⟩
abbrev main_call5_v0 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_call6_v0 : Ref sig .tc := ⟨.hbm, 146, rfl⟩
abbrev main_call6_v1 : Ref sig .tc := ⟨.hbm, 147, rfl⟩
abbrev main_v35 : Ref sig .tc := ⟨.hbm, 148, rfl⟩
abbrev main_v36 : Ref sig .tc := ⟨.hbm, 149, rfl⟩
abbrev main_call7_cst : Ref sig .tc := ⟨.hbm, 150, rfl⟩
abbrev main_call7_v0 : Ref sig .tc := ⟨.hbm, 151, rfl⟩
abbrev main_v37 : Ref sig .tc := ⟨.hbm, 152, rfl⟩
abbrev main_v38 : Ref sig .tc := ⟨.hbm, 153, rfl⟩
abbrev main_call8_cst : Ref sig .tc := ⟨.hbm, 154, rfl⟩
abbrev main_call8_v0 : Ref sig .tc := ⟨.hbm, 155, rfl⟩
abbrev main_v39 : Ref sig .tc := ⟨.hbm, 156, rfl⟩
abbrev main_v40 : Ref sig .tc := ⟨.hbm, 157, rfl⟩
abbrev main_v41 : Ref sig .tc := ⟨.hbm, 158, rfl⟩
abbrev main_cst_2 : Ref sig .tc := ⟨.hbm, 159, rfl⟩
abbrev main_v42 : Ref sig .tc := ⟨.hbm, 160, rfl⟩
abbrev main_v43 : Ref sig .tc := ⟨.hbm, 161, rfl⟩
abbrev main_v44 : Ref sig .tc := ⟨.hbm, 162, rfl⟩
abbrev main_v45 : Ref sig .tc := ⟨.hbm, 163, rfl⟩
abbrev main_v46 : Ref sig .tc := ⟨.hbm, 164, rfl⟩
abbrev main_v47 : Ref sig .tc := ⟨.hbm, 165, rfl⟩
abbrev main_v48 : Ref sig .tc := ⟨.hbm, 166, rfl⟩
abbrev main_v49 : Ref sig .tc := ⟨.hbm, 167, rfl⟩
abbrev main_v50 : Ref sig .tc := ⟨.hbm, 168, rfl⟩
abbrev main_v51 : Ref sig .tc := ⟨.hbm, 169, rfl⟩
abbrev main_v52 : Ref sig .tc := ⟨.hbm, 170, rfl⟩
abbrev main_v53 : Ref sig .tc := ⟨.hbm, 171, rfl⟩

abbrev nD : Nat := 1
abbrev τ : Topo := Topo.v7x

variable {F : FTy → Type} [FloatOps F]
-- ==== Kernel3.lean ====
abbrev S2048x1024 : Shape := ⟨2, ![2048, 1024]⟩
abbrev S1024x1024 : Shape := ⟨2, ![1024, 1024]⟩
abbrev S2048x512 : Shape := ⟨2, ![2048, 512]⟩
abbrev S512 : Shape := ⟨1, ![512]⟩
abbrev S1x512 : Shape := ⟨2, ![1, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 14
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x512, .f32⟩
  | .hbm, ⟨3, _⟩ => ⟨S2048x512, .f32⟩
  | .hbm, ⟨4, _⟩ => ⟨S512, .f32⟩
  | .hbm, ⟨5, _⟩ => ⟨S512, .f32⟩
  | .hbm, ⟨6, _⟩ => ⟨S2048x1024, .bf16⟩
  | .hbm, ⟨7, _⟩ => ⟨S1024x1024, .bf16⟩
  | .hbm, ⟨8, _⟩ => ⟨S1x512, .f32⟩
  | .hbm, ⟨9, _⟩ => ⟨S1x512, .f32⟩
  | .hbm, ⟨10, _⟩ => ⟨S2048x512, .f32⟩
  | .hbm, ⟨11, _⟩ => ⟨S2048x512, .f32⟩
  | .hbm, ⟨12, _⟩ => ⟨S1x512, .f32⟩
  | .hbm, ⟨13, _⟩ => ⟨S1x512, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S1x512, .f32⟩
  | .local _ .vmem, ⟨8, _⟩ => ⟨S1x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S1x512, .f32⟩
  | .local _ .vmem, ⟨14, _⟩ => ⟨S1x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S2048x1024 : Shape := ⟨2, ![2048, 1024]⟩
abbrev S1024x1024 : Shape := ⟨2, ![1024, 1024]⟩
abbrev S2048x512 : Shape := ⟨2, ![2048, 512]⟩
abbrev S512 : Shape := ⟨1, ![512]⟩
abbrev S_ : Shape := ⟨0, ![]⟩
abbrev S2048 : Shape := ⟨1, ![2048]⟩
abbrev S2048x1 : Shape := ⟨2, ![2048, 1]⟩
abbrev S1x512 : Shape := ⟨2, ![1, 512]⟩

abbrev nBuf : Space → Nat
  | .hbm => 103
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x512, .f32⟩
  | .hbm, ⟨3, _⟩ => ⟨S2048x512, .f32⟩
  | .hbm, ⟨4, _⟩ => ⟨S512, .f32⟩
  | .hbm, ⟨5, _⟩ => ⟨S512, .f32⟩
  | .hbm, ⟨6, _⟩ => ⟨S2048x512, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x512, .f32⟩
  | .hbm, ⟨22, _⟩ => ⟨S2048x512, .f32⟩
  | .hbm, ⟨23, _⟩ => ⟨S1x512, .f32⟩
  | .hbm, ⟨24, _⟩ => ⟨S2048x512, .f32⟩
  | .hbm, ⟨25, _⟩ => ⟨S2048x512, .f32⟩
  | .hbm, ⟨26, _⟩ => ⟨S2048x512, .f32⟩
  | .hbm, ⟨27, _⟩ => ⟨S_, .f32⟩
  | .hbm, ⟨28, _⟩ => ⟨S2048, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S2048x1, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x512, .f32⟩
  | .hbm, ⟨42, _⟩ => ⟨S2048x512, .f32⟩
  | .hbm, ⟨43, _⟩ => ⟨S1x512, .f32⟩
  | .hbm, ⟨44, _⟩ => ⟨S2048x512, .f32⟩
  | .hbm, ⟨45, _⟩ => ⟨S2048x512, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x512, .f32⟩
  | .hbm, ⟨50, _⟩ => ⟨S2048x512, .f32⟩
  | .hbm, ⟨51, _⟩ => ⟨S2048x512, .f32⟩
  | .hbm, ⟨52, _⟩ => ⟨S_, .f32⟩
  | .hbm, ⟨53, _⟩ => ⟨S512, .f32⟩
  | .hbm, ⟨54, _⟩ => ⟨S1x512, .f32⟩
  | .hbm, ⟨55, _⟩ => ⟨S2048x512, .f32⟩
  | .hbm, ⟨56, _⟩ => ⟨S2048x512, .f32⟩
  | .hbm, ⟨57, _⟩ => ⟨S_, .f32⟩
  | .hbm, ⟨58, _⟩ => ⟨S512, .f32⟩
  | .hbm, ⟨59, _⟩ => ⟨S2048x512, .f32⟩
  | .hbm, ⟨60, _⟩ => ⟨S_, .f32⟩
  | .hbm, ⟨61, _⟩ => ⟨S2048, .f32⟩
  | .hbm, ⟨62, _⟩ => ⟨S2048x1, .f32⟩
  | .hbm, ⟨63, _⟩ => ⟨S2048x512, .f32⟩
  | .hbm, ⟨64, _⟩ => ⟨S2048x512, .f32⟩
  | .hbm, ⟨65, _⟩ => ⟨S2048x1, .f32⟩
  | .hbm, ⟨66, _⟩ => ⟨S_, .f32⟩
  | .hbm, ⟨67, _⟩ => ⟨S2048x1, .f32⟩
  | .hbm, ⟨68, _⟩ => ⟨S2048x1, .f32⟩
  | .hbm, ⟨69, _⟩ => ⟨S_, .f32⟩
  | .hbm, ⟨70, _⟩ => ⟨S2048, .f32⟩
  | .hbm, ⟨71, _⟩ => ⟨S2048x512, .f32⟩
  | .hbm, ⟨72, _⟩ => ⟨S2048x512, .f32⟩
  | .hbm, ⟨73, _⟩ => ⟨S2048x512, .f32⟩
  | .hbm, ⟨74, _⟩ => ⟨S2048x512, .f32⟩
  | .hbm, ⟨75, _⟩ => ⟨S2048x512, .f32⟩
  | .hbm, ⟨76, _⟩ => ⟨S2048x512, .f32⟩
  | .hbm, ⟨77, _⟩ => ⟨S_, .f32⟩
  | .hbm, ⟨78, _⟩ => ⟨S512, .f32⟩
  | .hbm, ⟨79, _⟩ => ⟨S1x512, .f32⟩
  | .hbm, ⟨80, _⟩ => ⟨S2048x512, .f32⟩
  | .hbm, ⟨81, _⟩ => ⟨S2048x512, .f32⟩
  | .hbm, ⟨82, _⟩ => ⟨S_, .f32⟩
  | .hbm, ⟨83, _⟩ => ⟨S512, .f32⟩
  | .hbm, ⟨84, _⟩ => ⟨S2048x512, .f32⟩
  | .hbm, ⟨85, _⟩ => ⟨S_, .f32⟩
  | .hbm, ⟨86, _⟩ => ⟨S2048, .f32⟩
  | .hbm, ⟨87, _⟩ => ⟨S2048x1, .f32⟩
  | .hbm, ⟨88, _⟩ => ⟨S2048x512, .f32⟩
  | .hbm, ⟨89, _⟩ => ⟨S2048x512, .f32⟩
  | .hbm, ⟨90, _⟩ => ⟨S2048x1, .f32⟩
  | .hbm, ⟨91, _⟩ => ⟨S_, .f32⟩
  | .hbm, ⟨92, _⟩ => ⟨S2048x1, .f32⟩
  | .hbm, ⟨93, _⟩ => ⟨S2048x1, .f32⟩
  | .hbm, ⟨94, _⟩ => ⟨S_, .f32⟩
  | .hbm, ⟨95, _⟩ => ⟨S2048, .f32⟩
  | .hbm, ⟨96, _⟩ => ⟨S2048x512, .f32⟩
  | .hbm, ⟨97, _⟩ => ⟨S2048x512, .f32⟩
  | .hbm, ⟨98, _⟩ => ⟨S2048x512, .f32⟩
  | .hbm, ⟨99, _⟩ => ⟨S2048x512, .f32⟩
  | .hbm, ⟨100, _⟩ => ⟨S2048x512, .f32⟩
  | .hbm, ⟨101, _⟩ => ⟨S1x512, .f32⟩
  | .hbm, ⟨102, _⟩ => ⟨S1x512, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_15 : Ref sig .tc := ⟨.hbm, 91, rfl⟩
abbrev main_v69 : Ref sig .tc := ⟨.hbm, 92, rfl⟩
abbrev main_v70 : Ref sig .tc := ⟨.hbm, 93, rfl⟩
abbrev main_cst_16 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩

abbrev nD : Nat := 1
abbrev τ : Topo := Topo.v7x

variable {F : FTy → Type} [FloatOps F]
-- ==== Kernel4.lean ====
abbrev S2048x2304 : Shape := ⟨2, ![2048, 2304]⟩
abbrev S1024x2304 : Shape := ⟨2, ![1024, 2304]⟩
abbrev S2048x1024 : Shape := ⟨2, ![2048, 1024]⟩
abbrev S1024 : Shape := ⟨1, ![1024]⟩
abbrev S1x2048x2304 : Shape := ⟨3, ![1, 2048, 2304]⟩
abbrev S2304x1024 : Shape := ⟨2, ![2304, 1024]⟩
abbrev S1x2304x1024 : Shape := ⟨3, ![1, 2304, 1024]⟩
abbrev S1x1024 : Shape := ⟨2, ![1, 1024]⟩
abbrev S1x256x2304 : Shape := ⟨3, ![1, 256, 2304]⟩
abbrev S256x1024 : Shape := ⟨2, ![256, 1024]⟩
abbrev S256x2304 : Shape := ⟨2, ![256, 2304]⟩
abbrev S256 : Shape := ⟨1, ![256]⟩
abbrev S256x1 : Shape := ⟨2, ![256, 1]⟩

abbrev nBuf : Space → Nat
  | .hbm => 14
  | .vmem => 13
  | .smem => 0
  | _ => 0

abbrev bufTy : (tb : Table) → Fin (tcTables nBuf tb) → BufTy
  | .hbm, ⟨0, _⟩ => ⟨S2048x2304, .f32⟩
  | .hbm, ⟨1, _⟩ => ⟨S1024x2304, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S2048x2304, .bf16⟩
  | .hbm, ⟨6, _⟩ => ⟨S1x2048x2304, .bf16⟩
  | .hbm, ⟨7, _⟩ => ⟨S2304x1024, .f32⟩
  | .hbm, ⟨8, _⟩ => ⟨S2304x1024, .bf16⟩
  | .hbm, ⟨9, _⟩ => ⟨S1x2304x1024, .bf16⟩
  | .hbm, ⟨10, _⟩ => ⟨S1x1024, .f32⟩
  | .hbm, ⟨11, _⟩ => ⟨S2048x1024, .f32⟩
  | .hbm, ⟨12, _⟩ => ⟨S2048x1024, .bf16⟩
  | .hbm, ⟨13, _⟩ => ⟨S1x1024, .f32⟩
  | .local _ .vmem, ⟨0, _⟩ => ⟨S1x256x2304, .bf16⟩
  | .local _ .vmem, ⟨1, _⟩ => ⟨S1x256x2304, .bf16⟩
  | .local _ .vmem, ⟨2, _⟩ => ⟨S1x2304x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | _, _ => ⟨S2048x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference4Ideal.lean ====
abbrev S2048x2304 : Shape := ⟨2, ![2048, 2304]⟩
abbrev S1024x2304 : Shape := ⟨2, ![1024, 2304]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2048x2304, .f32⟩
  | .hbm, ⟨1, _⟩ => ⟨S1024x2304, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x2304, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .bf16⟩
  | .hbm, ⟨54, _⟩ => ⟨S1x1024, .f32⟩
  | _, _ => ⟨S2048x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel5.lean ====
abbrev S2x2048x2816 : Shape := ⟨3, ![2, 2048, 2816]⟩
abbrev S1024x5632 : Shape := ⟨2, ![1024, 5632]⟩
abbrev S2048x1024 : Shape := ⟨2, ![2048, 1024]⟩
abbrev S1024 : Shape := ⟨1, ![1024]⟩
abbrev S5632x1024 : Shape := ⟨2, ![5632, 1024]⟩
abbrev S2x2816x1024 : Shape := ⟨3, ![2, 2816, 1024]⟩
abbrev S1x1024 : Shape := ⟨2, ![1, 1024]⟩
abbrev S2x256x2816 : Shape := ⟨3, ![2, 256, 2816]⟩
abbrev S256x1024 : Shape := ⟨2, ![256, 1024]⟩
abbrev S1x256x2816 : Shape := ⟨3, ![1, 256, 2816]⟩
abbrev S256x2816 : Shape := ⟨2, ![256, 2816]⟩
abbrev S1x2816x1024 : Shape := ⟨3, ![1, 2816, 1024]⟩
abbrev S2816x1024 : Shape := ⟨2, ![2816, 1024]⟩
abbrev S256 : Shape := ⟨1, ![256]⟩
abbrev S256x1 : Shape := ⟨2, ![256, 1]⟩

abbrev nBuf : Space → Nat
  | .hbm => 13
  | .vmem => 13
  | .smem => 0
  | _ => 0

abbrev bufTy : (tb : Table) → Fin (tcTables nBuf tb) → BufTy
  | .hbm, ⟨0, _⟩ => ⟨S2x2048x2816, .f32⟩
  | .hbm, ⟨1, _⟩ => ⟨S1024x5632, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S2x2048x2816, .bf16⟩
  | .hbm, ⟨6, _⟩ => ⟨S5632x1024, .f32⟩
  | .hbm, ⟨7, _⟩ => ⟨S2x2816x1024, .f32⟩
  | .hbm, ⟨8, _⟩ => ⟨S2x2816x1024, .bf16⟩
  | .hbm, ⟨9, _⟩ => ⟨S1x1024, .f32⟩
  | .hbm, ⟨10, _⟩ => ⟨S2048x1024, .f32⟩
  | .hbm, ⟨11, _⟩ => ⟨S2048x1024, .bf16⟩
  | .hbm, ⟨12, _⟩ => ⟨S1x1024, .f32⟩
  | .local _ .vmem, ⟨0, _⟩ => ⟨S2x256x2816, .bf16⟩
  | .local _ .vmem, ⟨1, _⟩ => ⟨S2x256x2816, .bf16⟩
  | .local _ .vmem, ⟨2, _⟩ => ⟨S2x2816x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference5Ideal.lean ====
abbrev S2x2048x2816 : Shape := ⟨3, ![2, 2048, 2816]⟩
abbrev S1024x5632 : Shape := ⟨2, ![1024, 5632]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x5632 : Shape := ⟨2, ![2048, 5632]⟩
abbrev S2048x2816 : Shape := ⟨2, ![2048, 2816]⟩
abbrev S1x2048x2816 : Shape := ⟨3, ![1, 2048, 2816]⟩

abbrev nBuf : Space → Nat
  | .hbm => 62
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S1024x5632, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x5632, .f32⟩
  | .hbm, ⟨26, _⟩ => ⟨S2048x2816, .f32⟩
  | .hbm, ⟨27, _⟩ => ⟨S2048x2816, .f32⟩
  | .hbm, ⟨28, _⟩ => ⟨S1x2048x2816, .f32⟩
  | .hbm, ⟨29, _⟩ => ⟨S2048x2816, .f32⟩
  | .hbm, ⟨30, _⟩ => ⟨S1x2048x2816, .f32⟩
  | .hbm, ⟨31, _⟩ => ⟨S2048x2816, .f32⟩
  | .hbm, ⟨32, _⟩ => ⟨S2048x5632, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S1024, .f32⟩
  | .hbm, ⟨42, _⟩ => ⟨S2048x1024, .f32⟩
  | .hbm, ⟨43, _⟩ => ⟨S_, .f32⟩
  | .hbm, ⟨44, _⟩ => ⟨S2048, .f32⟩
  | .hbm, ⟨45, _⟩ => ⟨S2048x1, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1, .f32⟩
  | .hbm, ⟨50, _⟩ => ⟨S_, .f32⟩
  | .hbm, ⟨51, _⟩ => ⟨S2048x1, .f32⟩
  | .hbm, ⟨52, _⟩ => ⟨S2048x1, .f32⟩
  | .hbm, ⟨53, _⟩ => ⟨S_, .f32⟩
  | .hbm, ⟨54, _⟩ => ⟨S2048, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .bf16⟩
  | .hbm, ⟨61, _⟩ => ⟨S1x1024, .f32⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== Kernel6.lean ====
abbrev S2048x1024 : Shape := ⟨2, ![2048, 1024]⟩
abbrev S1024x5632 : Shape := ⟨2, ![1024, 5632]⟩
abbrev S2816x1024 : Shape := ⟨2, ![2816, 1024]⟩
abbrev S2048x5632 : Shape := ⟨2, ![2048, 5632]⟩
abbrev S2048x2816 : Shape := ⟨2, ![2048, 2816]⟩
abbrev S_ : Shape := ⟨0, ![]⟩
abbrev S2x2048x2816 : Shape := ⟨3, ![2, 2048, 2816]⟩
abbrev S2x2816x1024 : Shape := ⟨3, ![2, 2816, 1024]⟩
abbrev S256x1024 : Shape := ⟨2, ![256, 1024]⟩
abbrev S2048x256 : Shape := ⟨2, ![2048, 256]⟩
abbrev S2x2048x256 : Shape := ⟨3, ![2, 2048, 256]⟩
abbrev S2x256x1024 : Shape := ⟨3, ![2, 256, 1024]⟩
abbrev S512x1024 : Shape := ⟨2, ![512, 1024]⟩
abbrev S512x256 : Shape := ⟨2, ![512, 256]⟩
abbrev S1x512x256 : Shape := ⟨3, ![1, 512, 256]⟩
abbrev S1x2048x256 : Shape := ⟨3, ![1, 2048, 256]⟩
abbrev S1x256x1024 : Shape := ⟨3, ![1, 256, 1024]⟩

abbrev nBuf : Space → Nat
  | .hbm => 38
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x5632, .f32⟩
  | .hbm, ⟨3, _⟩ => ⟨S2816x1024, .f32⟩
  | .hbm, ⟨4, _⟩ => ⟨S2048x5632, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S_, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S2048x2816, .f32⟩
  | .hbm, ⟨27, _⟩ => ⟨S2048x1024, .bf16⟩
  | .hbm, ⟨28, _⟩ => ⟨S2816x1024, .bf16⟩
  | .hbm, ⟨29, _⟩ => ⟨S2048x2816, .bf16⟩
  | .hbm, ⟨30, _⟩ => ⟨S2048x2816, .bf16⟩
  | .hbm, ⟨31, _⟩ => ⟨S2048x2816, .bf16⟩
  | .hbm, ⟨32, _⟩ => ⟨S2048x1024, .bf16⟩
  | .hbm, ⟨33, _⟩ => ⟨S2x2048x2816, .bf16⟩
  | .hbm, ⟨34, _⟩ => ⟨S2816x1024, .f32⟩
  | .hbm, ⟨35, _⟩ => ⟨S2816x1024, .bf16⟩
  | .hbm, ⟨36, _⟩ => ⟨S2x2816x1024, .f32⟩
  | .hbm, ⟨37, _⟩ => ⟨S2x2816x1024, .bf16⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2x2048x256, .bf16⟩
  | .local _ .vmem, ⟨11, _⟩ => ⟨S2x2048x256, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S2x256x1024, .f32⟩
  | .local _ .vmem, ⟨17, _⟩ => ⟨S2x256x1024, .f32⟩
  | .local _ .vmem, ⟨18, _⟩ => ⟨S2x256x1024, .bf16⟩
  | .local _ .vmem, ⟨19, _⟩ => ⟨S2x256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25_0 : Ref sig .tc := ⟨.hbm, 33, rfl⟩
abbrev main_v25_1 : Ref sig .tc := ⟨.hbm, 34, rfl⟩
abbrev main_v25_2 : Ref sig .tc := ⟨.hbm, 35, rfl⟩
abbrev main_v25_3 : Ref sig .tc := ⟨.hbm, 36, rfl⟩
abbrev main_v25_4 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S2048x1024 : Shape := ⟨2, ![2048, 1024]⟩
abbrev S1024x5632 : Shape := ⟨2, ![1024, 5632]⟩
abbrev S2816x1024 : Shape := ⟨2, ![2816, 1024]⟩
abbrev S2048x5632 : Shape := ⟨2, ![2048, 5632]⟩
abbrev S2048x2816 : Shape := ⟨2, ![2048, 2816]⟩
abbrev S_ : Shape := ⟨0, ![]⟩
abbrev S1024x2816 : Shape := ⟨2, ![1024, 2816]⟩
abbrev S5632x1024 : Shape := ⟨2, ![5632, 1024]⟩
abbrev S2x2816x1024 : Shape := ⟨3, ![2, 2816, 1024]⟩
abbrev S1x2048x2816 : Shape := ⟨3, ![1, 2048, 2816]⟩
abbrev S2x2048x2816 : Shape := ⟨3, ![2, 2048, 2816]⟩

abbrev nBuf : Space → Nat
  | .hbm => 48
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x5632, .f32⟩
  | .hbm, ⟨3, _⟩ => ⟨S2816x1024, .f32⟩
  | .hbm, ⟨4, _⟩ => ⟨S2048x5632, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S1024x2816, .f32⟩
  | .hbm, ⟨29, _⟩ => ⟨S2816x1024, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S2048x2816, .f32⟩
  | .hbm, ⟨35, _⟩ => ⟨S2048x2816, .f32⟩
  | .hbm, ⟨36, _⟩ => ⟨S2048x2816, .f32⟩
  | .hbm, ⟨37, _⟩ => ⟨S2048x5632, .f32⟩
  | .hbm, ⟨38, _⟩ => ⟨S5632x1024, .f32⟩
  | .hbm, ⟨39, _⟩ => ⟨S1024x5632, .f32⟩
  | .hbm, ⟨40, _⟩ => ⟨S5632x1024, .f32⟩
  | .hbm, ⟨41, _⟩ => ⟨S2x2816x1024, .f32⟩
  | .hbm, ⟨42, _⟩ => ⟨S1x2048x2816, .f32⟩
  | .hbm, ⟨43, _⟩ => ⟨S1x2048x2816, .f32⟩
  | .hbm, ⟨44, _⟩ => ⟨S2x2048x2816, .f32⟩
  | .hbm, ⟨45, _⟩ => ⟨S2x2048x2816, .bf16⟩
  | .hbm, ⟨46, _⟩ => ⟨S2816x1024, .bf16⟩
  | .hbm, ⟨47, _⟩ => ⟨S2x2816x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩

abbrev nD : Nat := 1
abbrev τ : Topo := Topo.v7x

variable {F : FTy → Type} [FloatOps F]
-- ==== Kernel7.lean ====
abbrev S8x2x128x128 : Shape := ⟨4, ![8, 2, 128, 128]⟩
abbrev S128x128 : Shape := ⟨2, ![128, 128]⟩
abbrev S_ : Shape := ⟨0, ![]⟩
abbrev S32x128 : Shape := ⟨2, ![32, 128]⟩
abbrev S1x1x128x128 : Shape := ⟨4, ![1, 1, 128, 128]⟩
abbrev S1x128x128 : Shape := ⟨3, ![1, 128, 128]⟩
abbrev S1 : Shape := ⟨1, ![1]⟩
abbrev S1x1x1 : Shape := ⟨3, ![1, 1, 1]⟩

abbrev nBuf : Space → Nat
  | .hbm => 66
  | .vmem => 5
  | .smem => 0
  | _ => 0

abbrev bufTy : (tb : Table) → Fin (tcTables nBuf tb) → BufTy
  | .hbm, ⟨0, _⟩ => ⟨S8x2x128x128, .f32⟩
  | .hbm, ⟨1, _⟩ => ⟨S8x2x128x128, .f32⟩
  | .hbm, ⟨2, _⟩ => ⟨S128x128, .i32⟩
  | .hbm, ⟨3, _⟩ => ⟨S128x128, .i32⟩
  | .hbm, ⟨4, _⟩ => ⟨S_, .i32⟩
  | .hbm, ⟨5, _⟩ => ⟨S128x128, .i32⟩
  | .hbm, ⟨6, _⟩ => ⟨S128x128, .i32⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S_, .i32⟩
  | .hbm, ⟨12, _⟩ => ⟨S128x128, .i32⟩
  | .hbm, ⟨13, _⟩ => ⟨S128x128, .i32⟩
  | .hbm, ⟨14, _⟩ => ⟨S128x128, .f32⟩
  | .hbm, ⟨15, _⟩ => ⟨S_, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S_, .f32⟩
  | .hbm, ⟨20, _⟩ => ⟨S128x128, .f32⟩
  | .hbm, ⟨21, _⟩ => ⟨S128x128, .f32⟩
  | .hbm, ⟨22, _⟩ => ⟨S_, .f32⟩
  | .hbm, ⟨23, _⟩ => ⟨S128x128, .f32⟩
  | .hbm, ⟨24, _⟩ => ⟨S128x128, .f32⟩
  | .hbm, ⟨25, _⟩ => ⟨S128x128, .i32⟩
  | .hbm, ⟨26, _⟩ => ⟨S_, .i32⟩
  | .hbm, ⟨27, _⟩ => ⟨S128x128, .i32⟩
  | .hbm, ⟨28, _⟩ => ⟨S128x128, .i32⟩
  | .hbm, ⟨29, _⟩ => ⟨S_, .i32⟩
  | .hbm, ⟨30, _⟩ => ⟨S128x128, .i32⟩
  | .hbm, ⟨31, _⟩ => ⟨S128x128, .i32⟩
  | .hbm, ⟨32, _⟩ => ⟨S_, .i32⟩
  | .hbm, ⟨33, _⟩ => ⟨S128x128, .i32⟩
  | .hbm, ⟨34, _⟩ => ⟨S128x128, .i1⟩
  | .hbm, ⟨35, _⟩ => ⟨S128x128, .i32⟩
  | .hbm, ⟨36, _⟩ => ⟨S128x128, .i32⟩
  | .hbm, ⟨37, _⟩ => ⟨S_, .i32⟩
  | .hbm, ⟨38, _⟩ => ⟨S128x128, .i32⟩
  | .hbm, ⟨39, _⟩ => ⟨S128x128, .i32⟩
  | .hbm, ⟨40, _⟩ => ⟨S_, .i32⟩
  | .hbm, ⟨41, _⟩ => ⟨S128x128, .i32⟩
  | .hbm, ⟨42, _⟩ => ⟨S128x128, .i32⟩
  | .hbm, ⟨43, _⟩ => ⟨S128x128, .f32⟩
  | .hbm, ⟨44, _⟩ => ⟨S_, .f32⟩
  | .hbm, ⟨45, _⟩ => ⟨S128x128, .f32⟩
  | .hbm, ⟨46, _⟩ => ⟨S128x128, .f32⟩
  | .hbm, ⟨47, _⟩ => ⟨S128x128, .f32⟩
  | .hbm, ⟨48, _⟩ => ⟨S_, .f32⟩
  | .hbm, ⟨49, _⟩ => ⟨S128x128, .f32⟩
  | .hbm, ⟨50, _⟩ => ⟨S128x128, .f32⟩
  | .hbm, ⟨51, _⟩ => ⟨S_, .f32⟩
  | .hbm, ⟨52, _⟩ => ⟨S128x128, .f32⟩
  | .hbm, ⟨53, _⟩ => ⟨S128x128, .f32⟩
  | .hbm, ⟨54, _⟩ => ⟨S128x128, .i32⟩
  | .hbm, ⟨55, _⟩ => ⟨S_, .i32⟩
  | .hbm, ⟨56, _⟩ => ⟨S128x128, .i32⟩
  | .hbm, ⟨57, _⟩ => ⟨S128x128, .i32⟩
  | .hbm, ⟨58, _⟩ => ⟨S_, .i32⟩
  | .hbm, ⟨59, _⟩ => ⟨S128x128, .i32⟩
  | .hbm, ⟨60, _⟩ => ⟨S128x128, .i32⟩
  | .hbm, ⟨61, _⟩ => ⟨S_, .i32⟩
  | .hbm, ⟨62, _⟩ => ⟨S128x128, .i32⟩
  | .hbm, ⟨63, _⟩ => ⟨S128x128, .i1⟩
  | .hbm, ⟨64, _⟩ => ⟨S128x128, .i32⟩
  | .hbm, ⟨65, _⟩ => ⟨S32x128, .f32⟩
  | .local _ .vmem, ⟨0, _⟩ => ⟨S8x2x128x128, .f32⟩
  | .local _ .vmem, ⟨1, _⟩ => ⟨S8x2x128x128, .f32⟩
  | .local _ .vmem, ⟨2, _⟩ => ⟨S128x128, .i32⟩
  | .local _ .vmem, ⟨3, _⟩ => ⟨S128x128, .i32⟩
  | .local _ .vmem, ⟨4, _⟩ => ⟨S32x128, .f32⟩
  | _, _ => ⟨S8x2x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_4 : Ref sig .tc := ⟨.hbm, 26, rfl⟩
abbrev main_v18 : Ref sig .tc := ⟨.hbm, 27, rfl⟩
abbrev main_v19 : Ref sig .tc := ⟨.hbm, 28, rfl⟩
abbrev main_c_5 : Ref sig .tc := ⟨.hbm, 29, rfl⟩
abbrev main_v20 : Ref sig .tc := ⟨.hbm, 30, rfl⟩
abbrev main_v21 : Ref sig .tc := ⟨.hbm, 31, rfl⟩
abbrev main_c_6 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_7 : Ref sig .tc := ⟨.hbm, 37, rfl⟩
abbrev main_v26 : Ref sig .tc := ⟨.hbm, 38, rfl⟩
abbrev main_v27 : Ref sig .tc := ⟨.hbm, 39, rfl⟩
abbrev main_c_8 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_9 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_10 : Ref sig .tc := ⟨.hbm, 48, rfl⟩
abbrev main_v34 : Ref sig .tc := ⟨.hbm, 49, rfl⟩
abbrev main_v35 : Ref sig .tc := ⟨.hbm, 50, rfl⟩
abbrev main_cst_11 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_12 : Ref sig .tc := ⟨.hbm, 55, rfl⟩
abbrev main_v39 : Ref sig .tc := ⟨.hbm, 56, rfl⟩
abbrev main_v40 : Ref sig .tc := ⟨.hbm, 57, rfl⟩
abbrev main_c_13 : Ref sig .tc := ⟨.hbm, 58, rfl⟩
abbrev main_v41 : Ref sig .tc := ⟨.hbm, 59, rfl⟩
abbrev main_v42 : Ref sig .tc := ⟨.hbm, 60, rfl⟩
abbrev main_c_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8x2x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference7Ideal.lean ====
abbrev S8x2x128x128 : Shape := ⟨4, ![8, 2, 128, 128]⟩
abbrev S_ : Shape := ⟨0, ![]⟩
abbrev S32x8 : Shape := ⟨2, ![32, 8]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x8 : Shape := ⟨3, ![128, 256, 8]⟩
abbrev S8x128x256 : Shape := ⟨3, ![8, 128, 256]⟩
abbrev S8x128x2x128 : Shape := ⟨4, ![8, 128, 2, 128]⟩
abbrev S32x128 : Shape := ⟨2, ![32, 128]⟩

abbrev nBuf : Space → Nat
  | .hbm => 64
  | .vmem => 0
  | .smem => 0
  | _ => 0

abbrev bufTy : (tb : Table) → Fin (tcTables nBuf tb) → BufTy
  | .hbm, ⟨0, _⟩ => ⟨S8x2x128x128, .f32⟩
  | .hbm, ⟨1, _⟩ => ⟨S8x2x128x128, .f32⟩
  | .hbm, ⟨2, _⟩ => ⟨S_, .f32⟩
  | .hbm, ⟨3, _⟩ => ⟨S32x8, .f32⟩
  | .hbm, ⟨4, _⟩ => ⟨S128, .i32⟩
  | .hbm, ⟨5, _⟩ => ⟨S128x1, .i32⟩
  | .hbm, ⟨6, _⟩ => ⟨S256, .i32⟩
  | .hbm, ⟨7, _⟩ => ⟨S1x256, .i32⟩
  | .hbm, ⟨8, _⟩ => ⟨S_, .i32⟩
  | .hbm, ⟨9, _⟩ => ⟨S128x1, .i32⟩
  | .hbm, ⟨10, _⟩ => ⟨S128x1, .i32⟩
  | .hbm, ⟨11, _⟩ => ⟨S128x256, .i32⟩
  | .hbm, ⟨12, _⟩ => ⟨S128x256, .i32⟩
  | .hbm, ⟨13, _⟩ => ⟨S128x256, .i32⟩
  | .hbm, ⟨14, _⟩ => ⟨S_, .i32⟩
  | .hbm, ⟨15, _⟩ => ⟨S128x256, .i32⟩
  | .hbm, ⟨16, _⟩ => ⟨S128x256, .i32⟩
  | .hbm, ⟨17, _⟩ => ⟨S_, .i32⟩
  | .hbm, ⟨18, _⟩ => ⟨S128x256, .i32⟩
  | .hbm, ⟨19, _⟩ => ⟨S128x256, .i32⟩
  | .hbm, ⟨20, _⟩ => ⟨S128x256, .f32⟩
  | .hbm, ⟨21, _⟩ => ⟨S_, .f32⟩
  | .hbm, ⟨22, _⟩ => ⟨S128x256, .f32⟩
  | .hbm, ⟨23, _⟩ => ⟨S128x256, .f32⟩
  | .hbm, ⟨24, _⟩ => ⟨S128x256, .f32⟩
  | .hbm, ⟨25, _⟩ => ⟨S_, .f32⟩
  | .hbm, ⟨26, _⟩ => ⟨S128x256, .f32⟩
  | .hbm, ⟨27, _⟩ => ⟨S128x256, .f32⟩
  | .hbm, ⟨28, _⟩ => ⟨S_, .f32⟩
  | .hbm, ⟨29, _⟩ => ⟨S128x256, .f32⟩
  | .hbm, ⟨30, _⟩ => ⟨S128x256, .f32⟩
  | .hbm, ⟨31, _⟩ => ⟨S128x256, .i32⟩
  | .hbm, ⟨32, _⟩ => ⟨S_, .i32⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i32⟩
  | .hbm, ⟨38, _⟩ => ⟨S_, .i32⟩
  | .hbm, ⟨39, _⟩ => ⟨S128x256, .i32⟩
  | .hbm, ⟨40, _⟩ => ⟨S128x256, .i1⟩
  | .hbm, ⟨41, _⟩ => ⟨S128x256, .i32⟩
  | .hbm, ⟨42, _⟩ => ⟨S_, .i32⟩
  | .hbm, ⟨43, _⟩ => ⟨S128x256, .i32⟩
  | .hbm, ⟨44, _⟩ => ⟨S128x256, .i1⟩
  | .hbm, ⟨45, _⟩ => ⟨S_, .i32⟩
  | .hbm, ⟨46, _⟩ => ⟨S128x256, .i32⟩
  | .hbm, ⟨47, _⟩ => ⟨S128x256, .i32⟩
  | .hbm, ⟨48, _⟩ => ⟨S128x256, .i32⟩
  | .hbm, ⟨49, _⟩ => ⟨S128x256x1, .i32⟩
  | .hbm, ⟨50, _⟩ => ⟨S128x256x8, .f32⟩
  | .hbm, ⟨51, _⟩ => ⟨S8x128x256, .f32⟩
  | .hbm, ⟨52, _⟩ => ⟨S8x128x2x128, .f32⟩
  | .hbm, ⟨53, _⟩ => ⟨S8x128x256, .f32⟩
  | .hbm, ⟨54, _⟩ => ⟨S8x128x2x128, .f32⟩
  | .hbm, ⟨55, _⟩ => ⟨S8x128x256, .f32⟩
  | .hbm, ⟨56, _⟩ => ⟨S8x128x256, .f32⟩
  | .hbm, ⟨57, _⟩ => ⟨S128x256x8, .f32⟩
  | .hbm, ⟨58, _⟩ => ⟨S_, .f32⟩
  | .hbm, ⟨59, _⟩ => ⟨S32x8, .f32⟩
  | .hbm, ⟨60, _⟩ => ⟨S32x8, .f32⟩
  | .hbm, ⟨61, _⟩ => ⟨S_, .i32⟩
  | .hbm, ⟨62, _⟩ => ⟨S_, .f32⟩
  | .hbm, ⟨63, _⟩ => ⟨S32x128, .f32⟩
  | _, _ => ⟨S8x2x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_5 : Ref sig .tc := ⟨.hbm, 32, rfl⟩
abbrev main_v23 : Ref sig .tc := ⟨.hbm, 33, rfl⟩
abbrev main_v24 : Ref sig .tc := ⟨.hbm, 34, rfl⟩
abbrev main_c_6 : Ref sig .tc := ⟨.hbm, 35, rfl⟩
abbrev main_v25 : Ref sig .tc := ⟨.hbm, 36, rfl⟩
abbrev main_v26 : Ref sig .tc := ⟨.hbm, 37, rfl⟩
abbrev main_c_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_8 : Ref sig .tc := ⟨.hbm, 42, rfl⟩
abbrev main_v30 : Ref sig .tc := ⟨.hbm, 43, rfl⟩
abbrev main_v31 : Ref sig .tc := ⟨.hbm, 44, rfl⟩
abbrev main_c_9 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_10 : Ref sig .tc := ⟨.hbm, 58, rfl⟩
abbrev main_v44 : Ref sig .tc := ⟨.hbm, 59, rfl⟩
abbrev main_v45 : Ref sig .tc := ⟨.hbm, 60, rfl⟩
abbrev main_c_11 : Ref sig .tc := ⟨.hbm, 61, rfl⟩
abbrev main_call1_v0 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== Kernel8.lean ====
abbrev S2048x2304 : Shape := ⟨2, ![2048, 2304]⟩
abbrev S2048x512 : Shape := ⟨2, ![2048, 512]⟩
abbrev S8 : Shape := ⟨1, ![8]⟩
abbrev S32x8 : Shape := ⟨2, ![32, 8]⟩
abbrev S128x128 : Shape := ⟨2, ![128, 128]⟩
abbrev S_ : Shape := ⟨0, ![]⟩
abbrev S2048x128 : Shape := ⟨2, ![2048, 128]⟩
abbrev S16x128x2x4x64 : Shape := ⟨5, ![16, 128, 2, 4, 64]⟩
abbrev S2176x128 : Shape := ⟨2, ![2176, 128]⟩
abbrev S16x128x2x64 : Shape := ⟨4, ![16, 128, 2, 64]⟩
abbrev S16x256x2x64 : Shape := ⟨4, ![16, 256, 2, 64]⟩
abbrev S16x2x256x128x4 : Shape := ⟨5, ![16, 2, 256, 128, 4]⟩
abbrev S16x2x4x128x256 : Shape := ⟨5, ![16, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x8 : Shape := ⟨3, ![128, 256, 8]⟩
abbrev S8x128x256 : Shape := ⟨3, ![8, 128, 256]⟩
abbrev S2x4x128x256 : Shape := ⟨4, ![2, 4, 128, 256]⟩
abbrev S16 : Shape := ⟨1, ![16]⟩
abbrev S16x1 : Shape := ⟨2, ![16, 1]⟩
abbrev S16x256 : Shape := ⟨2, ![16, 256]⟩
abbrev S1x128x256 : Shape := ⟨3, ![1, 128, 256]⟩
abbrev S16x1x256 : Shape := ⟨3, ![16, 1, 256]⟩
abbrev S16x128x256 : Shape := ⟨3, ![16, 128, 256]⟩
abbrev S16x1x1x128x256 : Shape := ⟨5, ![16, 1, 1, 128, 256]⟩
abbrev S1x2x4x128x256 : Shape := ⟨5, ![1, 2, 4, 128, 256]⟩
abbrev S2x4 : Shape := ⟨2, ![2, 4]⟩
abbrev S1x2x4x1x1 : Shape := ⟨5, ![1, 2, 4, 1, 1]⟩
abbrev S16x2x4x128 : Shape := ⟨4, ![16, 2, 4, 128]⟩
abbrev S16x2x4x128x1 : Shape := ⟨5, ![16, 2, 4, 128, 1]⟩
abbrev S16x8x128 : Shape := ⟨3, ![16, 8, 128]⟩
abbrev S16x128x8 : Shape := ⟨3, ![16, 128, 8]⟩
abbrev S2048x8 : Shape := ⟨2, ![2048, 8]⟩
abbrev S2048x8x1 : Shape := ⟨3, ![2048, 8, 1]⟩
abbrev S2048x8x128 : Shape := ⟨3, ![2048, 8, 128]⟩
abbrev S2048x1024 : Shape := ⟨2, ![2048, 1024]⟩
abbrev S1x8 : Shape := ⟨2, ![1, 8]⟩
abbrev S1x128 : Shape := ⟨2, ![1, 128]⟩
abbrev S8x2x128x128 : Shape := ⟨4, ![8, 2, 128, 128]⟩
abbrev S128x512 : Shape := ⟨2, ![128, 512]⟩
abbrev S128x1024 : Shape := ⟨2, ![128, 1024]⟩
abbrev S1x1 : Shape := ⟨2, ![1, 1]⟩
abbrev S1x1x128x128 : Shape := ⟨4, ![1, 1, 128, 128]⟩
abbrev S256x128 : Shape := ⟨2, ![256, 128]⟩
abbrev S1x128x1 : Shape := ⟨3, ![1, 128, 1]⟩
abbrev S1 : Shape := ⟨1, ![1]⟩
abbrev S1x1x1 : Shape := ⟨3, ![1, 1, 1]⟩

abbrev nBuf : Space → Nat
  | .hbm => 195
  | .vmem => 25
  | .smem => 2
  | _ => 0

abbrev hbmTy0_0 (i : Nat) : BufTy := match i % 128 with
  | 0 => ⟨S2048x2304, .f32⟩
  | 1 => ⟨S2048x512, .f32⟩
  | 2 => ⟨S8, .f32⟩
  | 3 => ⟨S32x8, .f32⟩
  | 4 => ⟨S128x128, .i32⟩
  | 5 => ⟨S128x128, .i32⟩
  | 6 => ⟨S_, .i32⟩
  | 7 => ⟨S128x128, .i32⟩
  | 8 => ⟨S128x128, .i32⟩
  | 9 => ⟨S128x128, .i32⟩
  | 10 => ⟨S_, .i32⟩
  | 11 => ⟨S128x128, .i32⟩
  | 12 => ⟨S128x128, .i32⟩
  | 13 => ⟨S_, .i32⟩
  | 14 => ⟨S128x128, .i32⟩
  | 15 => ⟨S128x128, .i32⟩
  | 16 => ⟨S128x128, .f32⟩
  | 17 => ⟨S_, .f32⟩
  | 18 => ⟨S128x128, .f32⟩
  | 19 => ⟨S128x128, .f32⟩
  | 20 => ⟨S128x128, .f32⟩
  | 21 => ⟨S_, .f32⟩
  | 22 => ⟨S128x128, .f32⟩
  | 23 => ⟨S128x128, .f32⟩
  | 24 => ⟨S_, .f32⟩
  | 25 => ⟨S128x128, .f32⟩
  | 26 => ⟨S128x128, .f32⟩
  | 27 => ⟨S128x128, .i32⟩
  | 28 => ⟨S_, .i32⟩
  | 29 => ⟨S128x128, .i32⟩
  | 30 => ⟨S128x128, .i32⟩
  | 31 => ⟨S_, .i32⟩
  | 32 => ⟨S128x128, .i32⟩
  | 33 => ⟨S128x128, .i32⟩
  | 34 => ⟨S_, .i32⟩
  | 35 => ⟨S128x128, .i32⟩
  | 36 => ⟨S128x128, .i1⟩
  | 37 => ⟨S128x128, .i32⟩
  | 38 => ⟨S128x128, .i32⟩
  | 39 => ⟨S_, .i32⟩
  | 40 => ⟨S128x128, .i32⟩
  | 41 => ⟨S128x128, .i32⟩
  | 42 => ⟨S_, .i32⟩
  | 43 => ⟨S128x128, .i32⟩
  | 44 => ⟨S128x128, .i32⟩
  | 45 => ⟨S128x128, .f32⟩
  | 46 => ⟨S_, .f32⟩
  | 47 => ⟨S128x128, .f32⟩
  | 48 => ⟨S128x128, .f32⟩
  | 49 => ⟨S128x128, .f32⟩
  | 50 => ⟨S_, .f32⟩
  | 51 => ⟨S128x128, .f32⟩
  | 52 => ⟨S128x128, .f32⟩
  | 53 => ⟨S_, .f32⟩
  | 54 => ⟨S128x128, .f32⟩
  | 55 => ⟨S128x128, .f32⟩
  | 56 => ⟨S128x128, .i32⟩
  | 57 => ⟨S_, .i32⟩
  | 58 => ⟨S128x128, .i32⟩
  | 59 => ⟨S128x128, .i32⟩
  | 60 => ⟨S_, .i32⟩
  | 61 => ⟨S128x128, .i32⟩
  | 62 => ⟨S128x128, .i32⟩
  | 63 => ⟨S_, .i32⟩
  | 64 => ⟨S128x128, .i32⟩
  | 65 => ⟨S128x128, .i1⟩
  | 66 => ⟨S128x128, .i32⟩
  | 67 => ⟨S2048x512, .f32⟩
  | 68 => ⟨S2048x128, .f32⟩
  | 69 => ⟨S16x128x2x4x64, .f32⟩
  | 70 => ⟨S_, .i32⟩
  | 71 => ⟨S_, .f32⟩
  | 72 => ⟨S2176x128, .f32⟩
  | 73 => ⟨S2048x128, .f32⟩
  | 74 => ⟨S16x128x2x64, .f32⟩
  | 75 => ⟨S16x128x2x64, .f32⟩
  | 76 => ⟨S16x256x2x64, .f32⟩
  | 77 => ⟨S16x2x256x128x4, .f32⟩
  | 78 => ⟨S16x2x4x128x256, .f32⟩
  | 79 => ⟨S_, .f32⟩
  | 80 => ⟨S16x2x4x128x256, .f32⟩
  | 81 => ⟨S16x2x4x128x256, .f32⟩
  | 82 => ⟨S128, .i32⟩
  | 83 => ⟨S128x1, .i32⟩
  | 84 => ⟨S256, .i32⟩
  | 85 => ⟨S1x256, .i32⟩
  | 86 => ⟨S_, .i32⟩
  | 87 => ⟨S128x1, .i32⟩
  | 88 => ⟨S128x1, .i32⟩
  | 89 => ⟨S128x256, .i32⟩
  | 90 => ⟨S128x256, .i32⟩
  | 91 => ⟨S128x256, .i32⟩
  | 92 => ⟨S_, .i32⟩
  | 93 => ⟨S128x256, .i32⟩
  | 94 => ⟨S128x256, .i32⟩
  | 95 => ⟨S_, .i32⟩
  | 96 => ⟨S128x256, .i32⟩
  | 97 => ⟨S128x256, .i32⟩
  | 98 => ⟨S128x256, .f32⟩
  | 99 => ⟨S_, .f32⟩
  | 100 => ⟨S128x256, .f32⟩
  | 101 => ⟨S128x256, .f32⟩
  | 102 => ⟨S128x256, .f32⟩
  | 103 => ⟨S_, .f32⟩
  | 104 => ⟨S128x256, .f32⟩
  | 105 => ⟨S128x256, .f32⟩
  | 106 => ⟨S_, .f32⟩
  | 107 => ⟨S128x256, .f32⟩
  | 108 => ⟨S128x256, .f32⟩
  | 109 => ⟨S128x256, .i32⟩
  | 110 => ⟨S_, .i32⟩
  | 111 => ⟨S128x256, .i32⟩
  | 112 => ⟨S128x256, .i32⟩
  | 113 => ⟨S_, .i32⟩
  | 114 => ⟨S128x256, .i32⟩
  | 115 => ⟨S128x256, .i32⟩
  | 116 => ⟨S_, .i32⟩
  | 117 => ⟨S128x256, .i32⟩
  | 118 => ⟨S128x256, .i1⟩
  | 119 => ⟨S128x256, .i32⟩
  | 120 => ⟨S_, .i32⟩
  | 121 => ⟨S128x256, .i32⟩
  | 122 => ⟨S128x256, .i1⟩
  | 123 => ⟨S_, .i32⟩
  | 124 => ⟨S128x256, .i32⟩
  | 125 => ⟨S128x256, .i32⟩
  | 126 => ⟨S128x256, .i32⟩
  | 127 => ⟨S128x256x1, .i32⟩
  | _ => ⟨S2048x2304, .f32⟩

abbrev hbmTy0_1 (i : Nat) : BufTy := match i % 128 with
  | 0 => ⟨S128x256x8, .f32⟩
  | 1 => ⟨S8x128x256, .f32⟩
  | 2 => ⟨S2x4x128x256, .f32⟩
  | 3 => ⟨S_, .i32⟩
  | 4 => ⟨S128x256, .i32⟩
  | 5 => ⟨S128x256, .i1⟩
  | 6 => ⟨S_, .i32⟩
  | 7 => ⟨S128x256, .i32⟩
  | 8 => ⟨S128x256, .i1⟩
  | 9 => ⟨S128x256, .i1⟩
  | 10 => ⟨S16, .i32⟩
  | 11 => ⟨S16x1, .i32⟩
  | 12 => ⟨S_, .i32⟩
  | 13 => ⟨S16x1, .i32⟩
  | 14 => ⟨S16x1, .i1⟩
  | 15 => ⟨S_, .i32⟩
  | 16 => ⟨S1x256, .i32⟩
  | 17 => ⟨S1x256, .i1⟩
  | 18 => ⟨S16x256, .i1⟩
  | 19 => ⟨S16x256, .i1⟩
  | 20 => ⟨S16x256, .i1⟩
  | 21 => ⟨S1x128x256, .i1⟩
  | 22 => ⟨S16x1x256, .i1⟩
  | 23 => ⟨S16x128x256, .i1⟩
  | 24 => ⟨S16x128x256, .i1⟩
  | 25 => ⟨S16x128x256, .i1⟩
  | 26 => ⟨S16x1x1x128x256, .i1⟩
  | 27 => ⟨S1x2x4x128x256, .f32⟩
  | 28 => ⟨S16x2x4x128x256, .f32⟩
  | 29 => ⟨S16x2x4x128x256, .f32⟩
  | 30 => ⟨S_, .f32⟩
  | 31 => ⟨S_, .f32⟩
  | 32 => ⟨S16x2x4x128x256, .i1⟩
  | 33 => ⟨S16x2x4x128x256, .f32⟩
  | 34 => ⟨S16x2x4x128x256, .f32⟩
  | 35 => ⟨S2x4, .f32⟩
  | 36 => ⟨S1x2x4x1x1, .f32⟩
  | 37 => ⟨S_, .f32⟩
  | 38 => ⟨S16x2x4x128, .f32⟩
  | 39 => ⟨S16x2x4x128x1, .f32⟩
  | 40 => ⟨S16x2x4x128x1, .f32⟩
  | 41 => ⟨S16x2x4x128x1, .f32⟩
  | 42 => ⟨S16x2x4x128x256, .f32⟩
  | 43 => ⟨S16x2x4x128x256, .f32⟩
  | 44 => ⟨S16x2x4x128x256, .f32⟩
  | 45 => ⟨S_, .f32⟩
  | 46 => ⟨S16x2x4x128, .f32⟩
  | 47 => ⟨S16x2x4x128x1, .f32⟩
  | 48 => ⟨S16x2x4x128x1, .f32⟩
  | 49 => ⟨S16x2x4x128x1, .f32⟩
  | 50 => ⟨S16x2x4x128x1, .f32⟩
  | 51 => ⟨S16x2x4x128x1, .f32⟩
  | 52 => ⟨S16x2x4x128x1, .f32⟩
  | 53 => ⟨S16x2x4x128x1, .f32⟩
  | 54 => ⟨S16x8x128, .f32⟩
  | 55 => ⟨S16x128x8, .f32⟩
  | 56 => ⟨S2048x8, .f32⟩
  | 57 => ⟨S2048x8x1, .f32⟩
  | 58 => ⟨S2048x8x128, .f32⟩
  | 59 => ⟨S2048x1024, .f32⟩
  | 60 => ⟨S2048x2304, .bf16⟩
  | 61 => ⟨S1x8, .f32⟩
  | 62 => ⟨S2048x512, .bf16⟩
  | 63 => ⟨S2048x128, .bf16⟩
  | 64 => ⟨S2048x128, .bf16⟩
  | 65 => ⟨S1x128, .f32⟩
  | 66 => ⟨S8x2x128x128, .f32⟩
  | _ => ⟨S2048x2304, .f32⟩

abbrev hbmTy (i : Nat) : BufTy := match i / 128 with
  | 0 => hbmTy0_0 i
  | 1 => hbmTy0_1 i
  | _ => ⟨S2048x2304, .f32⟩

abbrev bufTy : (tb : Table) → Fin (tcTables nBuf tb) → BufTy
  | .hbm, ⟨i, _⟩ => hbmTy i
  | .local _ .vmem, ⟨0, _⟩ => ⟨S128x512, .bf16⟩
  | .local _ .vmem, ⟨1, _⟩ => ⟨S128x512, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x512, .f32⟩
  | .local _ .vmem, ⟨11, _⟩ => ⟨S128x512, .f32⟩
  | .local _ .vmem, ⟨12, _⟩ => ⟨S128x1024, .f32⟩
  | .local _ .vmem, ⟨13, _⟩ => ⟨S128x1024, .f32⟩
  | .local _ .vmem, ⟨14, _⟩ => ⟨S128x128, .i32⟩
  | .local _ .vmem, ⟨15, _⟩ => ⟨S128x128, .i32⟩
  | .local _ .vmem, ⟨16, _⟩ => ⟨S128x512, .bf16⟩
  | .local _ .vmem, ⟨17, _⟩ => ⟨S128x512, .bf16⟩
  | .local _ .vmem, ⟨18, _⟩ => ⟨S2048x128, .bf16⟩
  | .local _ .vmem, ⟨19, _⟩ => ⟨S2048x128, .bf16⟩
  | .local _ .vmem, ⟨20, _⟩ => ⟨S1x128, .f32⟩
  | .local _ .vmem, ⟨21, _⟩ => ⟨S8x2x128x128, .f32⟩
  | .local _ .vmem, ⟨22, _⟩ => ⟨S8x2x128x128, .f32⟩
  | .local _ .vmem, ⟨23, _⟩ => ⟨S2048x128, .f32⟩
  | .local _ .vmem, ⟨24, _⟩ => ⟨S2048x128, .f32⟩
  | .local _ .smem, ⟨0, _⟩ => ⟨S1x8, .f32⟩
  | .local _ .smem, ⟨1, _⟩ => ⟨S32x8, .f32⟩
  | _, _ => ⟨S2048x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_c_5 : Ref sig .tc := ⟨.hbm, 31, rfl⟩
abbrev main_v20 : Ref sig .tc := ⟨.hbm, 32, rfl⟩
abbrev main_v21 : Ref sig .tc := ⟨.hbm, 33, rfl⟩
abbrev main_c_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_7 : Ref sig .tc := ⟨.hbm, 39, rfl⟩
abbrev main_v26 : Ref sig .tc := ⟨.hbm, 40, rfl⟩
abbrev main_v27 : Ref sig .tc := ⟨.hbm, 41, rfl⟩
abbrev main_c_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_12 : Ref sig .tc := ⟨.hbm, 57, rfl⟩
abbrev main_v39 : Ref sig .tc := ⟨.hbm, 58, rfl⟩
abbrev main_v40 : Ref sig .tc := ⟨.hbm, 59, rfl⟩
abbrev main_c_13 : Ref sig .tc := ⟨.hbm, 60, rfl⟩
abbrev main_v41 : Ref sig .tc := ⟨.hbm, 61, rfl⟩
abbrev main_v42 : Ref sig .tc := ⟨.hbm, 62, rfl⟩
abbrev main_c_14 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_15 : Ref sig .tc := ⟨.hbm, 70, rfl⟩
abbrev main_call2_v0 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_16 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_17 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_18 : Ref sig .tc := ⟨.hbm, 92, rfl⟩
abbrev main_v67 : Ref sig .tc := ⟨.hbm, 93, rfl⟩
abbrev main_v68 : Ref sig .tc := ⟨.hbm, 94, rfl⟩
abbrev main_c_19 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_20 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_21 : Ref sig .tc := ⟨.hbm, 103, rfl⟩
abbrev main_v75 : Ref sig .tc := ⟨.hbm, 104, rfl⟩
abbrev main_v76 : Ref sig .tc := ⟨.hbm, 105, rfl⟩
abbrev main_cst_22 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_c_23 : Ref sig .tc := ⟨.hbm, 110, rfl⟩
abbrev main_v80 : Ref sig .tc := ⟨.hbm, 111, rfl⟩
abbrev main_v81 : Ref sig .tc := ⟨.hbm, 112, rfl⟩
abbrev main_c_24 : Ref sig .tc := ⟨.hbm, 113, rfl⟩
abbrev main_v82 : Ref sig .tc := ⟨.hbm, 114, rfl⟩
abbrev main_v83 : Ref sig .tc := ⟨.hbm, 115, rfl⟩
abbrev main_c_25 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_c_26 : Ref sig .tc := ⟨.hbm, 120, rfl⟩
abbrev main_v87 : Ref sig .tc := ⟨.hbm, 121, rfl⟩
abbrev main_v88 : Ref sig .tc := ⟨.hbm, 122, rfl⟩
abbrev main_c_27 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_c_28 : Ref sig .tc := ⟨.hbm, 131, rfl⟩
abbrev main_v96 : Ref sig .tc := ⟨.hbm, 132, rfl⟩
abbrev main_v97 : Ref sig .tc := ⟨.hbm, 133, rfl⟩
abbrev main_c_29 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_c_30 : Ref sig .tc := ⟨.hbm, 140, rfl⟩
abbrev main_v103 : Ref sig .tc := ⟨.hbm, 141, rfl⟩
abbrev main_v104 : Ref sig .tc := ⟨.hbm, 142, rfl⟩
abbrev main_c_31 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_cst_32 : Ref sig .tc := ⟨.hbm, 158, rfl⟩
abbrev main_call4_v0 : Ref sig .tc := ⟨.hbm, 159, rfl⟩
abbrev main_call4_v1 : Ref sig .tc := ⟨.hbm, 160, rfl⟩
abbrev main_call4_v2 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_cst_33 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_cst_34 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145_0 : Ref sig .tc := ⟨.hbm, 190, rfl⟩
abbrev main_v145_1 : Ref sig .tc := ⟨.hbm, 191, rfl⟩
abbrev main_v145_2 : Ref sig .tc := ⟨.hbm, 192, rfl⟩
abbrev main_v145_3 : Ref sig .tc := ⟨.hbm, 193, rfl⟩
abbrev main_v145_4 : Ref sig .tc := ⟨.hbm, 194, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_stg9_0 : Ref sig .tc := ⟨.smem, 0, rfl⟩
abbrev cc0_stg10_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c1_i32_398 : BitVec 32 := 1#32
  let v793 : BitVec 32 := Scalar.subi arg0 c1_i32_398
  let c0_i32_399 : BitVec 32 := 0#32
  let v794 : BitVec 32 := Scalar.maxsi v793 c0_i32_399
  let c128_i32 : BitVec 32 := 128#32
  let v795 : BitVec 32 := Scalar.muli v794 c128_i32
  v795
def k0_mult2 (i : grid0.Coords) : BitVec 32 :=
  let arg0 : BitVec 32 := BitVec.ofNat 32 (i 0).val
  let c128_i32_400 : BitVec 32 := 128#32
  let v797 : BitVec 32 := Scalar.muli arg0 c128_i32_400
  v797
def k0_off1 (i : grid0.Coords) : Fin 2 → Nat :=
  let arg0 : BitVec 32 := BitVec.ofNat 32 (i 0).val
  let c1_i32_398 : BitVec 32 := 1#32
  let v793 : BitVec 32 := Scalar.subi arg0 c1_i32_398
  let c0_i32_399 : BitVec 32 := 0#32
  let v794 : BitVec 32 := Scalar.maxsi v793 c0_i32_399
  let c128_i32 : BitVec 32 := 128#32
  let v795 : BitVec 32 := Scalar.muli v794 c128_i32
  let v796 : BitVec 32 := v795
  let v799 : Index := Scalar.indexCast v796
  let c0_401 : Index := 0#32
  ![v799.toNat, 0]
def k0_off2 (i : grid0.Coords) : Fin 2 → Nat :=
  let arg0 : BitVec 32 := BitVec.ofNat 32 (i 0).val
  let c128_i32_400 : BitVec 32 := 128#32
  let v797 : BitVec 32 := Scalar.muli arg0 c128_i32_400
  let v798 : BitVec 32 := v797
  let v843 : Index := Scalar.indexCast v798
  let c0_417 : Index := 0#32
  ![v843.toNat, 0]
def k0_cond3 (i : grid0.Coords) : BitVec 1 :=
  let arg0 : BitVec 32 := BitVec.ofNat 32 (i 0).val
  let c15_i32 : BitVec 32 := 15#32
  let v887 : BitVec 1 := Scalar.cmpi .eq arg0 c15_i32
  let v888 : BitVec 32 := Scalar.extui v887
  let c0_i32_433 : BitVec 32 := 0#32
  let v889 : BitVec 1 := Scalar.cmpi .ne v888 c0_i32_433
  v889

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let c0_i32_0 : BitVec 32 := 0#32
  ![v1.toNat, c16_i32.toNat]

def cc0_transform_2 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c17_i32 : BitVec 32 := 17#32
  let c0_i32_0 : BitVec 32 := 0#32
  ![v1.toNat, c17_i32.toNat]

def cc0_transform_4 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x128 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .smem S32x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S2048x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x2x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Kernel9.lean ====
abbrev S2048x1024 : Shape := ⟨2, ![2048, 1024]⟩
abbrev S1024 : Shape := ⟨1, ![1024]⟩
abbrev S1024x2304 : Shape := ⟨2, ![1024, 2304]⟩
abbrev S1x1024 : Shape := ⟨2, ![1, 1024]⟩
abbrev S2304x1024 : Shape := ⟨2, ![2304, 1024]⟩
abbrev S2048x2304 : Shape := ⟨2, ![2048, 2304]⟩
abbrev S256x1024 : Shape := ⟨2, ![256, 1024]⟩
abbrev S256x2304 : Shape := ⟨2, ![256, 2304]⟩
abbrev S256 : Shape := ⟨1, ![256]⟩
abbrev S256x1 : Shape := ⟨2, ![256, 1]⟩

abbrev nBuf : Space → Nat
  | .hbm => 8
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2304, .f32⟩
  | .hbm, ⟨3, _⟩ => ⟨S1x1024, .f32⟩
  | .hbm, ⟨4, _⟩ => ⟨S2304x1024, .f32⟩
  | .hbm, ⟨5, _⟩ => ⟨S2304x1024, .bf16⟩
  | .hbm, ⟨6, _⟩ => ⟨S2048x1024, .bf16⟩
  | .hbm, ⟨7, _⟩ => ⟨S2048x2304, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2304x1024, .bf16⟩
  | .local _ .vmem, ⟨4, _⟩ => ⟨S256x1024, .bf16⟩
  | .local _ .vmem, ⟨5, _⟩ => ⟨S256x1024, .bf16⟩
  | .local _ .vmem, ⟨6, _⟩ => ⟨S256x2304, .bf16⟩
  | .local _ .vmem, ⟨7, _⟩ => ⟨S256x2304, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2304x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2304 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S2048x1024 : Shape := ⟨2, ![2048, 1024]⟩
abbrev S1024 : Shape := ⟨1, ![1024]⟩
abbrev S1024x2304 : Shape := ⟨2, ![1024, 2304]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2304 : Shape := ⟨2, ![2048, 2304]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2304, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | .hbm, ⟨20, _⟩ => ⟨S2048x2304, .f32⟩
  | .hbm, ⟨21, _⟩ => ⟨S2048x2304, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel10.lean ====
abbrev S2048x512 : Shape := ⟨2, ![2048, 512]⟩
abbrev S512 : Shape := ⟨1, ![512]⟩
abbrev S1024x1024 : Shape := ⟨2, ![1024, 1024]⟩
abbrev S2048x1024 : Shape := ⟨2, ![2048, 1024]⟩
abbrev S1024 : Shape := ⟨1, ![1024]⟩
abbrev S1x512 : Shape := ⟨2, ![1, 512]⟩
abbrev S1x1024 : Shape := ⟨2, ![1, 1024]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩

abbrev nBuf : Space → Nat
  | .hbm => 14
  | .vmem => 16
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S512, .f32⟩
  | .hbm, ⟨3, _⟩ => ⟨S512, .f32⟩
  | .hbm, ⟨4, _⟩ => ⟨S1024x1024, .f32⟩
  | .hbm, ⟨5, _⟩ => ⟨S2048x1024, .f32⟩
  | .hbm, ⟨6, _⟩ => ⟨S1024, .f32⟩
  | .hbm, ⟨7, _⟩ => ⟨S1x512, .f32⟩
  | .hbm, ⟨8, _⟩ => ⟨S1x512, .f32⟩
  | .hbm, ⟨9, _⟩ => ⟨S1024x1024, .bf16⟩
  | .hbm, ⟨10, _⟩ => ⟨S1x1024, .f32⟩
  | .hbm, ⟨11, _⟩ => ⟨S2048x1024, .bf16⟩
  | .hbm, ⟨12, _⟩ => ⟨S2048x1024, .f32⟩
  | .hbm, ⟨13, _⟩ => ⟨S2048x1024, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S1x512, .f32⟩
  | .local _ .vmem, ⟨6, _⟩ => ⟨S1024x1024, .bf16⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference10Ideal.lean ====
abbrev S2048x512 : Shape := ⟨2, ![2048, 512]⟩
abbrev S512 : Shape := ⟨1, ![512]⟩
abbrev S1024x1024 : Shape := ⟨2, ![1024, 1024]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x512 : Shape := ⟨2, ![1, 512]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S512, .f32⟩
  | .hbm, ⟨3, _⟩ => ⟨S512, .f32⟩
  | .hbm, ⟨4, _⟩ => ⟨S1024x1024, .f32⟩
  | .hbm, ⟨5, _⟩ => ⟨S2048x1024, .f32⟩
  | .hbm, ⟨6, _⟩ => ⟨S1024, .f32⟩
  | .hbm, ⟨7, _⟩ => ⟨S2048x512, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x512, .f32⟩
  | .hbm, ⟨19, _⟩ => ⟨S2048x512, .f32⟩
  | .hbm, ⟨20, _⟩ => ⟨S1x512, .f32⟩
  | .hbm, ⟨21, _⟩ => ⟨S2048x512, .f32⟩
  | .hbm, ⟨22, _⟩ => ⟨S2048x512, .f32⟩
  | .hbm, ⟨23, _⟩ => ⟨S2048x512, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S2048x512, .f32⟩
  | .hbm, ⟨35, _⟩ => ⟨S2048x512, .f32⟩
  | .hbm, ⟨36, _⟩ => ⟨S1x512, .f32⟩
  | .hbm, ⟨37, _⟩ => ⟨S2048x512, .f32⟩
  | .hbm, ⟨38, _⟩ => ⟨S2048x512, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .bf16⟩
  | .hbm, ⟨43, _⟩ => ⟨S2048x1024, .f32⟩
  | .hbm, ⟨44, _⟩ => ⟨S_, .f32⟩
  | .hbm, ⟨45, _⟩ => ⟨S2048, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S_, .f32⟩
  | .hbm, ⟨51, _⟩ => ⟨S2048x1, .f32⟩
  | .hbm, ⟨52, _⟩ => ⟨S2048x1, .f32⟩
  | .hbm, ⟨53, _⟩ => ⟨S2048x1, .f32⟩
  | .hbm, ⟨54, _⟩ => ⟨S2048x1024, .f32⟩
  | .hbm, ⟨55, _⟩ => ⟨S2048x1024, .f32⟩
  | .hbm, ⟨56, _⟩ => ⟨S1x1024, .f32⟩
  | .hbm, ⟨57, _⟩ => ⟨S2048x1024, .f32⟩
  | .hbm, ⟨58, _⟩ => ⟨S2048x1024, .f32⟩
  | .hbm, ⟨59, _⟩ => ⟨S2048x1024, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Kernel11.lean ====
abbrev S2048x2816 : Shape := ⟨2, ![2048, 2816]⟩
abbrev S2816x1024 : Shape := ⟨2, ![2816, 1024]⟩
abbrev S2048x1024 : Shape := ⟨2, ![2048, 1024]⟩
abbrev S1024 : Shape := ⟨1, ![1024]⟩
abbrev S1x1024 : Shape := ⟨2, ![1, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 10
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S1024, .f32⟩
  | .hbm, ⟨4, _⟩ => ⟨S2048x2816, .bf16⟩
  | .hbm, ⟨5, _⟩ => ⟨S2816x1024, .bf16⟩
  | .hbm, ⟨6, _⟩ => ⟨S1x1024, .f32⟩
  | .hbm, ⟨7, _⟩ => ⟨S2048x1024, .f32⟩
  | .hbm, ⟨8, _⟩ => ⟨S2048x1024, .bf16⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S2048x2816 : Shape := ⟨2, ![2048, 2816]⟩
abbrev S2816x1024 : Shape := ⟨2, ![2816, 1024]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Proof.Coe.lean ====
/-
  Real values inside the extended reals. Both programs compute over the extended reals; where the arguments are finite
  every intermediate value is the image of a real number, and the lemmas here move an operation through that image: sums,
  quotients with a divisor that is not zero, reciprocal roots of positive numbers, exponentials. The constants the
  programs carry as float words are given as the real numbers they denote.
-/
module

public import Idealize.ShloMosaic.PureOps.Ideal.Laws
public import Idealize.ShloMosaic.Lib.IdealHost
public import Mathlib.Data.EReal.Operations

@[expose] public section

namespace Cert.Coe

open Idealize.ShloMosaic

/-- A sum of real numbers, taken over the extended reals, is the sum taken over the reals. -/
theorem sum_coe {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A quotient of real numbers with a divisor that is not zero. -/
theorem div_coe_coe (x : ℝ) {y : ℝ} (h : y ≠ 0) : Ideal.div (x : EReal) (y : EReal) = ((x / y : ℝ) : EReal) := by
  rw [Ideal.div_coe h, ← EReal.coe_mul, mul_one_div]

/-- The reciprocal root of a positive number. -/
theorem rsqrt_coe_pos {x : ℝ} (h : 0 < x) : Ideal.rsqrt (x : EReal) = (((Real.sqrt x)⁻¹ : ℝ) : EReal) := by
  rw [Ideal.rsqrt_coe, if_neg (not_lt.mpr h.le), if_neg h.ne']

/-- A value below `⊤` in absolute value is a real number. -/
theorem exists_coe {x : EReal} (h : max x (-x) < ⊤) : ∃ r : ℝ, x = (r : EReal) := by
  induction x with
  | bot => simp at h
  | top => simp at h
  | coe r => exact ⟨r, rfl⟩

/-- The word of `+∞`. -/
theorem ofBits_inf : Ideal.ofBits .f32 0x7F800000#32 = ⊤ := by simp [Ideal.ofBits, Ideal.ieee]

/-- An array whose entries all pass the test `|x| < ∞` is the image of a real array. -/
theorem exists_real {s : Shape} (a : FVec Ideal s .f32)
    (h : ∀ i, Ideal.cmp .olt (max (a i) (-(a i))) (Ideal.ofBits .f32 0x7F800000#32) = 1#1) :
    ∃ r : s.Idx → ℝ, a = fun i => ((r i : ℝ) : EReal) := by
  have hr : ∀ i, ∃ r : ℝ, a i = (r : EReal) := fun i => by
    have hi := h i
    rw [ofBits_inf] at hi
    refine exists_coe ?_
    by_contra hc
    simp [Ideal.cmp, hc] at hi
  choose r hr using hr
  exact ⟨r, funext hr⟩

/-- The word of 1024. -/
theorem ofBits_1024 : Ideal.ofBits .f32 0x44800000#32 = ((1024 : ℝ) : EReal) := by
  simp [Ideal.ofBits, Ideal.ieee, -EReal.coe_mul]; norm_num

/-- The word of 512. -/
theorem ofBits_512 : Ideal.ofBits .f32 0x44000000#32 = ((512 : ℝ) : EReal) := by
  simp [Ideal.ofBits, Ideal.ieee, -EReal.coe_mul]; norm_num

/-- The word of one half. -/
theorem ofBits_half : Ideal.ofBits .f32 0x3F000000#32 = ((1 / 2 : ℝ) : EReal) := by
  simp [Ideal.ofBits, Ideal.ieee, -EReal.coe_mul]; norm_num

/-- The word of one eighth. -/
theorem ofBits_eighth : Ideal.ofBits .f32 0x3E000000#32 = ((1 / 8 : ℝ) : EReal) := by
  simp [Ideal.ofBits, Ideal.ieee, -EReal.coe_mul]; norm_num

/-- The word of minus one half. -/
theorem ofBits_neg_half : Ideal.ofBits .f32 0xBF000000#32 = ((-(1 / 2) : ℝ) : EReal) := by
  simp [Ideal.ofBits, Ideal.ieee, -EReal.coe_mul, -EReal.coe_neg]; norm_num

/-- The word of one. -/
theorem ofBits_one : Ideal.ofBits .f32 0x3F800000#32 = ((1 : ℝ) : EReal) := by
  simp

/-- The word of zero. -/
theorem ofBits_zero : Ideal.ofBits .f32 0x00000000#32 = ((0 : ℝ) : EReal) := by
  simp

/-- The word of two. -/
theorem ofBits_two : Ideal.ofBits .f32 0x40000000#32 = ((2 : ℝ) : EReal) := by
  simp [Ideal.ofBits, Ideal.ieee, -EReal.coe_mul]; norm_num

/-- The number the word of the norms' epsilon denotes, the float nearest to one millionth. -/
noncomputable def eps : ℝ := 8796093 / 8796093022208

theorem eps_pos : 0 < eps := by unfold eps; norm_num

/-- The word of the norms' epsilon. -/
theorem ofBits_eps : Ideal.ofBits .f32 0x358637BD#32 = ((eps : ℝ) : EReal) := by
  unfold eps
  simp [Ideal.ofBits, Ideal.ieee, -EReal.coe_mul]; norm_num

end Cert.Coe
-- ==== Proof.Norm.lean ====
/-
  The root-mean-square norm on one row of real numbers: the row's reciprocal root `rinv`, the gradient `back` the kernels
  write by hand, and the same gradient as differentiation of the norm's line writes it, `u r + x s + s x` with `s` the
  cotangent of the row's sum of squares (`back_eq`). `rsqrt_mean` reads the reciprocal root of a row of finite values.
-/
module

public import proofs.«01_k».proof.Proof.Coe

@[expose] public section

noncomputable section

namespace Cert.Norm

open Idealize.ShloMosaic Cert.Coe

variable {n : ℕ}

/-- The mean square of a row plus epsilon; `w` is the row's width. -/
def ms (w : ℝ) (x : Fin n → ℝ) : ℝ := (∑ d, x d * x d) / w + eps

/-- The reciprocal root mean square of a row. -/
def rinv (w : ℝ) (x : Fin n → ℝ) : ℝ := (Real.sqrt (ms w x))⁻¹

theorem ms_pos {w : ℝ} (hw : 0 < w) (x : Fin n → ℝ) : 0 < ms w x :=
  add_pos_of_nonneg_of_pos (div_nonneg (Finset.sum_nonneg fun d _ => mul_self_nonneg (x d)) hw.le) eps_pos

/-- The squared reciprocal root is the reciprocal of the mean square. -/
theorem rinv_sq {w : ℝ} (hw : 0 < w) (x : Fin n → ℝ) : rinv w x * rinv w x = 1 / ms w x := by
  unfold rinv
  rw [← mul_inv, Real.mul_self_sqrt (ms_pos hw x).le, one_div]

/-- The reciprocal root of the mean square of a row of finite values, as both programs compute it. -/
theorem rsqrt_mean {w : ℝ} (hw : 0 < w) (x : Fin n → ℝ) :
    Ideal.rsqrt (Ideal.div (∑ d, ((x d : ℝ) : EReal) * ((x d : ℝ) : EReal)) (w : EReal) + (eps : EReal)) = ((rinv w x : ℝ) : EReal) := by
  simp only [← EReal.coe_mul, sum_coe, div_coe_coe _ hw.ne', ← EReal.coe_add]
  exact rsqrt_coe_pos (ms_pos hw x)

/-- The gradient of the norm at a row `x`, for the cotangent `u` of the scaled row (gain included). -/
def back (w : ℝ) (x u : Fin n → ℝ) (d : Fin n) : ℝ :=
  rinv w x * (u d - x d * rinv w x * ((∑ e, u e * (x e * rinv w x)) / w))

/-- The cotangent of the row's sum of squares, as differentiation of the norm's line gives it. -/
def sq (w : ℝ) (x u : Fin n → ℝ) : ℝ := (∑ e, x e * u e) * (-(1 / 2) * (rinv w x / ms w x)) / w

/-- Both forms of the gradient agree. -/
theorem back_eq {w : ℝ} (hw : 0 < w) (x u : Fin n → ℝ) (d : Fin n) :
    u d * rinv w x + x d * sq w x u + sq w x u * x d = back w x u d := by
  have h : rinv w x / ms w x = rinv w x * rinv w x * rinv w x := by
    rw [rinv_sq hw, div_eq_mul_one_div, mul_comm]
  have hs : (∑ e, u e * (x e * rinv w x)) = (∑ e, x e * u e) * rinv w x := by
    rw [Finset.sum_mul]
    exact Finset.sum_congr rfl fun e _ => by ring
  unfold back sq
  rw [h, hs]
  ring

end Cert.Norm
-- ==== Proof.Loss.Math.lean ====
/-
  The loss head on one row of real numbers: the residual of the normed row, the row's share of the loss, the cotangent of
  the normed row and the row's gradient.
-/
module

public import proofs.«01_k».proof.Proof.Norm
public import Idealize.ShloMosaic.Lib.Pointwise

@[expose] public section

noncomputable section

namespace Cert.Loss

open Cert.Norm Idealize.ShloMosaic

variable {n : ℕ}

/-- Row `r` of a matrix. -/
def row {a b : ℕ} (A : (⟨2, ![a, b]⟩ : Shape).Idx → ℝ) (r : Fin a) : Fin b → ℝ := fun d => A (ix2 r d)

/-- The residual of a row `x` normed with gain `g` against its target `t`. -/
def err (x g t : Fin n → ℝ) (d : Fin n) : ℝ := x d * rinv 1024 x * g d - t d

/-- The row's share of the loss, half the mean of the squared residual. -/
def rowLoss (x g t : Fin n → ℝ) : ℝ := 1 / 2 * ((∑ d, err x g t d * err x g t d) / 1024)

/-- The gradient of the loss at the row. -/
def dx (x g t : Fin n → ℝ) (d : Fin n) : ℝ := back 1024 x (fun e => err x g t e / 1024 * g e) d

/-- The row's share of the gain's gradient. -/
def dgain (x g t : Fin n → ℝ) (d : Fin n) : ℝ := err x g t d / 1024 * (x d * rinv 1024 x)

end Cert.Loss
-- ==== Proof.Loss.Tile.lean ====
/-
  What the loss head stores for one tile of 256 rows of real numbers, at an index: the gradient block, and what it adds to
  the loss and to the gain's gradient.
-/
module

public import proofs.«01_k».proof.Proof.Loss.Math
public import proofs.«01_k».proof.Proof.Gen.KernelIdeal.Skeleton
public import Idealize.ShloMosaic.Lib.Tactic
public import Idealize.ShloMosaic.Lib.ValueIdx
public import Idealize.ShloMosaic.Lib.Pointwise

@[expose] public section

set_option maxRecDepth 16384

noncomputable section

namespace Cert.Loss

open Cert.KernelIdeal Cert.KernelIdeal.Gen Cert.Coe Cert.Norm Idealize.ShloMosaic

variable (X T : S256x1024.Idx → ℝ) (G : S1x1024.Idx → ℝ)

/-- The reciprocal root of the tile's rows. -/
theorem pay1_real (r : Fin 256) (z : Fin 1) :
    k0_pay1 (F := Ideal) (fun i => ((X i : ℝ) : EReal)) (ix2 r z) = ((rinv 1024 (row X r) : ℝ) : EReal) := by
  pointwise [k0_pay1]
  simp only [ofBits_1024, ofBits_eps]
  exact rsqrt_mean (by norm_num) (row X r)

/-- The normed tile. -/
theorem pay2_real (r : Fin 256) (d : Fin 1024) :
    k0_pay2 (F := Ideal) (fun i => ((X i : ℝ) : EReal)) (ix2 r d) = ((X (ix2 r d) * rinv 1024 (row X r) : ℝ) : EReal) := by
  pointwise [k0_pay2]
  simp only [pay1_real, ← EReal.coe_mul]

/-- The residual of the tile. -/
theorem pay8_real (r : Fin 256) (d : Fin 1024) :
    k0_pay8 (F := Ideal) (fun i => ((X i : ℝ) : EReal)) (fun i => ((G i : ℝ) : EReal)) (fun i => ((T i : ℝ) : EReal)) (ix2 r d) =
      ((err (row X r) (row G 0) (row T r) d : ℝ) : EReal) := by
  pointwise [k0_pay8]
  simp only [ofBits_1024, ofBits_eps]
  have hr := rsqrt_mean (w := 1024) (by norm_num) (row X r)
  simp only [row] at hr
  rw [hr]
  simp only [← EReal.coe_mul, ← EReal.coe_sub]
  rfl

/-- The cotangent of the normed tile. -/
theorem pay10_real (r : Fin 256) (d : Fin 1024) :
    k0_pay10 (F := Ideal) (fun i => ((X i : ℝ) : EReal)) (fun i => ((G i : ℝ) : EReal)) (fun i => ((T i : ℝ) : EReal)) (ix2 r d) =
      ((err (row X r) (row G 0) (row T r) d / 1024 : ℝ) : EReal) := by
  pointwise [k0_pay10]
  simp only [pay8_real, ofBits_1024, div_coe_coe _ (show (1024 : ℝ) ≠ 0 by norm_num)]

/-- The tile's gradient block. -/
theorem pay3_real (r : Fin 256) (d : Fin 1024) :
    k0_pay3 (F := Ideal) (fun i => ((X i : ℝ) : EReal))
        (k0_pay10 (F := Ideal) (fun i => ((X i : ℝ) : EReal)) (fun i => ((G i : ℝ) : EReal)) (fun i => ((T i : ℝ) : EReal)))
        (fun i => ((G i : ℝ) : EReal)) (ix2 r d) =
      ((dx (row X r) (row G 0) (row T r) d : ℝ) : EReal) := by
  pointwise [k0_pay3]
  simp only [pay10_real, pay1_real, pay2_real, ofBits_1024, ← EReal.coe_mul, sum_coe,
    div_coe_coe _ (show (1024 : ℝ) ≠ 0 by norm_num), ← EReal.coe_sub]
  rfl

/-- The tile's gradient block once more, its second copy. -/
theorem pay4_real (r : Fin 256) (d : Fin 1024) :
    k0_pay4 (F := Ideal) (fun i => ((X i : ℝ) : EReal))
        (k0_pay10 (F := Ideal) (fun i => ((X i : ℝ) : EReal)) (fun i => ((G i : ℝ) : EReal)) (fun i => ((T i : ℝ) : EReal)))
        (fun i => ((G i : ℝ) : EReal)) (ix2 r d) =
      ((dx (row X r) (row G 0) (row T r) d : ℝ) : EReal) := by
  pointwise [k0_pay4]
  exact pay3_real X T G r d

/-- What the tile adds to the gain's gradient. -/
theorem pay5_real (A : FVec Ideal S1x1024 .f32) (z : Fin 1) (d : Fin 1024) :
    k0_pay5 (F := Ideal) (fun i => ((X i : ℝ) : EReal))
        (k0_pay10 (F := Ideal) (fun i => ((X i : ℝ) : EReal)) (fun i => ((G i : ℝ) : EReal)) (fun i => ((T i : ℝ) : EReal)))
        A (ix2 z d) =
      A (ix2 z d) + ((∑ r : Fin 256, dgain (row X r) (row G 0) (row T r) d : ℝ) : EReal) := by
  pointwise [k0_pay5]
  simp only [pay10_real, pay2_real, ← EReal.coe_mul, sum_coe]
  rfl

/-- What the tile adds to the loss. -/
theorem pay9_real (A : FVec Ideal S1x128 .f32) (j : S1x128.Idx) :
    k0_pay9 (F := Ideal) (fun i => ((X i : ℝ) : EReal)) (fun i => ((G i : ℝ) : EReal)) (fun i => ((T i : ℝ) : EReal)) A j =
      A j + ((∑ r : Fin 256, rowLoss (row X r) (row G 0) (row T r) : ℝ) : EReal) := by
  pointwise [k0_pay9]
  simp only [pay8_real, ofBits_1024, ofBits_half, ← EReal.coe_mul, sum_coe, div_coe_coe _ (show (1024 : ℝ) ≠ 0 by norm_num)]
  rw [Finset.mul_sum]
  rfl

end Cert.Loss
-- ==== Proof.Loss.Kernel.lean ====
/-
  The loss head's arrays after its run, for real arguments: the gradient and its second copy row by row, the loss and the
  gain's gradient as sums over all rows.
-/
module

public import proofs.«01_k».proof.Proof.Loss.Tile
public import proofs.«01_k».proof.Proof.Gen.KernelIdeal.Value
public import Idealize.ShloMosaic.Lib.Pipeline.ValueKit

@[expose] public section

set_option maxRecDepth 16384

noncomputable section

namespace Cert.Loss

open Cert.KernelIdeal Cert.KernelIdeal.Gen Cert.Coe Cert.Norm Idealize.ShloMosaic Idealize.ShloMosaic.TcCoe

variable (m : (ℓ : Loc nD τ sig) → Buf (Elt Ideal) ℓ) (c : Dev nD)
variable (h t : S2048x1024.Idx → ℝ) (g : S1024.Idx → ℝ)

/-- Row `k` of tile `p`. -/
def at256 (p : Fin cfg0.N) (k : Fin 256) : Fin 2048 := ⟨p.val * 256 + k.val, by have := p.isLt; have : cfg0.N = 8 := N_0; omega⟩

/-- The rows of tile `p`. -/
def tile (A : S2048x1024.Idx → ℝ) (p : Fin cfg0.N) : S256x1024.Idx → ℝ := fun j => A (ix2 (at256 p (j 0)) (j 1))

/-- A vector as a matrix of one row. -/
def flat (g : S1024.Idx → ℝ) : S1x1024.Idx → ℝ := fun j => g (ix1 (j 1))

theorem idx : ∀ p : Fin cfg0.N, win0_0.index p = ![p.val, 0] ∧ win0_1.index p = ![0, 0] ∧ win0_2.index p = ![p.val, 0]
    ∧ win0_3.index p = ![0, 0] ∧ win0_4.index p = ![p.val, 0] ∧ win0_5.index p = ![p.val, 0] ∧ win0_6.index p = ![0, 0] := by
  decide +kernel

variable (Hh : m ((c : Thread nD τ).loc main_arg0) = fun i => ((h i : ℝ) : EReal))
  (Hg : m ((c : Thread nD τ).loc main_arg1) = fun i => ((g i : ℝ) : EReal))
  (Ht : m ((c : Thread nD τ).loc main_arg2) = fun i => ((t i : ℝ) : EReal))

include Hh in
/-- The tile of hidden rows a point reads. -/
theorem blk_h (p : Fin cfg0.N) : iblk m c 0 p = fun j => ((tile h p j : ℝ) : EReal) := by
  funext j
  have e : iblk m c 0 p j = m ((c : Thread nD τ).loc main_arg0) (ix2 (at256 p (j 0)) (j 1)) := by
    blk_ext [iblk, V, idx p, at256]
  rw [e, Hh]
  rfl

include Ht in
/-- The tile of target rows a point reads. -/
theorem blk_t (p : Fin cfg0.N) : iblk m c 2 p = fun j => ((tile t p j : ℝ) : EReal) := by
  funext j
  have e : iblk m c 2 p j = m ((c : Thread nD τ).loc main_arg2) (ix2 (at256 p (j 0)) (j 1)) := by
    blk_ext [iblk, V, idx p, at256]
  rw [e, Ht]
  rfl

include Hg in
/-- The gain a point reads. -/
theorem blk_g (p : Fin cfg0.N) : iblk m c 1 p = fun j => ((flat g j : ℝ) : EReal) := by
  funext j
  have e : iblk m c 1 p j = m ((c : Thread nD τ).loc main_arg1) (ix1 (j 1)) := by
    blk_ext! [iblk, V, idx p]
  rw [e, Hg]
  rfl

/-- The gradient, row by row. -/
def dxArr (i : S2048x1024.Idx) : ℝ := dx (row h (i 0)) (fun d => g (ix1 d)) (row t (i 0)) (i 1)

/-- The gradient at a tile's place in the array. -/
theorem dxArr_tile (p : Fin cfg0.N) (y : S256x1024.Idx) (i : S2048x1024.Idx) (h0 : i 0 = at256 p (y 0)) (h1 : i 1 = y 1) :
    dx (row (tile h p) (y 0)) (row (flat g) 0) (row (tile t p) (y 0)) (y 1) = dxArr h t g i := by
  unfold dxArr
  rw [h0, h1]
  rfl

/-- A sum over the tiles and their rows is the sum over all rows. -/
theorem sum_tiles (f : (Fin 1024 → ℝ) → (Fin 1024 → ℝ) → ℝ) :
    ∑ p : Fin cfg0.N, ∑ r : Fin 256, f (row (tile h p) r) (row (tile t p) r) = ∑ r, f (row h r) (row t r) :=
  Fin.sum_mul_add_congr (S := cfg0.N) (n := 256) fun _ _ _ => rfl

include Hh Hg Ht in
/-- The gradient's array after the run. -/
theorem arr_dh : (dats m 0 c).arrAt 4 cfg0.N = fun i => ((dxArr h t g i : ℝ) : EReal) := by
  refine (dats m 0 c).arrAt_eq_of_covers 4 _ (by decide +kernel) fun p hf y => ?_
  have e : (outsAt0 m c p.val p.isLt).2.1 y = ((dx (row (tile h p) (y 0)) (row (flat g) 0) (row (tile t p) (y 0)) (y 1) : ℝ) : EReal) := by
    obtain ⟨a, b, rfl⟩ : ∃ a b, y = ix2 a b := ⟨_, _, eq_ix2 y⟩
    by_cases hp : p.val % 8 = 0
    · rw [outsAt0_A m c p hp]; frame_out
      rw [blk_h m c h Hh, blk_g m c g Hg, blk_t m c t Ht]
      exact pay3_real _ _ _ _ _
    · rw [outsAt0_B m c p hp]; frame_out
      rw [blk_h m c h Hh, blk_g m c g Hg, blk_t m c t Ht]
      exact pay3_real _ _ _ _ _
  rw [after0_4]
  refine e.trans (congrArg _ (dxArr_tile h t g p y _ (Fin.ext ?_) (Fin.ext ?_)))
  · blk_simp [idx p, at256]
  · blk_simp [idx p]

include Hh Hg Ht in
/-- The second copy of the gradient after the run. -/
theorem arr_dhb : (dats m 0 c).arrAt 5 cfg0.N = fun i => ((dxArr h t g i : ℝ) : EReal) := by
  refine (dats m 0 c).arrAt_eq_of_covers 5 _ (by decide +kernel) fun p hf y => ?_
  have e : (outsAt0 m c p.val p.isLt).2.2.1 y = ((dx (row (tile h p) (y 0)) (row (flat g) 0) (row (tile t p) (y 0)) (y 1) : ℝ) : EReal) := by
    obtain ⟨a, b, rfl⟩ : ∃ a b, y = ix2 a b := ⟨_, _, eq_ix2 y⟩
    by_cases hp : p.val % 8 = 0
    · rw [outsAt0_A m c p hp]; frame_out
      rw [blk_h m c h Hh, blk_g m c g Hg, blk_t m c t Ht]
      exact pay4_real _ _ _ _ _
    · rw [outsAt0_B m c p hp]; frame_out
      rw [blk_h m c h Hh, blk_g m c g Hg, blk_t m c t Ht]
      exact pay4_real _ _ _ _ _
  rw [after0_5]
  refine e.trans (congrArg _ (dxArr_tile h t g p y _ (Fin.ext ?_) (Fin.ext ?_)))
  · blk_simp [idx p, at256]
  · blk_simp [idx p]

include Hh Hg Ht in
/-- The loss array after the run: every lane the loss of all rows. -/
theorem arr_loss : (dats m 0 c).arrAt 3 cfg0.N = fun _ => ((∑ r, rowLoss (row h r) (fun d => g (ix1 d)) (row t r) : ℝ) : EReal) := by
  refine (dats m 0 c).arrAt_eq_of_after_last 3 t0_7 (by decide +kernel) _ fun j => ?_
  blk_simp
  rw [after0_3, Pipeline.eq_sum_fin_of_reset_step_apply_last (fun n h => (outsAt0 m c n h).1) 8 (fun _ => 0)
    (fun p _ => ((∑ r : Fin 256, rowLoss (row (tile h p) r) (row (flat g) 0) (row (tile t p) r) : ℝ) : EReal))
    (fun p hp j => by
      rw [outsAt0_A m c p hp]; frame_out
      rw [blk_h m c h Hh, blk_g m c g Hg, blk_t m c t Ht, pay9_real]
      pointwise [k0_pay6])
    (fun p hp j => by
      rw [outsAt0_B m c p hp]; frame_out
      rw [blk_h m c h Hh, blk_g m c g Hg, blk_t m c t Ht, pay9_real])
    (le_of_eq N_0) t0_7 rfl j, zero_add, sum_coe]
  congr 1
  exact sum_tiles h t fun x y => rowLoss x (fun d => g (ix1 d)) y

include Hh Hg Ht in
/-- The gain's gradient after the run: the sum over all rows. -/
theorem arr_dg : (dats m 0 c).arrAt 6 cfg0.N =
    fun i => ((∑ r, dgain (row h r) (fun d => g (ix1 d)) (row t r) (i 1) : ℝ) : EReal) := by
  refine (dats m 0 c).arrAt_eq_of_after_last 6 t0_7 (by decide +kernel) _ fun j => ?_
  obtain ⟨a, b, rfl⟩ : ∃ a b, j = ix2 a b := ⟨_, _, eq_ix2 j⟩
  blk_simp
  rw [after0_6, Pipeline.eq_sum_fin_of_reset_step_apply_last (fun n h => (outsAt0 m c n h).2.2.2) 8 (fun _ => 0)
    (fun p j => ((∑ r : Fin 256, dgain (row (tile h p) r) (row (flat g) 0) (row (tile t p) r) (j 1) : ℝ) : EReal))
    (fun p hp j => by
      obtain ⟨a, b, rfl⟩ : ∃ a b, j = ix2 a b := ⟨_, _, eq_ix2 j⟩
      rw [outsAt0_A m c p hp]; frame_out
      rw [blk_h m c h Hh, blk_g m c g Hg, blk_t m c t Ht, pay5_real]
      pointwise [k0_pay7])
    (fun p hp j => by
      obtain ⟨a, b, rfl⟩ : ∃ a b, j = ix2 a b := ⟨_, _, eq_ix2 j⟩
      rw [outsAt0_B m c p hp]; frame_out
      rw [blk_h m c h Hh, blk_g m c g Hg, blk_t m c t Ht, pay5_real]
      rfl)
    (le_of_eq N_0) t0_7 rfl, zero_add, sum_coe]
  congr 1
  exact sum_tiles h t fun x y => dgain x (fun d => g (ix1 d)) y b

end Cert.Loss
-- ==== Proof.Loss.Ref.lean ====
/-
  The reference's results for real arguments, stage by stage: differentiation of the loss gives the row gradient, and the
  sums over rows, of the loss head's own formulas.
-/
module

public import proofs.«01_k».proof.Proof.Loss.Math
public import proofs.«01_k».proof.Proof.Gen.ReferenceIdeal.Read
public import Idealize.ShloMosaic.Lib.Tactic
public import Idealize.ShloMosaic.Lib.ValueIdx
public import Idealize.ShloMosaic.Lib.Pointwise

@[expose] public section

set_option maxRecDepth 16384

noncomputable section

namespace Cert.Loss

open Cert.ReferenceIdeal Cert.ReferenceIdeal.Gen Cert.ReferenceIdeal.Read Cert.Coe Cert.Norm Idealize.ShloMosaic

variable (h t : S2048x1024.Idx → ℝ) (g : S1024.Idx → ℝ)

/-- The mean square plus epsilon of the rows. -/
theorem v6_real (r : Fin 2048) (z : Fin 1) :
    val_main_v6 (F := Ideal) (fun i => ((h i : ℝ) : EReal)) (ix2 r z) = ((ms 1024 (row h r) : ℝ) : EReal) := by
  unfold val_main_v6 val_main_v5 val_main_v4 val_main_v3 val_main_v2 val_main_v1 val_main_v0 val_main_cst val_main_cst_0 val_main_cst_1
  pointwise
  simp only [ofBits_1024, ofBits_eps, ← EReal.coe_mul, sum_coe, div_coe_coe _ (show (1024 : ℝ) ≠ 0 by norm_num), ← EReal.coe_add]
  rfl

/-- Their reciprocal root. -/
theorem v7_real (r : Fin 2048) (z : Fin 1) :
    val_main_v7 (F := Ideal) (fun i => ((h i : ℝ) : EReal)) (ix2 r z) = ((rinv 1024 (row h r) : ℝ) : EReal) := by
  unfold val_main_v7
  pointwise
  rw [v6_real, rsqrt_coe_pos (ms_pos (by norm_num) _)]
  rfl

/-- The derivative of the reciprocal root. -/
theorem v10_real (r : Fin 2048) (z : Fin 1) :
    val_main_v10 (F := Ideal) (fun i => ((h i : ℝ) : EReal)) (ix2 r z) =
      ((-(1 / 2) * (rinv 1024 (row h r) / ms 1024 (row h r)) : ℝ) : EReal) := by
  unfold val_main_v10 val_main_v9 val_main_v8 val_main_cst_2
  pointwise
  rw [v6_real, v7_real, ofBits_neg_half, div_coe_coe _ (ms_pos (by norm_num) _).ne', ← EReal.coe_mul]

/-- The normed rows. -/
theorem v12_real (r : Fin 2048) (d : Fin 1024) :
    val_main_v12 (F := Ideal) (fun i => ((h i : ℝ) : EReal)) (ix2 r d) = ((h (ix2 r d) * rinv 1024 (row h r) : ℝ) : EReal) := by
  unfold val_main_v12 val_main_v11
  pointwise
  rw [v7_real, ← EReal.coe_mul]

/-- The residual. -/
theorem v16_real (r : Fin 2048) (d : Fin 1024) :
    val_main_v16 (F := Ideal) (fun i => ((h i : ℝ) : EReal)) (fun i => ((g i : ℝ) : EReal)) (fun i => ((t i : ℝ) : EReal)) (ix2 r d) =
      ((err (row h r) (fun d => g (ix1 d)) (row t r) d : ℝ) : EReal) := by
  unfold val_main_v16 val_main_v15 val_main_v14 val_main_v13
  pointwise
  rw [v12_real, ← EReal.coe_mul, ← EReal.coe_sub]
  rfl

/-- The loss. -/
theorem v51_real (j : S1x128.Idx) :
    val_main_v51 (F := Ideal) (fun i => ((h i : ℝ) : EReal)) (fun i => ((g i : ℝ) : EReal)) (fun i => ((t i : ℝ) : EReal)) j =
      ((∑ r, rowLoss (row h r) (fun d => g (ix1 d)) (row t r) : ℝ) : EReal) := by
  unfold val_main_v51 val_main_v24 val_main_v23 val_main_v22 val_main_v21 val_main_v20 val_main_v17 val_main_cst_4 val_main_cst_5
    val_main_cst_6 val_main_cst_7
  pointwise
  simp only [v16_real, ofBits_1024, ofBits_half, ← EReal.coe_mul, sum_coe, div_coe_coe _ (show (1024 : ℝ) ≠ 0 by norm_num)]
  rw [Finset.mul_sum]
  rfl

/-- The cotangent of the normed rows. -/
theorem v30_real (r : Fin 2048) (d : Fin 1024) :
    val_main_v30 (F := Ideal) (fun i => ((h i : ℝ) : EReal)) (fun i => ((g i : ℝ) : EReal)) (fun i => ((t i : ℝ) : EReal)) (ix2 r d) =
      ((err (row h r) (fun d => g (ix1 d)) (row t r) d / 1024 : ℝ) : EReal) := by
  unfold val_main_v30 val_main_v29 val_main_v28 val_main_v27 val_main_v26 val_main_v25 val_main_v19 val_main_v18 val_main_cst_3
    val_main_cst_8 val_main_cst_9 val_main_cst_10
  pointwise
  simp only [v16_real, ofBits_1024, ofBits_half, ofBits_one, ofBits_two, ← EReal.coe_mul, div_coe_coe _ (show (1024 : ℝ) ≠ 0 by norm_num)]
  congr 1
  ring

/-- The gain's gradient. -/
theorem v53_real (z : Fin 1) (d : Fin 1024) :
    val_main_v53 (F := Ideal) (fun i => ((h i : ℝ) : EReal)) (fun i => ((g i : ℝ) : EReal)) (fun i => ((t i : ℝ) : EReal)) (ix2 z d) =
      ((∑ r, dgain (row h r) (fun d => g (ix1 d)) (row t r) d : ℝ) : EReal) := by
  unfold val_main_v53 val_main_v36 val_main_v33 val_main_v32 val_main_v31 val_main_cst_11 val_main_cst_12
  pointwise
  simp only [v12_real, v30_real, ← EReal.coe_mul, sum_coe, Fin.sum_univ_one]
  congr 1
  exact Finset.sum_congr rfl fun r _ => mul_comm _ _

/-- The gradient of the rows. -/
theorem v50_real (r : Fin 2048) (d : Fin 1024) :
    val_main_v50 (F := Ideal) (fun i => ((h i : ℝ) : EReal)) (fun i => ((g i : ℝ) : EReal)) (fun i => ((t i : ℝ) : EReal)) (ix2 r d) =
      ((dx (row h r) (fun d => g (ix1 d)) (row t r) d : ℝ) : EReal) := by
  unfold val_main_v50 val_main_v49 val_main_v48 val_main_v47 val_main_v46 val_main_v45 val_main_v44 val_main_v43 val_main_v42
    val_main_v41 val_main_v40 val_main_v39 val_main_v38 val_main_v37 val_main_v35 val_main_v34
    val_main_v13 val_main_cst_13 val_main_cst_14 val_main_cst_15
  pointwise
  simp only [v30_real, v7_real, v10_real, ofBits_1024, ← EReal.coe_mul, sum_coe, div_coe_coe _ (show (1024 : ℝ) ≠ 0 by norm_num),
    Fin.sum_univ_one, ← EReal.coe_add]
  congr 1
  exact back_eq (w := 1024) (by norm_num) (row h r) (fun e => err (row h r) (fun d => g (ix1 d)) (row t r) e / 1024 * g (ix1 e)) d

/-- The gradient of the rows, its second copy. -/
theorem v52_real (r : Fin 2048) (d : Fin 1024) :
    val_main_v52 (F := Ideal) (fun i => ((h i : ℝ) : EReal)) (fun i => ((g i : ℝ) : EReal)) (fun i => ((t i : ℝ) : EReal)) (ix2 r d) =
      ((dx (row h r) (fun d => g (ix1 d)) (row t r) d : ℝ) : EReal) := by
  unfold val_main_v52
  pointwise
  exact v50_real h t g r d

end Cert.Loss
-- ==== Proof.Loss.Claim.lean ====
/-
  The loss head against the derivative of the forward lines: where the arguments are finite, both programs run and leave the
  same four arrays.
-/
module

public import proofs.«01_k».proof.Defs
public import proofs.«01_k».proof.Proof.Loss.Kernel
public import proofs.«01_k».proof.Proof.Loss.Ref
public import proofs.«01_k».proof.Proof.Gen.ReferenceIdeal.Run
public import proofs.«01_k».proof.Proof.Gen.Pre_finite
public import Idealize.ShloMosaic.Lib.Quiescent

@[expose] public section

set_option maxRecDepth 16384

noncomputable section

namespace Cert.Loss

open Idealize.ShloMosaic Idealize.SL.Sem Cert.Coe

/-- Finite arguments are images of real arrays. -/
theorem reals (m : (ℓ : Loc Cert.KernelIdeal.nD Cert.KernelIdeal.τ Cert.KernelIdeal.sig) → Buf (Elt Ideal) ℓ)
    (hp : Cert.Pre_KernelIdeal_finite (hPre_finite := Cert.Pre_finite.Gen.facts) m) (c : Dev Cert.KernelIdeal.nD) :
    ∃ (h : Cert.KernelIdeal.S2048x1024.Idx → ℝ) (g : Cert.KernelIdeal.S1024.Idx → ℝ) (t : Cert.KernelIdeal.S2048x1024.Idx → ℝ),
      m ((c.tc : Thread _ _).loc Cert.KernelIdeal.main_arg0) = (fun i => ((h i : ℝ) : EReal))
      ∧ m ((c.tc : Thread _ _).loc Cert.KernelIdeal.main_arg1) = (fun i => ((g i : ℝ) : EReal))
      ∧ m ((c.tc : Thread _ _).loc Cert.KernelIdeal.main_arg2) = (fun i => ((t i : ℝ) : EReal)) := by
  obtain ⟨h0, h1, h2⟩ := hp c
  obtain ⟨h, Hh⟩ := exists_real _ fun i => congrFun h0 i
  obtain ⟨g, Hg⟩ := exists_real _ fun i => congrFun h1 i
  obtain ⟨t, Ht⟩ := exists_real _ fun i => congrFun h2 i
  exact ⟨h, g, t, Hh, Hg, Ht⟩

/-- Both programs run, and from equal finite arguments their results are equal. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hp hargs
  refine ⟨_, _, _, _, (θ_run (Cert.KernelIdeal.defs (F := Ideal)) _ _).mono (fun r h c => h c) (Cert.KernelIdeal.Value.run_blocks (F := Ideal) m ρ), ?_⟩
  refine (θ_run (Cert.ReferenceIdeal.defs (F := Ideal)) _ _).mono (fun r h c => ?_) (Cert.ReferenceIdeal.Value.run (F := Ideal) m' ρ')
  obtain ⟨e0, e1, e2, e3, k0, k1, k2⟩ := h c
  obtain ⟨x, g, t, Hx, Hg, Ht⟩ := reals m hp c
  refine ⟨e0.trans ?_, e1.trans ?_, e2.trans ?_, e3.trans ?_, k0, k1, k2⟩
  · rw [Cert.ReferenceIdeal.Read.val_main_v51_eq, (hargs c).1, (hargs c).2.1, (hargs c).2.2, arr_loss m c x t g Hx Hg Ht, Hx, Hg, Ht]
    exact funext fun j => v51_real x t g j
  · rw [Cert.ReferenceIdeal.Read.val_main_v50_eq, (hargs c).1, (hargs c).2.1, (hargs c).2.2, arr_dh m c x t g Hx Hg Ht, Hx, Hg, Ht]
    exact funext fun j => (congrArg _ (eq_ix2 j)).trans (v50_real x t g (j 0) (j 1))
  · rw [Cert.ReferenceIdeal.Read.val_main_v52_eq, (hargs c).1, (hargs c).2.1, (hargs c).2.2, arr_dhb m c x t g Hx Hg Ht, Hx, Hg, Ht]
    exact funext fun j => (congrArg _ (eq_ix2 j)).trans (v52_real x t g (j 0) (j 1))
  · rw [Cert.ReferenceIdeal.Read.val_main_v53_eq, (hargs c).1, (hargs c).2.1, (hargs c).2.2, arr_dg m c x t g Hx Hg Ht, Hx, Hg, Ht]
    exact funext fun j => (congrArg _ (eq_ix2 j)).trans (v53_real x t g (j 0) (j 1))

/-- The reference runs, its arguments stay, and it has no counters. -/
theorem frame_ref : Cert.quiescent_ReferenceIdeal (hReferenceIdeal := Cert.ReferenceIdeal.Gen.facts) := fun m ρ _ =>
  (θ_run (Cert.ReferenceIdeal.defs (F := Ideal)) _ _).mono
    (fun _ h => ⟨fun c => (h c).2.2.2.2, sem_eq_zero_of_no_sems (by decide) _⟩) (Cert.ReferenceIdeal.Value.run (F := Ideal) m ρ)

end Cert.Loss
-- ==== Proof.SB.Ops.lean ====
/-
  One block of the stick-breaking attention's backward, for one head and for a pair of heads, over the reals. A block is 128
  query rows against 128 key rows. Each vector operation of the kernel's body is read at an index: the arguments are images of
  real arrays and so is the result. Off the diagonal every key of the block is before every query; on the diagonal the
  keys that are not before the query are masked.
-/
module

public import proofs.«01_k».proof.Proof.Coe
public import proofs.«01_k».proof.Proof.Gen.Kernel2Ideal.Skeleton
public import Idealize.ShloMosaic.Lib.Pipeline.ValueKit
public import Idealize.ShloMosaic.Lib.WordArith

@[expose] public section

set_option maxRecDepth 16384

noncomputable section

namespace Cert.SB

open Cert.Kernel2Ideal Cert.Kernel2Ideal.Gen Cert.Coe Idealize.ShloMosaic Idealize.ShloMosaic.TcCoe

/-! ## The real functions -/

/-- `log (1 + exp x)` in the form the kernel computes it. -/
def sp (x : ℝ) : ℝ := max x 0 + Real.log (1 + Real.exp (-|x|))

/-- The logarithm of the logistic function: `x - log (1 + exp x)`. -/
def ls (x : ℝ) : ℝ := x - sp x

/-- An entry of a block: on the diagonal, zero unless the key is before the query. -/
def mk (d : Bool) (r c : Fin 128) (v : ℝ) : ℝ := if d = true ∧ ¬ c < r then 0 else v

variable (d : Bool) (z dw pc gc tot : Fin 128 → Fin 128 → ℝ)

/-- The logarithms kept, masked. -/
def rS (r c : Fin 128) : ℝ := mk d r c (sp (z r c))

/-- The attention weights, masked: `pc` the sum over the blocks before, `tot` the whole row's sum. -/
def rW (r c : Fin 128) : ℝ :=
  mk d r c (Real.exp (ls (z r c) - (tot r c - (pc r c + ∑ c', if c' ≤ c then rS d z r c' else 0))))

/-- The gradient of a weight times the weight. -/
def rG (r c : Fin 128) : ℝ := dw r c * rW d z pc tot r c

/-- The gradient of the scores, masked: `gc` the sum of the earlier blocks' `rG`. -/
def rZ (r c : Fin 128) : ℝ :=
  mk d r c (rG d z dw pc tot r c - (rG d z dw pc tot r c + gc r c + ∑ c', if c' < c then rG d z dw pc tot r c' else 0) * Real.exp (ls (z r c)))

/-! ## Images of real matrices -/

/-- The matrix is the image of a real one. -/
def Mat {n k : ℕ} {φ : FTy} (x : FVec Ideal ⟨2, ![n, k]⟩ φ) (f : Fin n → Fin k → ℝ) : Prop := ∀ r c, x (ix2 r c) = ((f r c : ℝ) : EReal)

/-- The matrix under a unit axis is the image of a real one. -/
def Mat3 {n k : ℕ} {φ : FTy} (x : FVec Ideal ⟨3, ![1, n, k]⟩ φ) (f : Fin n → Fin k → ℝ) : Prop :=
  ∀ r c, x (ix3 0 r c) = ((f r c : ℝ) : EReal)

variable {d z dw pc gc tot}

/-! ## The vector operations of one head -/

/-- The mask of the diagonal block, or none. -/
def vm (d : Bool) (x : FVec Ideal S128x128 .f32) : FVec Ideal S128x128 .f32 :=
  match d with
  | true => select k0_pay344 x (broadcast S128x128 (Scalar.ofBits .f32 0x00000000#32))
  | false => x

/-- The first 128 columns of a product with 256. -/
def lo (x : FVec Ideal S128x256 .f32) : FVec Ideal S128x128 .f32 := extractStridedSlice S128x128 ![0, 0] x slices_S128x256_o0_0_S128x128

/-- The last 128 columns of a product with 256. -/
def hi (x : FVec Ideal S128x256 .f32) : FVec Ideal S128x128 .f32 := extractStridedSlice S128x128 ![0, 128] x slices_S128x256_o0_128_S128x128

/-- A choice by an order of two small index words. -/
theorem select_slt {α : Type} {a b : ℕ} (ha : a < 128) (hb : b < 128) (x y : α) :
    Scalar.select (IntOp.cmpi .slt (BitVec.ofNat 32 a) (BitVec.ofNat 32 b)) x y = if a < b then x else y := by
  have e : IntOp.cmpi .slt (BitVec.ofNat 32 a) (BitVec.ofNat 32 b) = BitVec.ofBool (decide (a < b)) := by
    show BitVec.ofBool (BitVec.slt _ _) = _
    rw [BitVec.slt, WordArith.toInt_ofNat_small a (by omega), WordArith.toInt_ofNat_small b (by omega)]
    simp
  rw [e, Scalar.select_ofBool]
  simp

theorem vm_mat {x : FVec Ideal S128x128 .f32} {f : Fin 128 → Fin 128 → ℝ} (h : Mat x f) : Mat (vm d x) fun r c => mk d r c (f r c) := by
  intro r c
  cases d
  · simpa [vm, mk] using h r c
  · have := h r c
    unfold vm mk
    pointwise [k0_pay344]
    rw [select_slt c.isLt r.isLt, this]
    by_cases hc : c < r <;> simp [hc]

theorem abs_coe (x : ℝ) : (FloatOps.absf (F := Ideal) (φ := .f32) (x : EReal)) = ((|x| : ℝ) : EReal) := by
  show max (x : EReal) (-x) = _
  rw [← EReal.coe_neg, ← EReal.coe_strictMono.monotone.map_max]
  rfl

theorem log_coe_pos {x : ℝ} (h : 0 < x) : Ideal.log (x : EReal) = ((Real.log x : ℝ) : EReal) := by
  rw [Ideal.log_coe, if_neg (not_le.mpr h)]

theorem sp_coe (x : ℝ) : max (x : EReal) 0 + Ideal.log (1 + Ideal.exp (0 - FloatOps.absf (F := Ideal) (φ := .f32) (x : EReal))) = ((sp x : ℝ) : EReal) := by
  rw [abs_coe, zero_sub, ← EReal.coe_neg, Ideal.exp_coe, ← EReal.coe_one, ← EReal.coe_add, log_coe_pos (by positivity), ← EReal.coe_zero,
    ← EReal.coe_strictMono.monotone.map_max, ← EReal.coe_add]
  rfl

theorem sp_mat {zv : FVec Ideal S128x128 .f32} (h : Mat zv z) : Mat (k0_pay46 zv) fun r c => sp (z r c) := by
  intro r c
  have := h r c
  pointwise [k0_pay46]
  rw [this, sp_coe]

theorem ls_mat {zv : FVec Ideal S128x128 .f32} (h : Mat zv z) : Mat (k0_pay47 zv) fun r c => ls (z r c) := by
  intro r c
  have h1 := h r c
  have h2 := sp_mat h r c
  unfold k0_pay47
  show zv (ix2 r c) - k0_pay46 zv (ix2 r c) = _
  rw [h1, h2, ← EReal.coe_sub]
  rfl

/-- The triangle of ones with whole columns of ones behind it: the diagonal counted. -/
def upto (r : Fin 128) (c : Fin 256) : ℝ := if c.val < 128 then (if r.val ≤ c.val then 1 else 0) else 1

/-- The same, the diagonal not counted. -/
def before (r : Fin 128) (c : Fin 256) : ℝ := if c.val < 128 then (if r.val < c.val then 1 else 0) else 1

/-- A product with a constant matrix of 256 columns. -/
theorem tri_mat {x : FVec Ideal S128x128 .f32} {f : Fin 128 → Fin 128 → ℝ} (h : Mat x f) {m : FVec Ideal S128x256 .bf16} {t : Fin 128 → Fin 256 → ℝ}
    (hm : Mat m t) : Mat (k0_pay64 m x) fun r c => ∑ k, f r k * t k c := by
  intro r c
  pointwise [k0_pay64]
  simp only [h r _, hm _ c, ← EReal.coe_mul, sum_coe]

/-- A column of the left half. -/
def left (c : Fin 128) : Fin 256 := ⟨c.val, c.isLt.trans (by decide)⟩

/-- A column of the right half. -/
def right (c : Fin 128) : Fin 256 := ⟨128 + c.val, Nat.add_lt_add_left c.isLt 128⟩

theorem lo_mat {x : FVec Ideal S128x256 .f32} {f : Fin 128 → Fin 256 → ℝ} (h : Mat x f) : Mat (lo x) fun r c => f r (left c) := by
  intro r c
  unfold lo
  pointwise
  exact h r _

theorem hi_mat {x : FVec Ideal S128x256 .f32} {f : Fin 128 → Fin 256 → ℝ} (h : Mat x f) : Mat (hi x) fun r c => f r (right c) := by
  intro r c
  unfold hi
  pointwise
  exact h r _

theorem sum_upto (f : Fin 128 → ℝ) (c : Fin 128) : ∑ k, f k * upto k (left c) = ∑ k, if k ≤ c then f k else 0 := by
  refine Finset.sum_congr rfl fun k _ => ?_
  rw [upto, if_pos (show (left c).val < 128 from c.isLt), mul_ite, mul_one, mul_zero]
  rfl

theorem sum_before (f : Fin 128 → ℝ) (c : Fin 128) : ∑ k, f k * before k (left c) = ∑ k, if k < c then f k else 0 := by
  refine Finset.sum_congr rfl fun k _ => ?_
  rw [before, if_pos (show (left c).val < 128 from c.isLt), mul_ite, mul_one, mul_zero]
  rfl

theorem sum_upto_all (f : Fin 128 → ℝ) (c : Fin 128) : ∑ k, f k * upto k (right c) = ∑ k, f k := by
  refine Finset.sum_congr rfl fun k _ => ?_
  rw [upto, if_neg (show ¬ (right c).val < 128 from Nat.not_lt.mpr (Nat.le_add_right _ _)), mul_one]

theorem sum_before_all (f : Fin 128 → ℝ) (c : Fin 128) : ∑ k, f k * before k (right c) = ∑ k, f k := by
  refine Finset.sum_congr rfl fun k _ => ?_
  rw [before, if_neg (show ¬ (right c).val < 128 from Nat.not_lt.mpr (Nat.le_add_right _ _)), mul_one]

/-! ## The block of one head, as vectors -/

/-- The logarithms kept. -/
def vS (d : Bool) (zv : FVec Ideal S128x128 .f32) : FVec Ideal S128x128 .f32 := vm d (k0_pay46 zv)

/-- The weights: `p` the sums before, `t` the rows' sums. -/
def vW (d : Bool) (mp : FVec Ideal S128x256 .bf16) (zv : FVec Ideal S128x128 .f32) (p : FVec Ideal S1x128x128 .f32) (t : FVec Ideal S128x128 .f32) :
    FVec Ideal S128x128 .f32 :=
  vm d (k0_pay81 (k0_pay47 zv) (k0_pay64 mp (vS d zv)) p t)

/-- The gradients of the weights times the weights. -/
def vG (d : Bool) (mp : FVec Ideal S128x256 .bf16) (zv dv : FVec Ideal S128x128 .f32) (p : FVec Ideal S1x128x128 .f32) (t : FVec Ideal S128x128 .f32) :
    FVec Ideal S128x128 .f32 :=
  k0_pay89 dv (vW d mp zv p t)

/-- The gradient of the scores. -/
def vZ (d : Bool) (mp mg : FVec Ideal S128x256 .bf16) (zv dv : FVec Ideal S128x128 .f32) (p g : FVec Ideal S1x128x128 .f32) (t : FVec Ideal S128x128 .f32) :
    FVec Ideal S128x128 .f32 :=
  vm d (subf (vG d mp zv dv p t) (mulf (addf (addf (vG d mp zv dv p t) (k0_pay105 g)) (lo (k0_pay97 mg (vG d mp zv dv p t)))) (exp (k0_pay47 zv))))

section
variable {mp mg : FVec Ideal S128x256 .bf16} (hmp : Mat mp upto) (hmg : Mat mg before)
  {zv dv t : FVec Ideal S128x128 .f32} {p g : FVec Ideal S1x128x128 .f32}
  (hz : Mat zv z) (hd : Mat dv dw) (hp : Mat3 p pc) (hg : Mat3 g gc) (ht : Mat t tot)

include hz in
theorem vS_mat : Mat (vS d zv) (rS d z) := vm_mat (sp_mat hz)

include hz hmp hp ht in
theorem vW_mat : Mat (vW d mp zv p t) (rW d z pc tot) := by
  refine vm_mat (f := fun r c => Real.exp (ls (z r c) - (tot r c - (pc r c + ∑ c', if c' ≤ c then rS d z r c' else 0)))) fun r c => ?_
  have e : k0_pay81 (k0_pay47 zv) (k0_pay64 mp (vS d zv)) p t (ix2 r c)
      = Ideal.exp (k0_pay47 zv (ix2 r c) - (t (ix2 r c) - (p (ix3 0 r c) + lo (k0_pay64 mp (vS d zv)) (ix2 r c)))) := by
    pointwise [k0_pay81, k0_pay73, lo]
  rw [e, ls_mat hz, ht, hp, lo_mat (tri_mat (vS_mat hz) hmp)]; beta_reduce; rw [sum_upto, ← EReal.coe_add, ← EReal.coe_sub, ← EReal.coe_sub, Ideal.exp_coe]

include hz hd hmp hp ht in
theorem vG_mat : Mat (vG d mp zv dv p t) (rG d z dw pc tot) := by
  intro r c
  show dv (ix2 r c) * vW d mp zv p t (ix2 r c) = _
  rw [hd, vW_mat hmp hz hp ht, ← EReal.coe_mul]
  rfl

include hz hd hmp hmg hp hg ht in
theorem vZ_mat : Mat (vZ d mp mg zv dv p g t) (rZ d z dw pc gc tot) := by
  refine vm_mat (f := fun r c => rG d z dw pc tot r c - (rG d z dw pc tot r c + gc r c + ∑ c', if c' < c then rG d z dw pc tot r c' else 0) * Real.exp (ls (z r c)))
    fun r c => ?_
  have e : k0_pay105 g (ix2 r c) = g (ix3 0 r c) := by pointwise [k0_pay105]
  show vG d mp zv dv p t (ix2 r c) - (vG d mp zv dv p t (ix2 r c) + k0_pay105 g (ix2 r c) + lo (k0_pay97 mg (vG d mp zv dv p t)) (ix2 r c))
    * Ideal.exp (k0_pay47 zv (ix2 r c)) = _
  have e2 := lo_mat (tri_mat (vG_mat (d := d) hmp hz hd hp ht) hmg) r c
  beta_reduce at e2
  rw [sum_before] at e2
  rw [e, hg, vG_mat hmp hz hd hp ht, ls_mat hz, show lo (k0_pay97 mg _) (ix2 r c) = _ from e2, Ideal.exp_coe]
  simp only [← EReal.coe_add, ← EReal.coe_mul, ← EReal.coe_sub]

/-- The sums carried to the next block: the logarithms kept. -/
def vP (mp : FVec Ideal S128x256 .bf16) (zv : FVec Ideal S128x128 .f32) (p : FVec Ideal S1x128x128 .f32) : FVec Ideal S1x128x128 .f32 :=
  k0_pay143 (k0_pay64 mp (vS false zv)) (k0_pay73 p)

/-- The sums carried to the next block: the gradients times the weights. -/
def vQ (mp mg : FVec Ideal S128x256 .bf16) (zv dv : FVec Ideal S128x128 .f32) (p g : FVec Ideal S1x128x128 .f32) (t : FVec Ideal S128x128 .f32) :
    FVec Ideal S1x128x128 .f32 :=
  k0_pay144 (k0_pay97 mg (vG false mp zv dv p t)) (k0_pay105 g)

include hz hmp hp in
theorem vP_mat : Mat3 (vP mp zv p) fun r c => pc r c + ∑ k, rS false z r k := by
  intro r c
  have e : vP mp zv p (ix3 0 r c) = p (ix3 0 r c) + hi (k0_pay64 mp (vS false zv)) (ix2 r c) := by
    pointwise [vP, k0_pay143, k0_pay73, hi]
  rw [e, hp, hi_mat (tri_mat (vS_mat hz) hmp)]; beta_reduce; rw [sum_upto_all, ← EReal.coe_add]

include hz hd hmp hmg hp hg ht in
theorem vQ_mat : Mat3 (vQ mp mg zv dv p g t) fun r c => gc r c + ∑ k, rG false z dw pc tot r k := by
  intro r c
  have e : vQ mp mg zv dv p g t (ix3 0 r c) = g (ix3 0 r c) + hi (k0_pay97 mg (vG false mp zv dv p t)) (ix2 r c) := by
    pointwise [vQ, k0_pay144, k0_pay105, hi]
  have e2 := hi_mat (tri_mat (vG_mat (d := false) hmp hz hd hp ht) hmg) r c
  beta_reduce at e2
  rw [sum_before_all] at e2
  rw [e, hg, show hi (k0_pay97 mg _) (ix2 r c) = _ from e2, ← EReal.coe_add]

end

end Cert.SB

end
-- ==== Proof.SB.Pair.lean ====
/-
  The products of a pair of heads in one block of the stick-breaking attention's backward, over the reals.
-/
module

public import proofs.«01_k».proof.Proof.SB.Ops

@[expose] public section

open Idealize.ShloMosaic Idealize.ShloMosaic.TcCoe
open Cert.Kernel2Ideal Cert.Kernel2Ideal.Gen Cert.Coe

namespace Cert.SB

/-- A matrix of two heads' lanes, each head's rows with the other head's lanes zeroed, one under the other. -/
def byHead (f : Fin 128 → Fin 128 → ℝ) (u : Fin 256) (l : Fin 128) : ℝ :=
  if h : u.val < 128 then (if l.val < 64 then f ⟨u.val, h⟩ l else 0)
  else (if l.val < 64 then 0 else f ⟨u.val - 128, by have := u.isLt; omega⟩ l)

theorem byHead_left (f : Fin 128 → Fin 128 → ℝ) (c l : Fin 128) : byHead f (left c) l = if l.val < 64 then f c l else 0 := by
  rw [byHead, dif_pos (show (left c).val < 128 from c.isLt)]
  rfl

theorem byHead_right (f : Fin 128 → Fin 128 → ℝ) (c l : Fin 128) : byHead f (right c) l = if l.val < 64 then 0 else f c l := by
  rw [byHead, dif_neg (show ¬ (right c).val < 128 from Nat.not_lt.mpr (Nat.le_add_right _ _))]
  have e : (⟨(right c).val - 128, by have := (right c).isLt; omega⟩ : Fin 128) = c := Fin.ext (Nat.add_sub_cancel_left 128 c.val)
  rw [e]

/-- The lane's mask. -/
theorem select_lane {α : Type} (l : Fin 128) (x y : α) :
    Scalar.select (IntOp.cmpi .slt (BitVec.ofNat 32 l.val) 64#32) x y = if l.val < 64 then x else y :=
  select_slt (a := l.val) (b := 64) l.isLt (by decide) x y

theorem zero_word : (((0#32 : BitVec 32).toInt : ℝ) : EReal) = 0 := by simp

/-- A matrix stacked by head. -/
theorem heads_mat {kb : FVec Ideal S128x128 .bf16} {k : Fin 128 → Fin 128 → ℝ} (hk : Mat kb k) : Mat (k0_pay42 k0_pay343 kb) (byHead k) := by
  intro u l
  pointwise [k0_pay42, k0_pay343]
  by_cases h : u.val < 128
  · rw [dif_pos h, select_lane, byHead, dif_pos h, hk, zero_word, ← EReal.coe_zero]
    split_ifs <;> rfl
  · rw [dif_neg h, select_lane, byHead, dif_neg h, hk, zero_word, ← EReal.coe_zero]
    split_ifs <;> rfl

/-- A block's contribution to `dq`, added to what is there. -/
noncomputable def pDQ (kb : FVec Ideal S128x128 .bf16) (d0 d1 : FVec Ideal S128x128 .f32) (old : FVec Ideal S1x128x128 .f32) : FVec Ideal S1x128x128 .f32 :=
  k0_pay162 (k0_pay161 (k0_pay129 (k0_pay42 k0_pay343 kb) (truncf .bf16 d0 bitsLt_bf16_f32) (truncf .bf16 d1 bitsLt_bf16_f32)) old)

theorem pDQ_mat {kb : FVec Ideal S128x128 .bf16} {d0 d1 : FVec Ideal S128x128 .f32} {old : FVec Ideal S1x128x128 .f32}
    {k z0 z1 o : Fin 128 → Fin 128 → ℝ} (hk : Mat kb k) (h0 : Mat d0 z0) (h1 : Mat d1 z1) (ho : Mat3 old o) :
    Mat3 (pDQ kb d0 d1 old) fun r l => o r l + ∑ c, (if l.val < 64 then z0 r c else z1 r c) * k c l := by
  intro r l
  pointwise [pDQ, k0_pay162, k0_pay161, k0_pay129, k0_pay42, k0_pay343]
  simp only [select_lane, zero_word, h0 r _, h1 r _, hk _ l, ho r l]
  by_cases h : l.val < 64
  · simp only [if_pos h, mul_zero, Finset.sum_const_zero, add_zero, ← EReal.coe_mul, sum_coe, ← EReal.coe_add]
  · simp only [if_neg h, mul_zero, Finset.sum_const_zero, zero_add, ← EReal.coe_mul, sum_coe, ← EReal.coe_add]

/-- A block's contribution to `dk` or `dv`, added to what is there. -/
noncomputable def pDK (d0 d1 : FVec Ideal S128x128 .f32) (qd : FVec Ideal S1x256x128 .bf16) (old : FVec Ideal S128x128 .f32) : FVec Ideal S128x128 .f32 :=
  k0_pay163 (k0_pay133 (truncf .bf16 d0 bitsLt_bf16_f32) (truncf .bf16 d1 bitsLt_bf16_f32) qd) old

theorem pDK_mat {qd : FVec Ideal S1x256x128 .bf16} {d0 d1 : FVec Ideal S128x128 .f32} {old : FVec Ideal S128x128 .f32}
    {q z0 z1 o : Fin 128 → Fin 128 → ℝ} (hq : Mat3 qd (byHead q)) (h0 : Mat d0 z0) (h1 : Mat d1 z1) (ho : Mat old o) :
    Mat (pDK d0 d1 qd old) fun c l => o c l + ∑ r, (if l.val < 64 then z0 r c else z1 r c) * q r l := by
  intro c l
  have hl (x : Fin 128) : qd (ix3 0 ⟨x.val, x.isLt.trans (by decide)⟩ l) = _ := hq (left x) l
  have hr (x : Fin 128) : qd (ix3 0 ⟨128 + x.val, Nat.add_lt_add_left x.isLt 128⟩ l) = _ := hq (right x) l
  pointwise [pDK, k0_pay163, k0_pay133]
  simp only [hl, hr, byHead_left, byHead_right, h0 _ c, h1 _ c, ho c l]
  by_cases h : l.val < 64
  · simp only [if_pos h, EReal.coe_zero, mul_zero, Finset.sum_const_zero, add_zero, ← EReal.coe_mul, sum_coe, ← EReal.coe_add]
  · simp only [if_neg h, EReal.coe_zero, mul_zero, Finset.sum_const_zero, zero_add, ← EReal.coe_mul, sum_coe, ← EReal.coe_add]

/-- The products of one pair of heads. -/
noncomputable def pZ (q : FVec Ideal S1x128x128 .bf16) (kb : FVec Ideal S128x128 .bf16) : FVec Ideal S1x128x256 .f32 :=
  shapeCast S1x128x256 (k0_pay26 k0_pay343 q kb) shapeCasts_S128x256_S1x128x256

theorem pZ_mat {qv : FVec Ideal S1x128x128 .bf16} {kb : FVec Ideal S128x128 .bf16}
    {q k : Fin 128 → Fin 128 → ℝ} (hq : Mat3 qv q) (hk : Mat kb k) : Mat3 (pZ qv kb) fun r u => ∑ l, q r l * byHead k u l := by
  intro r u
  have hh (l : Fin 128) := heads_mat hk u l
  have e2 : pZ qv kb (ix3 0 r u) = ∑ l : Fin 128, qv (ix3 0 r l) * k0_pay42 k0_pay343 kb (ix2 u l) := by
    pointwise [pZ, k0_pay26, k0_pay42]
  rw [e2]
  simp only [hh, hq r _, ← EReal.coe_mul, sum_coe]

end Cert.SB

end
-- ==== Proof.SB.Store.lean ====
/-
  Buffers read and written by blocks: a stack of matrices written a matrix at a time, and a matrix written a tile at a
  time. A read after a list of writes is known at an index once the newest write that covers it is.
-/
module

public import Idealize.ShloMosaic.Lib.Pipeline.ValueKit
public import Idealize.ShloMosaic.Lib.WritesUnit

@[expose] public section

open Idealize.ShloMosaic Idealize.ShloMosaic.TcCoe

namespace Cert.Store

variable {sig : RefSig} {κ : Kind} {sp : Space} {e : EltTy} {Val : EltTy → Type}

section Stack
variable {N A B : ℕ} (v : View sig κ sp (⟨3, ![N, A, B]⟩ : Shape) e)

/-- The contents are known outside the matrices named. -/
def Held {α : Type} (x : (⟨3, ![N, A, B]⟩ : Shape).Idx → α) (G : ℕ → Fin A → Fin B → α) (S : List ℕ) : Prop :=
  ∀ h : Fin N, h.val ∉ S → ∀ r c, x (ix3 h r c) = G h.val r c

variable {v} {G : ℕ → Fin A → Fin B → Val e} {S : List ℕ}

/-- A load of one matrix. -/
theorem load {X : v.ty.Contents Val} (hX : Held (v.read Val X) G S) {n : ℕ} (hn : n ∉ S)
    (inb : ∀ a, (![n, 0, 0] : Fin 3 → ℕ) a + (![1, A, B] : Fin 3 → ℕ) a ≤ (![N, A, B] : Fin 3 → ℕ) a) (r : Fin A) (c : Fin B) :
    v.readAt Val (Rect.unit (s := ⟨3, ![N, A, B]⟩) ![n, 0, 0] ![1, A, B] inb).toLoadRect X (ix3 (0 : Fin 1) r c) = G n r c := by
  have hb : n < N := inb 0
  refine Eq.trans (congrArg (v.read Val X) ?_) (hX ⟨n, hb⟩ hn r c)
  funext a
  refine Fin.ext ?_
  fin_cases a
  · show n + 1 * 0 = n; omega
  · show 0 + 1 * r.val = r.val; omega
  · show 0 + 1 * c.val = c.val; omega

/-- A store of one matrix. -/
theorem store {X : v.ty.Contents Val} {L : List (View.Piece Val (⟨3, ![N, A, B]⟩ : Shape) e)} {n : ℕ}
    {inb : ∀ a, (![n, 0, 0] : Fin 3 → ℕ) a + (![1, A, B] : Fin 3 → ℕ) a ≤ (![N, A, B] : Fin 3 → ℕ) a}
    {w : (⟨3, ![1, A, B]⟩ : Shape).Idx → Val e} (hw : ∀ r c, w (ix3 0 r c) = G n r c)
    (hL : Held (v.read Val (v.writes Val X L)) G (n :: S)) :
    Held (v.read Val (v.writes Val X (⟨Rect.unit (s := ⟨3, ![N, A, B]⟩) ![n, 0, 0] ![1, A, B] inb, w⟩ :: L))) G S := by
  intro h hS r c
  by_cases e : h.val = n
  · rw [e, ← hw r c]
    exact View.read_writes_cons_unit_of_mem v X inb w L (ix3 h r c) (ix3 (0 : Fin 1) r c) rfl fun a => by
      fin_cases a
      · show h.val = n + 0; omega
      · show r.val = 0 + r.val; omega
      · show c.val = 0 + c.val; omega
  · rw [View.read_writes_cons_unit_of_not_mem v X inb w L (ix3 h r c) rfl 0 (by
      show h.val < n ∨ n + 1 ≤ h.val
      omega)]
    exact hL h (by simp [e, hS]) r c

/-- Nothing known, everything named. -/
theorem held_none {α : Type} {x : (⟨3, ![N, A, B]⟩ : Shape).Idx → α} {G : ℕ → Fin A → Fin B → α} {S : List ℕ} (h : ∀ n < N, n ∈ S) : Held x G S :=
  fun n hn => absurd (h n n.isLt) hn

end Stack

section Tile
variable {M C : ℕ} (v : View sig κ sp (⟨2, ![M, C]⟩ : Shape) e)

/-- The contents are known outside the tiles named of one row of tiles 128 by 128. -/
def HeldT {α : Type} (x : (⟨2, ![M, C]⟩ : Shape).Idx → α) (G : ℕ → ℕ → α) (k : ℕ) (S : List ℕ) : Prop :=
  ∀ (s : Fin M) (c : Fin C), (s.val / 128 = k → c.val / 128 ∉ S) → x (ix2 s c) = G s.val c.val

variable {v} {G : ℕ → ℕ → Val e} {k : ℕ} {S : List ℕ}

/-- A load of one tile. -/
theorem loadT {X : v.ty.Contents Val} {m n : ℕ} (hX : HeldT (v.read Val X) G k S) (hn : m = k → n ∉ S) {o p : ℕ}
    {off : Fin 2 → ℕ} (he : off = ![o, p]) (ho : o = 128 * m) (hp : p = 128 * n)
    (inb : ∀ a, off a + (![128, 128] : Fin 2 → ℕ) a ≤ (![M, C] : Fin 2 → ℕ) a) (r c : Fin 128) :
    v.readAt Val (Rect.unit (s := ⟨2, ![M, C]⟩) off ![128, 128] inb).toLoadRect X (ix2 r c) = G (128 * m + r.val) (128 * n + c.val) := by
  subst he ho hp
  have h0 : 128 * m + 128 ≤ M := inb 0
  have h1 : 128 * n + 128 ≤ C := inb 1
  have hr := r.isLt
  have hc := c.isLt
  refine Eq.trans (congrArg (v.read Val X) ?_) (hX ⟨128 * m + r.val, by omega⟩ ⟨128 * n + c.val, by omega⟩ ?_)
  · funext a
    refine Fin.ext ?_
    fin_cases a
    · show 128 * m + 1 * r.val = _; simp
    · show 128 * n + 1 * c.val = _; simp
  · intro h
    have e1 : (128 * m + r.val) / 128 = m := by omega
    have e2 : (128 * n + c.val) / 128 = n := by omega
    simp only [e1] at h
    simpa only [e2] using hn h

/-- A store of one tile. -/
theorem storeT {X : v.ty.Contents Val} {L : List (View.Piece Val (⟨2, ![M, C]⟩ : Shape) e)} {n o p : ℕ}
    {off : Fin 2 → ℕ} (he : off = ![o, p]) (ho : o = 128 * k) (hp : p = 128 * n)
    {inb : ∀ a, off a + (![128, 128] : Fin 2 → ℕ) a ≤ (![M, C] : Fin 2 → ℕ) a}
    {w : (⟨2, ![128, 128]⟩ : Shape).Idx → Val e} (hw : ∀ r c : Fin 128, w (ix2 r c) = G (128 * k + r.val) (128 * n + c.val))
    (hL : HeldT (v.read Val (v.writes Val X L)) G k (n :: S)) :
    HeldT (v.read Val (v.writes Val X (⟨Rect.unit (s := ⟨2, ![M, C]⟩) off ![128, 128] inb, w⟩ :: L))) G k S := by
  subst ho hp
  intro s c hS
  by_cases e : s.val / 128 = k ∧ c.val / 128 = n
  · obtain ⟨e1, e2⟩ := e
    have a1 : s.val = 128 * k + s.val % 128 := by omega
    have a2 : c.val = 128 * n + c.val % 128 := by omega
    have hw' := hw ⟨s.val % 128, by omega⟩ ⟨c.val % 128, by omega⟩
    simp only [← a1, ← a2] at hw'
    rw [← hw']
    exact View.read_writes_cons_unit_of_mem v X inb w L (ix2 s c) (ix2 (⟨s.val % 128, by omega⟩ : Fin 128) (⟨c.val % 128, by omega⟩ : Fin 128)) he fun a => by
      fin_cases a
      · exact a1
      · exact a2
  · have hr : HeldT (v.read Val (v.writes Val X L)) G k (n :: S) → v.read Val (v.writes Val X L) (ix2 s c) = G s.val c.val := fun h => by
      refine h s c fun hk => ?_
      have h1 := hS hk
      have h2 : c.val / 128 ≠ n := fun h2 => e ⟨hk, h2⟩
      simp [h1, h2]
    by_cases e1 : s.val / 128 = k
    · rw [View.read_writes_cons_unit_of_not_mem v X inb w L (ix2 s c) he 1 (by
        show c.val < 128 * n ∨ 128 * n + 128 ≤ c.val
        have : c.val / 128 ≠ n := fun h2 => e ⟨e1, h2⟩
        omega)]
      exact hr hL
    · rw [View.read_writes_cons_unit_of_not_mem v X inb w L (ix2 s c) he 0 (by
        show s.val < 128 * k ∨ 128 * k + 128 ≤ s.val
        omega)]
      exact hr hL

/-- Contents that agree outside the row of tiles. -/
theorem heldT_of {α : Type} {x : (⟨2, ![M, C]⟩ : Shape).Idx → α} {G G' : ℕ → ℕ → α} {k : ℕ} {S : List ℕ} (h : ∀ (s : Fin M) (c : Fin C), x (ix2 s c) = G' s.val c.val)
    (hG : ∀ s c, s / 128 ≠ k → G' s c = G s c) {N : ℕ} (hC : C = 128 * N) (hS : ∀ n < N, n ∈ S) : HeldT x G k S := by
  intro s c hs
  by_cases e : s.val / 128 = k
  · exact absurd (hS _ (by have := c.isLt; omega)) (hs e)
  · rw [h, hG _ _ e]

/-- With no tile named, which row of tiles is said to be open does not matter. -/
theorem heldT_all {α : Type} {x : (⟨2, ![M, C]⟩ : Shape).Idx → α} {G : ℕ → ℕ → α} {k k' : ℕ} (h : HeldT x G k []) : HeldT x G k' [] :=
  fun s c _ => h s c fun _ => List.not_mem_nil

end Tile

end Cert.Store

end
-- ==== Proof.SB.Model.lean ====
/-
  What the scratch buffers of the stick-breaking attention's backward hold, over the reals, at a block of query rows.
  `Q`, `D` and `T` are that block's rows of the scaled queries, of the incoming gradient and of the rows' sums; `K` and `V` are the whole keys
  and values. Heads lie side by side, 64 columns each; the kernel takes them two at a time, 128 columns a pair.
-/
module

public import proofs.«01_k».proof.Proof.SB.Pair
public import proofs.«01_k».proof.Proof.SB.Store

@[expose] public noncomputable section

open Idealize.ShloMosaic Idealize.ShloMosaic.TcCoe
open Cert.Kernel2Ideal Cert.Kernel2Ideal.Gen Cert.Coe

namespace Cert.SB

/-- One block of query rows against the keys and values. -/
structure Model where
  (Q D K V T : ℕ → ℕ → ℝ)

namespace Model

variable (m : Model)

/-- The products of a pair of heads with a block of keys, one head's columns after the other's. -/
def prod (A B : ℕ → ℕ → ℝ) (p j : ℕ) (r : Fin 128) (u : Fin 256) : ℝ :=
  ∑ l : Fin 128, A r.val (128 * p + l.val) * byHead (fun c l => B (128 * j + c.val) (128 * p + l.val)) u l

/-- One head's column of a pair's products. -/
def side (h : ℕ) (c : Fin 128) : Fin 256 := if h % 2 = 0 then left c else right c

def z (h j : ℕ) (r c : Fin 128) : ℝ := prod m.Q m.K (h / 2) j r (side h c)
def w (h j : ℕ) (r c : Fin 128) : ℝ := prod m.D m.V (h / 2) j r (side h c)
def t (h : ℕ) (r c : Fin 128) : ℝ := m.T r.val (128 * h + c.val)

/-- The logarithms kept, summed over the blocks before. -/
def ps (h j : ℕ) (r _c : Fin 128) : ℝ := ∑ i ∈ Finset.range j, ∑ k, rS false (m.z h i) r k

/-- The weights' gradients times the weights, summed over the blocks before. -/
def pg (h j : ℕ) (r _c : Fin 128) : ℝ := ∑ i ∈ Finset.range j, ∑ k, rG false (m.z h i) (m.w h i) (m.ps h i) (m.t h) r k

/-- The weights of one block. -/
def W (d : Bool) (h j : ℕ) : Fin 128 → Fin 128 → ℝ := rW d (m.z h j) (m.ps h j) (m.t h)

/-- The gradient of the scores of one block. -/
def Z (d : Bool) (h j : ℕ) : Fin 128 → Fin 128 → ℝ := rZ d (m.z h j) (m.w h j) (m.ps h j) (m.pg h j) (m.t h)

/-- The head of a column. -/
def head (p : ℕ) (l : Fin 128) : ℕ := if l.val < 64 then 2 * p else 2 * p + 1

/-- A block's part of the queries' gradient. -/
def dq (d : Bool) (p j : ℕ) (r l : Fin 128) : ℝ := ∑ c : Fin 128, m.Z d (head p l) j r c * m.K (128 * j + c.val) (128 * p + l.val)

/-- A block's part of the keys' gradient. -/
def dk (d : Bool) (p j : ℕ) (c l : Fin 128) : ℝ := ∑ r : Fin 128, m.Z d (head p l) j r c * m.Q r.val (128 * p + l.val)

/-- A block's part of the values' gradient. -/
def dv (d : Bool) (p j : ℕ) (c l : Fin 128) : ℝ := ∑ r : Fin 128, m.W d (head p l) j r c * m.D r.val (128 * p + l.val)

/-- The sums carried, after `j` blocks. -/
def g14 (j n : ℕ) (r c : Fin 128) : ℝ := if n % 2 = 0 then m.ps (n / 2) j r c else m.pg (n / 2) j r c

/-- The queries' gradient, after `j` blocks. -/
def g15 (j p : ℕ) (r l : Fin 128) : ℝ := ∑ i ∈ Finset.range j, m.dq false p i r l

/-- The index inside a tile. -/
def md (s : ℕ) : Fin 128 := ⟨s % 128, Nat.mod_lt _ (by decide)⟩

/-- The keys' gradient, after `j` blocks. -/
def g16 (o : ℕ → ℕ → ℝ) (j s e : ℕ) : ℝ := if s / 128 < j then o s e + m.dk false (e / 128) (s / 128) (md s) (md e) else o s e

/-- The values' gradient, after `j` blocks. -/
def g17 (o : ℕ → ℕ → ℝ) (j s e : ℕ) : ℝ := if s / 128 < j then o s e + m.dv false (e / 128) (s / 128) (md s) (md e) else o s e

/-- The products of block `j`. -/
def g18 (j n : ℕ) (r : Fin 128) (u : Fin 256) : ℝ := if n < 4 then prod m.Q m.K n j r u else prod m.D m.V (n - 4) j r u

/-- The queries and the incoming gradient, stacked by head. -/
def g13 (n : ℕ) (u : Fin 256) (l : Fin 128) : ℝ :=
  if n < 4 then byHead (fun r l => m.Q r.val (128 * n + l.val)) u l else byHead (fun r l => m.D r.val (128 * (n - 4) + l.val)) u l

theorem z_even (p j : ℕ) : m.z (2 * p) j = fun r c => prod m.Q m.K p j r (left c) := by
  funext r c
  rw [z, side, if_pos (by omega), show 2 * p / 2 = p by omega]

theorem z_odd (p j : ℕ) : m.z (2 * p + 1) j = fun r c => prod m.Q m.K p j r (right c) := by
  funext r c
  rw [z, side, if_neg (by omega), show (2 * p + 1) / 2 = p by omega]

theorem w_even (p j : ℕ) : m.w (2 * p) j = fun r c => prod m.D m.V p j r (left c) := by
  funext r c
  rw [w, side, if_pos (by omega), show 2 * p / 2 = p by omega]

theorem w_odd (p j : ℕ) : m.w (2 * p + 1) j = fun r c => prod m.D m.V p j r (right c) := by
  funext r c
  rw [w, side, if_neg (by omega), show (2 * p + 1) / 2 = p by omega]

theorem g14_even (j h : ℕ) : m.g14 j (2 * h) = m.ps h j := by
  funext r c
  rw [g14, if_pos (by omega), show 2 * h / 2 = h by omega]

theorem g14_odd (j h : ℕ) : m.g14 j (2 * h + 1) = m.pg h j := by
  funext r c
  rw [g14, if_neg (by omega), show (2 * h + 1) / 2 = h by omega]

theorem g18_z (j : ℕ) {n : ℕ} (h : n < 4) : m.g18 j n = prod m.Q m.K n j := by
  funext r c
  rw [g18, if_pos h]

theorem g18_w (j n : ℕ) : m.g18 j (4 + n) = prod m.D m.V n j := by
  funext r c
  rw [g18, if_neg (by omega), show 4 + n - 4 = n by omega]

theorem g13_q {n : ℕ} (h : n < 4) : m.g13 n = byHead (fun r l => m.Q r.val (128 * n + l.val)) := by
  funext u l
  rw [g13, if_pos h]

theorem g13_d (n : ℕ) : m.g13 (4 + n) = byHead (fun r l => m.D r.val (128 * n + l.val)) := by
  funext u l
  rw [g13, if_neg (by omega), show 4 + n - 4 = n by omega]

theorem ps_succ (h j : ℕ) (r c : Fin 128) : m.ps h (j + 1) r c = m.ps h j r c + ∑ k, rS false (m.z h j) r k := Finset.sum_range_succ _ _

theorem pg_succ (h j : ℕ) (r c : Fin 128) :
    m.pg h (j + 1) r c = m.pg h j r c + ∑ k, rG false (m.z h j) (m.w h j) (m.ps h j) (m.t h) r k := Finset.sum_range_succ _ _

theorem dq_eq (d : Bool) (p j : ℕ) (r l : Fin 128) :
    m.dq d p j r l = ∑ c : Fin 128, (if l.val < 64 then m.Z d (2 * p) j r c else m.Z d (2 * p + 1) j r c) * m.K (128 * j + c.val) (128 * p + l.val) := by
  unfold dq head
  split_ifs <;> rfl

theorem dk_eq (d : Bool) (p j : ℕ) (c l : Fin 128) :
    m.dk d p j c l = ∑ r : Fin 128, (if l.val < 64 then m.Z d (2 * p) j r c else m.Z d (2 * p + 1) j r c) * m.Q r.val (128 * p + l.val) := by
  unfold dk head
  split_ifs <;> rfl

theorem dv_eq (d : Bool) (p j : ℕ) (c l : Fin 128) :
    m.dv d p j c l = ∑ r : Fin 128, (if l.val < 64 then m.W d (2 * p) j r c else m.W d (2 * p + 1) j r c) * m.D r.val (128 * p + l.val) := by
  unfold dv head
  split_ifs <;> rfl

theorem g15_succ (j p : ℕ) (r l : Fin 128) : m.g15 (j + 1) p r l = m.g15 j p r l + m.dq false p j r l := Finset.sum_range_succ _ _

theorem md_tile (a : ℕ) (r : Fin 128) : md (128 * a + r.val) = r := Fin.ext (by have := r.isLt; simp only [md]; omega)

theorem div_tile (a : ℕ) (r : Fin 128) : (128 * a + r.val) / 128 = a := by have := r.isLt; omega

theorem g16_here (o : ℕ → ℕ → ℝ) (j n : ℕ) (c l : Fin 128) :
    m.g16 o (j + 1) (128 * j + c.val) (128 * n + l.val) = m.g16 o j (128 * j + c.val) (128 * n + l.val) + m.dk false n j c l := by
  simp only [g16, div_tile, md_tile, if_pos (Nat.lt_succ_self j), if_neg (lt_irrefl j)]

theorem g17_here (o : ℕ → ℕ → ℝ) (j n : ℕ) (c l : Fin 128) :
    m.g17 o (j + 1) (128 * j + c.val) (128 * n + l.val) = m.g17 o j (128 * j + c.val) (128 * n + l.val) + m.dv false n j c l := by
  simp only [g17, div_tile, md_tile, if_pos (Nat.lt_succ_self j), if_neg (lt_irrefl j)]

theorem g16_else (o : ℕ → ℕ → ℝ) (j s e : ℕ) (h : s / 128 ≠ j) : m.g16 o j s e = m.g16 o (j + 1) s e := by
  simp only [g16, Nat.lt_succ_iff_lt_or_eq, h, or_false]

theorem g17_else (o : ℕ → ℕ → ℝ) (j s e : ℕ) (h : s / 128 ≠ j) : m.g17 o j s e = m.g17 o (j + 1) s e := by
  simp only [g17, Nat.lt_succ_iff_lt_or_eq, h, or_false]

end Model

end Cert.SB

end
-- ==== Proof.SB.Off.lean ====
/-
  Where the stick-breaking attention's backward reads and writes, and how often it goes round.
-/
module

public import proofs.«01_k».proof.Proof.Gen.Kernel2Ideal.Skeleton

@[expose] public section

open Idealize.ShloMosaic Idealize.ShloMosaic.TcCoe
open Cert.Kernel2Ideal Cert.Kernel2Ideal.Gen

namespace Cert.SB

theorem trips1 (i : grid0.Coords) : (k0_t1_loop i).trips = (i 0).val := by
  have h : ∀ n : Fin 16, (⟨0#32, Scalar.addi 0#32 (Scalar.muli (Scalar.divsi (Scalar.subi (BitVec.ofNat 32 n.val) 0#32) 1#32) 1#32), 1#32⟩ : Scf.Loop 32).trips = n.val := by decide
  exact h (i 0)

theorem trips2 (i : grid0.Coords) : (k0_t2_loop i).trips = 0 := by
  have h : ∀ n : Fin 16, (⟨Scalar.addi 0#32 (Scalar.muli (Scalar.divsi (Scalar.subi (BitVec.ofNat 32 n.val) 0#32) 1#32) 1#32),
    Scalar.addi 0#32 (Scalar.subi (BitVec.ofNat 32 n.val) 0#32), 1#32⟩ : Scf.Loop 32).trips = 0 := by decide
  exact h (i 0)

theorem word_now (n : Fin 16) : (Scalar.indexCast (Scalar.muli (Scf.iv 0#32 1#32 n.val) 128#32)).toNat = 128 * n.val := by
  revert n; decide

theorem word_next (n : Fin 16) : (Scalar.indexCast (Scalar.muli (Scalar.addi (Scf.iv 0#32 1#32 n.val) 1#32) 128#32)).toNat = 128 * (n.val + 1) := by
  revert n; decide

theorem word_at (n : Fin 16) : (Scalar.indexCast (Scalar.muli (BitVec.ofNat 32 n.val) 128#32)).toNat = 128 * n.val := by
  revert n; decide

variable (i : grid0.Coords) (k : Fin (k0_t1_loop i).trips)

theorem trip_lt : k.val < 16 := lt_trans (lt_of_lt_of_eq k.isLt (trips1 i)) (i 0).isLt

theorem off1 : k0_off1 i k = ![128 * (k.val + 1), 0] := congrArg (fun n => ![n, 0]) (word_next ⟨k.val, trip_lt i k⟩)
theorem off2 : k0_off2 i k = ![128 * (k.val + 1), 128] := congrArg (fun n => ![n, 128]) (word_next ⟨k.val, trip_lt i k⟩)
theorem off3 : k0_off3 i k = ![128 * (k.val + 1), 256] := congrArg (fun n => ![n, 256]) (word_next ⟨k.val, trip_lt i k⟩)
theorem off4 : k0_off4 i k = ![128 * (k.val + 1), 384] := congrArg (fun n => ![n, 384]) (word_next ⟨k.val, trip_lt i k⟩)
theorem off5 : k0_off5 i k = ![128 * k.val, 0] := congrArg (fun n => ![n, 0]) (word_now ⟨k.val, trip_lt i k⟩)
theorem off6 : k0_off6 i k = ![128 * k.val, 128] := congrArg (fun n => ![n, 128]) (word_now ⟨k.val, trip_lt i k⟩)
theorem off7 : k0_off7 i k = ![128 * k.val, 256] := congrArg (fun n => ![n, 256]) (word_now ⟨k.val, trip_lt i k⟩)
theorem off8 : k0_off8 i k = ![128 * k.val, 384] := congrArg (fun n => ![n, 384]) (word_now ⟨k.val, trip_lt i k⟩)
theorem off17 : k0_off17 i = ![128 * (i 0).val, 0] := congrArg (fun n => ![n, 0]) (word_at (i 0))
theorem off18 : k0_off18 i = ![128 * (i 0).val, 128] := congrArg (fun n => ![n, 128]) (word_at (i 0))
theorem off19 : k0_off19 i = ![128 * (i 0).val, 256] := congrArg (fun n => ![n, 256]) (word_at (i 0))
theorem off20 : k0_off20 i = ![128 * (i 0).val, 384] := congrArg (fun n => ![n, 384]) (word_at (i 0))

end Cert.SB

end
-- ==== Proof.SB.Trip.lean ====
/-
  One round of the loop over the blocks of keys before the diagonal: what it leaves in the scratch buffers, from what it finds there.
-/
module

public import proofs.«01_k».proof.Proof.SB.Model
public import proofs.«01_k».proof.Proof.SB.Off
public import proofs.«01_k».proof.Proof.Gen.Kernel2Ideal.Loops

@[expose] public section

open Idealize.ShloMosaic Idealize.ShloMosaic.TcCoe
open Cert.Kernel2Ideal Cert.Kernel2Ideal.Gen Cert.Coe Cert.Store

namespace Cert.SB

/-- The image of a real array, as a function of its coordinates. -/
def im3 {A B : ℕ} (g : ℕ → Fin A → Fin B → ℝ) : ℕ → Fin A → Fin B → EReal := fun n r c => ((g n r c : ℝ) : EReal)

/-- The image of a real matrix. -/
def im2 (g : ℕ → ℕ → ℝ) : ℕ → ℕ → EReal := fun s e => ((g s e : ℝ) : EReal)

/-- What the inputs and the scratch buffers filled before the loop hold. -/
structure Fixed (m : Model) {arg2 arg3 : Memref sig .tc .vmem S2048x512 .bf16} {arg5 : Memref sig .tc .vmem S128x1024 .f32}
    {arg11 arg12 : Memref sig .tc .vmem S4x128x128 .bf16} {arg13 : Memref sig .tc .vmem S8x256x128 .bf16}
    (X2 : BufTy.Contents (Elt Ideal) arg2.view.ty) (X3 : BufTy.Contents (Elt Ideal) arg3.view.ty) (X5 : BufTy.Contents (Elt Ideal) arg5.view.ty)
    (X11 : BufTy.Contents (Elt Ideal) arg11.view.ty) (X12 : BufTy.Contents (Elt Ideal) arg12.view.ty) (X13 : BufTy.Contents (Elt Ideal) arg13.view.ty) : Prop where
  h2 : HeldT (arg2.view.read (Elt Ideal) X2) (im2 m.K) 16 []
  h3 : HeldT (arg3.view.read (Elt Ideal) X3) (im2 m.V) 16 []
  h5 : HeldT (arg5.view.read (Elt Ideal) X5) (im2 m.T) 16 []
  h11 : Held (arg11.view.read (Elt Ideal) X11) (im3 fun n r l => m.Q r.val (128 * n + l.val)) []
  h12 : Held (arg12.view.read (Elt Ideal) X12) (im3 fun n r l => m.D r.val (128 * n + l.val)) []
  h13 : Held (arg13.view.read (Elt Ideal) X13) (im3 m.g13) []

/-- What the scratch buffers written in the loop hold after `j` rounds. -/
structure State (m : Model) (o16 o17 : ℕ → ℕ → ℝ) (j : ℕ) {arg14 : Memref sig .tc .vmem S16x128x128 .f32} {arg15 : Memref sig .tc .vmem S4x128x128 .f32}
    {arg16 arg17 : Memref sig .tc .vmem S2048x512 .f32} {arg18 : Memref sig .tc .vmem S8x128x256 .f32}
    (f14 : BufTy.Contents (Elt Ideal) arg14.view.ty) (f15 : BufTy.Contents (Elt Ideal) arg15.view.ty) (f16 : BufTy.Contents (Elt Ideal) arg16.view.ty)
    (f17 : BufTy.Contents (Elt Ideal) arg17.view.ty) (f18 : BufTy.Contents (Elt Ideal) arg18.view.ty) : Prop where
  h14 : Held (arg14.view.read (Elt Ideal) f14) (im3 (m.g14 j)) []
  h15 : Held (arg15.view.read (Elt Ideal) f15) (im3 (m.g15 j)) []
  h16 : HeldT (arg16.view.read (Elt Ideal) f16) (im2 (m.g16 o16 j)) 16 []
  h17 : HeldT (arg17.view.read (Elt Ideal) f17) (im2 (m.g17 o17 j)) 16 []
  h18 : Held (arg18.view.read (Elt Ideal) f18) (im3 (m.g18 j)) []

/-- The left half of a pair's products. -/
def zl (s : FVec Ideal S1x128x256 .f32) : FVec Ideal S128x128 .f32 := lo (shapeCast S128x256 s shapeCasts_S1x128x256_S128x256)

/-- The right half of a pair's products. -/
def zr (s : FVec Ideal S1x128x256 .f32) : FVec Ideal S128x128 .f32 := hi (shapeCast S128x256 s shapeCasts_S1x128x256_S128x256)

theorem cast_mat {s : FVec Ideal S1x128x256 .f32} {f : Fin 128 → Fin 256 → ℝ} (h : Mat3 s f) :
    Mat (shapeCast S128x256 s shapeCasts_S1x128x256_S128x256) f := by
  intro r u
  pointwise
  exact h r u

theorem zl_mat {s : FVec Ideal S1x128x256 .f32} {f : Fin 128 → Fin 256 → ℝ} (h : Mat3 s f) : Mat (zl s) fun r c => f r (left c) := lo_mat (cast_mat h)

theorem zr_mat {s : FVec Ideal S1x128x256 .f32} {f : Fin 128 → Fin 256 → ℝ} (h : Mat3 s f) : Mat (zr s) fun r c => f r (right c) := hi_mat (cast_mat h)

section
variable {m : Model}

section
variable {arg18 : Memref sig .tc .vmem S8x128x256 .f32} {f18 : BufTy.Contents (Elt Ideal) arg18.view.ty} {j : ℕ}
  (h : Held (arg18.view.read (Elt Ideal) f18) (im3 (m.g18 j)) []) (p : ℕ)
include h

theorem z_even_mat (hp : p < 4) (inb) :
    Mat (zl (arg18.view.readAt (Elt Ideal) (Rect.unit (s := S8x128x256) ![p, 0, 0] ![1, 128, 256] inb).toLoadRect f18)) (m.z (2 * p) j) := by
  have := zl_mat (f := m.g18 j p) fun r u => load h (by simp) inb r u
  rwa [m.g18_z j hp, ← m.z_even] at this

theorem z_odd_mat (hp : p < 4) (inb) :
    Mat (zr (arg18.view.readAt (Elt Ideal) (Rect.unit (s := S8x128x256) ![p, 0, 0] ![1, 128, 256] inb).toLoadRect f18)) (m.z (2 * p + 1) j) := by
  have := zr_mat (f := m.g18 j p) fun r u => load h (by simp) inb r u
  rwa [m.g18_z j hp, ← m.z_odd] at this

theorem w_even_mat (inb) :
    Mat (zl (arg18.view.readAt (Elt Ideal) (Rect.unit (s := S8x128x256) ![4 + p, 0, 0] ![1, 128, 256] inb).toLoadRect f18)) (m.w (2 * p) j) := by
  have := zl_mat (f := m.g18 j (4 + p)) fun r u => load h (by simp) inb r u
  rwa [m.g18_w j, ← m.w_even] at this

theorem w_odd_mat (inb) :
    Mat (zr (arg18.view.readAt (Elt Ideal) (Rect.unit (s := S8x128x256) ![4 + p, 0, 0] ![1, 128, 256] inb).toLoadRect f18)) (m.w (2 * p + 1) j) := by
  have := zr_mat (f := m.g18 j (4 + p)) fun r u => load h (by simp) inb r u
  rwa [m.g18_w j, ← m.w_odd] at this
end

section
variable {arg14 : Memref sig .tc .vmem S16x128x128 .f32} {f14 : BufTy.Contents (Elt Ideal) arg14.view.ty} {j : ℕ}
  (h : Held (arg14.view.read (Elt Ideal) f14) (im3 (m.g14 j)) []) (n : ℕ)
include h

theorem ps_load (inb) :
    Mat3 (φ := .f32) (arg14.view.readAt (Elt Ideal) (Rect.unit (s := S16x128x128) ![2 * n, 0, 0] ![1, 128, 128] inb).toLoadRect f14) (m.ps n j) := by
  rw [← m.g14_even]
  exact fun r u => load h (by simp) inb r u

theorem pg_load (inb) :
    Mat3 (φ := .f32) (arg14.view.readAt (Elt Ideal) (Rect.unit (s := S16x128x128) ![2 * n + 1, 0, 0] ![1, 128, 128] inb).toLoadRect f14) (m.pg n j) := by
  rw [← m.g14_odd]
  exact fun r u => load h (by simp) inb r u
end

theorem t_load {arg5 : Memref sig .tc .vmem S128x1024 .f32} {X5 : BufTy.Contents (Elt Ideal) arg5.view.ty}
    (h : HeldT (arg5.view.read (Elt Ideal) X5) (im2 m.T) 16 []) (n : ℕ) (inb) :
    Mat (φ := .f32) (arg5.view.readAt (Elt Ideal) (Rect.unit (s := S128x1024) ![0, 128 * n] ![128, 128] inb).toLoadRect X5) (m.t n) := fun r c => by
  refine (loadT (m := 0) (n := n) h (by simp) rfl rfl rfl inb r c).trans ?_
  rw [Nat.mul_zero, Nat.zero_add]
  rfl
end

/-- A load of a tile of a matrix. -/
theorem tile_load {φ : EltTy} {arg : Memref sig .tc .vmem S2048x512 φ} {X : BufTy.Contents (Elt Ideal) arg.view.ty} {G : ℕ → ℕ → Elt Ideal φ}
    (h : HeldT (arg.view.read (Elt Ideal) X) G 16 []) (n j : ℕ) {off : Fin 2 → ℕ} (he : off = ![128 * j, 128 * n]) (inb) (r c : Fin 128) :
    arg.view.readAt (Elt Ideal) (Rect.unit (s := S2048x512) off ![128, 128] inb).toLoadRect X (ix2 r c) = G (128 * j + r.val) (128 * n + c.val) :=
  loadT (m := j) (n := n) h (by simp) he rfl rfl inb r c

/-! ## What a block leaves, as vectors -/

section
variable {m : Model} {d : Bool} {j h n : ℕ} {mp mg : FVec Ideal S128x256 .bf16} (hmp : Mat mp upto) (hmg : Mat mg before)
  {zv dv t : FVec Ideal S128x128 .f32} {p g : FVec Ideal S1x128x128 .f32}
  (hz : Mat zv (m.z h j)) (hw : Mat dv (m.w h j)) (hp : Mat3 p (m.ps h j)) (hg : Mat3 g (m.pg h j)) (ht : Mat t (m.t h))

include hmp hz hp in
theorem ps_next : Mat3 (vP mp zv p) (m.ps h (j + 1)) := fun r c => by
  rw [vP_mat hmp hz hp r c, m.ps_succ]

include hmp hmg hz hw hp hg ht in
theorem pg_next : Mat3 (vQ mp mg zv dv p g t) (m.pg h (j + 1)) := fun r c => by
  rw [vQ_mat hmp hmg hz hw hp hg ht r c, m.pg_succ]

variable {z0 z1 : FVec Ideal S128x128 .f32}

theorem dq_next {kb : FVec Ideal S128x128 .bf16} {old : FVec Ideal S1x128x128 .f32} {o : Fin 128 → Fin 128 → ℝ}
    (hk : ∀ r c : Fin 128, kb (ix2 r c) = im2 m.K (128 * j + r.val) (128 * n + c.val)) (h0 : Mat z0 (m.Z d (2 * n) j)) (h1 : Mat z1 (m.Z d (2 * n + 1) j))
    (ho : Mat3 old o) : Mat3 (pDQ kb z0 z1 old) fun r l => o r l + m.dq d n j r l := fun r l => by
  rw [pDQ_mat (k := fun r c => m.K (128 * j + r.val) (128 * n + c.val)) hk h0 h1 ho r l]
  beta_reduce
  rw [m.dq_eq]

theorem dk_next {qd : FVec Ideal S1x256x128 .bf16} {old : FVec Ideal S128x128 .f32} {o : Fin 128 → Fin 128 → ℝ}
    (hq : Mat3 qd (m.g13 n)) (hn : n < 4) (h0 : Mat z0 (m.Z d (2 * n) j)) (h1 : Mat z1 (m.Z d (2 * n + 1) j))
    (ho : Mat old o) : Mat (pDK z0 z1 qd old) fun c l => o c l + m.dk d n j c l := fun c l => by
  rw [m.g13_q hn] at hq
  rw [pDK_mat hq h0 h1 ho c l]
  beta_reduce
  rw [m.dk_eq]

theorem dv_next {qd : FVec Ideal S1x256x128 .bf16} {old : FVec Ideal S128x128 .f32} {o : Fin 128 → Fin 128 → ℝ}
    (hq : Mat3 qd (m.g13 (4 + n))) (h0 : Mat z0 (m.W d (2 * n) j)) (h1 : Mat z1 (m.W d (2 * n + 1) j))
    (ho : Mat old o) : Mat (pDK z0 z1 qd old) fun c l => o c l + m.dv d n j c l := fun c l => by
  rw [m.g13_d] at hq
  rw [pDK_mat hq h0 h1 ho c l]
  beta_reduce
  rw [m.dv_eq]
end

/-! ## Stores -/

section
variable {m : Model} {j : ℕ} {S : List ℕ}

section
variable {arg14 : Memref sig .tc .vmem S16x128x128 .f32} {f14 : BufTy.Contents (Elt Ideal) arg14.view.ty} {L : List (View.Piece (Elt Ideal) S16x128x128 .f32)}
  (h : ℕ) {w : FVec Ideal S1x128x128 .f32}

theorem ps_store {inb} (hw : Mat3 w (m.ps h j)) (hL : Held (arg14.view.read (Elt Ideal) (arg14.view.writes (Elt Ideal) f14 L)) (im3 (m.g14 j)) (2 * h :: S)) :
    Held (arg14.view.read (Elt Ideal) (arg14.view.writes (Elt Ideal) f14 (⟨Rect.unit (s := S16x128x128) ![2 * h, 0, 0] ![1, 128, 128] inb, w⟩ :: L))) (im3 (m.g14 j)) S :=
  store (fun r c => (hw r c).trans (by rw [im3, m.g14_even])) hL

theorem pg_store {inb} (hw : Mat3 w (m.pg h j)) (hL : Held (arg14.view.read (Elt Ideal) (arg14.view.writes (Elt Ideal) f14 L)) (im3 (m.g14 j)) ((2 * h + 1) :: S)) :
    Held (arg14.view.read (Elt Ideal) (arg14.view.writes (Elt Ideal) f14 (⟨Rect.unit (s := S16x128x128) ![2 * h + 1, 0, 0] ![1, 128, 128] inb, w⟩ :: L))) (im3 (m.g14 j)) S :=
  store (fun r c => (hw r c).trans (by rw [im3, m.g14_odd])) hL
end

section
variable (n : ℕ) {q : FVec Ideal S1x128x128 .bf16} {kb : FVec Ideal S128x128 .bf16}

theorem z_next (hn : n < 4) (hq : Mat3 q fun r l => m.Q r.val (128 * n + l.val)) (hk : Mat kb fun r c => m.K (128 * j + r.val) (128 * n + c.val)) :
    Mat3 (pZ q kb) (m.g18 j n) := fun r c => (pZ_mat hq hk r c).trans (by rw [m.g18_z j hn]; rfl)

theorem w_next (hq : Mat3 q fun r l => m.D r.val (128 * n + l.val)) (hk : Mat kb fun r c => m.V (128 * j + r.val) (128 * n + c.val)) :
    Mat3 (pZ q kb) (m.g18 j (4 + n)) := fun r c => (pZ_mat hq hk r c).trans (by rw [m.g18_w j]; rfl)
end

end

section
variable (𝒱 : Variants) (c : Dev nD) (bd : Option 𝒱.V) (i : grid0.Coords) (arg1 : Memref sig .tc .vmem S128x512 .bf16) (harg1 : arg1.IsWhole)
  (arg2 : Memref sig .tc .vmem S2048x512 .bf16) (harg2 : arg2.IsWhole) (arg3 : Memref sig .tc .vmem S2048x512 .bf16) (harg3 : arg3.IsWhole)
  (arg4 : Memref sig .tc .vmem S128x512 .f32) (harg4 : arg4.IsWhole) (arg5 : Memref sig .tc .vmem S128x1024 .f32) (harg5 : arg5.IsWhole)
  (arg6 : Memref sig .tc .vmem S128x256 .bf16) (harg6 : arg6.IsWhole) (arg7 : Memref sig .tc .vmem S128x256 .bf16) (harg7 : arg7.IsWhole)
  (arg8 : Memref sig .tc .vmem S128x512 .bf16) (harg8 : arg8.IsWhole) (arg9 : Memref sig .tc .vmem S2048x512 .bf16) (harg9 : arg9.IsWhole)
  (arg10 : Memref sig .tc .vmem S2048x512 .bf16) (harg10 : arg10.IsWhole) (arg11 : Memref sig .tc .vmem S4x128x128 .bf16) (harg11 : arg11.IsWhole)
  (arg12 : Memref sig .tc .vmem S4x128x128 .bf16) (harg12 : arg12.IsWhole) (arg13 : Memref sig .tc .vmem S8x256x128 .bf16) (harg13 : arg13.IsWhole)
  (arg14 : Memref sig .tc .vmem S16x128x128 .f32) (harg14 : arg14.IsWhole) (arg15 : Memref sig .tc .vmem S4x128x128 .f32) (harg15 : arg15.IsWhole)
  (arg16 : Memref sig .tc .vmem S2048x512 .f32) (harg16 : arg16.IsWhole) (arg17 : Memref sig .tc .vmem S2048x512 .f32) (harg17 : arg17.IsWhole)
  (arg18 : Memref sig .tc .vmem S8x128x256 .f32) (harg18 : arg18.IsWhole) (arg0 : BitVec 32) (v142 v144 : FVec Ideal S128x256 .bf16)
  (v225 v239 v253 v267 : FVec Ideal S128x256 .f32)
  (X2 : BufTy.Contents (Elt Ideal) arg2.view.ty) (X3 : BufTy.Contents (Elt Ideal) arg3.view.ty) (X5 : BufTy.Contents (Elt Ideal) arg5.view.ty)
  (X11 : BufTy.Contents (Elt Ideal) arg11.view.ty) (X12 : BufTy.Contents (Elt Ideal) arg12.view.ty) (X13 : BufTy.Contents (Elt Ideal) arg13.view.ty)
  (k : Fin (k0_t1_loop i).trips)
  (f14 : BufTy.Contents (Elt Ideal) arg14.view.ty) (f15 : BufTy.Contents (Elt Ideal) arg15.view.ty) (f16 : BufTy.Contents (Elt Ideal) arg16.view.ty)
  (f17 : BufTy.Contents (Elt Ideal) arg17.view.ty) (f18 : BufTy.Contents (Elt Ideal) arg18.view.ty)
  (m : Model) (o16 o17 : ℕ → ℕ → ℝ)
  (hmp : Mat v142 upto) (hmg : Mat v144 before) (hX : Fixed m X2 X3 X5 X11 X12 X13) (hS : State m o16 o17 k.val f14 f15 f16 f17 f18)

set_option maxHeartbeats 1000000 in
include hmp hmg hX hS in
theorem trip_next :
    let L := tripL_k0_t1 (F := Ideal) 𝒱 c bd i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18 arg0 k0_pay343 v142 v144 v225 v239 v253
      v267 X2 X3 X5 X11 X12 X13 k f14 f15 f16 f17 f18
    State m o16 o17 (k.val + 1) (arg14.view.writes (Elt Ideal) f14 L.1) (arg15.view.writes (Elt Ideal) f15 L.2.1)
      (arg16.view.writes (Elt Ideal) f16 L.2.2.1) (arg17.view.writes (Elt Ideal) f17 L.2.2.2.1) (arg18.view.writes (Elt Ideal) f18 L.2.2.2.2) := by
  have hZ0 (p : ℕ) (hp : p < 4) (i1) (i2) (i3) (i4) (i5) := vZ_mat (d := false) hmp hmg (z_even_mat hS.h18 p hp i1) (w_even_mat hS.h18 p i2)
    (ps_load hS.h14 (2 * p) i3) (pg_load hS.h14 (2 * p) i4) (t_load hX.h5 (2 * p) i5)
  have hZ1 (p : ℕ) (hp : p < 4) (i1) (i2) (i3) (i4) (i5) := vZ_mat (d := false) hmp hmg (z_odd_mat hS.h18 p hp i1) (w_odd_mat hS.h18 p i2)
    (ps_load hS.h14 (2 * p + 1) i3) (pg_load hS.h14 (2 * p + 1) i4) (t_load hX.h5 (2 * p + 1) i5)
  have hW0 (p : ℕ) (hp : p < 4) (i1) (i3) (i5) := vW_mat (d := false) hmp (z_even_mat hS.h18 p hp i1)
    (ps_load hS.h14 (2 * p) i3) (t_load hX.h5 (2 * p) i5)
  have hW1 (p : ℕ) (hp : p < 4) (i1) (i3) (i5) := vW_mat (d := false) hmp (z_odd_mat hS.h18 p hp i1)
    (ps_load hS.h14 (2 * p + 1) i3) (t_load hX.h5 (2 * p + 1) i5)
  have hP0 (p : ℕ) (hp : p < 4) (inb) (inb') := ps_next hmp (z_even_mat hS.h18 p hp inb) (ps_load hS.h14 (2 * p) inb')
  have hP1 (p : ℕ) (hp : p < 4) (inb) (inb') := ps_next hmp (z_odd_mat hS.h18 p hp inb) (ps_load hS.h14 (2 * p + 1) inb')
  have hQ0 (p : ℕ) (hp : p < 4) (i1) (i2) (i3) (i4) (i5) := pg_next hmp hmg (z_even_mat hS.h18 p hp i1) (w_even_mat hS.h18 p i2)
    (ps_load hS.h14 (2 * p) i3) (pg_load hS.h14 (2 * p) i4) (t_load hX.h5 (2 * p) i5)
  have hQ1 (p : ℕ) (hp : p < 4) (i1) (i2) (i3) (i4) (i5) := pg_next hmp hmg (z_odd_mat hS.h18 p hp i1) (w_odd_mat hS.h18 p i2)
    (ps_load hS.h14 (2 * p + 1) i3) (pg_load hS.h14 (2 * p + 1) i4) (t_load hX.h5 (2 * p + 1) i5)
  intro L
  refine ⟨?_, ?_, ?_, ?_, ?_⟩ <;> simp only [L, tripL_k0_t1] <;> unfold trip_k0_t1 <;> dsimp only
  · refine pg_store 7 (hQ1 3 (by decide) _ _ _ _ _) <| ps_store 7 (hP1 3 (by decide) _ _) <| pg_store 6 (hQ0 3 (by decide) _ _ _ _ _) <|
      ps_store 6 (hP0 3 (by decide) _ _) <| pg_store 5 (hQ1 2 (by decide) _ _ _ _ _) <| ps_store 5 (hP1 2 (by decide) _ _) <|
      pg_store 4 (hQ0 2 (by decide) _ _ _ _ _) <| ps_store 4 (hP0 2 (by decide) _ _) <| pg_store 3 (hQ1 1 (by decide) _ _ _ _ _) <|
      ps_store 3 (hP1 1 (by decide) _ _) <| pg_store 2 (hQ0 1 (by decide) _ _ _ _ _) <| ps_store 2 (hP0 1 (by decide) _ _) <|
      pg_store 1 (hQ1 0 (by decide) _ _ _ _ _) <| ps_store 1 (hP1 0 (by decide) _ _) <| pg_store 0 (hQ0 0 (by decide) _ _ _ _ _) <|
      ps_store 0 (hP0 0 (by decide) _ _) <| held_none (by decide)
  · have ho (n : ℕ) (inb) (r l) := load hS.h15 (n := n) (by simp) inb r l
    have hD (n : ℕ) (hn : n < 4) {off} (he : off = ![128 * k.val, 128 * n]) (i0) (i1) (i2) (i3) (i4) (i5) (i6) (i7) (i8) (inb) (r l : Fin 128) :=
      (dq_next (tile_load hX.h2 n k.val he i0) (hZ0 n hn i1 i2 i3 i4 i5) (hZ1 n hn i1 i2 i6 i7 i8) (o := m.g15 k.val n) (ho n inb) r l).trans
        (congrArg (fun x : ℝ => (x : EReal)) (m.g15_succ k.val n r l).symm)
    refine store (hD 3 (by decide) (off8 i k) _ _ _ _ _ _ _ _ _ _) <| store (hD 2 (by decide) (off7 i k) _ _ _ _ _ _ _ _ _ _) <|
      store (hD 1 (by decide) (off6 i k) _ _ _ _ _ _ _ _ _ _) <| store (hD 0 (by decide) (off5 i k) _ _ _ _ _ _ _ _ _ _) <| held_none (by decide)
  · have hD (n : ℕ) (hn : n < 4) {off} (he : off = ![128 * k.val, 128 * n]) (i0) (i1) (i2) (i3) (i4) (i5) (i6) (i7) (i8) (inb) (r l : Fin 128) :=
      (dk_next (fun r l => load hX.h13 (n := n) (by simp) i0 r l) hn (hZ0 n hn i1 i2 i3 i4 i5) (hZ1 n hn i1 i2 i6 i7 i8)
        (o := fun r l => m.g16 o16 k.val (128 * k.val + r.val) (128 * n + l.val)) (tile_load hS.h16 n k.val he inb) r l).trans
        (congrArg (fun x : ℝ => (x : EReal)) (m.g16_here o16 k.val n r l).symm)
    refine heldT_all <| storeT (n := 3) (off8 i k) rfl rfl (hD 3 (by decide) (off8 i k) _ _ _ _ _ _ _ _ _ _) <|
      storeT (n := 2) (off7 i k) rfl rfl (hD 2 (by decide) (off7 i k) _ _ _ _ _ _ _ _ _ _) <|
      storeT (n := 1) (off6 i k) rfl rfl (hD 1 (by decide) (off6 i k) _ _ _ _ _ _ _ _ _ _) <|
      storeT (n := 0) (off5 i k) rfl rfl (hD 0 (by decide) (off5 i k) _ _ _ _ _ _ _ _ _ _) <|
      heldT_of (fun s e => hS.h16 s e (by simp)) (fun s e h => congrArg (fun x : ℝ => (x : EReal)) (m.g16_else o16 k.val s e h)) (N := 4) rfl (by decide)
  · have hD (n : ℕ) (hn : n < 4) {off} (he : off = ![128 * k.val, 128 * n]) (i0) (i1) (i3) (i5) (i6) (i8) (inb) (r l : Fin 128) :=
      (dv_next (fun r l => load hX.h13 (n := 4 + n) (by simp) i0 r l) (hW0 n hn i1 i3 i5) (hW1 n hn i1 i6 i8)
        (o := fun r l => m.g17 o17 k.val (128 * k.val + r.val) (128 * n + l.val)) (tile_load hS.h17 n k.val he inb) r l).trans
        (congrArg (fun x : ℝ => (x : EReal)) (m.g17_here o17 k.val n r l).symm)
    refine heldT_all <| storeT (n := 3) (off8 i k) rfl rfl (hD 3 (by decide) (off8 i k) _ _ _ _ _ _ _) <|
      storeT (n := 2) (off7 i k) rfl rfl (hD 2 (by decide) (off7 i k) _ _ _ _ _ _ _) <|
      storeT (n := 1) (off6 i k) rfl rfl (hD 1 (by decide) (off6 i k) _ _ _ _ _ _ _) <|
      storeT (n := 0) (off5 i k) rfl rfl (hD 0 (by decide) (off5 i k) _ _ _ _ _ _ _) <|
      heldT_of (fun s e => hS.h17 s e (by simp)) (fun s e h => congrArg (fun x : ℝ => (x : EReal)) (m.g17_else o17 k.val s e h)) (N := 4) rfl (by decide)
  · have hz (n : ℕ) (hn : n < 4) {off} (he : off = ![128 * (k.val + 1), 128 * n]) (i0) (i1) :=
      z_next (m := m) n hn (fun r l => load hX.h11 (n := n) (by simp) i0 r l) (tile_load hX.h2 n (k.val + 1) he i1)
    have hw (n : ℕ) {off} (he : off = ![128 * (k.val + 1), 128 * n]) (i0) (i1) :=
      w_next (m := m) n (fun r l => load hX.h12 (n := n) (by simp) i0 r l) (tile_load hX.h3 n (k.val + 1) he i1)
    refine store (hw 3 (off4 i k) _ _) <| store (hw 2 (off3 i k) _ _) <| store (hw 1 (off2 i k) _ _) <| store (hw 0 (off1 i k) _ _) <|
      store (hz 3 (by decide) (off4 i k) _ _) <| store (hz 2 (by decide) (off3 i k) _ _) <| store (hz 1 (by decide) (off2 i k) _ _) <|
      store (hz 0 (by decide) (off1 i k) _ _) <| held_none (by decide)
end

end Cert.SB

end
-- ==== Proof.SB.Start.lean ====
/-
  What one point of the stick-breaking attention's backward writes into its scratch buffers before the loop over the keys.
-/
module

public import proofs.«01_k».proof.Proof.SB.Trip

@[expose] public noncomputable section

open Idealize.ShloMosaic Idealize.ShloMosaic.TcCoe
open Cert.Kernel2Ideal Cert.Kernel2Ideal.Gen Cert.Coe Cert.Store

namespace Cert.SB

/-! ## The vectors -/

/-- One matrix of a stack. -/
def pOne (x : FVec Ideal S128x128 .bf16) : FVec Ideal S1x128x128 .bf16 := shapeCast S1x128x128 x shapeCasts_S128x128_S1x128x128

/-- A pair of heads stacked. -/
def pH (x : FVec Ideal S128x128 .bf16) : FVec Ideal S1x256x128 .bf16 :=
  shapeCast S1x256x128 (concatenate (α := EReal) S256x128 0 [⟨S128x128, select k0_pay343 x (broadcast S128x128 (Scalar.sitofp (F := Ideal) .bf16 0#32))⟩,
    ⟨S128x128, select k0_pay343 (broadcast S128x128 (Scalar.sitofp (F := Ideal) .bf16 0#32)) x⟩] concatenates_S128x128_S128x128_S256x128_d0) shapeCasts_S256x128_S1x256x128

theorem scale_mat {x : FVec Ideal S128x128 .bf16} {f : Fin 128 → Fin 128 → ℝ} (h : Mat x f) : Mat (k0_pay345 x) fun r l => f r l * (1 / 8) := by
  intro r l
  pointwise [k0_pay345]
  rw [h r l, ofBits_eighth, ← EReal.coe_mul]

theorem one_mat {x : FVec Ideal S128x128 .bf16} {f : Fin 128 → Fin 128 → ℝ} (h : Mat x f) : Mat3 (pOne x) f := by
  intro r l
  rw [← h r l]
  pointwise [pOne]

theorem pH_mat {x : FVec Ideal S128x128 .bf16} {f : Fin 128 → Fin 128 → ℝ} (h : Mat x f) : Mat3 (pH x) (byHead f) := by
  intro u l
  rw [← heads_mat h u l]
  pointwise [pH, k0_pay42]

/-! ## The buffers -/

section
variable {arg1 : Memref sig .tc .vmem S128x512 .bf16} {arg4 : Memref sig .tc .vmem S128x512 .f32} {arg2 arg3 : Memref sig .tc .vmem S2048x512 .bf16}
  {arg5 : Memref sig .tc .vmem S128x1024 .f32} {arg11 arg12 : Memref sig .tc .vmem S4x128x128 .bf16} {arg13 : Memref sig .tc .vmem S8x256x128 .bf16}
  {arg14 : Memref sig .tc .vmem S16x128x128 .f32} {arg15 : Memref sig .tc .vmem S4x128x128 .f32} {arg16 arg17 : Memref sig .tc .vmem S2048x512 .f32}
  {arg18 : Memref sig .tc .vmem S8x128x256 .f32}

theorem in_tile {n : ℕ} (h : n < 4) : ∀ a, (![0, 128 * n] : Fin 2 → ℕ) a + (![128, 128] : Fin 2 → ℕ) a ≤ S128x512.size a := fun a => by
  fin_cases a
  · exact le_refl 128
  · show 128 * n + 128 ≤ 512; omega

theorem in_key {n : ℕ} (h : n < 4) : ∀ a, (![0, 128 * n] : Fin 2 → ℕ) a + (![128, 128] : Fin 2 → ℕ) a ≤ S2048x512.size a := fun a => by
  fin_cases a
  · show 0 + 128 ≤ 2048; omega
  · show 128 * n + 128 ≤ 512; omega

theorem in_pair {n : ℕ} (h : n < 4) : ∀ a, (![n, 0, 0] : Fin 3 → ℕ) a + (![1, 128, 128] : Fin 3 → ℕ) a ≤ S4x128x128.size a := fun a => by
  fin_cases a
  · show n + 1 ≤ 4; omega
  · exact le_refl 128
  · exact le_refl 128

theorem in_heads {n : ℕ} (h : n < 8) : ∀ a, (![n, 0, 0] : Fin 3 → ℕ) a + (![1, 256, 128] : Fin 3 → ℕ) a ≤ S8x256x128.size a := fun a => by
  fin_cases a
  · show n + 1 ≤ 8; omega
  · exact le_refl 256
  · exact le_refl 128

theorem in_prod {n : ℕ} (h : n < 8) : ∀ a, (![n, 0, 0] : Fin 3 → ℕ) a + (![1, 128, 256] : Fin 3 → ℕ) a ≤ S8x128x256.size a := fun a => by
  fin_cases a
  · show n + 1 ≤ 8; omega
  · exact le_refl 128
  · exact le_refl 256

/-- A pair of heads' columns of a block of rows. -/
def tileOf {φ : EltTy} {arg : Memref sig .tc .vmem S128x512 φ} (X : BufTy.Contents (Elt Ideal) arg.view.ty) (n : ℕ) (h : n < 4) : S128x128.Idx → Elt Ideal φ :=
  arg.view.readAt (Elt Ideal) (Rect.unit (s := S128x512) ![0, 128 * n] ![128, 128] (in_tile h)).toLoadRect X

/-- A pair of heads' columns of the first block of keys. -/
def keyOf {φ : EltTy} {arg : Memref sig .tc .vmem S2048x512 φ} (X : BufTy.Contents (Elt Ideal) arg.view.ty) (n : ℕ) (h : n < 4) : S128x128.Idx → Elt Ideal φ :=
  arg.view.readAt (Elt Ideal) (Rect.unit (s := S2048x512) ![0, 128 * n] ![128, 128] (in_key h)).toLoadRect X

/-- One pair of heads of a stack of them. -/
def pairOf {φ : EltTy} {arg : Memref sig .tc .vmem S4x128x128 φ} (X : BufTy.Contents (Elt Ideal) arg.view.ty) (n : ℕ) (h : n < 4) : S1x128x128.Idx → Elt Ideal φ :=
  arg.view.readAt (Elt Ideal) (Rect.unit (s := S4x128x128) ![n, 0, 0] ![1, 128, 128] (in_pair h)).toLoadRect X

/-- The scaled queries, as written. -/
def qPieces (X1 : BufTy.Contents (Elt Ideal) arg1.view.ty) : List (View.Piece (Elt Ideal) S4x128x128 .bf16) :=
  let f (n : ℕ) (h : n < 4) : View.Piece (Elt Ideal) S4x128x128 .bf16 := ⟨Rect.unit (s := S4x128x128) ![n, 0, 0] ![1, 128, 128] (in_pair h), pOne (k0_pay345 (tileOf X1 n h))⟩
  [f 3 (by decide), f 2 (by decide), f 1 (by decide), f 0 (by decide)]

/-- The incoming gradient, as written. -/
def dPieces (X4 : BufTy.Contents (Elt Ideal) arg4.view.ty) : List (View.Piece (Elt Ideal) S4x128x128 .bf16) :=
  let f (n : ℕ) (h : n < 4) : View.Piece (Elt Ideal) S4x128x128 .bf16 := ⟨Rect.unit (s := S4x128x128) ![n, 0, 0] ![1, 128, 128] (in_pair h), pOne (k0_pay346 (tileOf X4 n h))⟩
  [f 3 (by decide), f 2 (by decide), f 1 (by decide), f 0 (by decide)]

/-- Both stacked by head, as written. -/
def hPieces (X1 : BufTy.Contents (Elt Ideal) arg1.view.ty) (X4 : BufTy.Contents (Elt Ideal) arg4.view.ty) : List (View.Piece (Elt Ideal) S8x256x128 .bf16) :=
  let f (n : ℕ) (h : n < 4) : View.Piece (Elt Ideal) S8x256x128 .bf16 :=
    ⟨Rect.unit (s := S8x256x128) ![n, 0, 0] ![1, 256, 128] (in_heads (by omega)), pH (k0_pay345 (tileOf X1 n h))⟩
  let g (n : ℕ) (h : n < 4) : View.Piece (Elt Ideal) S8x256x128 .bf16 :=
    ⟨Rect.unit (s := S8x256x128) ![4 + n, 0, 0] ![1, 256, 128] (in_heads (by omega)), pH (k0_pay346 (tileOf X4 n h))⟩
  [g 3 (by decide), f 3 (by decide), g 2 (by decide), f 2 (by decide), g 1 (by decide), f 1 (by decide), g 0 (by decide), f 0 (by decide)]

/-- The products of the first block, as written. -/
def zPieces (X2 : BufTy.Contents (Elt Ideal) arg2.view.ty) (X3 : BufTy.Contents (Elt Ideal) arg3.view.ty) (X11 : BufTy.Contents (Elt Ideal) arg11.view.ty)
    (X12 : BufTy.Contents (Elt Ideal) arg12.view.ty) : List (View.Piece (Elt Ideal) S8x128x256 .f32) :=
  let f (n : ℕ) (h : n < 4) : View.Piece (Elt Ideal) S8x128x256 .f32 :=
    ⟨Rect.unit (s := S8x128x256) ![n, 0, 0] ![1, 128, 256] (in_prod (by omega)), pZ (pairOf X11 n h) (keyOf X2 n h)⟩
  let g (n : ℕ) (h : n < 4) : View.Piece (Elt Ideal) S8x128x256 .f32 :=
    ⟨Rect.unit (s := S8x128x256) ![4 + n, 0, 0] ![1, 128, 256] (in_prod (by omega)), pZ (pairOf X12 n h) (keyOf X3 n h)⟩
  [g 3 (by decide), g 2 (by decide), g 1 (by decide), g 0 (by decide), f 3 (by decide), f 2 (by decide), f 1 (by decide), f 0 (by decide)]

variable {m : Model} {X1 : BufTy.Contents (Elt Ideal) arg1.view.ty} {X4 : BufTy.Contents (Elt Ideal) arg4.view.ty}
  {X2 : BufTy.Contents (Elt Ideal) arg2.view.ty} {X3 : BufTy.Contents (Elt Ideal) arg3.view.ty} {X5 : BufTy.Contents (Elt Ideal) arg5.view.ty}

theorem tile_mat {φ : EltTy} {arg : Memref sig .tc .vmem S128x512 φ} {X : BufTy.Contents (Elt Ideal) arg.view.ty} {G : ℕ → ℕ → Elt Ideal φ}
    (h : HeldT (arg.view.read (Elt Ideal) X) G 16 []) (n : ℕ) (hn : n < 4) (r c : Fin 128) : tileOf X n hn (ix2 r c) = G r.val (128 * n + c.val) := by
  refine (loadT (m := 0) (n := n) h (by simp) rfl rfl rfl (in_tile hn) r c).trans ?_
  rw [Nat.mul_zero, Nat.zero_add]

theorem key_mat {φ : EltTy} {arg : Memref sig .tc .vmem S2048x512 φ} {X : BufTy.Contents (Elt Ideal) arg.view.ty} {G : ℕ → ℕ → Elt Ideal φ}
    (h : HeldT (arg.view.read (Elt Ideal) X) G 16 []) (n : ℕ) (hn : n < 4) (r c : Fin 128) :
    keyOf X n hn (ix2 r c) = G (128 * 0 + r.val) (128 * n + c.val) :=
  loadT (m := 0) (n := n) h (by simp) rfl rfl rfl (in_key hn) r c

/-- What the point's inputs hold. -/
structure Inputs (m : Model) (q : ℕ → ℕ → ℝ) (X1 : BufTy.Contents (Elt Ideal) arg1.view.ty) (X2 : BufTy.Contents (Elt Ideal) arg2.view.ty)
    (X3 : BufTy.Contents (Elt Ideal) arg3.view.ty) (X4 : BufTy.Contents (Elt Ideal) arg4.view.ty) (X5 : BufTy.Contents (Elt Ideal) arg5.view.ty) : Prop where
  h1 : HeldT (arg1.view.read (Elt Ideal) X1) (im2 q) 16 []
  h2 : HeldT (arg2.view.read (Elt Ideal) X2) (im2 m.K) 16 []
  h3 : HeldT (arg3.view.read (Elt Ideal) X3) (im2 m.V) 16 []
  h4 : HeldT (arg4.view.read (Elt Ideal) X4) (im2 m.D) 16 []
  h5 : HeldT (arg5.view.read (Elt Ideal) X5) (im2 m.T) 16 []
  hq : ∀ r e, m.Q r e = q r e * (1 / 8)

variable {q : ℕ → ℕ → ℝ}

/-- What the buffers filled before the loop hold. -/
theorem fixed (h : Inputs m q X1 X2 X3 X4 X5) :
    Fixed m X2 X3 X5 (arg11.view.writes (Elt Ideal) arg11.view.junk (qPieces X1)) (arg12.view.writes (Elt Ideal) arg12.view.junk (dPieces X4))
      (arg13.view.writes (Elt Ideal) arg13.view.junk (hPieces X1 X4)) := by
  have hq (n : ℕ) (hn : n < 4) : Mat (φ := .bf16) (k0_pay345 (tileOf X1 n hn)) fun r l => m.Q r.val (128 * n + l.val) := by
    simp only [h.hq]
    exact scale_mat (tile_mat h.h1 n hn)
  have hd (n : ℕ) (hn : n < 4) : Mat (φ := .bf16) (k0_pay346 (tileOf X4 n hn)) fun r l => m.D r.val (128 * n + l.val) := fun r c => by
    rw [← show _ = (m.D r.val (128 * n + c.val) : EReal) from tile_mat h.h4 n hn r c]
    pointwise [k0_pay346]
  have h1 (n : ℕ) (hn : n < 4) := one_mat (hq n hn)
  have h2 (n : ℕ) (hn : n < 4) := one_mat (hd n hn)
  have h3 (n : ℕ) (hn : n < 4) := pH_mat (hq n hn)
  have h4 (n : ℕ) (hn : n < 4) := pH_mat (hd n hn)
  simp only [← m.g13_d] at h4
  refine ⟨h.h2, h.h3, h.h5, ?_, ?_, ?_⟩
  · exact store (h1 3 (by decide)) <| store (h1 2 (by decide)) <| store (h1 1 (by decide)) <| store (h1 0 (by decide)) <| held_none (by decide)
  · exact store (h2 3 (by decide)) <| store (h2 2 (by decide)) <| store (h2 1 (by decide)) <| store (h2 0 (by decide)) <| held_none (by decide)
  · have h3' (n : ℕ) (hn : n < 4) : Mat3 (pH (k0_pay345 (tileOf X1 n hn))) (m.g13 n) := by
      rw [m.g13_q hn]
      exact h3 n hn
    exact store (h4 3 (by decide)) <| store (h3' 3 (by decide)) <| store (h4 2 (by decide)) <| store (h3' 2 (by decide)) <|
      store (h4 1 (by decide)) <| store (h3' 1 (by decide)) <| store (h4 0 (by decide)) <| store (h3' 0 (by decide)) <| held_none (by decide)

/-- A fill of a whole buffer. -/
theorem fill {s : Shape} {sp : Space} {e : EltTy} (v : View sig .tc sp s e) (X : v.ty.Contents (Elt Ideal)) {off : Fin s.rank → ℕ} (h : ∀ a, off a = 0) (inb)
    (w : s.Idx → Elt Ideal e) (L : List (View.Piece (Elt Ideal) s e)) :
    v.read (Elt Ideal) (v.writes (Elt Ideal) X (⟨Rect.unit off s.size inb, w⟩ :: L)) = w := by
  funext p
  exact View.read_writes_cons_unit_of_mem v X inb w L p p rfl fun a => by rw [h, Nat.zero_add]

/-- The zeros the carried sums start at. -/
def sumPieces : List (View.Piece (Elt Ideal) S16x128x128 .f32) := [⟨Rect.unit ![0, 0, 0] S16x128x128.size inb_S16x128x128_S16x128x128_0_0_0, k0_pay377 (F := Ideal)⟩]

/-- The zeros the queries' gradient starts at. -/
def accPieces : List (View.Piece (Elt Ideal) S4x128x128 .f32) := [⟨Rect.unit ![0, 0, 0] S4x128x128.size inb_S4x128x128_S4x128x128_0_0_0, k0_pay378 (F := Ideal)⟩]

theorem zeros3 (a : Fin 3) : (![0, 0, 0] : Fin 3 → ℕ) a = 0 := by fin_cases a <;> rfl

/-- What the buffers written in the loop hold before it. -/
theorem start (arg13 : Memref sig .tc .vmem S8x256x128 .bf16) (h : Inputs m q X1 X2 X3 X4 X5) {o16 o17 : ℕ → ℕ → ℝ} {X16 : BufTy.Contents (Elt Ideal) arg16.view.ty} {X17 : BufTy.Contents (Elt Ideal) arg17.view.ty}
    (h16 : HeldT (arg16.view.read (Elt Ideal) X16) (im2 o16) 16 []) (h17 : HeldT (arg17.view.read (Elt Ideal) X17) (im2 o17) 16 []) :
    State m o16 o17 0 (arg14.view.writes (Elt Ideal) arg14.view.junk sumPieces) (arg15.view.writes (Elt Ideal) arg15.view.junk accPieces) X16 X17
      (arg18.view.writes (Elt Ideal) arg18.view.junk (zPieces X2 X3 (arg11.view.writes (Elt Ideal) arg11.view.junk (qPieces X1))
        (arg12.view.writes (Elt Ideal) arg12.view.junk (dPieces X4)))) := by
  have hX := fixed (arg11 := arg11) (arg12 := arg12) (arg13 := arg13) h
  refine ⟨?_, ?_, ?_, ?_, ?_⟩
  · intro n _ r c
    refine (congrFun (fill (s := S16x128x128) _ _ zeros3 _ _ _) _).trans ?_
    have e : m.g14 0 n.val r c = 0 := by
      unfold Model.g14 Model.ps Model.pg
      simp
    pointwise [k0_pay377]
    rw [im3, e]
    exact EReal.coe_zero.symm
  · intro n _ r c
    refine (congrFun (fill (s := S4x128x128) _ _ zeros3 _ _ _) _).trans ?_
    pointwise [k0_pay378]
    rw [im3, show m.g15 0 n.val r c = 0 from by simp [Model.g15]]
    exact EReal.coe_zero.symm
  · rwa [show m.g16 o16 0 = o16 from by funext s e; simp [Model.g16]]
  · rwa [show m.g17 o17 0 = o17 from by funext s e; simp [Model.g17]]
  · have hz (n : ℕ) (hn : n < 4) := z_next (m := m) (j := 0) n hn (fun r l => load hX.h11 (n := n) (by simp) (in_pair hn) r l) (key_mat h.h2 n hn)
    have hw (n : ℕ) (hn : n < 4) := w_next (m := m) (j := 0) n (fun r l => load hX.h12 (n := n) (by simp) (in_pair hn) r l) (key_mat h.h3 n hn)
    exact store (hw 3 (by decide)) <| store (hw 2 (by decide)) <| store (hw 1 (by decide)) <| store (hw 0 (by decide)) <|
      store (hz 3 (by decide)) <| store (hz 2 (by decide)) <| store (hz 1 (by decide)) <| store (hz 0 (by decide)) <| held_none (by decide)

end

end Cert.SB

end
-- ==== Proof.SB.Diag.lean ====
/-
  The block of keys on the diagonal, and what a point of the stick-breaking attention's backward leaves in its outputs.
-/
module

public import proofs.«01_k».proof.Proof.SB.Start

@[expose] public noncomputable section

open Idealize.ShloMosaic Idealize.ShloMosaic.TcCoe
open Cert.Kernel2Ideal Cert.Kernel2Ideal.Gen Cert.Coe Cert.Store

namespace Cert.SB

/-! ## Reads and writes -/

/-- Where the four tiles of the diagonal block's row begin. -/
def diagOff (i : grid0.Coords) : ℕ → Fin 2 → ℕ
  | 0 => k0_off17 i
  | 1 => k0_off18 i
  | 2 => k0_off19 i
  | _ => k0_off20 i

theorem diagOff_eq (i : grid0.Coords) : (n : ℕ) → n < 4 → diagOff i n = ![128 * (i 0).val, 128 * n]
  | 0, _ => off17 i
  | 1, _ => off18 i
  | 2, _ => off19 i
  | 3, _ => off20 i

theorem in_diag (i : grid0.Coords) {n : ℕ} (h : n < 4) : ∀ a, diagOff i n a + (![128, 128] : Fin 2 → ℕ) a ≤ S2048x512.size a := fun a => by
  have hi : (i 0).val < 16 := (i 0).isLt
  rw [diagOff_eq i n h]
  fin_cases a
  · show 128 * (i 0).val + 128 ≤ 2048; omega
  · show 128 * n + 128 ≤ 512; omega

theorem in_sum {n : ℕ} (h : n < 16) : ∀ a, (![n, 0, 0] : Fin 3 → ℕ) a + (![1, 128, 128] : Fin 3 → ℕ) a ≤ S16x128x128.size a := fun a => by
  fin_cases a
  · show n + 1 ≤ 16; omega
  · exact le_refl 128
  · exact le_refl 128

theorem in_tot {n : ℕ} (h : n < 8) : ∀ a, (![0, 128 * n] : Fin 2 → ℕ) a + (![128, 128] : Fin 2 → ℕ) a ≤ S128x1024.size a := fun a => by
  fin_cases a
  · exact le_refl 128
  · show 128 * n + 128 ≤ 1024; omega

section
variable {arg2 : Memref sig .tc .vmem S2048x512 .bf16}
  {arg5 : Memref sig .tc .vmem S128x1024 .f32} {arg13 : Memref sig .tc .vmem S8x256x128 .bf16}
  {arg14 : Memref sig .tc .vmem S16x128x128 .f32} {arg15 : Memref sig .tc .vmem S4x128x128 .f32} {arg16 arg17 : Memref sig .tc .vmem S2048x512 .f32}
  {arg18 : Memref sig .tc .vmem S8x128x256 .f32}

/-- A tile of the diagonal block's row. -/
def diagTile {φ : EltTy} {arg : Memref sig .tc .vmem S2048x512 φ} (i : grid0.Coords) (X : BufTy.Contents (Elt Ideal) arg.view.ty) (n : ℕ) (h : n < 4) : S128x128.Idx → Elt Ideal φ :=
  arg.view.readAt (Elt Ideal) (Rect.unit (s := S2048x512) (diagOff i n) ![128, 128] (in_diag i h)).toLoadRect X

/-- A pair's products. -/
def prodOf (f : BufTy.Contents (Elt Ideal) arg18.view.ty) (n : ℕ) (h : n < 8) : S1x128x256.Idx → EReal :=
  arg18.view.readAt (Elt Ideal) (Rect.unit (s := S8x128x256) ![n, 0, 0] ![1, 128, 256] (in_prod h)).toLoadRect f

/-- A carried sum. -/
def sumOf (f : BufTy.Contents (Elt Ideal) arg14.view.ty) (n : ℕ) (h : n < 16) : S1x128x128.Idx → EReal :=
  arg14.view.readAt (Elt Ideal) (Rect.unit (s := S16x128x128) ![n, 0, 0] ![1, 128, 128] (in_sum h)).toLoadRect f

/-- A head's row sums. -/
def totOf (X : BufTy.Contents (Elt Ideal) arg5.view.ty) (n : ℕ) (h : n < 8) : S128x128.Idx → EReal :=
  arg5.view.readAt (Elt Ideal) (Rect.unit (s := S128x1024) ![0, 128 * n] ![128, 128] (in_tot h)).toLoadRect X

/-- A pair of heads stacked. -/
def headsOf (X : BufTy.Contents (Elt Ideal) arg13.view.ty) (n : ℕ) (h : n < 8) : FVec Ideal S1x256x128 .bf16 :=
  arg13.view.readAt (Elt Ideal) (Rect.unit (s := S8x256x128) ![n, 0, 0] ![1, 256, 128] (in_heads h)).toLoadRect X

variable (i : grid0.Coords) (mp mg : FVec Ideal S128x256 .bf16) (X2 : BufTy.Contents (Elt Ideal) arg2.view.ty)
  (X5 : BufTy.Contents (Elt Ideal) arg5.view.ty) (X13 : BufTy.Contents (Elt Ideal) arg13.view.ty) (f14 : BufTy.Contents (Elt Ideal) arg14.view.ty)
  (f18 : BufTy.Contents (Elt Ideal) arg18.view.ty)

/-- The scores' gradient of a pair's first head. -/
def dZ0 (n : ℕ) (h : n < 4) : FVec Ideal S128x128 .f32 :=
  vZ true mp mg (zl (prodOf f18 n (by omega))) (zl (prodOf f18 (4 + n) (by omega))) (sumOf f14 (2 * (2 * n)) (by omega)) (sumOf f14 (2 * (2 * n) + 1) (by omega))
    (totOf X5 (2 * n) (by omega))

/-- The scores' gradient of a pair's second head. -/
def dZ1 (n : ℕ) (h : n < 4) : FVec Ideal S128x128 .f32 :=
  vZ true mp mg (zr (prodOf f18 n (by omega))) (zr (prodOf f18 (4 + n) (by omega))) (sumOf f14 (2 * (2 * n + 1)) (by omega))
    (sumOf f14 (2 * (2 * n + 1) + 1) (by omega)) (totOf X5 (2 * n + 1) (by omega))

/-- The weights of a pair's first head. -/
def dW0 (n : ℕ) (h : n < 4) : FVec Ideal S128x128 .f32 :=
  vW true mp (zl (prodOf f18 n (by omega))) (sumOf f14 (2 * (2 * n)) (by omega)) (totOf X5 (2 * n) (by omega))

/-- The weights of a pair's second head. -/
def dW1 (n : ℕ) (h : n < 4) : FVec Ideal S128x128 .f32 :=
  vW true mp (zr (prodOf f18 n (by omega))) (sumOf f14 (2 * (2 * n + 1)) (by omega)) (totOf X5 (2 * n + 1) (by omega))

/-- The queries' gradient of the point, as written. -/
def outList (X : BufTy.Contents (Elt Ideal) arg15.view.ty) : List (View.Piece (Elt Ideal) S128x512 .bf16) :=
  let f (n : ℕ) (h : n < 4) : View.Piece (Elt Ideal) S128x512 .bf16 := ⟨Rect.unit (s := S128x512) ![0, 128 * n] ![128, 128] (in_tile h), k0_pay545 (pairOf X n h)⟩
  [f 3 (by decide), f 2 (by decide), f 1 (by decide), f 0 (by decide)]

/-! ## Their values -/

variable {i mp mg X2 X5 X13 f14 f18} {arg3 : Memref sig .tc .vmem S2048x512 .bf16} {arg11 arg12 : Memref sig .tc .vmem S4x128x128 .bf16}
  {X3 : BufTy.Contents (Elt Ideal) arg3.view.ty} {X11 : BufTy.Contents (Elt Ideal) arg11.view.ty} {X12 : BufTy.Contents (Elt Ideal) arg12.view.ty}
  {m : Model} {o16 o17 : ℕ → ℕ → ℝ} {X15 : BufTy.Contents (Elt Ideal) arg15.view.ty} {X16 : BufTy.Contents (Elt Ideal) arg16.view.ty}
  {X17 : BufTy.Contents (Elt Ideal) arg17.view.ty} {L15 : List (View.Piece (Elt Ideal) S4x128x128 .f32)} {L16 L17 : List (View.Piece (Elt Ideal) S2048x512 .f32)}
  (hmp : Mat mp upto) (hmg : Mat mg before) (hX : Fixed m X2 X3 X5 X11 X12 X13)
  (hS : State m o16 o17 (i 0).val f14 (arg15.view.writes (Elt Ideal) X15 L15) (arg16.view.writes (Elt Ideal) X16 L16) (arg17.view.writes (Elt Ideal) X17 L17) f18)

include hmp hmg hX hS

theorem dZ0_mat (n : ℕ) (h : n < 4) : Mat (dZ0 mp mg X5 f14 f18 n h) (m.Z true (2 * n) (i 0).val) :=
  vZ_mat hmp hmg (z_even_mat hS.h18 n h _) (w_even_mat hS.h18 n _) (ps_load hS.h14 (2 * n) _) (pg_load hS.h14 (2 * n) _) (t_load hX.h5 (2 * n) _)

theorem dZ1_mat (n : ℕ) (h : n < 4) : Mat (dZ1 mp mg X5 f14 f18 n h) (m.Z true (2 * n + 1) (i 0).val) :=
  vZ_mat hmp hmg (z_odd_mat hS.h18 n h _) (w_odd_mat hS.h18 n _) (ps_load hS.h14 (2 * n + 1) _) (pg_load hS.h14 (2 * n + 1) _) (t_load hX.h5 (2 * n + 1) _)

omit hmg in
theorem dW0_mat (n : ℕ) (h : n < 4) : Mat (dW0 mp X5 f14 f18 n h) (m.W true (2 * n) (i 0).val) :=
  vW_mat hmp (z_even_mat hS.h18 n h _) (ps_load hS.h14 (2 * n) _) (t_load hX.h5 (2 * n) _)

omit hmg in
theorem dW1_mat (n : ℕ) (h : n < 4) : Mat (dW1 mp X5 f14 f18 n h) (m.W true (2 * n + 1) (i 0).val) :=
  vW_mat hmp (z_odd_mat hS.h18 n h _) (ps_load hS.h14 (2 * n + 1) _) (t_load hX.h5 (2 * n + 1) _)

end

section
variable {arg2 : Memref sig .tc .vmem S2048x512 .bf16} {arg13 : Memref sig .tc .vmem S8x256x128 .bf16} {arg15 : Memref sig .tc .vmem S4x128x128 .f32}
  {arg16 : Memref sig .tc .vmem S2048x512 .f32} {i : grid0.Coords} {X2 : BufTy.Contents (Elt Ideal) arg2.view.ty} {X13 : BufTy.Contents (Elt Ideal) arg13.view.ty}
  {m : Model} {o : ℕ → ℕ → ℝ} {X15 : BufTy.Contents (Elt Ideal) arg15.view.ty} {X16 : BufTy.Contents (Elt Ideal) arg16.view.ty}
  {L15 : List (View.Piece (Elt Ideal) S4x128x128 .f32)} {L16 : List (View.Piece (Elt Ideal) S2048x512 .f32)} {n : ℕ} (h : n < 4)
  {z0 z1 : FVec Ideal S128x128 .f32}

/-- The queries' gradient with `k` pairs of the diagonal block in. -/
def midQ (m : Model) (j k n : ℕ) (r l : Fin 128) : ℝ := if n < k then m.g15 j n r l + m.dq true n j r l else m.g15 j n r l

/-- The keys' gradient with `k` pairs of the diagonal block in. -/
def midK (m : Model) (o : ℕ → ℕ → ℝ) (j k s e : ℕ) : ℝ :=
  if s / 128 = j ∧ e / 128 < k then m.g16 o j s e + m.dk true (e / 128) (s / 128) (Model.md s) (Model.md e) else m.g16 o j s e

/-- The values' gradient with `k` pairs of the diagonal block in. -/
def midV (m : Model) (o : ℕ → ℕ → ℝ) (j k s e : ℕ) : ℝ :=
  if s / 128 = j ∧ e / 128 < k then m.g17 o j s e + m.dv true (e / 128) (s / 128) (Model.md s) (Model.md e) else m.g17 o j s e

theorem dq_cons (hK : HeldT (arg2.view.read (Elt Ideal) X2) (im2 m.K) 16 []) (h0 : Mat z0 (m.Z true (2 * n) (i 0).val)) (h1 : Mat z1 (m.Z true (2 * n + 1) (i 0).val))
    (ih : Held (arg15.view.read (Elt Ideal) (arg15.view.writes (Elt Ideal) X15 L15)) (im3 (midQ m (i 0).val n)) []) :
    Held (arg15.view.read (Elt Ideal) (arg15.view.writes (Elt Ideal) X15 (⟨Rect.unit (s := S4x128x128) ![n, 0, 0] ![1, 128, 128] (in_pair h),
      pDQ (diagTile i X2 n h) z0 z1 (pairOf (arg15.view.writes (Elt Ideal) X15 L15) n h)⟩ :: L15))) (im3 (midQ m (i 0).val (n + 1))) [] := by
  refine store (fun r l => ?_) (fun a ha r l => ?_)
  · refine (dq_next (o := fun r l => m.g15 (i 0).val n r l) (tile_load hK n (i 0).val (diagOff_eq i n h) (in_diag i h)) h0 h1 (fun r l => ?_) r l).trans ?_
    · refine (load ih (by simp) (in_pair h) r l).trans ?_
      simp only [im3, midQ, lt_irrefl, if_false]
    · simp only [im3, midQ, if_pos (Nat.lt_succ_self n)]
  · have hne : a.val ≠ n := fun e => ha (e ▸ List.mem_cons_self)
    rw [ih a (by simp) r l]
    simp only [im3, midQ, Nat.lt_succ_iff_lt_or_eq, hne, or_false]

theorem dk_cons (hq : Held (arg13.view.read (Elt Ideal) X13) (im3 m.g13) []) (h0 : Mat z0 (m.Z true (2 * n) (i 0).val)) (h1 : Mat z1 (m.Z true (2 * n + 1) (i 0).val))
    (ih : HeldT (arg16.view.read (Elt Ideal) (arg16.view.writes (Elt Ideal) X16 L16)) (im2 (midK m o (i 0).val n)) 16 []) :
    HeldT (arg16.view.read (Elt Ideal) (arg16.view.writes (Elt Ideal) X16 (⟨Rect.unit (s := S2048x512) (diagOff i n) ![128, 128] (in_diag i h),
      pDK z0 z1 (headsOf X13 n (by omega)) (diagTile i (arg16.view.writes (Elt Ideal) X16 L16) n h)⟩ :: L16))) (im2 (midK m o (i 0).val (n + 1))) 16 [] := by
  refine heldT_all (storeT (n := n) (diagOff_eq i n h) rfl rfl (fun r l => ?_) (fun s e he => ?_))
  · refine (dk_next (o := fun r l => m.g16 o (i 0).val (128 * (i 0).val + r.val) (128 * n + l.val)) (fun r l => load hq (n := n) (by simp) (in_heads (by omega)) r l) h
      h0 h1 (fun r l => ?_) r l).trans ?_
    · refine (tile_load ih n (i 0).val (diagOff_eq i n h) (in_diag i h) r l).trans ?_
      simp only [im2, midK, Model.div_tile, lt_irrefl, and_false, if_false]
    · simp only [im2, midK, Model.div_tile, Model.md_tile, Nat.lt_succ_self, and_self, if_true]
  · rw [ih s e (by simp)]
    by_cases hs : s.val / 128 = (i 0).val
    · have hne : e.val / 128 ≠ n := fun h => he hs (h ▸ List.mem_cons_self)
      simp only [im2, midK, Nat.lt_succ_iff_lt_or_eq, hne, or_false]
    · simp only [im2, midK, hs, false_and, if_false]

theorem dv_cons (hq : Held (arg13.view.read (Elt Ideal) X13) (im3 m.g13) []) (h0 : Mat z0 (m.W true (2 * n) (i 0).val)) (h1 : Mat z1 (m.W true (2 * n + 1) (i 0).val))
    (ih : HeldT (arg16.view.read (Elt Ideal) (arg16.view.writes (Elt Ideal) X16 L16)) (im2 (midV m o (i 0).val n)) 16 []) :
    HeldT (arg16.view.read (Elt Ideal) (arg16.view.writes (Elt Ideal) X16 (⟨Rect.unit (s := S2048x512) (diagOff i n) ![128, 128] (in_diag i h),
      pDK z0 z1 (headsOf X13 (4 + n) (by omega)) (diagTile i (arg16.view.writes (Elt Ideal) X16 L16) n h)⟩ :: L16))) (im2 (midV m o (i 0).val (n + 1))) 16 [] := by
  refine heldT_all (storeT (n := n) (diagOff_eq i n h) rfl rfl (fun r l => ?_) (fun s e he => ?_))
  · refine (dv_next (o := fun r l => m.g17 o (i 0).val (128 * (i 0).val + r.val) (128 * n + l.val)) (fun r l => load hq (n := 4 + n) (by simp) (in_heads (by omega)) r l)
      h0 h1 (fun r l => ?_) r l).trans ?_
    · refine (tile_load ih n (i 0).val (diagOff_eq i n h) (in_diag i h) r l).trans ?_
      simp only [im2, midV, Model.div_tile, lt_irrefl, and_false, if_false]
    · simp only [im2, midV, Model.div_tile, Model.md_tile, Nat.lt_succ_self, and_self, if_true]
  · rw [ih s e (by simp)]
    by_cases hs : s.val / 128 = (i 0).val
    · have hne : e.val / 128 ≠ n := fun h => he hs (h ▸ List.mem_cons_self)
      simp only [im2, midV, Nat.lt_succ_iff_lt_or_eq, hne, or_false]
    · simp only [im2, midV, hs, false_and, if_false]

theorem midQ_zero (m : Model) (j : ℕ) : midQ m j 0 = m.g15 j := by
  funext n r l
  simp [midQ]

theorem midK_zero (m : Model) (o : ℕ → ℕ → ℝ) (j : ℕ) : midK m o j 0 = m.g16 o j := by
  funext s e
  simp [midK]

theorem midV_zero (m : Model) (o : ℕ → ℕ → ℝ) (j : ℕ) : midV m o j 0 = m.g17 o j := by
  funext s e
  simp [midV]

/-- The queries' gradient of the block, at one of its rows and columns. -/
def outQ (m : Model) (j r e : ℕ) : ℝ := (m.g15 j (e / 128) (Model.md r) (Model.md e) + m.dq true (e / 128) j (Model.md r) (Model.md e)) * (1 / 8)

/-- The queries' gradient of the point. -/
theorem outList_held (ih : Held (arg15.view.read (Elt Ideal) X15) (im3 (midQ m (i 0).val 4)) []) {v8 : View sig .tc .vmem S128x512 .bf16} {X8 : BufTy.Contents (Elt Ideal) v8.ty} (r : Fin 128) (e : Fin 512) :
    v8.read (Elt Ideal) (v8.writes (Elt Ideal) X8 (outList X15)) (ix2 r e)
      = ((outQ m (i 0).val r.val e.val : ℝ) : EReal) := by
  have hw (n : ℕ) (hn : n < 4) (r c : Fin 128) : k0_pay545 (F := Ideal) (pairOf X15 n hn) (ix2 r c)
      = im2 (outQ m (i 0).val) (128 * 0 + r.val) (128 * n + c.val) := by
    have e := load ih (n := n) (by simp) (in_pair hn) r c
    pointwise [k0_pay545]
    refine (congrArg (fun x : EReal => x * _) e).trans ?_
    simp only [im2, outQ, Model.div_tile, Model.md_tile]
    rw [im3, midQ, if_pos hn, ofBits_eighth, ← EReal.coe_mul, show Model.md r.val = r from Fin.ext (Nat.mod_eq_of_lt r.isLt)]
  refine (?_ : HeldT _ (im2 (outQ m (i 0).val)) 0 []) r e (by simp)
  refine storeT (n := 3) (off := ![0, 128 * 3]) rfl rfl rfl (hw 3 (by decide)) <| storeT (n := 2) (off := ![0, 128 * 2]) rfl rfl rfl (hw 2 (by decide)) <|
    storeT (n := 1) (off := ![0, 128 * 1]) rfl rfl rfl (hw 1 (by decide)) <| storeT (n := 0) (off := ![0, 128 * 0]) rfl rfl rfl (hw 0 (by decide)) <| ?_
  intro s c hs
  have : c.val < 512 := c.isLt
  have hc : c.val / 128 = 0 ∨ c.val / 128 = 1 ∨ c.val / 128 = 2 ∨ c.val / 128 = 3 := by omega
  have := hs (by have : s.val < 128 := s.isLt; omega)
  simp only [List.mem_cons, List.not_mem_nil, or_false] at this
  omega

end

end Cert.SB

end
-- ==== Proof.SB.Math.lean ====
/-
  The stick-breaking attention's gradients over the reals, row by row, and that the blocks the kernel sums add up to them.
-/
module

public import proofs.«01_k».proof.Proof.SB.Diag

@[expose] public noncomputable section

namespace Cert.SB

open Finset

/-! ## The gradients -/

section
variable (q k v g : ℕ → ℕ → ℝ)

/-- The scores of a head. -/
def sc (h i s : ℕ) : ℝ := (∑ l ∈ range 64, q i (64 * h + l) * k s (64 * h + l)) * (1 / 8)

/-- The gradient of a head's weights. -/
def gw (h i s : ℕ) : ℝ := ∑ l ∈ range 64, g i (64 * h + l) * v s (64 * h + l)

/-- The sum of a row's logarithms. -/
def rowTot (h i : ℕ) : ℝ := ∑ s ∈ range i, sp (sc q k h i s)

/-- The weight of a key before the query. -/
def wt (h i s : ℕ) : ℝ := Real.exp (ls (sc q k h i s) - (rowTot q k h i - ∑ u ∈ range (s + 1), sp (sc q k h i u)))

/-- A weight times its gradient. -/
def gwt (h i s : ℕ) : ℝ := gw v g h i s * wt q k h i s

/-- The gradient of a score. -/
def gsc (h i s : ℕ) : ℝ := gwt q k v g h i s - (gwt q k v g h i s + ∑ u ∈ range s, gwt q k v g h i u) * Real.exp (ls (sc q k h i s))

/-- The gradient of the queries. -/
def gq (i e : ℕ) : ℝ := (∑ s ∈ range i, gsc q k v g (e / 64) i s * k s e) * (1 / 8)

/-- The gradient of the keys. -/
def gk (s e : ℕ) : ℝ := ∑ i ∈ range 2048, if s < i then gsc q k v g (e / 64) i s * (q i e * (1 / 8)) else 0

/-- The gradient of the values. -/
def gv (s e : ℕ) : ℝ := ∑ i ∈ range 2048, if s < i then wt q k (e / 64) i s * g i e else 0

/-- A block of query rows. -/
def rows (t : ℕ) : Model where
  Q r e := q (128 * t + r) e * (1 / 8)
  D r e := g (128 * t + r) e
  K := k
  V := v
  T r e := rowTot q k (e / 128) (128 * t + r)

end

/-! ## Sums over blocks -/

theorem sum_blocks (f : ℕ → ℝ) (j : ℕ) : ∑ i ∈ range j, ∑ c : Fin 128, f (128 * i + c.val) = ∑ s ∈ range (128 * j), f s := by
  induction j with
  | zero => simp
  | succ j ih => rw [sum_range_succ, ih, Nat.mul_succ, sum_range_add, Fin.sum_univ_eq_sum_range (fun c => f (128 * j + c)) 128]

theorem sum_le (f : ℕ → ℝ) (c : Fin 128) : (∑ u : Fin 128, if u ≤ c then f u.val else 0) = ∑ u ∈ range (c.val + 1), f u := by
  have hc := c.isLt
  refine (Fin.sum_univ_eq_sum_range (fun u => if u ≤ c.val then f u else 0) 128).trans ?_
  rw [← sum_filter]
  congr 1
  ext u
  simp only [mem_filter, mem_range]
  omega

theorem sum_lt (f : ℕ → ℝ) (c : Fin 128) : (∑ u : Fin 128, if u < c then f u.val else 0) = ∑ u ∈ range c.val, f u := by
  have hc := c.isLt
  refine (Fin.sum_univ_eq_sum_range (fun u => if u < c.val then f u else 0) 128).trans ?_
  rw [← sum_filter]
  congr 1
  ext u
  simp only [mem_filter, mem_range]
  omega

/-- A row's sum of a pair's 128 columns, the other head's columns dropped. -/
theorem sum_head (f : ℕ → ℝ) (h : ℕ) :
    (∑ l : Fin 128, if (l.val < 64) = (h % 2 = 0) then f (128 * (h / 2) + l.val) else 0) = ∑ l ∈ range 64, f (64 * h + l) := by
  rw [Fin.sum_univ_eq_sum_range (fun l => if (l < 64) = (h % 2 = 0) then f (128 * (h / 2) + l) else 0) (64 + 64), sum_range_add]
  rcases Nat.mod_two_eq_zero_or_one h with e | e
  · rw [sum_congr rfl fun l hl => if_pos (by simp [e, mem_range.mp hl]), (sum_eq_zero fun l _ => if_neg (by simp [e])), add_zero]
    refine sum_congr rfl fun l _ => ?_
    rw [show 128 * (h / 2) + l = 64 * h + l by omega]
  · rw [(sum_eq_zero fun l hl => if_neg (by simp [e, mem_range.mp hl])), zero_add]
    refine sum_congr rfl fun l _ => ?_
    rw [if_pos (by simp [e]), show 128 * (h / 2) + (64 + l) = 64 * h + l by omega]

theorem prod_head (A B : ℕ → ℕ → ℝ) (h j : ℕ) (r c : Fin 128) :
    Model.prod A B (h / 2) j r (Model.side h c) = ∑ l ∈ range 64, A r.val (64 * h + l) * B (128 * j + c.val) (64 * h + l) := by
  rw [← sum_head (fun e => A r.val e * B (128 * j + c.val) e)]
  refine sum_congr rfl fun l _ => ?_
  unfold Model.side
  split_ifs with e1 e2 e2
  · rw [byHead_left]; simp_all
  · rw [byHead_left]; simp_all
  · rw [byHead_right]; simp_all
  · rw [byHead_right]; simp_all

/-! ## A block's scores, weights and gradients -/

section
variable {q k v g : ℕ → ℕ → ℝ} {t j : ℕ} {d : Bool}

/-- The block of keys `j` lies before the queries of block `t`, or it is their own. -/
def Lies (d : Bool) (j t : ℕ) : Prop := if d = true then j = t else j < t

theorem mk_lies (hd : Lies d j t) (r c : Fin 128) (x : ℝ) : mk d r c x = if 128 * j + c.val < 128 * t + r.val then x else 0 := by
  have hr := r.isLt
  have hc := c.isLt
  cases d
  · have : j < t := by simpa [Lies] using hd
    rw [mk, if_neg (by simp), if_pos (by omega)]
  · have : j = t := by simpa [Lies] using hd
    subst this
    simp only [mk, true_and, Fin.lt_def]
    split_ifs <;> first | rfl | omega

theorem z_rows (h j : ℕ) (r c : Fin 128) : (rows q k v g t).z h j r c = sc q k h (128 * t + r.val) (128 * j + c.val) := by
  rw [Model.z, prod_head, sc, sum_mul]
  refine sum_congr rfl fun l _ => ?_
  simp only [rows]
  ring

theorem w_rows (h j : ℕ) (r c : Fin 128) : (rows q k v g t).w h j r c = gw v g h (128 * t + r.val) (128 * j + c.val) := by
  rw [Model.w, prod_head, gw]
  rfl

theorem t_rows (h : ℕ) (r c : Fin 128) : (rows q k v g t).t h r c = rowTot q k h (128 * t + r.val) := by
  have : (128 * h + c.val) / 128 = h := Model.div_tile h c
  simp only [Model.t, rows, this]

theorem s_rows (hd : Lies d j t) (h : ℕ) (r c : Fin 128) : rS d ((rows q k v g t).z h j) r c
    = if 128 * j + c.val < 128 * t + r.val then sp (sc q k h (128 * t + r.val) (128 * j + c.val)) else 0 := by
  rw [rS, mk_lies hd, z_rows]

theorem ps_rows (h : ℕ) (hj : j ≤ t) (r c : Fin 128) : (rows q k v g t).ps h j r c = ∑ s ∈ range (128 * j), sp (sc q k h (128 * t + r.val) s) := by
  rw [Model.ps, ← sum_blocks]
  refine sum_congr rfl fun i hi => sum_congr rfl fun c _ => ?_
  have hi := mem_range.mp hi
  have hc := c.isLt
  rw [s_rows (by simp only [Lies]; simp; omega), if_pos (by omega)]

theorem W_rows (hd : Lies d j t) (h : ℕ) (r c : Fin 128) : rW d ((rows q k v g t).z h j) ((rows q k v g t).ps h j) ((rows q k v g t).t h) r c
    = if 128 * j + c.val < 128 * t + r.val then wt q k h (128 * t + r.val) (128 * j + c.val) else 0 := by
  have hj : j ≤ t := by unfold Lies at hd; split_ifs at hd <;> omega
  rw [rW, mk_lies hd]
  refine if_ctx_congr Iff.rfl (fun hs => ?_) fun _ => rfl
  have e : (∑ u : Fin 128, if u ≤ c then rS d ((rows q k v g t).z h j) r u else 0)
      = ∑ u ∈ range (c.val + 1), sp (sc q k h (128 * t + r.val) (128 * j + u)) := by
    rw [← sum_le (fun u => sp (sc q k h (128 * t + r.val) (128 * j + u)))]
    refine sum_congr rfl fun u _ => if_ctx_congr Iff.rfl (fun hu => ?_) fun _ => rfl
    have := Fin.le_def.mp hu
    rw [s_rows hd, if_pos (by omega)]
  rw [e, ps_rows h hj, t_rows, z_rows, wt, ← sum_range_add (fun s => sp (sc q k h (128 * t + r.val) s)) (128 * j) (c.val + 1), ← add_assoc]

theorem G_rows (hd : Lies d j t) (h : ℕ) (r c : Fin 128) :
    rG d ((rows q k v g t).z h j) ((rows q k v g t).w h j) ((rows q k v g t).ps h j) ((rows q k v g t).t h) r c
      = if 128 * j + c.val < 128 * t + r.val then gwt q k v g h (128 * t + r.val) (128 * j + c.val) else 0 := by
  rw [rG, W_rows hd, w_rows, gwt, mul_ite, mul_zero]

theorem pg_rows (h : ℕ) (hj : j ≤ t) (r c : Fin 128) : (rows q k v g t).pg h j r c = ∑ s ∈ range (128 * j), gwt q k v g h (128 * t + r.val) s := by
  rw [Model.pg, ← sum_blocks]
  refine sum_congr rfl fun i hi => sum_congr rfl fun c _ => ?_
  have hi := mem_range.mp hi
  have hc := c.isLt
  rw [G_rows (by simp only [Lies]; simp; omega), if_pos (by omega)]

theorem Z_rows (hd : Lies d j t) (h : ℕ) (r c : Fin 128) : (rows q k v g t).Z d h j r c
    = if 128 * j + c.val < 128 * t + r.val then gsc q k v g h (128 * t + r.val) (128 * j + c.val) else 0 := by
  have hj : j ≤ t := by unfold Lies at hd; split_ifs at hd <;> omega
  rw [Model.Z, rZ, mk_lies hd]
  refine if_ctx_congr Iff.rfl (fun hs => ?_) fun _ => rfl
  have e : (∑ u : Fin 128, if u < c then rG d ((rows q k v g t).z h j) ((rows q k v g t).w h j) ((rows q k v g t).ps h j) ((rows q k v g t).t h) r u else 0)
      = ∑ u ∈ range c.val, gwt q k v g h (128 * t + r.val) (128 * j + u) := by
    rw [← sum_lt (fun u => gwt q k v g h (128 * t + r.val) (128 * j + u))]
    refine sum_congr rfl fun u _ => if_ctx_congr Iff.rfl (fun hu => ?_) fun _ => rfl
    have := Fin.lt_def.mp hu
    rw [G_rows hd, if_pos (by omega)]
  rw [e, G_rows hd, if_pos hs, pg_rows h hj, z_rows, gsc, sum_range_add, ← add_assoc]

theorem head_col (p : ℕ) (l : Fin 128) : Model.head p l = (128 * p + l.val) / 64 := by
  have := l.isLt
  unfold Model.head
  split_ifs <;> omega

/-! ## The gradients, block by block -/

theorem dq_rows (hd : Lies d j t) (p : ℕ) (r l : Fin 128) : (rows q k v g t).dq d p j r l
    = ∑ c : Fin 128, if 128 * j + c.val < 128 * t + r.val then
        gsc q k v g ((128 * p + l.val) / 64) (128 * t + r.val) (128 * j + c.val) * k (128 * j + c.val) (128 * p + l.val) else 0 := by
  rw [Model.dq]
  refine sum_congr rfl fun c _ => ?_
  rw [Z_rows hd, head_col, ite_mul, zero_mul]
  rfl

/-- The queries' gradient of a block. -/
theorem outQ_rows (r : Fin 128) (e : ℕ) : outQ (rows q k v g t) t r.val e = gq q k v g (128 * t + r.val) e := by
  have he : 128 * (e / 128) + (Model.md e).val = e := Nat.div_add_mod e 128
  have hr : Model.md r.val = r := Fin.ext (Nat.mod_eq_of_lt r.isLt)
  rw [outQ, gq, hr, Model.g15, dq_rows (d := true) (by simp [Lies])]
  congr 1
  rw [sum_range_add, ← sum_blocks]
  simp only [he]
  congr 1
  · refine sum_congr rfl fun i hi => ?_
    have hi := mem_range.mp hi
    rw [dq_rows (d := false) (by simpa [Lies] using hi)]
    refine sum_congr rfl fun c _ => ?_
    have hc := c.isLt
    rw [if_pos (by omega), he]
  · rw [← sum_lt (fun u => gsc q k v g (e / 64) (128 * t + r.val) (128 * t + u) * k (128 * t + u) e)]
    refine sum_congr rfl fun c _ => if_ctx_congr ?_ (fun _ => rfl) fun _ => rfl
    rw [Fin.lt_def]
    omega

end

/-- The carried keys' gradient, after `t` blocks of queries. -/
def carK (q k v g : ℕ → ℕ → ℝ) : ℕ → ℕ → ℕ → ℝ
  | 0 => fun _ _ => 0
  | t + 1 => midK (rows q k v g t) (carK q k v g t) t 4

/-- The carried values' gradient, after `t` blocks of queries. -/
def carV (q k v g : ℕ → ℕ → ℝ) : ℕ → ℕ → ℕ → ℝ
  | 0 => fun _ _ => 0
  | t + 1 => midV (rows q k v g t) (carV q k v g t) t 4

variable {q k v g : ℕ → ℕ → ℝ}

theorem carK_eq (t s e : ℕ) (he : e < 512) :
    carK q k v g t s e = ∑ i ∈ range (128 * t), if s < i then gsc q k v g (e / 64) i s * (q i e * (1 / 8)) else 0 := by
  have hs : 128 * (s / 128) + (Model.md s).val = s := Nat.div_add_mod s 128
  have he' : 128 * (e / 128) + (Model.md e).val = e := Nat.div_add_mod e 128
  induction t with
  | zero => simp [carK]
  | succ t ih =>
    have hk (d : Bool) (hd : Lies d (s / 128) t) : (rows q k v g t).dk d (e / 128) (s / 128) (Model.md s) (Model.md e)
        = ∑ r : Fin 128, if s < 128 * t + r.val then gsc q k v g (e / 64) (128 * t + r.val) s * (q (128 * t + r.val) e * (1 / 8)) else 0 := by
      rw [Model.dk]
      refine sum_congr rfl fun r _ => ?_
      rw [Z_rows hd, head_col, ite_mul, zero_mul, hs, he']
      simp only [rows, he']
    rw [Nat.mul_succ, sum_range_add, ← ih, ← Fin.sum_univ_eq_sum_range (fun i => if s < 128 * t + i then gsc q k v g (e / 64) (128 * t + i) s * (q (128 * t + i) e * (1 / 8)) else 0) 128]
    simp only [carK, midK, Model.g16]
    rcases lt_trichotomy (s / 128) t with h | h | h
    · rw [if_neg (by omega), if_pos h, hk false (by simpa [Lies] using h)]
    · rw [if_pos ⟨h, by omega⟩, if_neg (by omega), hk true (by simpa [Lies] using h)]
    · rw [if_neg (by omega), if_neg (by omega), sum_eq_zero fun r _ => if_neg (by have := r.isLt; omega), add_zero]

theorem carV_eq (t s e : ℕ) (he : e < 512) :
    carV q k v g t s e = ∑ i ∈ range (128 * t), if s < i then wt q k (e / 64) i s * g i e else 0 := by
  have hs : 128 * (s / 128) + (Model.md s).val = s := Nat.div_add_mod s 128
  have he' : 128 * (e / 128) + (Model.md e).val = e := Nat.div_add_mod e 128
  induction t with
  | zero => simp [carV]
  | succ t ih =>
    have hk (d : Bool) (hd : Lies d (s / 128) t) : (rows q k v g t).dv d (e / 128) (s / 128) (Model.md s) (Model.md e)
        = ∑ r : Fin 128, if s < 128 * t + r.val then wt q k (e / 64) (128 * t + r.val) s * g (128 * t + r.val) e else 0 := by
      rw [Model.dv]
      refine sum_congr rfl fun r _ => ?_
      rw [Model.W, W_rows hd, head_col, ite_mul, zero_mul, hs, he']
      simp only [rows]
    rw [Nat.mul_succ, sum_range_add, ← ih, ← Fin.sum_univ_eq_sum_range (fun i => if s < 128 * t + i then wt q k (e / 64) (128 * t + i) s * g (128 * t + i) e else 0) 128]
    simp only [carV, midV, Model.g17]
    rcases lt_trichotomy (s / 128) t with h | h | h
    · rw [if_neg (by omega), if_pos h, hk false (by simpa [Lies] using h)]
    · rw [if_pos ⟨h, by omega⟩, if_neg (by omega), hk true (by simpa [Lies] using h)]
    · rw [if_neg (by omega), if_neg (by omega), sum_eq_zero fun r _ => if_neg (by have := r.isLt; omega), add_zero]

end Cert.SB

end
-- ==== Proof.SB.Cumsum.lean ====
/-
  The running sums of the reference: a window sum along the last axis of a rank-three array, from the padding's zero, is the sum
  of the entries that the window covers.
-/
module

public import proofs.«01_k».proof.Proof.Coe
public import Idealize.ShloMosaic.Lib.ValueIdx
public import Idealize.ShloMosaic.Lib.Pointwise

@[expose] public noncomputable section

namespace Cert.SB

open Finset Idealize.ShloMosaic

theorem foldl_add {ι : Type*} (l : List ι) (g : EReal → ι → EReal) (f : ι → ℝ) (h : ∀ r n, g r n = r + ((f n : ℝ) : EReal)) (v : ℝ) :
    l.foldl g (v : EReal) = ((v + (l.map f).sum : ℝ) : EReal) := by
  induction l generalizing v with
  | nil => simp
  | cons a l ih => rw [List.foldl_cons, h, ← EReal.coe_add, ih, List.map_cons, List.sum_cons, add_assoc]

/-- The entries of a window of the last axis, the padding dropped. -/
theorem window_sum {A B N L H : ℕ} (x : FVec Ideal ⟨3, ![A, B, N]⟩ .f32) (f : ℕ → ℝ) (a : Fin A) (b : Fin B)
    (hx : ∀ i : Fin N, x (ix3 a b i) = ((f i.val : ℝ) : EReal)) {u : Shape} (init : FVec Ideal u .f32) (hi : ∀ i, init i = ((0 : ℝ) : EReal))
    (h : (⟨3, ![A, B, N]⟩ : Shape).ReduceWindows (![1, 1, N] : Fin 3 → ℕ) ![1, 1, 1] ![0, 0, L] ![0, 0, H] ⟨3, ![A, B, N]⟩) (hu : 0 < u.numel) (j : Fin N) :
    Host.reduceWindowAdd ![1, 1, N] ![1, 1, 1] ![0, 0, L] ![0, 0, H] x init h hu (ix3 a b j)
      = ((∑ n ∈ range N, if L ≤ j.val + n ∧ j.val + n - L < N then f (j.val + n - L) else 0 : ℝ) : EReal) := by
  have hn : (⟨3, ![1, 1, N]⟩ : Shape).numel = N := by simp [Shape.numel, Fin.prod_univ_three]
  have hw (n : Fin (⟨3, ![1, 1, N]⟩ : Shape).numel) : ((⟨3, ![1, 1, N]⟩ : Shape).rowMajor.symm n 0).val = 0
      ∧ ((⟨3, ![1, 1, N]⟩ : Shape).rowMajor.symm n 1).val = 0 ∧ ((⟨3, ![1, 1, N]⟩ : Shape).rowMajor.symm n 2).val = n.val := by
    have e := congrArg Fin.val ((⟨3, ![1, 1, N]⟩ : Shape).rowMajor.apply_symm_apply n)
    rw [Shape.rowMajor_val_three] at e
    have h0 : ((⟨3, ![1, 1, N]⟩ : Shape).rowMajor.symm n 0).val < 1 := ((⟨3, ![1, 1, N]⟩ : Shape).rowMajor.symm n 0).isLt
    have h1 : ((⟨3, ![1, 1, N]⟩ : Shape).rowMajor.symm n 1).val < 1 := ((⟨3, ![1, 1, N]⟩ : Shape).rowMajor.symm n 1).isLt
    have z0 : ((⟨3, ![1, 1, N]⟩ : Shape).rowMajor.symm n 0).val = 0 := by omega
    have z1 : ((⟨3, ![1, 1, N]⟩ : Shape).rowMajor.symm n 1).val = 0 := by omega
    rw [z0, z1] at e
    exact ⟨z0, z1, by simpa using e⟩
  show Host.reduceWindow (· + ·) ![1, 1, N] ![1, 1, 1] ![0, 0, L] ![0, 0, H] x _ h _ (ix3 a b j) = _
  unfold Host.reduceWindow
  dsimp only
  rw [hi, foldl_add _ _ (fun n => if L ≤ j.val + n.val ∧ j.val + n.val - L < N then f (j.val + n.val - L) else 0), zero_add]
  · congr 1
    rw [← List.ofFn_eq_map, List.sum_ofFn, Fin.sum_univ_eq_sum_range (fun n => if L ≤ j.val + n ∧ j.val + n - L < N then f (j.val + n - L) else 0), hn]
  · intro r n
    obtain ⟨w0, w1, w2⟩ := hw n
    congr 1
    have ha := a.isLt
    have hb := b.isLt
    by_cases hc : L ≤ j.val + n.val ∧ j.val + n.val - L < N
    · rw [if_pos hc, dif_pos]
      · rw [← hx ⟨j.val + n.val - L, hc.2⟩]
        refine congrArg x (funext fun d => Fin.ext ?_)
        match d with
        | ⟨0, _⟩ => show a.val * 1 + ((⟨3, ![1, 1, N]⟩ : Shape).rowMajor.symm n 0).val - 0 = a.val; rw [w0]; omega
        | ⟨1, _⟩ => show b.val * 1 + ((⟨3, ![1, 1, N]⟩ : Shape).rowMajor.symm n 1).val - 0 = b.val; rw [w1]; omega
        | ⟨2, _⟩ => show j.val * 1 + ((⟨3, ![1, 1, N]⟩ : Shape).rowMajor.symm n 2).val - L = j.val + n.val - L; rw [w2]; omega
      · intro d
        match d with
        | ⟨0, _⟩ => show 0 ≤ a.val * 1 + ((⟨3, ![1, 1, N]⟩ : Shape).rowMajor.symm n 0).val ∧ a.val * 1 + ((⟨3, ![1, 1, N]⟩ : Shape).rowMajor.symm n 0).val - 0 < A; rw [w0]; omega
        | ⟨1, _⟩ => show 0 ≤ b.val * 1 + ((⟨3, ![1, 1, N]⟩ : Shape).rowMajor.symm n 1).val ∧ b.val * 1 + ((⟨3, ![1, 1, N]⟩ : Shape).rowMajor.symm n 1).val - 0 < B; rw [w1]; omega
        | ⟨2, _⟩ => show L ≤ j.val * 1 + ((⟨3, ![1, 1, N]⟩ : Shape).rowMajor.symm n 2).val ∧ j.val * 1 + ((⟨3, ![1, 1, N]⟩ : Shape).rowMajor.symm n 2).val - L < N; rw [w2]; omega
    · rw [if_neg hc, dif_neg]
      intro hin
      have h2 : L ≤ j.val * 1 + ((⟨3, ![1, 1, N]⟩ : Shape).rowMajor.symm n 2).val ∧ j.val * 1 + ((⟨3, ![1, 1, N]⟩ : Shape).rowMajor.symm n 2).val - L < N := hin 2
      rw [w2] at h2
      omega

/-- The entries from `j` on. -/
theorem sum_from {N : ℕ} (f : ℕ → ℝ) (j : ℕ) (hj : j < N) :
    (∑ n ∈ range N, if 0 ≤ j + n ∧ j + n - 0 < N then f (j + n - 0) else 0) = ∑ s ∈ range N, f s - ∑ s ∈ range j, f s := by
  rw [← sum_filter, show (range N).filter (fun n => 0 ≤ j + n ∧ j + n - 0 < N) = range (N - j) by ext; simp only [mem_filter, mem_range]; omega]
  obtain ⟨k, rfl⟩ : ∃ k, N = j + k := ⟨N - j, by omega⟩
  rw [sum_range_add, add_sub_cancel_left, Nat.add_sub_cancel_left]
  rfl

/-- The entries up to `j`. -/
theorem sum_upto_of {N : ℕ} (f : ℕ → ℝ) (j : ℕ) (hj : j < N + 1) :
    (∑ n ∈ range (N + 1), if N ≤ j + n ∧ j + n - N < N + 1 then f (j + n - N) else 0) = ∑ s ∈ range (j + 1), f s := by
  rw [← sum_filter]
  refine sum_bij' (fun n _ => j + n - N) (fun s _ => s + N - j) ?_ ?_ ?_ ?_ ?_ <;> intro n hn <;> simp only [mem_filter, mem_range] at hn ⊢ <;> first | omega | rfl

end Cert.SB

end
-- ==== Proof.SB.Ref.lean ====
/-
  The reference's results for real arguments, stage by stage: differentiation of the attention's forward lines gives the
  gradients of the stick-breaking attention.
-/
module

public import proofs.«01_k».proof.Proof.SB.Math
public import proofs.«01_k».proof.Proof.SB.Cumsum
public import proofs.«01_k».proof.Proof.Gen.Reference2Ideal.Read
public import Idealize.ShloMosaic.Lib.Tactic

@[expose] public noncomputable section

set_option maxRecDepth 16384

namespace Cert.SB

open Finset Cert.Reference2Ideal Cert.Reference2Ideal.Gen Cert.Reference2Ideal.Read Cert.Coe Idealize.ShloMosaic

/-! ## The softplus -/

theorem sp_sub (x : ℝ) : sp x - sp (-x) = x := by
  unfold sp
  rw [abs_neg]
  rcases le_total x 0 with h | h
  · rw [max_eq_right h, max_eq_left (by linarith)]; ring
  · rw [max_eq_left h, max_eq_right (by linarith)]; ring

theorem exp_sp (x : ℝ) : Real.exp (sp x) = 1 + Real.exp x := by
  unfold sp
  rw [Real.exp_add, Real.exp_log (by positivity)]
  rcases le_total x 0 with h | h
  · rw [max_eq_right h, abs_of_nonpos h, Real.exp_zero, one_mul, neg_neg]
  · rw [max_eq_left h, abs_of_nonneg h, mul_add, mul_one, ← Real.exp_add, add_neg_cancel, Real.exp_zero, add_comm]

theorem exp_ls_add (x : ℝ) : Real.exp (ls x) + Real.exp (-x - sp (-x)) = 1 := by
  have h1 : ls x = x - sp x := rfl
  have h2 : -x - sp (-x) = -sp x := by linarith [sp_sub x]
  rw [h2, h1, sub_eq_add_neg, Real.exp_add, ← add_one_mul, Real.exp_neg, exp_sp, add_comm, mul_inv_cancel₀ (by positivity)]

/-- The softplus of a real number, as it prints. -/
theorem softplus_coe (x : ℝ) : (if (x : EReal) ≠ (x : EReal) then (x : EReal)
    else max (x : EReal) 0 + Ideal.log1p (Ideal.exp (-FloatOps.absf (F := Ideal) (φ := .f32) (x : EReal)))) = ((sp x : ℝ) : EReal) := by
  rw [if_neg (not_not.mpr rfl), ← zero_sub, ← sp_coe]
  rfl

theorem select_before {α : Type} {a b : ℕ} (ha : a < 2048) (hb : b < 2048) (x y : α) :
    Scalar.select (IntOp.cmpi .slt (BitVec.ofNat 32 a) (BitVec.ofNat 32 b)) x y = if a < b then x else y := by
  have e : IntOp.cmpi .slt (BitVec.ofNat 32 a) (BitVec.ofNat 32 b) = BitVec.ofBool (decide (a < b)) := by
    show BitVec.ofBool (BitVec.slt _ _) = _
    rw [BitVec.slt, WordArith.toInt_ofNat_small a (by omega), WordArith.toInt_ofNat_small b (by omega)]
    simp
  rw [e, Scalar.select_ofBool]
  simp

theorem ite_coe {p : Prop} [Decidable p] (a b : ℝ) : (if p then (a : EReal) else (b : EReal)) = ((if p then a else b : ℝ) : EReal) := by
  split_ifs <;> rfl

theorem if_coe_inf (x : ℝ) : (if (x : EReal) = Ideal.ofBits FTy.f32 0x7F800000#32 then 0 else (x : EReal)) = (x : EReal) := by
  rw [ofBits_inf, if_neg (EReal.coe_ne_top x)]

theorem ite_coe_zero {p : Prop} [Decidable p] (a : ℝ) : (if p then (a : EReal) else 0) = ((if p then a else 0 : ℝ) : EReal) := by
  split_ifs <;> rfl

variable {P D : ℕ → ℕ → ℝ}

/-- A sum of the entries before a row. -/
theorem sum_rows_before (f : ℕ → ℝ) {i n : ℕ} (h : i ≤ n) : (∑ s ∈ range n, if s < i then f s else 0) = ∑ s ∈ range i, f s := by
  rw [← sum_filter]
  congr 1
  ext u
  simp only [mem_filter, mem_range]
  omega

/-- The array of the projections. -/
def arrP (P : ℕ → ℕ → ℝ) : (⟨S2048x2304, .f32⟩ : BufTy).Contents (Elt Ideal) := fun i => ((P (i 0).val (i 1).val : ℝ) : EReal)

/-- The array of the output's gradient. -/
def arrD (D : ℕ → ℕ → ℝ) : (⟨S2048x512, .f32⟩ : BufTy).Contents (Elt Ideal) := fun i => ((D (i 0).val (i 1).val : ℝ) : EReal)

/-- The keys' columns. -/
def colK (P : ℕ → ℕ → ℝ) (s e : ℕ) : ℝ := P s (512 + e)

/-- The values' columns. -/
def colV (P : ℕ → ℕ → ℝ) (s e : ℕ) : ℝ := P s (1024 + e)

theorem v3_real (i : Fin 2048) (h : Fin 8) (d : Fin 64) :
    val_main_v3 (F := Ideal) (arrP P) (ix3 i h d) = ((P i.val (64 * h.val + d.val) : ℝ) : EReal) := by
  unfold val_main_v3 val_main_v0
  pointwise
  show ((P _ _ : ℝ) : EReal) = _
  rw [mul_comm 64]
  rfl

theorem v4_real (s : Fin 2048) (h : Fin 8) (d : Fin 64) :
    val_main_v4 (F := Ideal) (arrP P) (ix3 s h d) = ((colK P s.val (64 * h.val + d.val) : ℝ) : EReal) := by
  unfold val_main_v4 val_main_v1
  pointwise
  show ((P _ _ : ℝ) : EReal) = _
  rw [colK, mul_comm 64]
  rfl

theorem v5_real (s : Fin 2048) (h : Fin 8) (d : Fin 64) :
    val_main_v5 (F := Ideal) (arrP P) (ix3 s h d) = ((colV P s.val (64 * h.val + d.val) : ℝ) : EReal) := by
  unfold val_main_v5 val_main_v2
  pointwise
  show ((P _ _ : ℝ) : EReal) = _
  rw [colV, mul_comm 64]
  rfl

theorem v28_real (h : Fin 8) (d : Fin 64) (i : Fin 2048) :
    val_main_v28 (F := Ideal) (arrD D) (ix3 h d i) = ((D i.val (64 * h.val + d.val) : ℝ) : EReal) := by
  unfold val_main_v28 val_main_v27
  pointwise
  show ((D _ _ : ℝ) : EReal) = _
  rw [mul_comm 64]
  rfl

/-- The scores. -/
theorem v8_real (h : Fin 8) (i s : Fin 2048) :
    val_main_v8 (F := Ideal) (arrP P) (ix3 h i s) = ((sc P (colK P) h.val i.val s.val : ℝ) : EReal) := by
  unfold val_main_v8 val_main_v7 val_main_v6 val_main_cst
  pointwise
  simp only [v3_real, v4_real, ofBits_eighth, ← EReal.coe_mul, sum_coe]
  rw [sc, Fin.sum_univ_eq_sum_range (fun l => P i.val (64 * h.val + l) * colK P s.val (64 * h.val + l)) 64]

/-- Their softplus. -/
theorem v16_0_real (h : Fin 8) (i s : Fin 2048) :
    val_main_v16_0 (F := Ideal) (arrP P) (ix3 h i s) = ((sp (sc P (colK P) h.val i.val s.val) : ℝ) : EReal) := by
  unfold val_main_v16_0 val_main_call0_v11 val_main_call0_v10 val_main_call0_v9 val_main_call0_v8 val_main_call0_v7 val_main_call0_v6 val_main_call0_v5
    val_main_call0_v4 val_main_call0_v3 val_main_call0_v2 val_main_call0_v1 val_main_call0_v0 val_main_call0_cst
  pointwise
  rw [v8_real, softplus_coe]

/-- The softplus of the keys before the query. -/
theorem v17_0_real (h : Fin 8) (i s : Fin 2048) :
    val_main_v17_0 (F := Ideal) (arrP P) (ix3 h i s) = (((if s.val < i.val then sp (sc P (colK P) h.val i.val s.val) else 0) : ℝ) : EReal) := by
  unfold val_main_v17_0 val_main_v17_1 val_main_v15 val_main_v14 val_main_v13 val_main_v12 val_main_v11 val_main_v10 val_main_v9
    val_main_call1_v2 val_main_call1_v0 val_main_cst_0
  pointwise
  rw [v16_0_real, select_before s.isLt i.isLt, ← ite_coe, ← ofBits_zero]
  rfl

theorem v16_1_real (h : Fin 8) (i s : Fin 2048) :
    val_main_v16_1 (F := Ideal) (arrP P) (ix3 h i s) = ((Real.exp (ls (sc P (colK P) h.val i.val s.val)) : ℝ) : EReal) := by
  unfold val_main_v16_1 val_main_call0_v21 val_main_call0_v20 val_main_call0_v19 val_main_call0_v18 val_main_call0_v17 val_main_call0_v16
    val_main_call0_v15 val_main_call0_v14 val_main_call0_v13 val_main_call0_cst_0 val_main_call0_cst_1 val_main_call0_cst_2 val_main_call0_cst_3
  pointwise
  rw [v8_real, v16_0_real, if_coe_inf, if_coe_inf, ← EReal.coe_sub, Ideal.exp_coe, ls]

theorem v1_0_real (h : Fin 8) (i s : Fin 2048) :
    val_main_call3_v1_0 (F := Ideal) (arrP P) (ix3 h i s) = ((sp (-sc P (colK P) h.val i.val s.val) : ℝ) : EReal) := by
  unfold val_main_call3_v1_0 val_main_call3_call0_v11 val_main_call3_call0_v10 val_main_call3_call0_v9 val_main_call3_call0_v8 val_main_call3_call0_v7
    val_main_call3_call0_v6 val_main_call3_call0_v5
    val_main_call3_call0_v4 val_main_call3_call0_v3 val_main_call3_call0_v2 val_main_call3_call0_v1 val_main_call3_call0_v0 val_main_call3_call0_cst
    val_main_call3_v0
  pointwise
  rw [v8_real, ← EReal.coe_neg, softplus_coe]

theorem v20_1_real (h : Fin 8) (i s : Fin 2048) :
    val_main_v20_1 (F := Ideal) (arrP P) (ix3 h i s) = ((1 - Real.exp (ls (sc P (colK P) h.val i.val s.val)) : ℝ) : EReal) := by
  unfold val_main_v20_1 val_main_call3_call0_v21 val_main_call3_call0_v20 val_main_call3_call0_v19 val_main_call3_call0_v18 val_main_call3_call0_v17
    val_main_call3_call0_v16 val_main_call3_call0_v15 val_main_call3_call0_v14 val_main_call3_call0_v13 val_main_call3_call0_cst_0
    val_main_call3_call0_cst_1 val_main_call3_call0_cst_2 val_main_call3_call0_cst_3 val_main_call3_v0
  pointwise
  rw [v8_real, v1_0_real, ← EReal.coe_neg, if_coe_inf, if_coe_inf, ← EReal.coe_sub, Ideal.exp_coe]
  congr 1
  linarith [exp_ls_add (sc P (colK P) h.val i.val s.val)]

theorem v20_0_real (h : Fin 8) (i s : Fin 2048) :
    val_main_v20_0 (F := Ideal) (arrP P) (ix3 h i s) = ((ls (sc P (colK P) h.val i.val s.val) : ℝ) : EReal) := by
  unfold val_main_v20_0
  pointwise
  rw [v1_0_real, ← EReal.coe_neg, ls]
  congr 1
  linarith [sp_sub (sc P (colK P) h.val i.val s.val)]

/-- The softplus of the keys before the query, of the keys after a key. -/
theorem v19_real (h : Fin 8) (i s : Fin 2048) (hs : s.val < i.val) :
    val_main_v19 (F := Ideal) (arrP P) (ix3 h i s)
      = ((rowTot P (colK P) h.val i.val - ∑ u ∈ range (s.val + 1), sp (sc P (colK P) h.val i.val u) : ℝ) : EReal) := by
  unfold val_main_v19 val_main_v18
  pointwise
  rw [v17_0_real, window_sum _ (fun s => if s < i.val then sp (sc P (colK P) h.val i.val s) else 0) h i (fun s => v17_0_real h i s) _
    (fun _ => by unfold val_main_call2_v0 val_main_call2_cst; pointwise; rfl)]
  have e := sum_from (N := 2048) (fun s => if s < i.val then sp (sc P (colK P) h.val i.val s) else 0) s.val s.isLt
  beta_reduce at e
  rw [e, ← EReal.coe_sub, if_pos hs, rowTot, sum_range_succ _ s.val, sum_rows_before _ i.isLt.le, sum_congr rfl fun u hu => if_pos ((mem_range.mp hu).trans hs), sub_sub]

theorem v22_real (h : Fin 8) (i s : Fin 2048) (hs : s.val < i.val) :
    val_main_v22 (F := Ideal) (arrP P) (ix3 h i s) = ((wt P (colK P) h.val i.val s.val : ℝ) : EReal) := by
  unfold val_main_v22 val_main_v21
  pointwise
  rw [v20_0_real, v19_real h i s hs, ← EReal.coe_sub, Ideal.exp_coe, wt]

theorem v23_0_real (h : Fin 8) (i s : Fin 2048) :
    val_main_v23_0 (F := Ideal) (arrP P) (ix3 h i s) = (((if s.val < i.val then wt P (colK P) h.val i.val s.val else 0) : ℝ) : EReal) := by
  unfold val_main_v23_0 val_main_v23_1 val_main_v15 val_main_v14 val_main_v13 val_main_v12 val_main_v11 val_main_v10 val_main_v9
    val_main_call4_v2 val_main_call4_v0 val_main_cst_1
  pointwise
  rw [select_before s.isLt i.isLt, ← ite_coe]
  refine if_ctx_congr Iff.rfl (fun hs => v22_real h i s hs) fun _ => ?_
  exact ofBits_zero

/-- The gradient of the weights. -/
theorem v29_real (h : Fin 8) (i s : Fin 2048) :
    val_main_v29 (F := Ideal) (arrP P) (arrD D) (ix3 h i s) = ((gw (colV P) D h.val i.val s.val : ℝ) : EReal) := by
  unfold val_main_v29
  pointwise
  simp only [v28_real, v5_real, ← EReal.coe_mul, sum_coe]
  rw [gw, Fin.sum_univ_eq_sum_range (fun l => D i.val (64 * h.val + l) * colV P s.val (64 * h.val + l)) 64]

/-- The weights times their gradient. -/
theorem v33_real (h : Fin 8) (i s : Fin 2048) :
    val_main_v33 (F := Ideal) (arrP P) (arrD D) (ix3 h i s)
      = (((if s.val < i.val then gwt P (colK P) (colV P) D h.val i.val s.val else 0) : ℝ) : EReal) := by
  unfold val_main_v33 val_main_v32 val_main_v23_1 val_main_v15 val_main_v14 val_main_v13 val_main_v12 val_main_v11 val_main_v10 val_main_v9
    val_main_call5_v0 val_main_call5_cst
  pointwise
  rw [select_before s.isLt i.isLt, v29_real, ← ite_coe]
  split_ifs with hs
  · rw [v22_real h i s hs, ← EReal.coe_mul, gwt]
  · exact EReal.coe_zero.symm

/-- The running sum of the weights times their gradient. -/
theorem v37_real (h : Fin 8) (i s : Fin 2048) :
    val_main_v37 (F := Ideal) (arrP P) (arrD D) (ix3 h i s)
      = ((∑ u ∈ range (s.val + 1), -(if u < i.val then gwt P (colK P) (colV P) D h.val i.val u else 0) : ℝ) : EReal) := by
  unfold val_main_v37
  rw [window_sum _ (fun u => -(if u < i.val then gwt P (colK P) (colV P) D h.val i.val u else 0)) h i (fun s => by
      unfold val_main_v34; pointwise; rw [v33_real, ← EReal.coe_neg]) _
    (fun _ => by unfold val_main_call7_v0 val_main_call7_cst; pointwise; rfl)]
  exact congrArg _ (sum_upto_of (N := 2047) (fun u => -(if u < i.val then gwt P (colK P) (colV P) D h.val i.val u else 0)) s.val s.isLt)

/-- The gradient of the scores. -/
theorem v41_real (h : Fin 8) (i s : Fin 2048) :
    val_main_v41 (F := Ideal) (arrP P) (arrD D) (ix3 h i s)
      = (((if s.val < i.val then gsc P (colK P) (colV P) D h.val i.val s.val else 0) : ℝ) : EReal) := by
  unfold val_main_v41 val_main_v40 val_main_v39 val_main_v38 val_main_v36 val_main_v35 val_main_v34 val_main_call6_v1 val_main_call6_v0 val_main_v17_1 val_main_v15
    val_main_v14 val_main_v13 val_main_v12 val_main_v11 val_main_v10 val_main_v9 val_main_call8_v0 val_main_call8_cst
  pointwise
  rw [select_before s.isLt i.isLt, v33_real, v37_real, v16_1_real, v20_1_real]
  by_cases hs : s.val < i.val
  · have e : (∑ u ∈ range (s.val + 1), -(if u < i.val then gwt P (colK P) (colV P) D h.val i.val u else 0))
        = -∑ u ∈ range (s.val + 1), gwt P (colK P) (colV P) D h.val i.val u := by
      rw [← sum_neg_distrib]
      exact sum_congr rfl fun u hu => by rw [if_pos (by have := mem_range.mp hu; omega)]
    rw [e]
    simp only [if_pos hs, ← EReal.coe_neg, ← EReal.coe_mul, ← EReal.coe_add]
    congr 1
    rw [gsc, sum_range_succ]
    ring
  · simp only [if_neg hs, ← EReal.coe_neg, ← EReal.coe_mul, ← EReal.coe_zero, ← EReal.coe_add]
    congr 1
    ring

/-- The queries' gradient. -/
theorem v51_real (i : Fin 2048) (e : Fin 512) :
    val_main_v51 (F := Ideal) (arrP P) (arrD D) (ix2 i e) = ((gq P (colK P) (colV P) D i.val e.val : ℝ) : EReal) := by
  unfold val_main_v51 val_main_v50 val_main_v47 val_main_v46 val_main_v43 val_main_v42 val_main_cst_2
  pointwise
  simp only [v41_real, v4_real, ofBits_eighth, ← EReal.coe_mul, sum_coe, Nat.div_add_mod]
  congr 1
  rw [gq, ← sum_rows_before _ i.isLt.le, sum_mul,
    Fin.sum_univ_eq_sum_range (fun s => (if s < i.val then gsc P (colK P) (colV P) D (e.val / 64) i.val s else 0) * (1 / 8) * colK P s e.val) 2048]
  refine sum_congr rfl fun s _ => ?_
  split_ifs <;> ring

/-- The keys' gradient. -/
theorem v52_real (s : Fin 2048) (e : Fin 512) :
    val_main_v52 (F := Ideal) (arrP P) (arrD D) (ix2 s e) = ((gk P (colK P) (colV P) D s.val e.val : ℝ) : EReal) := by
  unfold val_main_v52 val_main_v49 val_main_v45 val_main_v44 val_main_v43 val_main_v42 val_main_cst_2
  pointwise
  simp only [v41_real, v3_real, ofBits_eighth, ← EReal.coe_mul, sum_coe, Nat.div_add_mod]
  congr 1
  rw [gk, Fin.sum_univ_eq_sum_range (fun i => (if s.val < i then gsc P (colK P) (colV P) D (e.val / 64) i s.val else 0) * (1 / 8) * P i e.val) 2048]
  refine sum_congr rfl fun i _ => ?_
  split_ifs <;> ring

/-- The values' gradient. -/
theorem v53_real (s : Fin 2048) (e : Fin 512) :
    val_main_v53 (F := Ideal) (arrP P) (arrD D) (ix2 s e) = ((gv P (colK P) D s.val e.val : ℝ) : EReal) := by
  unfold val_main_v53 val_main_v48 val_main_v31 val_main_v30
  pointwise
  simp only [v28_real, v23_0_real, ← EReal.coe_mul, sum_coe, Nat.div_add_mod]
  congr 1
  rw [gv, Fin.sum_univ_eq_sum_range (fun i => D i e.val * (if s.val < i then wt P (colK P) (e.val / 64) i s.val else 0)) 2048]
  refine sum_congr rfl fun i _ => ?_
  split_ifs <;> ring

end Cert.SB

end
-- ==== Proof.SB.Host.lean ====
/-
  What the host hands the kernel: the projections, the rows' sums of logarithms in all lanes of their head, and the two
  triangles of ones.
-/
module

public import proofs.«01_k».proof.Proof.SB.Ref
public import proofs.«01_k».proof.Proof.Gen.Kernel2Ideal.Value
public import Idealize.ShloMosaic.Lib.StableHlo.ReadAt

@[expose] public noncomputable section

set_option maxRecDepth 16384

namespace Cert.SB

open Finset Cert.Kernel2Ideal Cert.Kernel2Ideal.Gen Cert.Coe Idealize.ShloMosaic Idealize.ShloMosaic.TcCoe

variable (m : (ℓ : Loc nD τ sig) → Buf (Elt Ideal) ℓ) (c : Dev nD)
variable {P : ℕ → ℕ → ℝ} (HP : m ((c : Thread nD τ).loc main_arg0) = arrP P)

theorem arg_real (i : Fin 2048) (e : Fin 2304) (h : m ((c : Thread nD τ).loc main_arg0) = arrP P) :
    m (c, Proc.tc.devRef main_arg0) (ix2 i e) = ((P i.val e.val : ℝ) : EReal) := congrFun h (ix2 i e)

include HP in
/-- The projections. -/
theorem v33_host (i : Fin 2048) (e : Fin 2304) : V m c main_v33 (ix2 i e) = ((P i.val e.val : ℝ) : EReal) := by
  unfold V
  simp only [hostOps0, hostOps0_1, hostOps0_2, hostOps0_3, hostOps0_4, List.flatten_cons, List.flatten_nil, List.append_nil, List.cons_append, List.nil_append]
  after_reads_at
  exact arg_real m c i e HP

theorem one_of_word {p : Prop} [Decidable p] : FloatOps.uitofp (F := Ideal) FTy.bf16 (BitVec.ofBool (decide p)) = (((if p then 1 else 0) : ℝ) : EReal) := by
  have e (w : BitVec 1) : FloatOps.uitofp (F := Ideal) FTy.bf16 w = (((w.toNat : ℕ) : ℝ) : EReal) := rfl
  rw [e]
  by_cases h : p <;> simp [h]

theorem sle_word {a b : ℕ} (ha : a < 256) (hb : b < 256) :
    IntOp.cmpi .sle (BitVec.ofNat 32 a) (BitVec.ofNat 32 b) = BitVec.ofBool (decide (a ≤ b)) := by
  show BitVec.ofBool (BitVec.sle _ _) = _
  rw [BitVec.sle, WordArith.toInt_ofNat_small a (by omega), WordArith.toInt_ofNat_small b (by omega)]
  simp

theorem slt_word {a b : ℕ} (ha : a < 256) (hb : b < 256) :
    IntOp.cmpi .slt (BitVec.ofNat 32 a) (BitVec.ofNat 32 b) = BitVec.ofBool (decide (a < b)) := by
  show BitVec.ofBool (BitVec.slt _ _) = _
  rw [BitVec.slt, WordArith.toInt_ofNat_small a (by omega), WordArith.toInt_ofNat_small b (by omega)]
  simp

/-- The triangle of ones with the diagonal. -/
theorem v8_host (r : Fin 128) (j : Fin 256) : V m c main_v8 (ix2 r j) = ((upto r j : ℝ) : EReal) := by
  unfold V
  simp only [hostOps0, hostOps0_1, hostOps0_2, hostOps0_3, hostOps0_4, List.flatten_cons, List.flatten_nil, List.append_nil, List.cons_append, List.nil_append]
  after_reads_at
  rw [sle_word (r.isLt.trans (by decide)) j.isLt, one_of_word, upto]
  split_ifs <;> rfl

/-- The triangle of ones without the diagonal. -/
theorem v11_host (r : Fin 128) (j : Fin 256) : V m c main_v11 (ix2 r j) = ((before r j : ℝ) : EReal) := by
  unfold V
  simp only [hostOps0, hostOps0_1, hostOps0_2, hostOps0_3, hostOps0_4, List.flatten_cons, List.flatten_nil, List.append_nil, List.cons_append, List.nil_append]
  after_reads_at
  rw [slt_word (r.isLt.trans (by decide)) j.isLt, one_of_word, before]
  split_ifs <;> rfl

/-- The rows' sums, off any table of the projections. -/
theorem tot_of (a : Fin 2048 → Fin 2304 → EReal) (h : ∀ i e, a i e = ((P i.val e.val : ℝ) : EReal)) {o : EReal} (ho : o = 0) (i : Fin 2048) (n : ℕ)
    (hn : n < 8) (z : Fin 2048 → EReal) (hz : ∀ s, z s = (∑ l : Fin 64, a i ⟨n * 64 + l.val, by have := l.isLt; omega⟩ * a s ⟨512 + (n * 64 + l.val), by
      have := l.isLt; omega⟩) * Ideal.ofBits FTy.f32 0x3E000000#32) :
    ∑ s : Fin 2048, Scalar.select (IntOp.cmpi .slt (BitVec.ofNat 32 s.val) (BitVec.ofNat 32 i.val)) (if z s ≠ z s then z s
      else max (z s) 0 + Ideal.log1p (Ideal.exp (-FloatOps.absf (F := Ideal) (φ := .f32) (z s)))) o = ((rowTot P (colK P) n i.val : ℝ) : EReal) := by
  have hz' (s : Fin 2048) : z s = ((sc P (colK P) n i.val s.val : ℝ) : EReal) := by
    rw [hz]
    simp only [h, ofBits_eighth, ← EReal.coe_mul, sum_coe]
    rw [sc, ← Fin.sum_univ_eq_sum_range (fun l => P i.val (64 * n + l) * colK P s.val (64 * n + l)) 64]
    simp only [colK, mul_comm 64]
  simp only [hz', softplus_coe]
  rw [rowTot, ← sum_rows_before _ i.isLt.le, ← Fin.sum_univ_eq_sum_range (fun s => if s < i.val then sp (sc P (colK P) n i.val s) else 0) 2048, ← sum_coe]
  refine sum_congr rfl fun s _ => ?_
  rw [select_before s.isLt i.isLt, ← ite_coe]
  exact if_ctx_congr Iff.rfl (fun _ => rfl) fun _ => ho

include HP in
/-- The rows' sums of logarithms, in every lane of their head. -/
theorem v32_host (i : Fin 2048) (e : Fin 1024) : V m c main_v32 (ix2 i e) = ((rowTot P (colK P) (e.val / 128) i.val : ℝ) : EReal) := by
  unfold V
  simp only [hostOps0, hostOps0_1, hostOps0_2, hostOps0_3, hostOps0_4, List.flatten_cons, List.flatten_nil, List.append_nil, List.cons_append, List.nil_append]
  after_reads_at
  exact tot_of (fun i e => m (c, Proc.tc.devRef main_arg0) (ix2 i e)) (fun i e => arg_real m c i e HP) ofBits_zero i (e.val / 128)
    (by have := e.isLt; omega) _ fun s => rfl

end Cert.SB

end
-- ==== Proof.SB.Blocks.lean ====
/-
  The blocks a point of the stick-breaking attention's backward reads: a tile of queries and of the result's gradients, all
  keys and values, a tile of the rows' sums, the triangles of ones.
-/
module

public import proofs.«01_k».proof.Proof.SB.Host
public import proofs.«01_k».proof.Proof.SB.Math
public import proofs.«01_k».proof.Proof.SB.Start
public import Idealize.ShloMosaic.Lib.Pipeline.ValueKit

@[expose] public section

set_option maxRecDepth 16384

noncomputable section

namespace Cert.SB

open Cert.Kernel2Ideal Cert.Kernel2Ideal.Gen Cert.Coe Cert.Store Idealize.ShloMosaic Idealize.ShloMosaic.TcCoe

variable (m : (ℓ : Loc nD τ sig) → Buf (Elt Ideal) ℓ) (c : Dev nD)
variable {P D : ℕ → ℕ → ℝ} (HP : m ((c : Thread nD τ).loc main_arg0) = arrP P) (HD : m ((c : Thread nD τ).loc main_arg1) = arrD D)

/-- Row `r` of tile `p`. -/
def at128 (p : Fin cfg0.N) (r : Fin 128) : Fin 2048 := ⟨128 * p.val + r.val, by have := p.isLt; have : cfg0.N = 16 := N_0; omega⟩

theorem idx : ∀ p : Fin cfg0.N, win0_0.index p = ![p.val, 0] ∧ win0_1.index p = ![0, 1] ∧ win0_2.index p = ![0, 2]
    ∧ win0_3.index p = ![p.val, 0] ∧ win0_4.index p = ![p.val, 0] ∧ win0_5.index p = ![0, 0] ∧ win0_6.index p = ![0, 0]
    ∧ win0_7.index p = ![p.val, 0] ∧ win0_8.index p = ![0, 0] ∧ win0_9.index p = ![0, 0] := by
  decide +kernel

theorem coord : ∀ p : Fin cfg0.N, (grid0.coords p 0).val = p.val := by
  decide +kernel

include HP in
/-- The tile of queries. -/
theorem blk_q (p : Fin cfg0.N) (r : Fin 128) (e : Fin 512) : X0_0 m c p (ix2 r e) = ((P (128 * p.val + r.val) e.val : ℝ) : EReal) := by
  have h : X0_0 m c p (ix2 r e) = V m c main_v33 (ix2 (at128 p r) ⟨e.val, by have := e.isLt; omega⟩) := by
    unfold X0_0 Pipeline.Window.fill
    rw [dif_pos (moved0_0 p _)]
    blk_ext [iblk, idx p, at128]
  rw [h, v33_host m c HP]
  rfl

include HP in
/-- All keys. -/
theorem blk_k (p : Fin cfg0.N) (s : Fin 2048) (e : Fin 512) : X0_1 m c p (ix2 s e) = ((colK P s.val e.val : ℝ) : EReal) := by
  have h : X0_1 m c p (ix2 s e) = V m c main_v33 (ix2 s ⟨512 + e.val, by have := e.isLt; omega⟩) := by
    unfold X0_1 Pipeline.Window.fill
    rw [dif_pos (moved0_1 p _)]
    blk_ext [iblk, idx p]
  rw [h, v33_host m c HP]
  rfl

include HP in
/-- All values. -/
theorem blk_v (p : Fin cfg0.N) (s : Fin 2048) (e : Fin 512) : X0_2 m c p (ix2 s e) = ((colV P s.val e.val : ℝ) : EReal) := by
  have h : X0_2 m c p (ix2 s e) = V m c main_v33 (ix2 s ⟨1024 + e.val, by have := e.isLt; omega⟩) := by
    unfold X0_2 Pipeline.Window.fill
    rw [dif_pos (moved0_2 p _)]
    blk_ext [iblk, idx p]
  rw [h, v33_host m c HP]
  rfl

include HD in
/-- The tile of the result's gradients. -/
theorem blk_d (p : Fin cfg0.N) (r : Fin 128) (e : Fin 512) : iblk m c 3 p (ix2 r e) = ((D (128 * p.val + r.val) e.val : ℝ) : EReal) := by
  have h : iblk m c 3 p (ix2 r e) = V m c main_arg1 (ix2 (at128 p r) e) := by
    blk_ext [iblk, idx p, at128]
  rw [h, V_main_arg1]
  exact congrFun HD (ix2 (at128 p r) e)

include HP in
/-- The tile of the rows' sums. -/
theorem blk_t (p : Fin cfg0.N) (r : Fin 128) (e : Fin 1024) :
    iblk m c 4 p (ix2 r e) = ((rowTot P (colK P) (e.val / 128) (128 * p.val + r.val) : ℝ) : EReal) := by
  have h : iblk m c 4 p (ix2 r e) = V m c main_v32 (ix2 (at128 p r) e) := by
    blk_ext [iblk, idx p, at128]
  rw [h, v32_host m c HP]
  rfl

theorem blk_mp (p : Fin cfg0.N) (r : Fin 128) (j : Fin 256) : iblk m c 5 p (ix2 r j) = ((upto r j : ℝ) : EReal) := by
  have h : iblk m c 5 p (ix2 r j) = V m c main_v8 (ix2 r j) := by
    blk_ext [iblk, idx p]
  rw [h, v8_host m c]

theorem blk_mg (p : Fin cfg0.N) (r : Fin 128) (j : Fin 256) : iblk m c 6 p (ix2 r j) = ((before r j : ℝ) : EReal) := by
  have h : iblk m c 6 p (ix2 r j) = V m c main_v11 (ix2 r j) := by
    blk_ext [iblk, idx p]
  rw [h, v11_host m c]

section
variable (arg1 : Memref sig .tc .vmem S128x512 .bf16) (harg1 : arg1.IsWhole)
  (arg2 : Memref sig .tc .vmem S2048x512 .bf16) (harg2 : arg2.IsWhole) (arg3 : Memref sig .tc .vmem S2048x512 .bf16) (harg3 : arg3.IsWhole)
  (arg4 : Memref sig .tc .vmem S128x512 .f32) (harg4 : arg4.IsWhole) (arg5 : Memref sig .tc .vmem S128x1024 .f32) (harg5 : arg5.IsWhole)
  (arg6 : Memref sig .tc .vmem S128x256 .bf16) (harg6 : arg6.IsWhole)

include HP HD in
/-- A point's inputs. -/
theorem inputs (p : Fin cfg0.N) : Inputs (rows P (colK P) (colV P) D p.val) (fun r e => P (128 * p.val + r) e) (harg1.unread (X0_0 m c p))
    (harg2.unread (X0_1 m c p)) (harg3.unread (X0_2 m c p)) (harg4.unread (iblk m c 3 p)) (harg5.unread (iblk m c 4 p)) where
  h1 := fun r e _ => by rw [Memref.IsWhole.read_unread]; exact blk_q m c HP p r e
  h2 := fun r e _ => by rw [Memref.IsWhole.read_unread]; exact blk_k m c HP p r e
  h3 := fun r e _ => by rw [Memref.IsWhole.read_unread]; exact blk_v m c HP p r e
  h4 := fun r e _ => by rw [Memref.IsWhole.read_unread]; exact blk_d m c HD p r e
  h5 := fun r e _ => by rw [Memref.IsWhole.read_unread]; exact blk_t m c HP p r e
  hq := fun _ _ => rfl

theorem whole256 (p : Fin cfg0.N) (x : Vec Ideal S128x256 .bf16) (f : Fin 128 → Fin 256 → ℝ) (h : ∀ r j, x (ix2 r j) = ((f r j : ℝ) : EReal)) (r : Fin 128) (j : Fin 256) :
    View.readAt (Elt Ideal) arg6.view (Rect.unit (s := S128x256) ![0, 0] S128x256.size inb_S128x256_S128x256_0_0).toLoadRect (harg6.unread x) (ix2 r j)
      = ((f r j : ℝ) : EReal) := by
  refine (congrArg (arg6.view.read (Elt Ideal) (harg6.unread x)) (?_ : _ = ix2 r j)).trans ?_
  · funext a
    refine Fin.ext ?_
    fin_cases a
    · show 0 + 1 * r.val = _; simp
    · show 0 + 1 * j.val = _; simp
  · rw [Memref.IsWhole.read_unread]; exact h r j

/-- The triangle with the diagonal as a point reads it. -/
theorem tri_upto (p : Fin cfg0.N) : Mat (k0_pay373 (F := Ideal) (View.readAt (Elt Ideal) arg6.view (Rect.unit (s := S128x256) ![0, 0] S128x256.size inb_S128x256_S128x256_0_0).toLoadRect
    (harg6.unread (iblk m c 5 p)))) upto := fun r j => by
  refine Eq.trans ?_ (whole256 arg6 harg6 p _ _ (blk_mp m c p) r j)
  pointwise [k0_pay373]

/-- The triangle without the diagonal as a point reads it. -/
theorem tri_before (p : Fin cfg0.N) : Mat (k0_pay374 (F := Ideal) (View.readAt (Elt Ideal) arg6.view (Rect.unit (s := S128x256) ![0, 0] S128x256.size inb_S128x256_S128x256_0_0).toLoadRect
    (harg6.unread (iblk m c 6 p)))) before := fun r j => by
  refine Eq.trans ?_ (whole256 arg6 harg6 p _ _ (blk_mg m c p) r j)
  pointwise [k0_pay374]
end

end Cert.SB

end
-- ==== Proof.SB.Loop.lean ====
/-
  The loop over the blocks of keys before the diagonal: what it leaves in the scratch buffers.
-/
module

public import proofs.«01_k».proof.Proof.SB.Trip

@[expose] public section

open Idealize.ShloMosaic Idealize.ShloMosaic.TcCoe
open Cert.Kernel2Ideal Cert.Kernel2Ideal.Gen Cert.Coe Cert.Store

namespace Cert.SB

section
variable (𝒱 : Variants) (c : Dev nD) (bd : Option 𝒱.V) (i : grid0.Coords) (arg1 : Memref sig .tc .vmem S128x512 .bf16) (harg1 : arg1.IsWhole)
  (arg2 : Memref sig .tc .vmem S2048x512 .bf16) (harg2 : arg2.IsWhole) (arg3 : Memref sig .tc .vmem S2048x512 .bf16) (harg3 : arg3.IsWhole)
  (arg4 : Memref sig .tc .vmem S128x512 .f32) (harg4 : arg4.IsWhole) (arg5 : Memref sig .tc .vmem S128x1024 .f32) (harg5 : arg5.IsWhole)
  (arg6 : Memref sig .tc .vmem S128x256 .bf16) (harg6 : arg6.IsWhole) (arg7 : Memref sig .tc .vmem S128x256 .bf16) (harg7 : arg7.IsWhole)
  (arg8 : Memref sig .tc .vmem S128x512 .bf16) (harg8 : arg8.IsWhole) (arg9 : Memref sig .tc .vmem S2048x512 .bf16) (harg9 : arg9.IsWhole)
  (arg10 : Memref sig .tc .vmem S2048x512 .bf16) (harg10 : arg10.IsWhole) (arg11 : Memref sig .tc .vmem S4x128x128 .bf16) (harg11 : arg11.IsWhole)
  (arg12 : Memref sig .tc .vmem S4x128x128 .bf16) (harg12 : arg12.IsWhole) (arg13 : Memref sig .tc .vmem S8x256x128 .bf16) (harg13 : arg13.IsWhole)
  (arg14 : Memref sig .tc .vmem S16x128x128 .f32) (harg14 : arg14.IsWhole) (arg15 : Memref sig .tc .vmem S4x128x128 .f32) (harg15 : arg15.IsWhole)
  (arg16 : Memref sig .tc .vmem S2048x512 .f32) (harg16 : arg16.IsWhole) (arg17 : Memref sig .tc .vmem S2048x512 .f32) (harg17 : arg17.IsWhole)
  (arg18 : Memref sig .tc .vmem S8x128x256 .f32) (harg18 : arg18.IsWhole) (arg0 : BitVec 32) (v142 v144 : FVec Ideal S128x256 .bf16)
  (v225 v239 v253 v267 : FVec Ideal S128x256 .f32)
  (X2 : BufTy.Contents (Elt Ideal) arg2.view.ty) (X3 : BufTy.Contents (Elt Ideal) arg3.view.ty) (X5 : BufTy.Contents (Elt Ideal) arg5.view.ty)
  (X11 : BufTy.Contents (Elt Ideal) arg11.view.ty) (X12 : BufTy.Contents (Elt Ideal) arg12.view.ty) (X13 : BufTy.Contents (Elt Ideal) arg13.view.ty)
  (G14 : BufTy.Contents (Elt Ideal) arg14.view.ty) (G15 : BufTy.Contents (Elt Ideal) arg15.view.ty) (G16 : BufTy.Contents (Elt Ideal) arg16.view.ty)
  (G17 : BufTy.Contents (Elt Ideal) arg17.view.ty) (G18 : BufTy.Contents (Elt Ideal) arg18.view.ty)
  (m : Model) (o16 o17 : ℕ → ℕ → ℝ)

theorem loop_next (hmp : Mat v142 upto) (hmg : Mat v144 before) (hX : Fixed m X2 X3 X5 X11 X12 X13) (h0 : State m o16 o17 0 G14 G15 G16 G17 G18) (j : ℕ)
    (hj : j ≤ (k0_t1_loop i).trips) :
    let L := pb_k0_t1 (F := Ideal) 𝒱 c bd i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18 arg0 k0_pay343 v142 v144 v225 v239 v253
      v267 X2 X3 X5 X11 X12 X13 G14 G15 G16 G17 G18 j
    State m o16 o17 j (arg14.view.writes (Elt Ideal) G14 L.1) (arg15.view.writes (Elt Ideal) G15 L.2.1) (arg16.view.writes (Elt Ideal) G16 L.2.2.1)
      (arg17.view.writes (Elt Ideal) G17 L.2.2.2.1) (arg18.view.writes (Elt Ideal) G18 L.2.2.2.2) := by
  induction j with
  | zero => exact h0
  | succ j ih =>
    intro L
    have e : L = _ := pb_k0_t1_succ 𝒱 c bd i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18 arg0 k0_pay343 v142 v144 v225 v239 v253
      v267 X2 X3 X5 X11 X12 X13 G14 G15 G16 G17 G18 ⟨j, hj⟩
    rw [e]
    simp only [View.writes_append]
    exact trip_next 𝒱 c bd i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18 arg0 v142 v144 v225 v239 v253
      v267 X2 X3 X5 X11 X12 X13 ⟨j, hj⟩ _ _ _ _ _ m o16 o17 hmp hmg hX (ih (Nat.le_of_succ_le hj))

/-- The second loop does not run. -/
theorem loop_none (u : BitVec 32) : pb_k0_t2 (F := Ideal) 𝒱 c bd i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18 arg0 k0_pay343 v142 v144 v225 v239 v253
      v267 u X2 X3 X5 X11 X12 X13 G14 G15 G16 G17 G18 (k0_t2_loop i).trips = ([], [], [], [], []) := by
  rw [trips2]
  rfl
end

end Cert.SB

end
-- ==== Proof.SB.Point.lean ====
/-
  The scratch buffers of the stick-breaking attention's backward when a point reaches the diagonal.
-/
module

public import proofs.«01_k».proof.Proof.SB.Loop
public import proofs.«01_k».proof.Proof.SB.Diag

@[expose] public section

open Idealize.ShloMosaic Idealize.ShloMosaic.TcCoe
open Cert.Kernel2Ideal Cert.Kernel2Ideal.Gen Cert.Coe Cert.Store

namespace Cert.SB

section
variable (𝒱 : Variants) (c : Dev nD) (bd : Option 𝒱.V) (i : grid0.Coords) (arg1 : Memref sig .tc .vmem S128x512 .bf16) (harg1 : arg1.IsWhole)
  (arg2 : Memref sig .tc .vmem S2048x512 .bf16) (harg2 : arg2.IsWhole) (arg3 : Memref sig .tc .vmem S2048x512 .bf16) (harg3 : arg3.IsWhole)
  (arg4 : Memref sig .tc .vmem S128x512 .f32) (harg4 : arg4.IsWhole) (arg5 : Memref sig .tc .vmem S128x1024 .f32) (harg5 : arg5.IsWhole)
  (arg6 : Memref sig .tc .vmem S128x256 .bf16) (harg6 : arg6.IsWhole) (arg7 : Memref sig .tc .vmem S128x256 .bf16) (harg7 : arg7.IsWhole)
  (arg8 : Memref sig .tc .vmem S128x512 .bf16) (harg8 : arg8.IsWhole) (arg9 : Memref sig .tc .vmem S2048x512 .bf16) (harg9 : arg9.IsWhole)
  (arg10 : Memref sig .tc .vmem S2048x512 .bf16) (harg10 : arg10.IsWhole) (arg11 : Memref sig .tc .vmem S4x128x128 .bf16) (harg11 : arg11.IsWhole)
  (arg12 : Memref sig .tc .vmem S4x128x128 .bf16) (harg12 : arg12.IsWhole) (arg13 : Memref sig .tc .vmem S8x256x128 .bf16) (harg13 : arg13.IsWhole)
  (arg14 : Memref sig .tc .vmem S16x128x128 .f32) (harg14 : arg14.IsWhole) (arg15 : Memref sig .tc .vmem S4x128x128 .f32) (harg15 : arg15.IsWhole)
  (arg16 : Memref sig .tc .vmem S2048x512 .f32) (harg16 : arg16.IsWhole) (arg17 : Memref sig .tc .vmem S2048x512 .f32) (harg17 : arg17.IsWhole)
  (arg18 : Memref sig .tc .vmem S8x128x256 .f32) (harg18 : arg18.IsWhole) (arg0 : BitVec 32) (v142 v144 : FVec Ideal S128x256 .bf16)
  (v225 v239 v253 v267 : FVec Ideal S128x256 .f32)
  {X1 : BufTy.Contents (Elt Ideal) arg1.view.ty} {X4 : BufTy.Contents (Elt Ideal) arg4.view.ty}
  {X2 : BufTy.Contents (Elt Ideal) arg2.view.ty} {X3 : BufTy.Contents (Elt Ideal) arg3.view.ty} {X5 : BufTy.Contents (Elt Ideal) arg5.view.ty}
  {G16 : BufTy.Contents (Elt Ideal) arg16.view.ty} {G17 : BufTy.Contents (Elt Ideal) arg17.view.ty} {m : Model} {q o16 o17 : ℕ → ℕ → ℝ}

/-- The buffers' contents at the diagonal. -/
theorem point (hmp : Mat v142 upto) (hmg : Mat v144 before) (hI : Inputs m q X1 X2 X3 X4 X5)

    {L11 L12 : List (View.Piece (Elt Ideal) S4x128x128 .bf16)} {L13 : List (View.Piece (Elt Ideal) S8x256x128 .bf16)}
    {L14 : List (View.Piece (Elt Ideal) S16x128x128 .f32)} {L15 : List (View.Piece (Elt Ideal) S4x128x128 .f32)} {L18 : List (View.Piece (Elt Ideal) S8x128x256 .f32)}
    (e11 : L11 = qPieces X1) (e12 : L12 = dPieces X4) (e13 : L13 = hPieces X1 X4) (e14 : L14 = sumPieces) (e15 : L15 = accPieces)
    (e18 : L18 = zPieces X2 X3 (arg11.view.writes (Elt Ideal) arg11.view.junk (qPieces X1)) (arg12.view.writes (Elt Ideal) arg12.view.junk (dPieces X4)))
    (h16 : HeldT (arg16.view.read (Elt Ideal) G16) (im2 o16) 16 []) (h17 : HeldT (arg17.view.read (Elt Ideal) G17) (im2 o17) 16 []) (u : BitVec 32) :
    let X11 := arg11.view.writes (Elt Ideal) arg11.view.junk L11
    let X12 := arg12.view.writes (Elt Ideal) arg12.view.junk L12
    let X13 := arg13.view.writes (Elt Ideal) arg13.view.junk L13
    let P := pb_k0_t1 (F := Ideal) 𝒱 c bd i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18 arg0 k0_pay343 v142 v144 v225
      v239 v253 v267 X2 X3 X5 X11 X12 X13 (arg14.view.writes (Elt Ideal) arg14.view.junk L14) (arg15.view.writes (Elt Ideal) arg15.view.junk L15)
      G16 G17 (arg18.view.writes (Elt Ideal) arg18.view.junk L18) (Scf.trips (k0_t1_loop i).lb (k0_t1_loop i).ub (k0_t1_loop i).st)
    let P' := pb_k0_t2 (F := Ideal) 𝒱 c bd i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18 arg0 k0_pay343 v142 v144 v225
      v239 v253 v267 u X2 X3 X5 X11 X12 X13 (arg14.view.writes (Elt Ideal) arg14.view.junk (P.1 ++ L14))
      (arg15.view.writes (Elt Ideal) arg15.view.junk (P.2.1 ++ L15)) (arg16.view.writes (Elt Ideal) G16 P.2.2.1)
      (arg17.view.writes (Elt Ideal) G17 P.2.2.2.1) (arg18.view.writes (Elt Ideal) arg18.view.junk (P.2.2.2.2 ++ L18)) (Scf.trips (k0_t2_loop i).lb (k0_t2_loop i).ub (k0_t2_loop i).st)
    Fixed m X2 X3 X5 X11 X12 X13 ∧ State m o16 o17 (i 0).val (arg14.view.writes (Elt Ideal) arg14.view.junk (P'.1 ++ (P.1 ++ L14)))
      (arg15.view.writes (Elt Ideal) arg15.view.junk (P'.2.1 ++ (P.2.1 ++ L15)))
      (arg16.view.writes (Elt Ideal) G16 (P'.2.2.1 ++ P.2.2.1)) (arg17.view.writes (Elt Ideal) G17 (P'.2.2.2.1 ++ P.2.2.2.1))
      (arg18.view.writes (Elt Ideal) arg18.view.junk (P'.2.2.2.2 ++ (P.2.2.2.2 ++ L18))) := by
  subst e11 e12 e13 e14 e15 e18
  intro X11 X12 X13 P P'
  have hX : Fixed m X2 X3 X5 X11 X12 X13 := fixed hI
  have e : P' = ([], [], [], [], []) := loop_none 𝒱 c bd i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18 arg0 v142 v144 v225
      v239 v253 v267 X2 X3 X5 X11 X12 X13 (arg14.view.writes (Elt Ideal) arg14.view.junk (P.1 ++ sumPieces))
      (arg15.view.writes (Elt Ideal) arg15.view.junk (P.2.1 ++ accPieces)) (arg16.view.writes (Elt Ideal) G16 P.2.2.1)
      (arg17.view.writes (Elt Ideal) G17 P.2.2.2.1) (arg18.view.writes (Elt Ideal) arg18.view.junk (P.2.2.2.2 ++ zPieces X2 X3 X11 X12)) u
  have h := loop_next 𝒱 c bd i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18 arg0 v142 v144 v225
      v239 v253 v267 X2 X3 X5 X11 X12 X13 (arg14.view.writes (Elt Ideal) arg14.view.junk sumPieces)
      (arg15.view.writes (Elt Ideal) arg15.view.junk accPieces) G16 G17 (arg18.view.writes (Elt Ideal) arg18.view.junk (zPieces X2 X3 X11 X12)) m o16 o17 hmp hmg hX (start arg13 hI h16 h17) (k0_t1_loop i).trips le_rfl
  refine ⟨hX, ?_⟩
  rw [e]
  simp only [List.nil_append, View.writes_append]
  have ht : Scf.trips (k0_t1_loop i).lb (k0_t1_loop i).ub (k0_t1_loop i).st = (i 0).val := trips1 i
  rw [trips1 i] at h
  simp only [P]
  rw [ht]
  exact h
end

end Cert.SB

end
-- ==== Proof.SB.First.lean ====
/-
  The scratch buffers when the first point of a run reaches the diagonal: the carried gradients start at zeros the point
  itself writes.
-/
module

public import proofs.«01_k».proof.Proof.SB.Point

@[expose] public section

open Idealize.ShloMosaic Idealize.ShloMosaic.TcCoe
open Cert.Kernel2Ideal Cert.Kernel2Ideal.Gen Cert.Coe Cert.Store

namespace Cert.SB

section
variable (𝒱 : Variants) (c : Dev nD) (bd : Option 𝒱.V) (i : grid0.Coords) (arg1 : Memref sig .tc .vmem S128x512 .bf16) (harg1 : arg1.IsWhole)
  (arg2 : Memref sig .tc .vmem S2048x512 .bf16) (harg2 : arg2.IsWhole) (arg3 : Memref sig .tc .vmem S2048x512 .bf16) (harg3 : arg3.IsWhole)
  (arg4 : Memref sig .tc .vmem S128x512 .f32) (harg4 : arg4.IsWhole) (arg5 : Memref sig .tc .vmem S128x1024 .f32) (harg5 : arg5.IsWhole)
  (arg6 : Memref sig .tc .vmem S128x256 .bf16) (harg6 : arg6.IsWhole) (arg7 : Memref sig .tc .vmem S128x256 .bf16) (harg7 : arg7.IsWhole)
  (arg8 : Memref sig .tc .vmem S128x512 .bf16) (harg8 : arg8.IsWhole) (arg9 : Memref sig .tc .vmem S2048x512 .bf16) (harg9 : arg9.IsWhole)
  (arg10 : Memref sig .tc .vmem S2048x512 .bf16) (harg10 : arg10.IsWhole) (arg11 : Memref sig .tc .vmem S4x128x128 .bf16) (harg11 : arg11.IsWhole)
  (arg12 : Memref sig .tc .vmem S4x128x128 .bf16) (harg12 : arg12.IsWhole) (arg13 : Memref sig .tc .vmem S8x256x128 .bf16) (harg13 : arg13.IsWhole)
  (arg14 : Memref sig .tc .vmem S16x128x128 .f32) (harg14 : arg14.IsWhole) (arg15 : Memref sig .tc .vmem S4x128x128 .f32) (harg15 : arg15.IsWhole)
  (arg16 : Memref sig .tc .vmem S2048x512 .f32) (harg16 : arg16.IsWhole) (arg17 : Memref sig .tc .vmem S2048x512 .f32) (harg17 : arg17.IsWhole)
  (arg18 : Memref sig .tc .vmem S8x128x256 .f32) (harg18 : arg18.IsWhole) (arg0 : BitVec 32) (v142 v144 : FVec Ideal S128x256 .bf16)
  (v225 v239 v253 v267 : FVec Ideal S128x256 .f32)
  {X1 : BufTy.Contents (Elt Ideal) arg1.view.ty} {X4 : BufTy.Contents (Elt Ideal) arg4.view.ty}
  {X2 : BufTy.Contents (Elt Ideal) arg2.view.ty} {X3 : BufTy.Contents (Elt Ideal) arg3.view.ty} {X5 : BufTy.Contents (Elt Ideal) arg5.view.ty}
  {L16 L17 : List (View.Piece (Elt Ideal) S2048x512 .f32)} {m : Model} {q o16 o17 : ℕ → ℕ → ℝ}

/-- The buffers' contents at the first point's diagonal. -/
theorem first (hmp : Mat v142 upto) (hmg : Mat v144 before) (hI : Inputs m q X1 X2 X3 X4 X5)
    {L11 L12 : List (View.Piece (Elt Ideal) S4x128x128 .bf16)} {L13 : List (View.Piece (Elt Ideal) S8x256x128 .bf16)}
    {L14 : List (View.Piece (Elt Ideal) S16x128x128 .f32)} {L15 : List (View.Piece (Elt Ideal) S4x128x128 .f32)} {L18 : List (View.Piece (Elt Ideal) S8x128x256 .f32)}
    (e11 : L11 = qPieces X1) (e12 : L12 = dPieces X4) (e13 : L13 = hPieces X1 X4) (e14 : L14 = sumPieces) (e15 : L15 = accPieces)
    (e18 : L18 = zPieces X2 X3 (arg11.view.writes (Elt Ideal) arg11.view.junk (qPieces X1)) (arg12.view.writes (Elt Ideal) arg12.view.junk (dPieces X4)))
    (h16 : HeldT (arg16.view.read (Elt Ideal) (arg16.view.writes (Elt Ideal) arg16.view.junk L16)) (im2 o16) 16 []) (h17 : HeldT (arg17.view.read (Elt Ideal) (arg17.view.writes (Elt Ideal) arg17.view.junk L17)) (im2 o17) 16 []) (u : BitVec 32) :
    let X11 := arg11.view.writes (Elt Ideal) arg11.view.junk L11
    let X12 := arg12.view.writes (Elt Ideal) arg12.view.junk L12
    let X13 := arg13.view.writes (Elt Ideal) arg13.view.junk L13
    let P := pb_k0_t1 (F := Ideal) 𝒱 c bd i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18 arg0 k0_pay343 v142 v144 v225
      v239 v253 v267 X2 X3 X5 X11 X12 X13 (arg14.view.writes (Elt Ideal) arg14.view.junk L14) (arg15.view.writes (Elt Ideal) arg15.view.junk L15)
      (arg16.view.writes (Elt Ideal) arg16.view.junk L16) (arg17.view.writes (Elt Ideal) arg17.view.junk L17) (arg18.view.writes (Elt Ideal) arg18.view.junk L18) (Scf.trips (k0_t1_loop i).lb (k0_t1_loop i).ub (k0_t1_loop i).st)
    let P' := pb_k0_t2 (F := Ideal) 𝒱 c bd i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18 arg0 k0_pay343 v142 v144 v225
      v239 v253 v267 u X2 X3 X5 X11 X12 X13 (arg14.view.writes (Elt Ideal) arg14.view.junk (P.1 ++ L14))
      (arg15.view.writes (Elt Ideal) arg15.view.junk (P.2.1 ++ L15)) (arg16.view.writes (Elt Ideal) arg16.view.junk (P.2.2.1 ++ L16))
      (arg17.view.writes (Elt Ideal) arg17.view.junk (P.2.2.2.1 ++ L17)) (arg18.view.writes (Elt Ideal) arg18.view.junk (P.2.2.2.2 ++ L18)) (Scf.trips (k0_t2_loop i).lb (k0_t2_loop i).ub (k0_t2_loop i).st)
    Fixed m X2 X3 X5 X11 X12 X13 ∧ State m o16 o17 (i 0).val (arg14.view.writes (Elt Ideal) arg14.view.junk (P'.1 ++ (P.1 ++ L14)))
      (arg15.view.writes (Elt Ideal) arg15.view.junk (P'.2.1 ++ (P.2.1 ++ L15)))
      (arg16.view.writes (Elt Ideal) arg16.view.junk (P'.2.2.1 ++ (P.2.2.1 ++ L16))) (arg17.view.writes (Elt Ideal) arg17.view.junk (P'.2.2.2.1 ++ (P.2.2.2.1 ++ L17)))
      (arg18.view.writes (Elt Ideal) arg18.view.junk (P'.2.2.2.2 ++ (P.2.2.2.2 ++ L18))) := by
  have h := point 𝒱 c bd i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg0 v142 v144 v225
    v239 v253 v267 hmp hmg hI e11 e12 e13 e14 e15 e18 h16 h17 u
  simp only [← View.writes_append, List.append_assoc] at h
  exact h
end

end Cert.SB

end
-- ==== Proof.SB.Ends.lean ====
/-
  What the first and the last point of a run of the stick-breaking attention's backward do beyond the others: the zeros
  the carried gradients start at, and the carried gradients written out.
-/
module

public import proofs.«01_k».proof.Proof.SB.Diag

@[expose] public section

open Idealize.ShloMosaic Idealize.ShloMosaic.TcCoe
open Cert.Kernel2Ideal Cert.Kernel2Ideal.Gen Cert.Coe Cert.Store

namespace Cert.SB

/-! ## The ends of a run -/

section
variable {arg : Memref sig .tc .vmem S2048x512 .f32} {G : ℕ → ℕ → ℝ}

theorem held_append {v : View sig .tc .vmem S2048x512 .f32} {X : v.ty.Contents (Elt Ideal)} {A B C : List (View.Piece (Elt Ideal) S2048x512 .f32)}
    (h : HeldT (v.read (Elt Ideal) (v.writes (Elt Ideal) (v.writes (Elt Ideal) X C) (A ++ B))) (im2 G) 16 []) :
    HeldT (v.read (Elt Ideal) (v.writes (Elt Ideal) X (A ++ (B ++ C)))) (im2 G) 16 [] := by
  rwa [← List.append_assoc, View.writes_append]

theorem held_junk {v v' : View sig .tc .vmem S2048x512 .f32} {L : List (View.Piece (Elt Ideal) S2048x512 .f32)}
    (h : HeldT (v.read (Elt Ideal) (v.writes (Elt Ideal) v.junk L)) (im2 G) 16 []) : HeldT (v'.read (Elt Ideal) (v'.writes (Elt Ideal) v'.junk L)) (im2 G) 16 [] := by
  rwa [View.read_writes_junk_eq_canon] at h ⊢

theorem zeros2 (a : Fin 2) : (![0, 0] : Fin 2 → ℕ) a = 0 := by fin_cases a <;> rfl

/-- The zeros the keys' gradient starts at. -/
theorem zero_keys : HeldT (arg.view.read (Elt Ideal) (arg.view.writes (Elt Ideal) arg.view.junk
    [⟨Rect.unit (s := S2048x512) ![0, 0] S2048x512.size inb_S2048x512_S2048x512_0_0, k0_pay375 (F := Ideal)⟩])) (im2 fun _ _ => 0) 16 [] := fun s c _ => by
  refine (congrFun (fill (s := S2048x512) _ _ zeros2 _ _ _) _).trans ?_
  pointwise [k0_pay375]
  exact EReal.coe_zero.symm

/-- The zeros the values' gradient starts at. -/
theorem zero_vals : HeldT (arg.view.read (Elt Ideal) (arg.view.writes (Elt Ideal) arg.view.junk
    [⟨Rect.unit (s := S2048x512) ![0, 0] S2048x512.size inb_S2048x512_S2048x512_0_0, k0_pay376 (F := Ideal)⟩])) (im2 fun _ _ => 0) 16 [] := fun s c _ => by
  refine (congrFun (fill (s := S2048x512) _ _ zeros2 _ _ _) _).trans ?_
  pointwise [k0_pay376]
  exact EReal.coe_zero.symm

theorem whole_load {X : BufTy.Contents (Elt Ideal) arg.view.ty} (h : HeldT (arg.view.read (Elt Ideal) X) (im2 G) 16 []) (s : Fin 2048) (c : Fin 512) :
    View.readAt (Elt Ideal) arg.view (Rect.unit (s := S2048x512) ![0, 0] S2048x512.size inb_S2048x512_S2048x512_0_0).toLoadRect X (ix2 s c)
      = ((G s.val c.val : ℝ) : EReal) := by
  refine (congrArg (arg.view.read (Elt Ideal) X) (?_ : _ = ix2 s c)).trans (h s c (by simp))
  funext a
  refine Fin.ext ?_
  fin_cases a
  · show 0 + 1 * s.val = _; simp
  · show 0 + 1 * c.val = _; simp

/-- The keys' gradient, written out. -/
theorem keys_out {X : BufTy.Contents (Elt Ideal) arg.view.ty} (h : HeldT (arg.view.read (Elt Ideal) X) (im2 G) 16 []) {v8 : View sig .tc .vmem S2048x512 .bf16}
    {X8 : BufTy.Contents (Elt Ideal) v8.ty} : HeldT (v8.read (Elt Ideal) (v8.writes (Elt Ideal) X8
      [⟨Rect.unit (s := S2048x512) ![0, 0] S2048x512.size inb_S2048x512_S2048x512_0_0, k0_pay3 (View.readAt (Elt Ideal) arg.view
        (Rect.unit (s := S2048x512) ![0, 0] S2048x512.size inb_S2048x512_S2048x512_0_0).toLoadRect X)⟩])) (im2 G) 16 [] := fun s c _ => by
  refine (congrFun (fill (s := S2048x512) _ _ zeros2 _ _ _) _).trans ?_
  pointwise [k0_pay3]
  exact whole_load h s c

/-- The values' gradient, written out. -/
theorem vals_out {X : BufTy.Contents (Elt Ideal) arg.view.ty} (h : HeldT (arg.view.read (Elt Ideal) X) (im2 G) 16 []) {v8 : View sig .tc .vmem S2048x512 .bf16}
    {X8 : BufTy.Contents (Elt Ideal) v8.ty} : HeldT (v8.read (Elt Ideal) (v8.writes (Elt Ideal) X8
      [⟨Rect.unit (s := S2048x512) ![0, 0] S2048x512.size inb_S2048x512_S2048x512_0_0, k0_pay4 (View.readAt (Elt Ideal) arg.view
        (Rect.unit (s := S2048x512) ![0, 0] S2048x512.size inb_S2048x512_S2048x512_0_0).toLoadRect X)⟩])) (im2 G) 16 [] := fun s c _ => by
  refine (congrFun (fill (s := S2048x512) _ _ zeros2 _ _ _) _).trans ?_
  pointwise [k0_pay4]
  exact whole_load h s c

end

end Cert.SB

end
-- ==== Proof.SB.RunA.lean ====
/-
  What the first point of a run of the stick-breaking attention's backward leaves in the buffers carried and in the outputs.
-/
module

public import proofs.«01_k».proof.Proof.SB.First
public import proofs.«01_k».proof.Proof.SB.Ends
public import proofs.«01_k».proof.Proof.Gen.Kernel2Ideal.Frame

@[expose] public section

open Idealize.ShloMosaic Idealize.ShloMosaic.TcCoe
open Cert.Kernel2Ideal Cert.Kernel2Ideal.Gen Cert.Coe Cert.Store

namespace Cert.SB

section
variable (c : Dev nD) (i : grid0.Coords) (arg1 : Memref sig .tc .vmem S128x512 .bf16) (harg1 : arg1.IsWhole)
  (arg2 : Memref sig .tc .vmem S2048x512 .bf16) (harg2 : arg2.IsWhole) (arg3 : Memref sig .tc .vmem S2048x512 .bf16) (harg3 : arg3.IsWhole)
  (arg4 : Memref sig .tc .vmem S128x512 .f32) (harg4 : arg4.IsWhole) (arg5 : Memref sig .tc .vmem S128x1024 .f32) (harg5 : arg5.IsWhole)
  (arg6 : Memref sig .tc .vmem S128x256 .bf16) (harg6 : arg6.IsWhole) (arg7 : Memref sig .tc .vmem S128x256 .bf16) (harg7 : arg7.IsWhole)
  (arg8 : Memref sig .tc .vmem S128x512 .bf16) (harg8 : arg8.IsWhole) (arg9 : Memref sig .tc .vmem S2048x512 .bf16) (harg9 : arg9.IsWhole)
  (arg10 : Memref sig .tc .vmem S2048x512 .bf16) (harg10 : arg10.IsWhole) (arg11 : Memref sig .tc .vmem S4x128x128 .bf16) (harg11 : arg11.IsWhole)
  (arg12 : Memref sig .tc .vmem S4x128x128 .bf16) (harg12 : arg12.IsWhole) (arg13 : Memref sig .tc .vmem S8x256x128 .bf16) (harg13 : arg13.IsWhole)
  (arg14 : Memref sig .tc .vmem S16x128x128 .f32) (harg14 : arg14.IsWhole) (arg15 : Memref sig .tc .vmem S4x128x128 .f32) (harg15 : arg15.IsWhole)
  (arg16 : Memref sig .tc .vmem S2048x512 .f32) (harg16 : arg16.IsWhole) (arg17 : Memref sig .tc .vmem S2048x512 .f32) (harg17 : arg17.IsWhole)
  (arg18 : Memref sig .tc .vmem S8x128x256 .f32) (harg18 : arg18.IsWhole)
  (hc0 : cond0_0 i) (hc1 : ¬cond0_1 i) (x0 : Vec Ideal S128x512 .bf16) (x1 x2 : Vec Ideal S2048x512 .bf16) (x3 : Vec Ideal S128x512 .f32) (x4 : Vec Ideal S128x1024 .f32)
  (x5 x6 : Vec Ideal S128x256 .bf16)  {m : Model} {q : ℕ → ℕ → ℝ}
  (hmp : Mat (kernelRun0_A.sl.r_4 (F := Ideal) c arg6 harg6 x5) upto) (hmg : Mat (kernelRun0_A.sl.r_5 (F := Ideal) c arg7 harg7 x6) before)
  (hI : Inputs m q (harg1.unread x0) (harg2.unread x1) (harg3.unread x2) (harg4.unread x3) (harg5.unread x4))

include hmp hmg hI

set_option maxHeartbeats 8000000 in
/-- The gradients of the keys and of the values carried, and the queries' gradient. -/
theorem runA : HeldT (sout0_A_5 (F := Ideal) c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 hc0 hc1 x0 x1 x2 x3 x4 x5 x6) (im2 (midK m (fun _ _ => 0) (i 0).val 4)) 16 [] ∧
    HeldT (sout0_A_6 (F := Ideal) c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 hc0 hc1 x0 x1 x2 x3 x4 x5 x6) (im2 (midV m (fun _ _ => 0) (i 0).val 4)) 16 [] ∧
    ∀ (r : Fin 128) (e : Fin 512), out0_A_7 (F := Ideal) c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 hc0 hc1 x0 x1 x2 x3 x4 x5 x6 (ix2 r e) = ((outQ m (i 0).val r.val e.val : ℝ) : EReal) := by
  have hP := first Variants.none c none i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 (BitVec.ofNat 32 (i 0).val) _ _
    (kernelRun0_A.sl.r_13 (F := Ideal) c arg3 harg3 arg4 harg4 arg12 x2 x3) (kernelRun0_A.sl.r_14 (F := Ideal) c arg3 harg3 arg4 harg4 arg12 x2 x3)
    (kernelRun0_A.sl.r_17 (F := Ideal) c arg3 harg3 arg4 harg4 arg12 x2 x3) (kernelRun0_A.sl.r_18 (F := Ideal) c arg3 harg3 arg4 harg4 arg12 x2 x3) hmp hmg hI
    (L11 := kernelRun0_A.sl.HS0_4 (F := Ideal) c arg1 harg1 x0) (L12 := kernelRun0_A.sl.HS1_4 (F := Ideal) c arg4 harg4 x3) (L13 := kernelRun0_A.sl.HS2_8 (F := Ideal) c arg1 harg1 arg4 harg4 x0 x3)
    (L14 := kernelRun0_A.sl.HS3_1 (F := Ideal)) (L15 := kernelRun0_A.sl.HS4_1 (F := Ideal))
    (L18 := kernelRun0_A.sl.HS7_8 (F := Ideal) c arg1 harg1 arg2 harg2 arg3 harg3 arg4 harg4 arg11 arg12 x0 x1 x2 x3) rfl rfl rfl rfl rfl rfl
    (L16 := kernelRun0_A.sl.HS5_1 (F := Ideal)) (L17 := kernelRun0_A.sl.HS6_1 (F := Ideal)) zero_keys zero_vals (kernelRun0_A.sl.v296 i)
  have z00 : Mat (kernelRun0_A.sl.r_114 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6) (m.Z true (2 * 0) (i 0).val) := dZ0_mat hmp hmg hP.1 hP.2 0 (by decide)
  have w00 : Mat (kernelRun0_A.sl.r_80 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6) (m.W true (2 * 0) (i 0).val) := dW0_mat hmp hP.1 hP.2 0 (by decide)
  have z01 : Mat (kernelRun0_A.sl.r_115 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6) (m.Z true (2 * 0 + 1) (i 0).val) := dZ1_mat hmp hmg hP.1 hP.2 0 (by decide)
  have w01 : Mat (kernelRun0_A.sl.r_81 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6) (m.W true (2 * 0 + 1) (i 0).val) := dW1_mat hmp hP.1 hP.2 0 (by decide)
  have z10 : Mat (kernelRun0_A.sl.r_116 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6) (m.Z true (2 * 1) (i 0).val) := dZ0_mat hmp hmg hP.1 hP.2 1 (by decide)
  have w10 : Mat (kernelRun0_A.sl.r_82 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6) (m.W true (2 * 1) (i 0).val) := dW0_mat hmp hP.1 hP.2 1 (by decide)
  have z11 : Mat (kernelRun0_A.sl.r_117 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6) (m.Z true (2 * 1 + 1) (i 0).val) := dZ1_mat hmp hmg hP.1 hP.2 1 (by decide)
  have w11 : Mat (kernelRun0_A.sl.r_83 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6) (m.W true (2 * 1 + 1) (i 0).val) := dW1_mat hmp hP.1 hP.2 1 (by decide)
  have z20 : Mat (kernelRun0_A.sl.r_118 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6) (m.Z true (2 * 2) (i 0).val) := dZ0_mat hmp hmg hP.1 hP.2 2 (by decide)
  have w20 : Mat (kernelRun0_A.sl.r_84 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6) (m.W true (2 * 2) (i 0).val) := dW0_mat hmp hP.1 hP.2 2 (by decide)
  have z21 : Mat (kernelRun0_A.sl.r_119 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6) (m.Z true (2 * 2 + 1) (i 0).val) := dZ1_mat hmp hmg hP.1 hP.2 2 (by decide)
  have w21 : Mat (kernelRun0_A.sl.r_85 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6) (m.W true (2 * 2 + 1) (i 0).val) := dW1_mat hmp hP.1 hP.2 2 (by decide)
  have z30 : Mat (kernelRun0_A.sl.r_120 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6) (m.Z true (2 * 3) (i 0).val) := dZ0_mat hmp hmg hP.1 hP.2 3 (by decide)
  have w30 : Mat (kernelRun0_A.sl.r_86 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6) (m.W true (2 * 3) (i 0).val) := dW0_mat hmp hP.1 hP.2 3 (by decide)
  have z31 : Mat (kernelRun0_A.sl.r_121 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6) (m.Z true (2 * 3 + 1) (i 0).val) := dZ1_mat hmp hmg hP.1 hP.2 3 (by decide)
  have w31 : Mat (kernelRun0_A.sl.r_87 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6) (m.W true (2 * 3 + 1) (i 0).val) := dW1_mat hmp hP.1 hP.2 3 (by decide)
  have k1 : HeldT (arg16.view.read (Elt Ideal) (arg16.view.writes (Elt Ideal) arg16.view.junk (kernelRun0_A.sl.HS5_1_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6))) (im2 (midK m (fun _ _ => 0) (i 0).val 1)) 16 [] :=
    dk_cons (n := 0) (by decide) hP.1.h13 z00 z01 (by rw [midK_zero]; exact hP.2.h16)
  have k2 : HeldT (arg16.view.read (Elt Ideal) (arg16.view.writes (Elt Ideal) arg16.view.junk (kernelRun0_A.sl.HS5_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6))) (im2 (midK m (fun _ _ => 0) (i 0).val 2)) 16 [] :=
    dk_cons (n := 1) (by decide) hP.1.h13 z10 z11 (k1)
  have k3 : HeldT (arg16.view.read (Elt Ideal) (arg16.view.writes (Elt Ideal) arg16.view.junk (kernelRun0_A.sl.HS5_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6))) (im2 (midK m (fun _ _ => 0) (i 0).val 3)) 16 [] :=
    dk_cons (n := 2) (by decide) hP.1.h13 z20 z21 (k2)
  have k4 := dk_cons (n := 3) (by decide) hP.1.h13 z30 z31 k3
  have v1 : HeldT (arg17.view.read (Elt Ideal) (arg17.view.writes (Elt Ideal) arg17.view.junk (kernelRun0_A.sl.HS6_1_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6))) (im2 (midV m (fun _ _ => 0) (i 0).val 1)) 16 [] :=
    dv_cons (n := 0) (by decide) hP.1.h13 w00 w01 (by rw [midV_zero]; exact hP.2.h17)
  have v2 : HeldT (arg17.view.read (Elt Ideal) (arg17.view.writes (Elt Ideal) arg17.view.junk (kernelRun0_A.sl.HS6_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6))) (im2 (midV m (fun _ _ => 0) (i 0).val 2)) 16 [] :=
    dv_cons (n := 1) (by decide) hP.1.h13 w10 w11 (v1)
  have v3 : HeldT (arg17.view.read (Elt Ideal) (arg17.view.writes (Elt Ideal) arg17.view.junk (kernelRun0_A.sl.HS6_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6))) (im2 (midV m (fun _ _ => 0) (i 0).val 3)) 16 [] :=
    dv_cons (n := 2) (by decide) hP.1.h13 w20 w21 (v2)
  have v4 := dv_cons (n := 3) (by decide) hP.1.h13 w30 w31 v3
  have q1 : Held (arg15.view.read (Elt Ideal) (arg15.view.writes (Elt Ideal) arg15.view.junk (kernelRun0_A.sl.HS4_1_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6))) (im3 (midQ m (i 0).val 1)) [] :=
    dq_cons (n := 0) (by decide) hP.1.h2 z00 z01 (by rw [midQ_zero]; exact hP.2.h15)
  have q2 : Held (arg15.view.read (Elt Ideal) (arg15.view.writes (Elt Ideal) arg15.view.junk (kernelRun0_A.sl.HS4_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6))) (im3 (midQ m (i 0).val 2)) [] :=
    dq_cons (n := 1) (by decide) hP.1.h2 z10 z11 (q1)
  have q3 : Held (arg15.view.read (Elt Ideal) (arg15.view.writes (Elt Ideal) arg15.view.junk (kernelRun0_A.sl.HS4_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6))) (im3 (midQ m (i 0).val 3)) [] :=
    dq_cons (n := 2) (by decide) hP.1.h2 z20 z21 (q2)
  have q4 : Held (arg15.view.read (Elt Ideal) (arg15.view.writes (Elt Ideal) arg15.view.junk (kernelRun0_A.sl.HS4_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6))) (im3 (midQ m (i 0).val 4)) [] :=
    dq_cons (n := 3) (by decide) hP.1.h2 z30 z31 (q3)
  exact ⟨held_junk k4, held_junk v4, fun r e => outList_held (v8 := VO0_7) (X8 := VO0_7.junk) q4 r e⟩
end

end Cert.SB

end
-- ==== Proof.SB.RunB.lean ====
/-
  What a point inside a run of the stick-breaking attention's backward leaves in the buffers carried and in the outputs.
-/
module

public import proofs.«01_k».proof.Proof.SB.Point
public import proofs.«01_k».proof.Proof.Gen.Kernel2Ideal.Frame

@[expose] public section

open Idealize.ShloMosaic Idealize.ShloMosaic.TcCoe
open Cert.Kernel2Ideal Cert.Kernel2Ideal.Gen Cert.Coe Cert.Store

namespace Cert.SB

section
variable (c : Dev nD) (i : grid0.Coords) (arg1 : Memref sig .tc .vmem S128x512 .bf16) (harg1 : arg1.IsWhole)
  (arg2 : Memref sig .tc .vmem S2048x512 .bf16) (harg2 : arg2.IsWhole) (arg3 : Memref sig .tc .vmem S2048x512 .bf16) (harg3 : arg3.IsWhole)
  (arg4 : Memref sig .tc .vmem S128x512 .f32) (harg4 : arg4.IsWhole) (arg5 : Memref sig .tc .vmem S128x1024 .f32) (harg5 : arg5.IsWhole)
  (arg6 : Memref sig .tc .vmem S128x256 .bf16) (harg6 : arg6.IsWhole) (arg7 : Memref sig .tc .vmem S128x256 .bf16) (harg7 : arg7.IsWhole)
  (arg8 : Memref sig .tc .vmem S128x512 .bf16) (harg8 : arg8.IsWhole) (arg9 : Memref sig .tc .vmem S2048x512 .bf16) (harg9 : arg9.IsWhole)
  (arg10 : Memref sig .tc .vmem S2048x512 .bf16) (harg10 : arg10.IsWhole) (arg11 : Memref sig .tc .vmem S4x128x128 .bf16) (harg11 : arg11.IsWhole)
  (arg12 : Memref sig .tc .vmem S4x128x128 .bf16) (harg12 : arg12.IsWhole) (arg13 : Memref sig .tc .vmem S8x256x128 .bf16) (harg13 : arg13.IsWhole)
  (arg14 : Memref sig .tc .vmem S16x128x128 .f32) (harg14 : arg14.IsWhole) (arg15 : Memref sig .tc .vmem S4x128x128 .f32) (harg15 : arg15.IsWhole)
  (arg16 : Memref sig .tc .vmem S2048x512 .f32) (harg16 : arg16.IsWhole) (arg17 : Memref sig .tc .vmem S2048x512 .f32) (harg17 : arg17.IsWhole)
  (arg18 : Memref sig .tc .vmem S8x128x256 .f32) (harg18 : arg18.IsWhole)
  (hc0 : ¬cond0_0 i) (hc1 : ¬cond0_1 i) (x0 : Vec Ideal S128x512 .bf16) (x1 x2 : Vec Ideal S2048x512 .bf16) (x3 : Vec Ideal S128x512 .f32) (x4 : Vec Ideal S128x1024 .f32)
  (x5 x6 : Vec Ideal S128x256 .bf16) (xs5 xs6 : Vec Ideal S2048x512 .f32) {m : Model} {q o16 o17 : ℕ → ℕ → ℝ}
  (hmp : Mat (kernelRun0_B.sl.r_4 (F := Ideal) c arg6 harg6 x5) upto) (hmg : Mat (kernelRun0_B.sl.r_5 (F := Ideal) c arg7 harg7 x6) before)
  (hI : Inputs m q (harg1.unread x0) (harg2.unread x1) (harg3.unread x2) (harg4.unread x3) (harg5.unread x4))
  (h5 : HeldT (arg16.view.read (Elt Ideal) (harg16.unread xs5)) (im2 o16) 16 []) (h6 : HeldT (arg17.view.read (Elt Ideal) (harg17.unread xs6)) (im2 o17) 16 [])

include hmp hmg hI h5 h6

set_option maxHeartbeats 8000000 in
/-- The gradients of the keys and of the values carried, and the queries' gradient. -/
theorem runB : HeldT (sout0_B_5 (F := Ideal) c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 hc0 hc1 x0 x1 x2 x3 x4 x5 x6 xs5 xs6) (im2 (midK m o16 (i 0).val 4)) 16 [] ∧
    HeldT (sout0_B_6 (F := Ideal) c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 hc0 hc1 x0 x1 x2 x3 x4 x5 x6 xs5 xs6) (im2 (midV m o17 (i 0).val 4)) 16 [] ∧
    ∀ (r : Fin 128) (e : Fin 512), out0_B_7 (F := Ideal) c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 hc0 hc1 x0 x1 x2 x3 x4 x5 x6 xs5 xs6 (ix2 r e) = ((outQ m (i 0).val r.val e.val : ℝ) : EReal) := by
  have hP := point Variants.none c none i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 (BitVec.ofNat 32 (i 0).val) _ _
    (kernelRun0_B.sl.r_13 (F := Ideal) c arg3 harg3 arg4 harg4 arg12 x2 x3) (kernelRun0_B.sl.r_14 (F := Ideal) c arg3 harg3 arg4 harg4 arg12 x2 x3)
    (kernelRun0_B.sl.r_17 (F := Ideal) c arg3 harg3 arg4 harg4 arg12 x2 x3) (kernelRun0_B.sl.r_18 (F := Ideal) c arg3 harg3 arg4 harg4 arg12 x2 x3) hmp hmg hI
    (L11 := kernelRun0_B.sl.HS0_4 (F := Ideal) c arg1 harg1 x0) (L12 := kernelRun0_B.sl.HS1_4 (F := Ideal) c arg4 harg4 x3) (L13 := kernelRun0_B.sl.HS2_8 (F := Ideal) c arg1 harg1 arg4 harg4 x0 x3)
    (L14 := kernelRun0_B.sl.HS3_1 (F := Ideal)) (L15 := kernelRun0_B.sl.HS4_1 (F := Ideal))
    (L18 := kernelRun0_B.sl.HS7_8 (F := Ideal) c arg1 harg1 arg2 harg2 arg3 harg3 arg4 harg4 arg11 arg12 x0 x1 x2 x3) rfl rfl rfl rfl rfl rfl
    (G16 := (harg16.unread xs5)) (G17 := (harg17.unread xs6)) h5 h6 (kernelRun0_B.sl.v296 i)
  have z00 : Mat (kernelRun0_B.sl.r_114 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6) (m.Z true (2 * 0) (i 0).val) := dZ0_mat hmp hmg hP.1 hP.2 0 (by decide)
  have w00 : Mat (kernelRun0_B.sl.r_80 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6) (m.W true (2 * 0) (i 0).val) := dW0_mat hmp hP.1 hP.2 0 (by decide)
  have z01 : Mat (kernelRun0_B.sl.r_115 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6) (m.Z true (2 * 0 + 1) (i 0).val) := dZ1_mat hmp hmg hP.1 hP.2 0 (by decide)
  have w01 : Mat (kernelRun0_B.sl.r_81 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6) (m.W true (2 * 0 + 1) (i 0).val) := dW1_mat hmp hP.1 hP.2 0 (by decide)
  have z10 : Mat (kernelRun0_B.sl.r_116 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6) (m.Z true (2 * 1) (i 0).val) := dZ0_mat hmp hmg hP.1 hP.2 1 (by decide)
  have w10 : Mat (kernelRun0_B.sl.r_82 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6) (m.W true (2 * 1) (i 0).val) := dW0_mat hmp hP.1 hP.2 1 (by decide)
  have z11 : Mat (kernelRun0_B.sl.r_117 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6) (m.Z true (2 * 1 + 1) (i 0).val) := dZ1_mat hmp hmg hP.1 hP.2 1 (by decide)
  have w11 : Mat (kernelRun0_B.sl.r_83 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6) (m.W true (2 * 1 + 1) (i 0).val) := dW1_mat hmp hP.1 hP.2 1 (by decide)
  have z20 : Mat (kernelRun0_B.sl.r_118 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6) (m.Z true (2 * 2) (i 0).val) := dZ0_mat hmp hmg hP.1 hP.2 2 (by decide)
  have w20 : Mat (kernelRun0_B.sl.r_84 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6) (m.W true (2 * 2) (i 0).val) := dW0_mat hmp hP.1 hP.2 2 (by decide)
  have z21 : Mat (kernelRun0_B.sl.r_119 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6) (m.Z true (2 * 2 + 1) (i 0).val) := dZ1_mat hmp hmg hP.1 hP.2 2 (by decide)
  have w21 : Mat (kernelRun0_B.sl.r_85 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6) (m.W true (2 * 2 + 1) (i 0).val) := dW1_mat hmp hP.1 hP.2 2 (by decide)
  have z30 : Mat (kernelRun0_B.sl.r_120 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6) (m.Z true (2 * 3) (i 0).val) := dZ0_mat hmp hmg hP.1 hP.2 3 (by decide)
  have w30 : Mat (kernelRun0_B.sl.r_86 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6) (m.W true (2 * 3) (i 0).val) := dW0_mat hmp hP.1 hP.2 3 (by decide)
  have z31 : Mat (kernelRun0_B.sl.r_121 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6) (m.Z true (2 * 3 + 1) (i 0).val) := dZ1_mat hmp hmg hP.1 hP.2 3 (by decide)
  have w31 : Mat (kernelRun0_B.sl.r_87 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6) (m.W true (2 * 3 + 1) (i 0).val) := dW1_mat hmp hP.1 hP.2 3 (by decide)
  have k1 : HeldT (arg16.view.read (Elt Ideal) (arg16.view.writes (Elt Ideal) (harg16.unread xs5) (kernelRun0_B.sl.HS5_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6))) (im2 (midK m o16 (i 0).val 1)) 16 [] :=
    dk_cons (n := 0) (by decide) hP.1.h13 z00 z01 (by rw [midK_zero]; exact hP.2.h16)
  have k2 : HeldT (arg16.view.read (Elt Ideal) (arg16.view.writes (Elt Ideal) (harg16.unread xs5) (kernelRun0_B.sl.HS5_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6))) (im2 (midK m o16 (i 0).val 2)) 16 [] :=
    dk_cons (n := 1) (by decide) hP.1.h13 z10 z11 (k1)
  have k3 : HeldT (arg16.view.read (Elt Ideal) (arg16.view.writes (Elt Ideal) (harg16.unread xs5) (kernelRun0_B.sl.HS5_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6))) (im2 (midK m o16 (i 0).val 3)) 16 [] :=
    dk_cons (n := 2) (by decide) hP.1.h13 z20 z21 (k2)
  have k4 := dk_cons (n := 3) (by decide) hP.1.h13 z30 z31 k3
  have v1 : HeldT (arg17.view.read (Elt Ideal) (arg17.view.writes (Elt Ideal) (harg17.unread xs6) (kernelRun0_B.sl.HS6_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6))) (im2 (midV m o17 (i 0).val 1)) 16 [] :=
    dv_cons (n := 0) (by decide) hP.1.h13 w00 w01 (by rw [midV_zero]; exact hP.2.h17)
  have v2 : HeldT (arg17.view.read (Elt Ideal) (arg17.view.writes (Elt Ideal) (harg17.unread xs6) (kernelRun0_B.sl.HS6_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6))) (im2 (midV m o17 (i 0).val 2)) 16 [] :=
    dv_cons (n := 1) (by decide) hP.1.h13 w10 w11 (v1)
  have v3 : HeldT (arg17.view.read (Elt Ideal) (arg17.view.writes (Elt Ideal) (harg17.unread xs6) (kernelRun0_B.sl.HS6_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6))) (im2 (midV m o17 (i 0).val 3)) 16 [] :=
    dv_cons (n := 2) (by decide) hP.1.h13 w20 w21 (v2)
  have v4 := dv_cons (n := 3) (by decide) hP.1.h13 w30 w31 v3
  have q1 : Held (arg15.view.read (Elt Ideal) (arg15.view.writes (Elt Ideal) arg15.view.junk (kernelRun0_B.sl.HS4_1_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6))) (im3 (midQ m (i 0).val 1)) [] :=
    dq_cons (n := 0) (by decide) hP.1.h2 z00 z01 (by rw [midQ_zero]; exact hP.2.h15)
  have q2 : Held (arg15.view.read (Elt Ideal) (arg15.view.writes (Elt Ideal) arg15.view.junk (kernelRun0_B.sl.HS4_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6))) (im3 (midQ m (i 0).val 2)) [] :=
    dq_cons (n := 1) (by decide) hP.1.h2 z10 z11 (q1)
  have q3 : Held (arg15.view.read (Elt Ideal) (arg15.view.writes (Elt Ideal) arg15.view.junk (kernelRun0_B.sl.HS4_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6))) (im3 (midQ m (i 0).val 3)) [] :=
    dq_cons (n := 2) (by decide) hP.1.h2 z20 z21 (q2)
  have q4 : Held (arg15.view.read (Elt Ideal) (arg15.view.writes (Elt Ideal) arg15.view.junk (kernelRun0_B.sl.HS4_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6))) (im3 (midQ m (i 0).val 4)) [] :=
    dq_cons (n := 3) (by decide) hP.1.h2 z30 z31 (q3)
  exact ⟨k4, v4, fun r e => outList_held (v8 := VO0_7) (X8 := VO0_7.junk) q4 r e⟩
end

end Cert.SB

end
-- ==== Proof.SB.RunC.lean ====
/-
  What the last point of a run of the stick-breaking attention's backward leaves in the buffers carried and in the outputs.
-/
module

public import proofs.«01_k».proof.Proof.SB.Point
public import proofs.«01_k».proof.Proof.SB.Ends
public import proofs.«01_k».proof.Proof.Gen.Kernel2Ideal.Frame

@[expose] public section

open Idealize.ShloMosaic Idealize.ShloMosaic.TcCoe
open Cert.Kernel2Ideal Cert.Kernel2Ideal.Gen Cert.Coe Cert.Store

namespace Cert.SB

section
variable (c : Dev nD) (i : grid0.Coords) (arg1 : Memref sig .tc .vmem S128x512 .bf16) (harg1 : arg1.IsWhole)
  (arg2 : Memref sig .tc .vmem S2048x512 .bf16) (harg2 : arg2.IsWhole) (arg3 : Memref sig .tc .vmem S2048x512 .bf16) (harg3 : arg3.IsWhole)
  (arg4 : Memref sig .tc .vmem S128x512 .f32) (harg4 : arg4.IsWhole) (arg5 : Memref sig .tc .vmem S128x1024 .f32) (harg5 : arg5.IsWhole)
  (arg6 : Memref sig .tc .vmem S128x256 .bf16) (harg6 : arg6.IsWhole) (arg7 : Memref sig .tc .vmem S128x256 .bf16) (harg7 : arg7.IsWhole)
  (arg8 : Memref sig .tc .vmem S128x512 .bf16) (harg8 : arg8.IsWhole) (arg9 : Memref sig .tc .vmem S2048x512 .bf16) (harg9 : arg9.IsWhole)
  (arg10 : Memref sig .tc .vmem S2048x512 .bf16) (harg10 : arg10.IsWhole) (arg11 : Memref sig .tc .vmem S4x128x128 .bf16) (harg11 : arg11.IsWhole)
  (arg12 : Memref sig .tc .vmem S4x128x128 .bf16) (harg12 : arg12.IsWhole) (arg13 : Memref sig .tc .vmem S8x256x128 .bf16) (harg13 : arg13.IsWhole)
  (arg14 : Memref sig .tc .vmem S16x128x128 .f32) (harg14 : arg14.IsWhole) (arg15 : Memref sig .tc .vmem S4x128x128 .f32) (harg15 : arg15.IsWhole)
  (arg16 : Memref sig .tc .vmem S2048x512 .f32) (harg16 : arg16.IsWhole) (arg17 : Memref sig .tc .vmem S2048x512 .f32) (harg17 : arg17.IsWhole)
  (arg18 : Memref sig .tc .vmem S8x128x256 .f32) (harg18 : arg18.IsWhole)
  (hc0 : ¬cond0_0 i) (hc1 : cond0_1 i) (x0 : Vec Ideal S128x512 .bf16) (x1 x2 : Vec Ideal S2048x512 .bf16) (x3 : Vec Ideal S128x512 .f32) (x4 : Vec Ideal S128x1024 .f32)
  (x5 x6 : Vec Ideal S128x256 .bf16) (xs5 xs6 : Vec Ideal S2048x512 .f32) {m : Model} {q o16 o17 : ℕ → ℕ → ℝ}
  (hmp : Mat (kernelRun0_C.sl.r_4 (F := Ideal) c arg6 harg6 x5) upto) (hmg : Mat (kernelRun0_C.sl.r_5 (F := Ideal) c arg7 harg7 x6) before)
  (hI : Inputs m q (harg1.unread x0) (harg2.unread x1) (harg3.unread x2) (harg4.unread x3) (harg5.unread x4))
  (h5 : HeldT (arg16.view.read (Elt Ideal) (harg16.unread xs5)) (im2 o16) 16 []) (h6 : HeldT (arg17.view.read (Elt Ideal) (harg17.unread xs6)) (im2 o17) 16 [])

include hmp hmg hI h5 h6

set_option maxHeartbeats 8000000 in
/-- The gradients of the keys and of the values carried, and the queries' gradient. -/
theorem runC : HeldT (out0_C_8 (F := Ideal) c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 hc0 hc1 x0 x1 x2 x3 x4 x5 x6 xs5 xs6) (im2 (midK m o16 (i 0).val 4)) 16 [] ∧
    HeldT (out0_C_9 (F := Ideal) c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 hc0 hc1 x0 x1 x2 x3 x4 x5 x6 xs5 xs6) (im2 (midV m o17 (i 0).val 4)) 16 [] ∧
    ∀ (r : Fin 128) (e : Fin 512), out0_C_7 (F := Ideal) c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 hc0 hc1 x0 x1 x2 x3 x4 x5 x6 xs5 xs6 (ix2 r e) = ((outQ m (i 0).val r.val e.val : ℝ) : EReal) := by
  have hP := point Variants.none c none i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 (BitVec.ofNat 32 (i 0).val) _ _
    (kernelRun0_C.sl.r_13 (F := Ideal) c arg3 harg3 arg4 harg4 arg12 x2 x3) (kernelRun0_C.sl.r_14 (F := Ideal) c arg3 harg3 arg4 harg4 arg12 x2 x3)
    (kernelRun0_C.sl.r_17 (F := Ideal) c arg3 harg3 arg4 harg4 arg12 x2 x3) (kernelRun0_C.sl.r_18 (F := Ideal) c arg3 harg3 arg4 harg4 arg12 x2 x3) hmp hmg hI
    (L11 := kernelRun0_C.sl.HS0_4 (F := Ideal) c arg1 harg1 x0) (L12 := kernelRun0_C.sl.HS1_4 (F := Ideal) c arg4 harg4 x3) (L13 := kernelRun0_C.sl.HS2_8 (F := Ideal) c arg1 harg1 arg4 harg4 x0 x3)
    (L14 := kernelRun0_C.sl.HS3_1 (F := Ideal)) (L15 := kernelRun0_C.sl.HS4_1 (F := Ideal))
    (L18 := kernelRun0_C.sl.HS7_8 (F := Ideal) c arg1 harg1 arg2 harg2 arg3 harg3 arg4 harg4 arg11 arg12 x0 x1 x2 x3) rfl rfl rfl rfl rfl rfl
    (G16 := (harg16.unread xs5)) (G17 := (harg17.unread xs6)) h5 h6 (kernelRun0_C.sl.v296 i)
  have z00 : Mat (kernelRun0_C.sl.r_114 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6) (m.Z true (2 * 0) (i 0).val) := dZ0_mat hmp hmg hP.1 hP.2 0 (by decide)
  have w00 : Mat (kernelRun0_C.sl.r_80 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6) (m.W true (2 * 0) (i 0).val) := dW0_mat hmp hP.1 hP.2 0 (by decide)
  have z01 : Mat (kernelRun0_C.sl.r_115 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6) (m.Z true (2 * 0 + 1) (i 0).val) := dZ1_mat hmp hmg hP.1 hP.2 0 (by decide)
  have w01 : Mat (kernelRun0_C.sl.r_81 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6) (m.W true (2 * 0 + 1) (i 0).val) := dW1_mat hmp hP.1 hP.2 0 (by decide)
  have z10 : Mat (kernelRun0_C.sl.r_116 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6) (m.Z true (2 * 1) (i 0).val) := dZ0_mat hmp hmg hP.1 hP.2 1 (by decide)
  have w10 : Mat (kernelRun0_C.sl.r_82 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6) (m.W true (2 * 1) (i 0).val) := dW0_mat hmp hP.1 hP.2 1 (by decide)
  have z11 : Mat (kernelRun0_C.sl.r_117 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6) (m.Z true (2 * 1 + 1) (i 0).val) := dZ1_mat hmp hmg hP.1 hP.2 1 (by decide)
  have w11 : Mat (kernelRun0_C.sl.r_83 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6) (m.W true (2 * 1 + 1) (i 0).val) := dW1_mat hmp hP.1 hP.2 1 (by decide)
  have z20 : Mat (kernelRun0_C.sl.r_118 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6) (m.Z true (2 * 2) (i 0).val) := dZ0_mat hmp hmg hP.1 hP.2 2 (by decide)
  have w20 : Mat (kernelRun0_C.sl.r_84 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6) (m.W true (2 * 2) (i 0).val) := dW0_mat hmp hP.1 hP.2 2 (by decide)
  have z21 : Mat (kernelRun0_C.sl.r_119 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6) (m.Z true (2 * 2 + 1) (i 0).val) := dZ1_mat hmp hmg hP.1 hP.2 2 (by decide)
  have w21 : Mat (kernelRun0_C.sl.r_85 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6) (m.W true (2 * 2 + 1) (i 0).val) := dW1_mat hmp hP.1 hP.2 2 (by decide)
  have z30 : Mat (kernelRun0_C.sl.r_120 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6) (m.Z true (2 * 3) (i 0).val) := dZ0_mat hmp hmg hP.1 hP.2 3 (by decide)
  have w30 : Mat (kernelRun0_C.sl.r_86 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6) (m.W true (2 * 3) (i 0).val) := dW0_mat hmp hP.1 hP.2 3 (by decide)
  have z31 : Mat (kernelRun0_C.sl.r_121 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6) (m.Z true (2 * 3 + 1) (i 0).val) := dZ1_mat hmp hmg hP.1 hP.2 3 (by decide)
  have w31 : Mat (kernelRun0_C.sl.r_87 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6) (m.W true (2 * 3 + 1) (i 0).val) := dW1_mat hmp hP.1 hP.2 3 (by decide)
  have k1 : HeldT (arg16.view.read (Elt Ideal) (arg16.view.writes (Elt Ideal) (harg16.unread xs5) (kernelRun0_C.sl.HS5_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6))) (im2 (midK m o16 (i 0).val 1)) 16 [] :=
    dk_cons (n := 0) (by decide) hP.1.h13 z00 z01 (by rw [midK_zero]; exact hP.2.h16)
  have k2 : HeldT (arg16.view.read (Elt Ideal) (arg16.view.writes (Elt Ideal) (harg16.unread xs5) (kernelRun0_C.sl.HS5_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6))) (im2 (midK m o16 (i 0).val 2)) 16 [] :=
    dk_cons (n := 1) (by decide) hP.1.h13 z10 z11 (k1)
  have k3 : HeldT (arg16.view.read (Elt Ideal) (arg16.view.writes (Elt Ideal) (harg16.unread xs5) (kernelRun0_C.sl.HS5_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6))) (im2 (midK m o16 (i 0).val 3)) 16 [] :=
    dk_cons (n := 2) (by decide) hP.1.h13 z20 z21 (k2)
  have k4 : HeldT (arg16.view.read (Elt Ideal) (arg16.view.writes (Elt Ideal) (harg16.unread xs5) (kernelRun0_C.sl.HS5_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6))) (im2 (midK m o16 (i 0).val 4)) 16 [] :=
    dk_cons (n := 3) (by decide) hP.1.h13 z30 z31 (k3)
  have v1 : HeldT (arg17.view.read (Elt Ideal) (arg17.view.writes (Elt Ideal) (harg17.unread xs6) (kernelRun0_C.sl.HS6_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6))) (im2 (midV m o17 (i 0).val 1)) 16 [] :=
    dv_cons (n := 0) (by decide) hP.1.h13 w00 w01 (by rw [midV_zero]; exact hP.2.h17)
  have v2 : HeldT (arg17.view.read (Elt Ideal) (arg17.view.writes (Elt Ideal) (harg17.unread xs6) (kernelRun0_C.sl.HS6_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6))) (im2 (midV m o17 (i 0).val 2)) 16 [] :=
    dv_cons (n := 1) (by decide) hP.1.h13 w10 w11 (v1)
  have v3 : HeldT (arg17.view.read (Elt Ideal) (arg17.view.writes (Elt Ideal) (harg17.unread xs6) (kernelRun0_C.sl.HS6_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6))) (im2 (midV m o17 (i 0).val 3)) 16 [] :=
    dv_cons (n := 2) (by decide) hP.1.h13 w20 w21 (v2)
  have v4 : HeldT (arg17.view.read (Elt Ideal) (arg17.view.writes (Elt Ideal) (harg17.unread xs6) (kernelRun0_C.sl.HS6_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6))) (im2 (midV m o17 (i 0).val 4)) 16 [] :=
    dv_cons (n := 3) (by decide) hP.1.h13 w30 w31 (v3)
  have q1 : Held (arg15.view.read (Elt Ideal) (arg15.view.writes (Elt Ideal) arg15.view.junk (kernelRun0_C.sl.HS4_1_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6))) (im3 (midQ m (i 0).val 1)) [] :=
    dq_cons (n := 0) (by decide) hP.1.h2 z00 z01 (by rw [midQ_zero]; exact hP.2.h15)
  have q2 : Held (arg15.view.read (Elt Ideal) (arg15.view.writes (Elt Ideal) arg15.view.junk (kernelRun0_C.sl.HS4_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6))) (im3 (midQ m (i 0).val 2)) [] :=
    dq_cons (n := 1) (by decide) hP.1.h2 z10 z11 (q1)
  have q3 : Held (arg15.view.read (Elt Ideal) (arg15.view.writes (Elt Ideal) arg15.view.junk (kernelRun0_C.sl.HS4_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6))) (im3 (midQ m (i 0).val 3)) [] :=
    dq_cons (n := 2) (by decide) hP.1.h2 z20 z21 (q2)
  have q4 : Held (arg15.view.read (Elt Ideal) (arg15.view.writes (Elt Ideal) arg15.view.junk (kernelRun0_C.sl.HS4_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 xs5 xs6))) (im3 (midQ m (i 0).val 4)) [] :=
    dq_cons (n := 3) (by decide) hP.1.h2 z30 z31 (q3)
  exact ⟨keys_out k4, vals_out v4, fun r e => outList_held (v8 := VO0_7) (X8 := VO0_7.junk) q4 r e⟩
end

end Cert.SB

end
-- ==== Proof.SB.Kernel.lean ====
/-
  The stick-breaking attention's backward over its whole run, for real arguments: what is carried from point to point and
  the three arrays written.
-/
module

public import proofs.«01_k».proof.Proof.SB.Blocks
public import proofs.«01_k».proof.Proof.SB.RunA
public import proofs.«01_k».proof.Proof.SB.RunB
public import proofs.«01_k».proof.Proof.SB.RunC

@[expose] public section

set_option maxRecDepth 16384

noncomputable section

namespace Cert.SB

open Cert.Kernel2Ideal Cert.Kernel2Ideal.Gen Cert.Coe Cert.Store Idealize.ShloMosaic Idealize.ShloMosaic.TcCoe

variable (m : (ℓ : Loc nD τ sig) → Buf (Elt Ideal) ℓ) (c : Dev nD)
variable {P D : ℕ → ℕ → ℝ} (HP : m ((c : Thread nD τ).loc main_arg0) = arrP P) (HD : m ((c : Thread nD τ).loc main_arg1) = arrD D)

/-- The tile of point `t`. -/
abbrev model (P D : ℕ → ℕ → ℝ) (t : ℕ) : Model := rows P (colK P) (colV P) D t

include HP HD in
/-- The first point. -/
theorem ptA (t : Fin cfg0.N) (h0 : t.val % 16 = 0) (h1 : ¬t.val % 16 = 15) :
    HeldT (outsAt0 m c t.val t.isLt).2.2.2.1 (im2 (midK (model P D t.val) (fun _ _ => 0) t.val 4)) 16 [] ∧
    HeldT (outsAt0 m c t.val t.isLt).2.2.2.2 (im2 (midV (model P D t.val) (fun _ _ => 0) t.val 4)) 16 [] ∧
    ∀ (r : Fin 128) (e : Fin 512), (outsAt0 m c t.val t.isLt).1 (ix2 r e) = ((outQ (model P D t.val) t.val r.val e.val : ℝ) : EReal) := by
  rw [outsAt0_A m c t h0 h1]
  dsimp only
  have h := runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t)
      (hs0_6 t) (ms0_7 t) (hs0_7 t) (ms0_8 t) (hs0_8 t) (ms0_9 t) (hs0_9 t) scM0_0 (Memref.isWhole_whole _) scM0_1 (Memref.isWhole_whole _) scM0_2
      (Memref.isWhole_whole _) scM0_3 (Memref.isWhole_whole _) scM0_4 (Memref.isWhole_whole _) scM0_5 (Memref.isWhole_whole _) scM0_6 (Memref.isWhole_whole
      _) scM0_7 (Memref.isWhole_whole _)
      ((hcond0_0 t).mpr h0) (fun h => h1 ((hcond0_1 t).mp h)) (X0_0 m c t) (X0_1 m c t) (X0_2 m c t) (iblk m c 3 t) (iblk m c 4 t) (iblk m c 5 t) (iblk m c 6 t) (tri_upto m c (ms0_5 t) (hs0_5 t) t) (tri_before m c (ms0_6 t) (hs0_6 t) t) (inputs m c HP HD _ _ _ _ _ _ _ _ _ _ t)
  rw [coord t] at h
  exact h

include HP HD in
/-- A point inside the run. -/
theorem ptB (t : Fin cfg0.N) (h0 : ¬t.val % 16 = 0) (h1 : ¬t.val % 16 = 15) {o16 o17 : ℕ → ℕ → ℝ}
    (h5 : HeldT (outsAt0 m c (t.val - 1) (Nat.lt_of_le_of_lt (Nat.sub_le _ _) t.isLt)).2.2.2.1 (im2 o16) 16 [])
    (h6 : HeldT (outsAt0 m c (t.val - 1) (Nat.lt_of_le_of_lt (Nat.sub_le _ _) t.isLt)).2.2.2.2 (im2 o17) 16 []) :
    HeldT (outsAt0 m c t.val t.isLt).2.2.2.1 (im2 (midK (model P D t.val) o16 t.val 4)) 16 [] ∧
    HeldT (outsAt0 m c t.val t.isLt).2.2.2.2 (im2 (midV (model P D t.val) o17 t.val 4)) 16 [] ∧
    ∀ (r : Fin 128) (e : Fin 512), (outsAt0 m c t.val t.isLt).1 (ix2 r e) = ((outQ (model P D t.val) t.val r.val e.val : ℝ) : EReal) := by
  rw [outsAt0_B m c t h0 h1]
  dsimp only
  have h := runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t)
      (hs0_6 t) (ms0_7 t) (hs0_7 t) (ms0_8 t) (hs0_8 t) (ms0_9 t) (hs0_9 t) scM0_0 (Memref.isWhole_whole _) scM0_1 (Memref.isWhole_whole _) scM0_2
      (Memref.isWhole_whole _) scM0_3 (Memref.isWhole_whole _) scM0_4 (Memref.isWhole_whole _) scM0_5 (Memref.isWhole_whole _) scM0_6 (Memref.isWhole_whole
      _) scM0_7 (Memref.isWhole_whole _)
      (fun h => h0 ((hcond0_0 t).mp h)) (fun h => h1 ((hcond0_1 t).mp h)) (X0_0 m c t) (X0_1 m c t) (X0_2 m c t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (tri_upto m c (ms0_5 t) (hs0_5 t) t) (tri_before m c (ms0_6 t) (hs0_6 t) t) (inputs m c HP HD _ _ _ _ _ _ _ _ _ _ t) (by rw [Memref.IsWhole.read_unread]; exact h5) (by rw [Memref.IsWhole.read_unread]; exact h6)
  rw [coord t] at h
  exact h

include HP HD in
/-- The last point. -/
theorem ptC (t : Fin cfg0.N) (h0 : ¬t.val % 16 = 0) (h1 : t.val % 16 = 15) {o16 o17 : ℕ → ℕ → ℝ}
    (h5 : HeldT (outsAt0 m c (t.val - 1) (Nat.lt_of_le_of_lt (Nat.sub_le _ _) t.isLt)).2.2.2.1 (im2 o16) 16 [])
    (h6 : HeldT (outsAt0 m c (t.val - 1) (Nat.lt_of_le_of_lt (Nat.sub_le _ _) t.isLt)).2.2.2.2 (im2 o17) 16 []) :
    HeldT (outsAt0 m c t.val t.isLt).2.1 (im2 (midK (model P D t.val) o16 t.val 4)) 16 [] ∧
    HeldT (outsAt0 m c t.val t.isLt).2.2.1 (im2 (midV (model P D t.val) o17 t.val 4)) 16 [] ∧
    ∀ (r : Fin 128) (e : Fin 512), (outsAt0 m c t.val t.isLt).1 (ix2 r e) = ((outQ (model P D t.val) t.val r.val e.val : ℝ) : EReal) := by
  rw [outsAt0_C m c t h0 h1]
  dsimp only
  have h := runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t)
      (hs0_6 t) (ms0_7 t) (hs0_7 t) (ms0_8 t) (hs0_8 t) (ms0_9 t) (hs0_9 t) scM0_0 (Memref.isWhole_whole _) scM0_1 (Memref.isWhole_whole _) scM0_2
      (Memref.isWhole_whole _) scM0_3 (Memref.isWhole_whole _) scM0_4 (Memref.isWhole_whole _) scM0_5 (Memref.isWhole_whole _) scM0_6 (Memref.isWhole_whole
      _) scM0_7 (Memref.isWhole_whole _)
      (fun h => h0 ((hcond0_0 t).mp h)) ((hcond0_1 t).mpr h1) (X0_0 m c t) (X0_1 m c t) (X0_2 m c t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (tri_upto m c (ms0_5 t) (hs0_5 t) t) (tri_before m c (ms0_6 t) (hs0_6 t) t) (inputs m c HP HD _ _ _ _ _ _ _ _ _ _ t) (by rw [Memref.IsWhole.read_unread]; exact h5) (by rw [Memref.IsWhole.read_unread]; exact h6)
  rw [coord t] at h
  exact h

theorem size0 : cfg0.N = 16 := N_0

include HP HD in
/-- The gradients carried out of a point, but for the last. -/
theorem carried (n : ℕ) (hn : n < cfg0.N) (hl : n < 15) : HeldT (outsAt0 m c n hn).2.2.2.1 (im2 (carK P (colK P) (colV P) D (n + 1))) 16 [] ∧
    HeldT (outsAt0 m c n hn).2.2.2.2 (im2 (carV P (colK P) (colV P) D (n + 1))) 16 [] := by
  induction n with
  | zero =>
    have h := ptA m c HP HD ⟨0, hn⟩ rfl (by show ¬0 % 16 = 15; decide)
    exact ⟨h.1, h.2.1⟩
  | succ n ih =>
    have i := ih (Nat.lt_of_succ_lt hn) (by omega)
    have h := ptB m c HP HD ⟨n + 1, hn⟩ (by show ¬(n + 1) % 16 = 0; omega) (by show ¬(n + 1) % 16 = 15; omega) i.1 i.2
    exact ⟨h.1, h.2.1⟩

include HP HD in
/-- The tile of the queries' gradient a point writes. -/
theorem out_q (t : Fin cfg0.N) (r : Fin 128) (e : Fin 512) :
    (outsAt0 m c t.val t.isLt).1 (ix2 r e) = ((gq P (colK P) (colV P) D (128 * t.val + r.val) e.val : ℝ) : EReal) := by
  rw [← outQ_rows]
  have hN : t.val < 16 := t.isLt.trans_eq size0
  by_cases h0 : t.val % 16 = 0
  · exact (ptA m c HP HD t h0 (by omega)).2.2 r e
  · have i := carried m c HP HD (t.val - 1) (Nat.lt_of_le_of_lt (Nat.sub_le _ _) t.isLt) (by omega)
    by_cases h1 : t.val % 16 = 15
    · exact (ptC m c HP HD t h0 h1 i.1 i.2).2.2 r e
    · exact (ptB m c HP HD t h0 h1 i.1 i.2).2.2 r e

include HP HD in
/-- The keys' and the values' gradients the last point writes. -/
theorem out_kv (s : Fin 2048) (e : Fin 512) : (outsAt0 m c t0_15.val t0_15.isLt).2.1 (ix2 s e) = ((gk P (colK P) (colV P) D s.val e.val : ℝ) : EReal) ∧
    (outsAt0 m c t0_15.val t0_15.isLt).2.2.1 (ix2 s e) = ((gv P (colK P) D s.val e.val : ℝ) : EReal) := by
  have i := carried m c HP HD 14 (by rw [size0]; decide) (by decide)
  have h := ptC m c HP HD t0_15 (by decide) (by decide) i.1 i.2
  refine ⟨(h.1 s e (by simp)).trans ?_, (h.2.1 s e (by simp)).trans ?_⟩
  · exact congrArg _ (carK_eq (q := P) (k := colK P) (v := colV P) (g := D) 16 s.val e.val e.isLt)
  · exact congrArg _ (carV_eq (q := P) (k := colK P) (v := colV P) (g := D) 16 s.val e.val e.isLt)

include HP HD in
/-- The queries' gradient after the run. -/
theorem arr_q : (dats m 0 c).arrAt 7 cfg0.N = fun i => ((gq P (colK P) (colV P) D (i 0).val (i 1).val : ℝ) : EReal) := by
  refine (dats m 0 c).arrAt_eq_of_covers 7 _ (by decide +kernel) fun p hf y => ?_
  obtain ⟨a, b, rfl⟩ : ∃ a b, y = ix2 a b := ⟨_, _, eq_ix2 y⟩
  rw [after0_7]
  refine (out_q m c HP HD p a b).trans (congrArg _ ?_)
  refine congrArg₂ (gq P (colK P) (colV P) D) ?_ ?_
  · blk_simp [idx p]
    exact congrArg (· + a.val) (Nat.mul_comm _ _)
  · blk_simp [idx p]

include HP HD in
/-- The keys' gradient after the run. -/
theorem arr_k : (dats m 0 c).arrAt 8 cfg0.N = fun i => ((gk P (colK P) (colV P) D (i 0).val (i 1).val : ℝ) : EReal) := by
  refine (dats m 0 c).arrAt_eq_of_after_last 8 t0_15 (by decide +kernel) _ fun j => ?_
  obtain ⟨a, b, rfl⟩ : ∃ a b, j = ix2 a b := ⟨_, _, eq_ix2 j⟩
  blk_simp
  rw [after0_8]
  exact (out_kv m c HP HD a b).1

include HP HD in
/-- The values' gradient after the run. -/
theorem arr_v : (dats m 0 c).arrAt 9 cfg0.N = fun i => ((gv P (colK P) D (i 0).val (i 1).val : ℝ) : EReal) := by
  refine (dats m 0 c).arrAt_eq_of_after_last 9 t0_15 (by decide +kernel) _ fun j => ?_
  obtain ⟨a, b, rfl⟩ : ∃ a b, j = ix2 a b := ⟨_, _, eq_ix2 j⟩
  blk_simp
  rw [after0_9]
  exact (out_kv m c HP HD a b).2

end Cert.SB

end
-- ==== Proof.SB.Claim.lean ====
/-
  The stick-breaking attention's backward against the derivative of the forward lines: where the arguments are finite, both
  programs run and leave the same three arrays.
-/
module

public import proofs.«01_k».proof.Defs
public import proofs.«01_k».proof.Proof.SB.Kernel
public import proofs.«01_k».proof.Proof.SB.Ref
public import proofs.«01_k».proof.Proof.Gen.Reference2Ideal.Run
public import proofs.«01_k».proof.Proof.Gen.Pre_finite_sb
public import Idealize.ShloMosaic.Lib.Quiescent

@[expose] public section

set_option maxRecDepth 16384

noncomputable section

namespace Cert.SB

open Idealize.ShloMosaic Idealize.SL.Sem Cert.Coe

/-- A real array by its rows' and columns' numbers. -/
def table {n k : ℕ} (x : (⟨2, ![n, k]⟩ : Shape).Idx → ℝ) (a b : ℕ) : ℝ := if h : a < n ∧ b < k then x (ix2 ⟨a, h.1⟩ ⟨b, h.2⟩) else 0

theorem table_apply {n k : ℕ} (x : (⟨2, ![n, k]⟩ : Shape).Idx → ℝ) (i : (⟨2, ![n, k]⟩ : Shape).Idx) : table x (i 0).val (i 1).val = x i := by
  obtain ⟨a, b, rfl⟩ : ∃ a b, i = ix2 a b := ⟨_, _, eq_ix2 i⟩
  exact dif_pos ⟨a.isLt, b.isLt⟩

/-- Finite arguments are images of real arrays. -/
theorem reals (m : (ℓ : Loc Cert.Kernel2Ideal.nD Cert.Kernel2Ideal.τ Cert.Kernel2Ideal.sig) → Buf (Elt Ideal) ℓ)
    (hp : Cert.Pre_Kernel2Ideal_finite_sb (hPre_finite_sb := Cert.Pre_finite_sb.Gen.facts) m) (c : Dev Cert.Kernel2Ideal.nD) :
    ∃ P D : ℕ → ℕ → ℝ, m ((c.tc : Thread _ _).loc Cert.Kernel2Ideal.main_arg0) = arrP P
      ∧ m ((c.tc : Thread _ _).loc Cert.Kernel2Ideal.main_arg1) = arrD D := by
  obtain ⟨h0, h1⟩ := hp c
  obtain ⟨p, Hp⟩ := exists_real _ fun i => congrFun h0 i
  obtain ⟨d, Hd⟩ := exists_real _ fun i => congrFun h1 i
  exact ⟨table p, table d, Hp.trans (funext fun i => congrArg _ (table_apply p i).symm), Hd.trans (funext fun i => congrArg _ (table_apply d i).symm)⟩

/-- Both programs run, and from equal finite arguments their results are equal. -/
theorem algebraic : Cert.algebraic_Kernel2Ideal_Reference2Ideal_pre_finite_sb (hKernel2Ideal := Cert.Kernel2Ideal.Gen.facts)
    (hReference2Ideal := Cert.Reference2Ideal.Gen.facts) (hPre_finite_sb := Cert.Pre_finite_sb.Gen.facts) := by
  intro m ρ m' ρ' hp hargs
  refine ⟨_, _, _, (θ_run (Cert.Kernel2Ideal.defs (F := Ideal)) _ _).mono (fun r h c => h c) (Cert.Kernel2Ideal.Value.run_blocks (F := Ideal) m ρ), ?_⟩
  refine (θ_run (Cert.Reference2Ideal.defs (F := Ideal)) _ _).mono (fun r h c => ?_) (Cert.Reference2Ideal.Value.run (F := Ideal) m' ρ')
  obtain ⟨e0, e1, e2, k0, k1⟩ := h c
  obtain ⟨P, D, HP, HD⟩ := reals m hp c
  refine ⟨e0.trans ?_, e1.trans ?_, e2.trans ?_, k0, k1⟩
  · rw [Cert.Reference2Ideal.Read.val_main_v51_eq, (hargs c).1, (hargs c).2, arr_q m c HP HD, HP, HD]
    exact funext fun j => (congrArg _ (eq_ix2 j)).trans (v51_real (j 0) (j 1))
  · rw [Cert.Reference2Ideal.Read.val_main_v52_eq, (hargs c).1, (hargs c).2, arr_k m c HP HD, HP, HD]
    exact funext fun j => (congrArg _ (eq_ix2 j)).trans (v52_real (j 0) (j 1))
  · rw [Cert.Reference2Ideal.Read.val_main_v53_eq, (hargs c).1, (hargs c).2, arr_v m c HP HD, HP, HD]
    exact funext fun j => (congrArg _ (eq_ix2 j)).trans (v53_real (j 0) (j 1))

/-- The reference runs, its arguments stay, and it has no counters. -/
theorem frame_ref : Cert.quiescent_Reference2Ideal (hReference2Ideal := Cert.Reference2Ideal.Gen.facts) := fun m ρ _ =>
  (θ_run (Cert.Reference2Ideal.defs (F := Ideal)) _ _).mono
    (fun _ h => ⟨fun c => (h c).2.2.2, sem_eq_zero_of_no_sems (by decide) _⟩) (Cert.Reference2Ideal.Value.run (F := Ideal) m ρ)

end Cert.SB
-- ==== Proof.Rows.lean ====
/-
  Rows of matrices of real numbers: the product with a transposed matrix, and a row's share of a gain's gradient.
-/
module

public import proofs.«01_k».proof.Proof.Norm
public import Idealize.ShloMosaic.Lib.Pointwise
public import Idealize.ShloMosaic.Lib.Pipeline.ValueKit

@[expose] public section

noncomputable section

namespace Cert.Rows

open Cert.Norm Idealize.ShloMosaic

/-- A matrix of real numbers. -/
abbrev Mat (a b : ℕ) : Type := (⟨2, ![a, b]⟩ : Shape).Idx → ℝ

variable {a b k n : ℕ}

/-- Row `r` of a matrix. -/
def rowOf (A : Mat a b) (r : Fin a) : Fin b → ℝ := fun d => A (ix2 r d)

/-- The product of a matrix with the transpose of another, at row `r` and column `j`. -/
def mulT (A : Mat a k) (B : Mat b k) (r : Fin a) (j : Fin b) : ℝ := ∑ e, A (ix2 r e) * B (ix2 j e)

/-- The sum of the two slabs' products with the two halves of a weight's columns, at row `r` and column `j`. -/
def mulT2 (P : (⟨3, ![2, a, k]⟩ : Shape).Idx → ℝ) (W : Mat b (k + k)) (r : Fin a) (j : Fin b) : ℝ :=
  (∑ e, P (ix3 0 r e) * W (ix2 j (Fin.castAdd k e))) + ∑ e, P (ix3 1 r e) * W (ix2 j (Fin.natAdd k e))

/-- A row's share of the gain's gradient, for the cotangent `u` of the normed and scaled row. -/
def gainOf (w : ℝ) (x u : Fin n → ℝ) (d : Fin n) : ℝ := u d * (x d * rinv w x)

/-- The row's gradient with what arrives beside the norm, `D`, added first. -/
theorem add_back_eq {w : ℝ} (hw : 0 < w) (x u : Fin n → ℝ) (D : ℝ) (d : Fin n) :
    D + u d * rinv w x + x d * sq w x u + sq w x u * x d = D + back w x u d := by
  rw [← back_eq hw]
  ring

/-- Row `k` of tile `p`, for eight tiles of 256 rows. -/
def at256 {N : ℕ} (h : N = 8) (p : Fin N) (k : Fin 256) : Fin 2048 := ⟨p.val * 256 + k.val, by have := p.isLt; omega⟩

/-- The rows of tile `p`. -/
def tile {N : ℕ} (h : N = 8) (A : Mat 2048 n) (p : Fin N) : Mat 256 n := fun j => A (ix2 (at256 h p (j 0)) (j 1))

/-- A vector as a matrix of one row. -/
def flat (g : (⟨1, ![n]⟩ : Shape).Idx → ℝ) : Mat 1 n := fun j => g (ix1 (j 1))

/-- A sum over the tiles and their rows is the sum over all rows. -/
theorem sum_tiles {N : ℕ} (h : N = 8) (f : Fin 2048 → ℝ) : ∑ p : Fin N, ∑ r : Fin 256, f (at256 h p r) = ∑ r, f r := by
  subst h
  exact Fin.sum_mul_add_congr (S := 8) (n := 256) fun _ _ _ => rfl

end Cert.Rows
-- ==== Proof.Mix.Tile.lean ====
/-
  What the backward step of the two normed branches stores for one tile of 256 rows of real numbers, at an index. The two
  branches run the same lines on the two halves of the product with the transposed weight.
-/
module

public import proofs.«01_k».proof.Proof.Rows
public import proofs.«01_k».proof.Proof.Gen.Kernel3Ideal.Skeleton
public import Idealize.ShloMosaic.Lib.Tactic
public import Idealize.ShloMosaic.Lib.ValueIdx
public import Idealize.ShloMosaic.Lib.Pointwise

@[expose] public section

set_option maxRecDepth 16384

noncomputable section

namespace Cert.Mix

open Cert.Kernel3Ideal Cert.Kernel3Ideal.Gen Cert.Coe Cert.Norm Cert.Rows Idealize.ShloMosaic

variable (A : S256x1024.Idx → ℝ) (W : S1024x1024.Idx → ℝ) (U X : S256x512.Idx → ℝ) (G : S1x512.Idx → ℝ)

/-- The cotangent of the two branches side by side. -/
theorem pay3_real (r : Fin 256) (d : Fin 1024) :
    k0_pay3 (F := Ideal) (fun i => ((A i : ℝ) : EReal)) (fun i => ((W i : ℝ) : EReal)) (ix2 r d) = ((mulT A W r d : ℝ) : EReal) := by
  pointwise [k0_pay3]
  simp only [← EReal.coe_mul, sum_coe]
  rfl

/-- Its left half. -/
theorem pay4_real : k0_pay4 (F := Ideal) (fun i => ((A i : ℝ) : EReal)) (fun i => ((W i : ℝ) : EReal)) =
    fun i => ((mulT A W (i 0) (Fin.castLE (by decide) (i 1)) : ℝ) : EReal) := by
  funext i
  obtain ⟨r, d, rfl⟩ : ∃ a b, i = ix2 a b := ⟨_, _, eq_ix2 i⟩
  pointwise [k0_pay4]
  exact pay3_real A W _ _

/-- Its right half. -/
theorem pay9_real : k0_pay9 (F := Ideal) (fun i => ((A i : ℝ) : EReal)) (fun i => ((W i : ℝ) : EReal)) =
    fun i => ((mulT A W (i 0) (Fin.natAdd 512 (i 1)) : ℝ) : EReal) := by
  funext i
  obtain ⟨r, d, rfl⟩ : ∃ a b, i = ix2 a b := ⟨_, _, eq_ix2 i⟩
  pointwise [k0_pay9]
  exact pay3_real A W _ _

/-- The reciprocal root of a branch's rows. -/
theorem pay10_real (r : Fin 256) (z : Fin 1) :
    k0_pay10 (F := Ideal) (fun i => ((X i : ℝ) : EReal)) (ix2 r z) = ((rinv 512 (rowOf X r) : ℝ) : EReal) := by
  pointwise [k0_pay10]
  simp only [ofBits_512, ofBits_eps]
  exact rsqrt_mean (by norm_num) (rowOf X r)

/-- The normed branch. -/
theorem pay11_real (r : Fin 256) (d : Fin 512) :
    k0_pay11 (F := Ideal) (fun i => ((X i : ℝ) : EReal)) (ix2 r d) = ((X (ix2 r d) * rinv 512 (rowOf X r) : ℝ) : EReal) := by
  pointwise [k0_pay11]
  simp only [pay10_real, ← EReal.coe_mul]

/-- The branch's gradient. -/
theorem pay12_real (r : Fin 256) (d : Fin 512) :
    k0_pay12 (F := Ideal) (fun i => ((U i : ℝ) : EReal)) (fun i => ((X i : ℝ) : EReal)) (fun i => ((G i : ℝ) : EReal)) (ix2 r d) =
      ((back 512 (rowOf X r) (fun e => U (ix2 r e) * G (ix2 0 e)) d : ℝ) : EReal) := by
  pointwise [k0_pay12]
  simp only [pay10_real, pay11_real, ofBits_512, ← EReal.coe_mul, sum_coe,
    div_coe_coe _ (show (512 : ℝ) ≠ 0 by norm_num), ← EReal.coe_sub]
  rfl

/-- What the tile adds to the branch's gain's gradient. -/
theorem pay14_real (B : FVec Ideal S1x512 .f32) (z : Fin 1) (d : Fin 512) :
    k0_pay14 (F := Ideal) (fun i => ((U i : ℝ) : EReal)) (fun i => ((X i : ℝ) : EReal)) B (ix2 z d) =
      B (ix2 z d) + ((∑ r : Fin 256, gainOf 512 (rowOf X r) (rowOf U r) d : ℝ) : EReal) := by
  pointwise [k0_pay14]
  simp only [pay11_real, ← EReal.coe_mul, sum_coe]
  rfl

/-- The first branch runs the second one's lines. -/
theorem pay7_eq (v3 : Vec Ideal S256x1024 .bf16) (v5 : Vec Ideal S1024x1024 .bf16) (v9 : Vec Ideal S256x512 .f32) (v10 : Vec Ideal S1x512 .f32) :
    k0_pay7 (F := Ideal) v3 v5 v9 v10 = k0_pay12 (F := Ideal) (k0_pay4 (F := Ideal) v3 v5) v9 v10 := rfl

theorem pay13_eq (v3 : Vec Ideal S256x1024 .bf16) (v5 : Vec Ideal S1024x1024 .bf16) (v9 : Vec Ideal S256x512 .f32) (B : Vec Ideal S1x512 .f32) :
    k0_pay13 (F := Ideal) (k0_pay8 (F := Ideal) v3 v5 v9) B = k0_pay14 (F := Ideal) (k0_pay4 (F := Ideal) v3 v5) v9 B := rfl

end Cert.Mix
-- ==== Proof.Mix.Kernel.lean ====
/-
  The arrays of the two normed branches' backward step after its run, for real arguments: each branch's gradient row by
  row, each gain's gradient as a sum over all rows.
-/
module

public import proofs.«01_k».proof.Proof.Mix.Tile
public import proofs.«01_k».proof.Proof.Gen.Kernel3Ideal.Value
public import Idealize.ShloMosaic.Lib.Pipeline.ValueKit

@[expose] public section

set_option maxRecDepth 16384

noncomputable section

namespace Cert.Mix

open Cert.Kernel3Ideal Cert.Kernel3Ideal.Gen Cert.Coe Cert.Norm Cert.Rows Idealize.ShloMosaic Idealize.ShloMosaic.TcCoe

variable (m : (ℓ : Loc nD τ sig) → Buf (Elt Ideal) ℓ) (c : Dev nD)
variable (A : S2048x1024.Idx → ℝ) (W : S1024x1024.Idx → ℝ) (a b : S2048x512.Idx → ℝ) (ga gb : S512.Idx → ℝ)

theorem idx : ∀ p : Fin cfg0.N, win0_0.index p = ![p.val, 0] ∧ win0_1.index p = ![0, 0] ∧ win0_2.index p = ![p.val, 0]
    ∧ win0_3.index p = ![p.val, 0] ∧ win0_4.index p = ![0, 0] ∧ win0_5.index p = ![0, 0] ∧ win0_6.index p = ![p.val, 0]
    ∧ win0_7.index p = ![p.val, 0] ∧ win0_8.index p = ![0, 0] ∧ win0_9.index p = ![0, 0] := by
  decide +kernel

variable (H0 : m ((c : Thread nD τ).loc main_arg0) = fun i => ((A i : ℝ) : EReal))
  (H1 : m ((c : Thread nD τ).loc main_arg1) = fun i => ((W i : ℝ) : EReal))
  (H2 : m ((c : Thread nD τ).loc main_arg2) = fun i => ((a i : ℝ) : EReal))
  (H3 : m ((c : Thread nD τ).loc main_arg3) = fun i => ((b i : ℝ) : EReal))
  (H4 : m ((c : Thread nD τ).loc main_arg4) = fun i => ((ga i : ℝ) : EReal))
  (H5 : m ((c : Thread nD τ).loc main_arg5) = fun i => ((gb i : ℝ) : EReal))

include H0 in
/-- The tile of cotangent rows a point reads. -/
theorem blk0 (p : Fin cfg0.N) : iblk m c 0 p = fun j => ((tile N_0 A p j : ℝ) : EReal) := by
  funext j
  have e : iblk m c 0 p j = m ((c : Thread nD τ).loc main_arg0) (ix2 (at256 N_0 p (j 0)) (j 1)) := by
    blk_ext! [iblk, V, idx p, at256]
  rw [e, H0]
  rfl

include H1 in
/-- The weight a point reads. -/
theorem blk1 (p : Fin cfg0.N) : iblk m c 1 p = fun j => ((W j : ℝ) : EReal) := by
  funext j
  have e : iblk m c 1 p j = m ((c : Thread nD τ).loc main_arg1) j := by
    blk_ext! [iblk, V, idx p]
  rw [e, H1]

include H2 in
/-- The tile of the first branch's rows a point reads. -/
theorem blk2 (p : Fin cfg0.N) : iblk m c 2 p = fun j => ((tile N_0 a p j : ℝ) : EReal) := by
  funext j
  have e : iblk m c 2 p j = m ((c : Thread nD τ).loc main_arg2) (ix2 (at256 N_0 p (j 0)) (j 1)) := by
    blk_ext [iblk, V, idx p, at256]
  rw [e, H2]
  rfl

include H3 in
/-- The tile of the second branch's rows a point reads. -/
theorem blk3 (p : Fin cfg0.N) : iblk m c 3 p = fun j => ((tile N_0 b p j : ℝ) : EReal) := by
  funext j
  have e : iblk m c 3 p j = m ((c : Thread nD τ).loc main_arg3) (ix2 (at256 N_0 p (j 0)) (j 1)) := by
    blk_ext [iblk, V, idx p, at256]
  rw [e, H3]
  rfl

include H4 in
/-- The first gain a point reads. -/
theorem blk4 (p : Fin cfg0.N) : iblk m c 4 p = fun j => ((flat ga j : ℝ) : EReal) := by
  funext j
  have e : iblk m c 4 p j = m ((c : Thread nD τ).loc main_arg4) (ix1 (j 1)) := by
    blk_ext! [iblk, V, idx p]
  rw [e, H4]
  rfl

include H5 in
/-- The second gain a point reads. -/
theorem blk5 (p : Fin cfg0.N) : iblk m c 5 p = fun j => ((flat gb j : ℝ) : EReal) := by
  funext j
  have e : iblk m c 5 p j = m ((c : Thread nD τ).loc main_arg5) (ix1 (j 1)) := by
    blk_ext! [iblk, V, idx p]
  rw [e, H5]
  rfl

/-- A branch's gradient, row by row; `s` says which half of the product the branch takes. -/
def gradArr (s : Fin 512 → Fin 1024) (x : S2048x512.Idx → ℝ) (g : S512.Idx → ℝ) (i : S2048x512.Idx) : ℝ :=
  back 512 (rowOf x (i 0)) (fun e => mulT A W (i 0) (s e) * g (ix1 e)) (i 1)

/-- The gradient at a tile's place in the array. -/
theorem gradArr_tile (s : Fin 512 → Fin 1024) (x : S2048x512.Idx → ℝ) (g : S512.Idx → ℝ) (p : Fin cfg0.N) (y : S256x512.Idx)
    (i : S2048x512.Idx) (h0 : i 0 = at256 N_0 p (y 0)) (h1 : i 1 = y 1) :
    back 512 (rowOf (tile N_0 x p) (y 0)) (fun e => mulT (tile N_0 A p) W (y 0) (s e) * flat g (ix2 0 e)) (y 1) = gradArr A W s x g i := by
  unfold gradArr
  rw [h0, h1]
  rfl

include H0 H1 H2 H4 in
/-- The first branch's gradient after the run. -/
theorem arr6 : (dats m 0 c).arrAt 6 cfg0.N = fun i => ((gradArr A W (Fin.castLE (by decide)) a ga i : ℝ) : EReal) := by
  refine (dats m 0 c).arrAt_eq_of_covers 6 _ (by decide +kernel) fun p hf y => ?_
  have e : (outsAt0 m c p.val p.isLt).1 y = ((back 512 (rowOf (tile N_0 a p) (y 0))
      (fun e => mulT (tile N_0 A p) W (y 0) (Fin.castLE (by decide) e) * flat ga (ix2 0 e)) (y 1) : ℝ) : EReal) := by
    obtain ⟨r, d, rfl⟩ : ∃ r d, y = ix2 r d := ⟨_, _, eq_ix2 y⟩
    by_cases hp : p.val % 8 = 0
    · rw [outsAt0_A m c p hp]; frame_out
      rw [blk0 m c A H0, blk1 m c W H1, blk2 m c a H2, blk4 m c ga H4, pay7_eq, pay4_real]
      exact pay12_real _ _ _ _ _
    · rw [outsAt0_B m c p hp]; frame_out
      rw [blk0 m c A H0, blk1 m c W H1, blk2 m c a H2, blk4 m c ga H4, pay7_eq, pay4_real]
      exact pay12_real _ _ _ _ _
  rw [after0_6]
  refine e.trans (congrArg _ (gradArr_tile A W _ a ga p y _ (Fin.ext ?_) (Fin.ext ?_)))
  · blk_simp [idx p, at256]
  · blk_simp [idx p]

include H0 H1 H3 H5 in
/-- The second branch's gradient after the run. -/
theorem arr7 : (dats m 0 c).arrAt 7 cfg0.N = fun i => ((gradArr A W (Fin.natAdd 512) b gb i : ℝ) : EReal) := by
  refine (dats m 0 c).arrAt_eq_of_covers 7 _ (by decide +kernel) fun p hf y => ?_
  have e : (outsAt0 m c p.val p.isLt).2.1 y = ((back 512 (rowOf (tile N_0 b p) (y 0))
      (fun e => mulT (tile N_0 A p) W (y 0) (Fin.natAdd 512 e) * flat gb (ix2 0 e)) (y 1) : ℝ) : EReal) := by
    obtain ⟨r, d, rfl⟩ : ∃ r d, y = ix2 r d := ⟨_, _, eq_ix2 y⟩
    by_cases hp : p.val % 8 = 0
    · rw [outsAt0_A m c p hp]; frame_out
      rw [blk0 m c A H0, blk1 m c W H1, blk3 m c b H3, blk5 m c gb H5, pay9_real]
      exact pay12_real _ _ _ _ _
    · rw [outsAt0_B m c p hp]; frame_out
      rw [blk0 m c A H0, blk1 m c W H1, blk3 m c b H3, blk5 m c gb H5, pay9_real]
      exact pay12_real _ _ _ _ _
  rw [after0_7]
  refine e.trans (congrArg _ (gradArr_tile A W _ b gb p y _ (Fin.ext ?_) (Fin.ext ?_)))
  · blk_simp [idx p, at256]
  · blk_simp [idx p]

include H0 H1 H2 in
/-- The first gain's gradient after the run. -/
theorem arr8 : (dats m 0 c).arrAt 8 cfg0.N =
    fun i => ((∑ r, gainOf 512 (rowOf a r) (fun e => mulT A W r (Fin.castLE (by decide) e)) (i 1) : ℝ) : EReal) := by
  refine (dats m 0 c).arrAt_eq_of_after_last 8 t0_7 (by decide +kernel) _ fun j => ?_
  obtain ⟨z, d, rfl⟩ : ∃ z d, j = ix2 z d := ⟨_, _, eq_ix2 j⟩
  blk_simp
  rw [after0_8, Pipeline.eq_sum_fin_of_reset_step_apply_last (fun n h => (outsAt0 m c n h).2.2.1) 8 (fun _ => 0)
    (fun p j => ((∑ r : Fin 256, gainOf 512 (rowOf (tile N_0 a p) r)
      (fun e => mulT (tile N_0 A p) W r (Fin.castLE (by decide) e)) (j 1) : ℝ) : EReal))
    (fun p hp j => by
      obtain ⟨z, d, rfl⟩ : ∃ z d, j = ix2 z d := ⟨_, _, eq_ix2 j⟩
      rw [outsAt0_A m c p hp]; frame_out
      rw [blk0 m c A H0, blk1 m c W H1, blk2 m c a H2, pay13_eq, pay4_real, pay14_real]
      pointwise [k0_pay1]
      rfl)
    (fun p hp j => by
      obtain ⟨z, d, rfl⟩ : ∃ z d, j = ix2 z d := ⟨_, _, eq_ix2 j⟩
      rw [outsAt0_B m c p hp]; frame_out
      rw [blk0 m c A H0, blk1 m c W H1, blk2 m c a H2, pay13_eq, pay4_real, pay14_real]
      rfl)
    (le_of_eq N_0) t0_7 rfl, zero_add, sum_coe]
  exact congrArg _ (sum_tiles N_0 fun r => gainOf 512 (rowOf a r) (fun e => mulT A W r (Fin.castLE (by decide) e)) d)

include H0 H1 H3 in
/-- The second gain's gradient after the run. -/
theorem arr9 : (dats m 0 c).arrAt 9 cfg0.N =
    fun i => ((∑ r, gainOf 512 (rowOf b r) (fun e => mulT A W r (Fin.natAdd 512 e)) (i 1) : ℝ) : EReal) := by
  refine (dats m 0 c).arrAt_eq_of_after_last 9 t0_7 (by decide +kernel) _ fun j => ?_
  obtain ⟨z, d, rfl⟩ : ∃ z d, j = ix2 z d := ⟨_, _, eq_ix2 j⟩
  blk_simp
  rw [after0_9, Pipeline.eq_sum_fin_of_reset_step_apply_last (fun n h => (outsAt0 m c n h).2.2.2) 8 (fun _ => 0)
    (fun p j => ((∑ r : Fin 256, gainOf 512 (rowOf (tile N_0 b p) r)
      (fun e => mulT (tile N_0 A p) W r (Fin.natAdd 512 e)) (j 1) : ℝ) : EReal))
    (fun p hp j => by
      obtain ⟨z, d, rfl⟩ : ∃ z d, j = ix2 z d := ⟨_, _, eq_ix2 j⟩
      rw [outsAt0_A m c p hp]; frame_out
      rw [blk0 m c A H0, blk1 m c W H1, blk3 m c b H3, pay9_real, pay14_real]
      pointwise [k0_pay2]
      rfl)
    (fun p hp j => by
      obtain ⟨z, d, rfl⟩ : ∃ z d, j = ix2 z d := ⟨_, _, eq_ix2 j⟩
      rw [outsAt0_B m c p hp]; frame_out
      rw [blk0 m c A H0, blk1 m c W H1, blk3 m c b H3, pay9_real, pay14_real]
      rfl)
    (le_of_eq N_0) t0_7 rfl, zero_add, sum_coe]
  exact congrArg _ (sum_tiles N_0 fun r => gainOf 512 (rowOf b r) (fun e => mulT A W r (Fin.natAdd 512 e)) d)

end Cert.Mix
-- ==== Proof.Mix.Ref.lean ====
/-
  The reference's results for the two normed branches, for real arguments: differentiation of the forward lines gives each
  branch's gradient and the sums over rows of its gain's gradient.
-/
module

public import proofs.«01_k».proof.Proof.Rows
public import proofs.«01_k».proof.Proof.Gen.Reference3Ideal.Read
public import Idealize.ShloMosaic.Lib.Tactic
public import Idealize.ShloMosaic.Lib.ValueIdx
public import Idealize.ShloMosaic.Lib.Pointwise

@[expose] public section

set_option maxRecDepth 16384

noncomputable section

namespace Cert.Mix

open Cert.Reference3Ideal Cert.Reference3Ideal.Gen Cert.Reference3Ideal.Read Cert.Coe Cert.Norm Cert.Rows Idealize.ShloMosaic

variable (A : S2048x1024.Idx → ℝ) (W : S1024x1024.Idx → ℝ) (x : S2048x512.Idx → ℝ) (g : S512.Idx → ℝ)

/-- The mean square plus epsilon of a branch's rows. -/
theorem v6_real (r : Fin 2048) (z : Fin 1) :
    val_main_v6 (F := Ideal) (fun i => ((x i : ℝ) : EReal)) (ix2 r z) = ((ms 512 (rowOf x r) : ℝ) : EReal) := by
  unfold val_main_v6 val_main_v5 val_main_v4 val_main_v3 val_main_v2 val_main_v1 val_main_v0 val_main_cst val_main_cst_0 val_main_cst_1
  pointwise
  simp only [ofBits_512, ofBits_eps, ← EReal.coe_mul, sum_coe, div_coe_coe _ (show (512 : ℝ) ≠ 0 by norm_num), ← EReal.coe_add]
  rfl

/-- Their reciprocal root. -/
theorem v7_real (r : Fin 2048) (z : Fin 1) :
    val_main_v7 (F := Ideal) (fun i => ((x i : ℝ) : EReal)) (ix2 r z) = ((rinv 512 (rowOf x r) : ℝ) : EReal) := by
  unfold val_main_v7
  pointwise
  rw [v6_real, rsqrt_coe_pos (ms_pos (by norm_num) _)]
  rfl

/-- The derivative of the reciprocal root. -/
theorem v10_real (r : Fin 2048) (z : Fin 1) :
    val_main_v10 (F := Ideal) (fun i => ((x i : ℝ) : EReal)) (ix2 r z) =
      ((-(1 / 2) * (rinv 512 (rowOf x r) / ms 512 (rowOf x r)) : ℝ) : EReal) := by
  unfold val_main_v10 val_main_v9 val_main_v8 val_main_cst_2
  pointwise
  rw [v6_real, v7_real, ofBits_neg_half, div_coe_coe _ (ms_pos (by norm_num) _).ne', ← EReal.coe_mul]

/-- The normed rows. -/
theorem v12_real (r : Fin 2048) (d : Fin 512) :
    val_main_v12 (F := Ideal) (fun i => ((x i : ℝ) : EReal)) (ix2 r d) = ((x (ix2 r d) * rinv 512 (rowOf x r) : ℝ) : EReal) := by
  unfold val_main_v12 val_main_v11
  pointwise
  rw [v7_real, ← EReal.coe_mul]

/-- The second branch is normed by the first one's lines. -/
theorem v23_eq (a : FVec Ideal S2048x512 .f32) : val_main_v23 (F := Ideal) a = val_main_v7 (F := Ideal) a := rfl

theorem v26_eq (a : FVec Ideal S2048x512 .f32) : val_main_v26 (F := Ideal) a = val_main_v10 (F := Ideal) a := rfl

theorem v28_eq (a : FVec Ideal S2048x512 .f32) : val_main_v28 (F := Ideal) a = val_main_v12 (F := Ideal) a := rfl

/-- The cotangent of the two branches side by side. -/
theorem v34_real (r : Fin 2048) (d : Fin 1024) :
    val_main_v34 (F := Ideal) (fun i => ((A i : ℝ) : EReal)) (fun i => ((W i : ℝ) : EReal)) (ix2 r d) = ((mulT A W r d : ℝ) : EReal) := by
  unfold val_main_v34
  pointwise
  simp only [← EReal.coe_mul, sum_coe]
  rfl

/-- Its left half. -/
theorem v35_real (r : Fin 2048) (d : Fin 512) :
    val_main_v35 (F := Ideal) (fun i => ((A i : ℝ) : EReal)) (fun i => ((W i : ℝ) : EReal)) (ix2 r d) =
      ((mulT A W r (Fin.castLE (by decide) d) : ℝ) : EReal) := by
  unfold val_main_v35
  pointwise
  exact v34_real A W _ _

/-- Its right half. -/
theorem v36_real (r : Fin 2048) (d : Fin 512) :
    val_main_v36 (F := Ideal) (fun i => ((A i : ℝ) : EReal)) (fun i => ((W i : ℝ) : EReal)) (ix2 r d) =
      ((mulT A W r (Fin.natAdd 512 d) : ℝ) : EReal) := by
  unfold val_main_v36
  pointwise
  exact v34_real A W _ _

/-- The first branch's gradient. -/
theorem v76_real (r : Fin 2048) (d : Fin 512) :
    val_main_v76 (F := Ideal) (fun i => ((A i : ℝ) : EReal)) (fun i => ((W i : ℝ) : EReal)) (fun i => ((x i : ℝ) : EReal))
        (fun i => ((g i : ℝ) : EReal)) (ix2 r d) =
      ((back 512 (rowOf x r) (fun e => mulT A W r (Fin.castLE (by decide) e) * g (ix1 e)) d : ℝ) : EReal) := by
  unfold val_main_v76 val_main_v75 val_main_v74 val_main_v73 val_main_v72 val_main_v71 val_main_v70 val_main_v69 val_main_v68
    val_main_v67 val_main_v66 val_main_v65 val_main_v64 val_main_v63 val_main_v61 val_main_v60 val_main_v13 val_main_cst_14
    val_main_cst_15 val_main_cst_16
  pointwise
  simp only [v35_real, v7_real, v10_real, ofBits_512, ← EReal.coe_mul, sum_coe, div_coe_coe _ (show (512 : ℝ) ≠ 0 by norm_num),
    Fin.sum_univ_one, ← EReal.coe_add]
  exact congrArg _ (back_eq (w := 512) (by norm_num) (rowOf x r) (fun e => mulT A W r (Fin.castLE (by decide) e) * g (ix1 e)) d)

/-- The second branch's gradient. -/
theorem v56_real (r : Fin 2048) (d : Fin 512) :
    val_main_v56 (F := Ideal) (fun i => ((A i : ℝ) : EReal)) (fun i => ((W i : ℝ) : EReal)) (fun i => ((x i : ℝ) : EReal))
        (fun i => ((g i : ℝ) : EReal)) (ix2 r d) =
      ((back 512 (rowOf x r) (fun e => mulT A W r (Fin.natAdd 512 e) * g (ix1 e)) d : ℝ) : EReal) := by
  unfold val_main_v56 val_main_v55 val_main_v54 val_main_v53 val_main_v52 val_main_v51 val_main_v50 val_main_v49 val_main_v48
    val_main_v47 val_main_v46 val_main_v45 val_main_v44 val_main_v43 val_main_v41 val_main_v40 val_main_v29 val_main_cst_9
    val_main_cst_10 val_main_cst_11
  rw [v23_eq, v26_eq]
  pointwise
  simp only [v36_real, v7_real, v10_real, ofBits_512, ← EReal.coe_mul, sum_coe, div_coe_coe _ (show (512 : ℝ) ≠ 0 by norm_num),
    Fin.sum_univ_one, ← EReal.coe_add]
  exact congrArg _ (back_eq (w := 512) (by norm_num) (rowOf x r) (fun e => mulT A W r (Fin.natAdd 512 e) * g (ix1 e)) d)

/-- The first gain's gradient. -/
theorem v77_real (z : Fin 1) (d : Fin 512) :
    val_main_v77 (F := Ideal) (fun i => ((A i : ℝ) : EReal)) (fun i => ((W i : ℝ) : EReal)) (fun i => ((x i : ℝ) : EReal)) (ix2 z d) =
      ((∑ r, gainOf 512 (rowOf x r) (fun e => mulT A W r (Fin.castLE (by decide) e)) d : ℝ) : EReal) := by
  unfold val_main_v77 val_main_v62 val_main_v59 val_main_v58 val_main_v57 val_main_cst_12 val_main_cst_13
  pointwise
  simp only [v12_real, v35_real, ← EReal.coe_mul, sum_coe, Fin.sum_univ_one]
  exact congrArg _ (Finset.sum_congr rfl fun r _ => mul_comm _ _)

/-- The second gain's gradient. -/
theorem v78_real (z : Fin 1) (d : Fin 512) :
    val_main_v78 (F := Ideal) (fun i => ((A i : ℝ) : EReal)) (fun i => ((W i : ℝ) : EReal)) (fun i => ((x i : ℝ) : EReal)) (ix2 z d) =
      ((∑ r, gainOf 512 (rowOf x r) (fun e => mulT A W r (Fin.natAdd 512 e)) d : ℝ) : EReal) := by
  unfold val_main_v78 val_main_v42 val_main_v39 val_main_v38 val_main_v37 val_main_cst_7 val_main_cst_8
  rw [v28_eq]
  pointwise
  simp only [v12_real, v36_real, ← EReal.coe_mul, sum_coe, Fin.sum_univ_one]
  exact congrArg _ (Finset.sum_congr rfl fun r _ => mul_comm _ _)

end Cert.Mix
-- ==== Proof.Mix.Claim.lean ====
/-
  The two normed branches' backward step against the derivative of the forward lines: where the arguments are finite, both
  programs run and leave the same four arrays.
-/
module

public import proofs.«01_k».proof.Defs
public import proofs.«01_k».proof.Proof.Mix.Kernel
public import proofs.«01_k».proof.Proof.Mix.Ref
public import proofs.«01_k».proof.Proof.Gen.Reference3Ideal.Run
public import proofs.«01_k».proof.Proof.Gen.Pre_finite_mix
public import Idealize.ShloMosaic.Lib.Quiescent

@[expose] public section

set_option maxRecDepth 16384

noncomputable section

namespace Cert.Mix

open Idealize.ShloMosaic Idealize.SL.Sem Cert.Coe

/-- Both programs run, and from equal finite arguments their results are equal. -/
theorem algebraic : Cert.algebraic_Kernel3Ideal_Reference3Ideal_pre_finite_mix (hKernel3Ideal := Cert.Kernel3Ideal.Gen.facts)
    (hReference3Ideal := Cert.Reference3Ideal.Gen.facts) (hPre_finite_mix := Cert.Pre_finite_mix.Gen.facts) := by
  intro m ρ m' ρ' hp hargs
  refine ⟨_, _, _, _, (θ_run (Cert.Kernel3Ideal.defs (F := Ideal)) _ _).mono (fun r h c => h c) (Cert.Kernel3Ideal.Value.run_blocks (F := Ideal) m ρ), ?_⟩
  refine (θ_run (Cert.Reference3Ideal.defs (F := Ideal)) _ _).mono (fun r h c => ?_) (Cert.Reference3Ideal.Value.run (F := Ideal) m' ρ')
  obtain ⟨e0, e1, e2, e3, kept⟩ := h c
  obtain ⟨a0, a1, a2, a3, a4, a5⟩ := hargs c
  obtain ⟨f0, f1, f2, f3, f4, f5⟩ := hp c
  obtain ⟨A, H0⟩ := exists_real _ fun i => congrFun f0 i
  obtain ⟨W, H1⟩ := exists_real _ fun i => congrFun f1 i
  obtain ⟨a, H2⟩ := exists_real _ fun i => congrFun f2 i
  obtain ⟨b, H3⟩ := exists_real _ fun i => congrFun f3 i
  obtain ⟨ga, H4⟩ := exists_real _ fun i => congrFun f4 i
  obtain ⟨gb, H5⟩ := exists_real _ fun i => congrFun f5 i
  refine ⟨e0.trans ?_, e1.trans ?_, e2.trans ?_, e3.trans ?_, kept⟩
  · rw [Cert.Reference3Ideal.Read.val_main_v76_eq, a0, a1, a2, a4, arr6 m c A W a ga H0 H1 H2 H4, H0, H1, H2, H4]
    exact funext fun j => (congrArg _ (eq_ix2 j)).trans (v76_real A W a ga (j 0) (j 1))
  · rw [Cert.Reference3Ideal.Read.val_main_v56_eq, a0, a1, a3, a5, arr7 m c A W b gb H0 H1 H3 H5, H0, H1, H3, H5]
    exact funext fun j => (congrArg _ (eq_ix2 j)).trans (v56_real A W b gb (j 0) (j 1))
  · rw [Cert.Reference3Ideal.Read.val_main_v77_eq, a0, a1, a2, arr8 m c A W a H0 H1 H2, H0, H1, H2]
    exact funext fun j => (congrArg _ (eq_ix2 j)).trans (v77_real A W a (j 0) (j 1))
  · rw [Cert.Reference3Ideal.Read.val_main_v78_eq, a0, a1, a3, arr9 m c A W b H0 H1 H3, H0, H1, H3]
    exact funext fun j => (congrArg _ (eq_ix2 j)).trans (v78_real A W b (j 0) (j 1))

/-- The reference runs, its arguments stay, and it has no counters. -/
theorem frame_ref : Cert.quiescent_Reference3Ideal (hReference3Ideal := Cert.Reference3Ideal.Gen.facts) := fun m ρ _ =>
  (θ_run (Cert.Reference3Ideal.defs (F := Ideal)) _ _).mono
    (fun _ h => ⟨fun c => (h c).2.2.2.2, sem_eq_zero_of_no_sems (by decide) _⟩) (Cert.Reference3Ideal.Value.run (F := Ideal) m ρ)

end Cert.Mix
-- ==== Proof.In.Tile.lean ====
/-
  What the backward step of the input norm stores for one tile of 256 rows of real numbers, at an index: the gradient with
  the residual's cotangent added, its second copy, and what the tile adds to the gain's gradient.
-/
module

public import proofs.«01_k».proof.Proof.Rows
public import proofs.«01_k».proof.Proof.Gen.Kernel4Ideal.Skeleton
public import Idealize.ShloMosaic.Lib.Tactic
public import Idealize.ShloMosaic.Lib.ValueIdx
public import Idealize.ShloMosaic.Lib.Pointwise

@[expose] public section

set_option maxRecDepth 16384

noncomputable section

namespace Cert.In

open Cert.Kernel4Ideal Cert.Kernel4Ideal.Gen Cert.Coe Cert.Norm Cert.Rows Idealize.ShloMosaic

variable (P : S1x256x2304.Idx → ℝ) (W : S1x2304x1024.Idx → ℝ) (X D : S256x1024.Idx → ℝ) (G : S1x1024.Idx → ℝ)

/-- The product of a tile with the turned weight, at a row. -/
def prod (r : Fin 256) (d : Fin 1024) : ℝ := ∑ k, P (ix3 0 r k) * W (ix3 0 k d)

/-- The cotangent of the normed tile. -/
theorem pay5_real (r : Fin 256) (d : Fin 1024) :
    k0_pay5 (F := Ideal) (fun i => ((P i : ℝ) : EReal)) (fun i => ((W i : ℝ) : EReal)) (ix2 r d) = ((prod P W r d : ℝ) : EReal) := by
  pointwise [k0_pay5]
  simp only [← EReal.coe_mul, sum_coe]
  rfl

/-- The reciprocal root of the tile's rows. -/
theorem pay6_real (r : Fin 256) (z : Fin 1) :
    k0_pay6 (F := Ideal) (fun i => ((X i : ℝ) : EReal)) (ix2 r z) = ((rinv 1024 (rowOf X r) : ℝ) : EReal) := by
  pointwise [k0_pay6]
  simp only [ofBits_1024, ofBits_eps]
  exact rsqrt_mean (by norm_num) (rowOf X r)

/-- The normed tile. -/
theorem pay7_real (r : Fin 256) (d : Fin 1024) :
    k0_pay7 (F := Ideal) (fun i => ((X i : ℝ) : EReal)) (ix2 r d) = ((X (ix2 r d) * rinv 1024 (rowOf X r) : ℝ) : EReal) := by
  pointwise [k0_pay7]
  simp only [pay6_real, ← EReal.coe_mul]

/-- The norm's gradient at the tile. -/
theorem pay8_real (r : Fin 256) (d : Fin 1024) :
    k0_pay8 (F := Ideal) (fun i => ((P i : ℝ) : EReal)) (fun i => ((W i : ℝ) : EReal)) (fun i => ((X i : ℝ) : EReal))
        (fun i => ((G i : ℝ) : EReal)) (ix2 r d) =
      ((back 1024 (rowOf X r) (fun e => prod P W r e * G (ix2 0 e)) d : ℝ) : EReal) := by
  pointwise [k0_pay8]
  simp only [pay5_real, pay6_real, pay7_real, ofBits_1024, ← EReal.coe_mul, sum_coe,
    div_coe_coe _ (show (1024 : ℝ) ≠ 0 by norm_num), ← EReal.coe_sub]
  rfl

/-- The tile's gradient block. -/
theorem pay1_real (r : Fin 256) (d : Fin 1024) :
    k0_pay1 (F := Ideal) (k0_pay8 (F := Ideal) (fun i => ((P i : ℝ) : EReal)) (fun i => ((W i : ℝ) : EReal))
        (fun i => ((X i : ℝ) : EReal)) (fun i => ((G i : ℝ) : EReal))) (fun i => ((D i : ℝ) : EReal)) (ix2 r d) =
      ((D (ix2 r d) + back 1024 (rowOf X r) (fun e => prod P W r e * G (ix2 0 e)) d : ℝ) : EReal) := by
  pointwise [k0_pay1]
  simp only [pay8_real, ← EReal.coe_add]

/-- The tile's gradient block once more, its second copy. -/
theorem pay2_real (r : Fin 256) (d : Fin 1024) :
    k0_pay2 (F := Ideal) (k0_pay8 (F := Ideal) (fun i => ((P i : ℝ) : EReal)) (fun i => ((W i : ℝ) : EReal))
        (fun i => ((X i : ℝ) : EReal)) (fun i => ((G i : ℝ) : EReal))) (fun i => ((D i : ℝ) : EReal)) (ix2 r d) =
      ((D (ix2 r d) + back 1024 (rowOf X r) (fun e => prod P W r e * G (ix2 0 e)) d : ℝ) : EReal) := by
  pointwise [k0_pay2]
  exact pay1_real P W X D G r d

/-- What the tile adds to the gain's gradient. -/
theorem pay3_real (B : FVec Ideal S1x1024 .f32) (z : Fin 1) (d : Fin 1024) :
    k0_pay3 (F := Ideal) (k0_pay9 (F := Ideal) (fun i => ((P i : ℝ) : EReal)) (fun i => ((W i : ℝ) : EReal)) (fun i => ((X i : ℝ) : EReal)))
        B (ix2 z d) =
      B (ix2 z d) + ((∑ r : Fin 256, gainOf 1024 (rowOf X r) (prod P W r) d : ℝ) : EReal) := by
  pointwise [k0_pay3, k0_pay9]
  simp only [pay5_real, pay7_real, ← EReal.coe_mul, sum_coe]
  rfl

end Cert.In
-- ==== Proof.In.Kernel.lean ====
/-
  The arrays of the input norm's backward step after its run, for real arguments: the gradient and its second copy row by
  row, the gain's gradient as a sum over all rows.
-/
module

public import proofs.«01_k».proof.Proof.In.Tile
public import proofs.«01_k».proof.Proof.Gen.Kernel4Ideal.Value
public import Idealize.ShloMosaic.Lib.Pipeline.ValueKit

@[expose] public section

set_option maxRecDepth 16384

noncomputable section

namespace Cert.In

open Cert.Kernel4Ideal Cert.Kernel4Ideal.Gen Cert.Coe Cert.Norm Cert.Rows Idealize.ShloMosaic Idealize.ShloMosaic.TcCoe

variable (m : (ℓ : Loc nD τ sig) → Buf (Elt Ideal) ℓ) (c : Dev nD)
variable (P : S2048x2304.Idx → ℝ) (W : S1024x2304.Idx → ℝ) (x D : S2048x1024.Idx → ℝ) (g : S1024.Idx → ℝ)

/-- The tile a point reads of the incoming cotangent, with its leading axis of one. -/
def slab (P : S2048x2304.Idx → ℝ) (p : Fin cfg0.N) : S1x256x2304.Idx → ℝ := fun j => P (ix2 (at256 N_0 p (j 1)) (j 2))

/-- The weight turned, with its leading axis of one. -/
def turned (W : S1024x2304.Idx → ℝ) : S1x2304x1024.Idx → ℝ := fun j => W (ix2 (j 2) (j 1))

theorem idx : ∀ p : Fin cfg0.N, win0_0.index p = ![0, p.val, 0] ∧ win0_1.index p = ![0, 0, 0] ∧ win0_2.index p = ![p.val, 0]
    ∧ win0_3.index p = ![0, 0] ∧ win0_4.index p = ![p.val, 0] ∧ win0_5.index p = ![p.val, 0] ∧ win0_6.index p = ![p.val, 0]
    ∧ win0_7.index p = ![0, 0] := by
  decide +kernel

variable (H0 : m ((c : Thread nD τ).loc main_arg0) = fun i => ((P i : ℝ) : EReal))
  (H1 : m ((c : Thread nD τ).loc main_arg1) = fun i => ((W i : ℝ) : EReal))
  (H2 : m ((c : Thread nD τ).loc main_arg2) = fun i => ((x i : ℝ) : EReal))
  (H3 : m ((c : Thread nD τ).loc main_arg3) = fun i => ((g i : ℝ) : EReal))
  (H4 : m ((c : Thread nD τ).loc main_arg4) = fun i => ((D i : ℝ) : EReal))

include H0 in
theorem blk0 (p : Fin cfg0.N) : iblk m c 0 p = fun j => ((slab P p j : ℝ) : EReal) := by
  funext j
  have e : iblk m c 0 p j = m ((c : Thread nD τ).loc main_arg0) (ix2 (at256 N_0 p (j 1)) (j 2)) := by
    blk_ext! [iblk, V, idx p, at256]
  rw [e, H0]
  rfl

include H1 in
theorem blk1 (p : Fin cfg0.N) : iblk m c 1 p = fun j => ((turned W j : ℝ) : EReal) := by
  funext j
  have e : iblk m c 1 p j = m ((c : Thread nD τ).loc main_arg1) (ix2 (j 2) (j 1)) := by
    blk_ext! [iblk, V, idx p]
  rw [e, H1]
  rfl

include H2 in
theorem blk2 (p : Fin cfg0.N) : iblk m c 2 p = fun j => ((tile N_0 x p j : ℝ) : EReal) := by
  funext j
  have e : iblk m c 2 p j = m ((c : Thread nD τ).loc main_arg2) (ix2 (at256 N_0 p (j 0)) (j 1)) := by
    blk_ext [iblk, V, idx p, at256]
  rw [e, H2]
  rfl

include H3 in
theorem blk3 (p : Fin cfg0.N) : iblk m c 3 p = fun j => ((flat g j : ℝ) : EReal) := by
  funext j
  have e : iblk m c 3 p j = m ((c : Thread nD τ).loc main_arg3) (ix1 (j 1)) := by
    blk_ext! [iblk, V, idx p]
  rw [e, H3]
  rfl

include H4 in
theorem blk4 (p : Fin cfg0.N) : iblk m c 4 p = fun j => ((tile N_0 D p j : ℝ) : EReal) := by
  funext j
  have e : iblk m c 4 p j = m ((c : Thread nD τ).loc main_arg4) (ix2 (at256 N_0 p (j 0)) (j 1)) := by
    blk_ext [iblk, V, idx p, at256]
  rw [e, H4]
  rfl

/-- The gradient, row by row. -/
def gradArr (i : S2048x1024.Idx) : ℝ := D i + back 1024 (rowOf x (i 0)) (fun e => mulT P W (i 0) e * g (ix1 e)) (i 1)

/-- The gradient at a tile's place in the array. -/
theorem gradArr_tile (p : Fin cfg0.N) (y : S256x1024.Idx) (i : S2048x1024.Idx) (h0 : i 0 = at256 N_0 p (y 0)) (h1 : i 1 = y 1) :
    tile N_0 D p (ix2 (y 0) (y 1)) +
      back 1024 (rowOf (tile N_0 x p) (y 0)) (fun e => prod (slab P p) (turned W) (y 0) e * flat g (ix2 0 e)) (y 1) = gradArr P W x D g i := by
  obtain ⟨a, b, rfl⟩ : ∃ a b, i = ix2 a b := ⟨_, _, eq_ix2 i⟩
  obtain rfl : a = at256 N_0 p (y 0) := h0
  obtain rfl : b = y 1 := h1
  rfl

include H0 H1 H2 H3 H4 in
/-- The gradient's array after the run. -/
theorem arr5 : (dats m 0 c).arrAt 5 cfg0.N = fun i => ((gradArr P W x D g i : ℝ) : EReal) := by
  refine (dats m 0 c).arrAt_eq_of_covers 5 _ (by decide +kernel) fun p hf y => ?_
  have e : (outsAt0 m c p.val p.isLt).1 y = ((tile N_0 D p (ix2 (y 0) (y 1)) +
      back 1024 (rowOf (tile N_0 x p) (y 0)) (fun e => prod (slab P p) (turned W) (y 0) e * flat g (ix2 0 e)) (y 1) : ℝ) : EReal) := by
    obtain ⟨r, d, rfl⟩ : ∃ r d, y = ix2 r d := ⟨_, _, eq_ix2 y⟩
    by_cases hp : p.val % 8 = 0
    · rw [outsAt0_A m c p hp]; frame_out
      rw [blk0 m c P H0, blk1 m c W H1, blk2 m c x H2, blk3 m c g H3, blk4 m c D H4]
      exact pay1_real _ _ _ _ _ _ _
    · rw [outsAt0_B m c p hp]; frame_out
      rw [blk0 m c P H0, blk1 m c W H1, blk2 m c x H2, blk3 m c g H3, blk4 m c D H4]
      exact pay1_real _ _ _ _ _ _ _
  rw [after0_5]
  refine e.trans (congrArg _ (gradArr_tile P W x D g p y _ (Fin.ext ?_) (Fin.ext ?_)))
  · blk_simp [idx p, at256]
  · blk_simp [idx p]

include H0 H1 H2 H3 H4 in
/-- The second copy of the gradient after the run. -/
theorem arr6 : (dats m 0 c).arrAt 6 cfg0.N = fun i => ((gradArr P W x D g i : ℝ) : EReal) := by
  refine (dats m 0 c).arrAt_eq_of_covers 6 _ (by decide +kernel) fun p hf y => ?_
  have e : (outsAt0 m c p.val p.isLt).2.1 y = ((tile N_0 D p (ix2 (y 0) (y 1)) +
      back 1024 (rowOf (tile N_0 x p) (y 0)) (fun e => prod (slab P p) (turned W) (y 0) e * flat g (ix2 0 e)) (y 1) : ℝ) : EReal) := by
    obtain ⟨r, d, rfl⟩ : ∃ r d, y = ix2 r d := ⟨_, _, eq_ix2 y⟩
    by_cases hp : p.val % 8 = 0
    · rw [outsAt0_A m c p hp]; frame_out
      rw [blk0 m c P H0, blk1 m c W H1, blk2 m c x H2, blk3 m c g H3, blk4 m c D H4]
      exact pay2_real _ _ _ _ _ _ _
    · rw [outsAt0_B m c p hp]; frame_out
      rw [blk0 m c P H0, blk1 m c W H1, blk2 m c x H2, blk3 m c g H3, blk4 m c D H4]
      exact pay2_real _ _ _ _ _ _ _
  rw [after0_6]
  refine e.trans (congrArg _ (gradArr_tile P W x D g p y _ (Fin.ext ?_) (Fin.ext ?_)))
  · blk_simp [idx p, at256]
  · blk_simp [idx p]

include H0 H1 H2 in
/-- The gain's gradient after the run. -/
theorem arr7 : (dats m 0 c).arrAt 7 cfg0.N = fun i => ((∑ r, gainOf 1024 (rowOf x r) (mulT P W r) (i 1) : ℝ) : EReal) := by
  refine (dats m 0 c).arrAt_eq_of_after_last 7 t0_7 (by decide +kernel) _ fun j => ?_
  obtain ⟨z, d, rfl⟩ : ∃ z d, j = ix2 z d := ⟨_, _, eq_ix2 j⟩
  blk_simp
  rw [after0_7, Pipeline.eq_sum_fin_of_reset_step_apply_last (fun n h => (outsAt0 m c n h).2.2) 8 (fun _ => 0)
    (fun p j => ((∑ r : Fin 256, gainOf 1024 (rowOf (tile N_0 x p) r) (prod (slab P p) (turned W) r) (j 1) : ℝ) : EReal))
    (fun p hp j => by
      obtain ⟨z, d, rfl⟩ : ∃ z d, j = ix2 z d := ⟨_, _, eq_ix2 j⟩
      rw [outsAt0_A m c p hp]; frame_out
      rw [blk0 m c P H0, blk1 m c W H1, blk2 m c x H2, pay3_real]
      pointwise [k0_pay4])
    (fun p hp j => by
      obtain ⟨z, d, rfl⟩ : ∃ z d, j = ix2 z d := ⟨_, _, eq_ix2 j⟩
      rw [outsAt0_B m c p hp]; frame_out
      rw [blk0 m c P H0, blk1 m c W H1, blk2 m c x H2, pay3_real]
      rfl)
    (le_of_eq N_0) t0_7 rfl, zero_add, sum_coe]
  exact congrArg _ (sum_tiles N_0 fun r => gainOf 1024 (rowOf x r) (mulT P W r) d)

end Cert.In
-- ==== Proof.In.Ref.lean ====
/-
  The reference's results for the input norm, for real arguments: differentiation of the forward lines gives the gradient,
  with the residual's cotangent added, and the sum over rows of the gain's gradient. The norm's own lines are those the
  loss head's reference has.
-/
module

public import proofs.«01_k».proof.Proof.Rows
public import proofs.«01_k».proof.Proof.Loss.Ref
public import proofs.«01_k».proof.Proof.Gen.Reference4Ideal.Read
public import Idealize.ShloMosaic.Lib.Tactic
public import Idealize.ShloMosaic.Lib.ValueIdx
public import Idealize.ShloMosaic.Lib.Pointwise

@[expose] public section

set_option maxRecDepth 16384

noncomputable section

namespace Cert.In

open Cert.Reference4Ideal Cert.Reference4Ideal.Gen Cert.Reference4Ideal.Read Cert.Coe Cert.Norm Cert.Rows Idealize.ShloMosaic

variable (P : S2048x2304.Idx → ℝ) (W : S1024x2304.Idx → ℝ) (x D : S2048x1024.Idx → ℝ) (g : S1024.Idx → ℝ)

/-- The reciprocal root of the rows. -/
theorem v7_real (r : Fin 2048) (z : Fin 1) :
    val_main_v7 (F := Ideal) (fun i => ((x i : ℝ) : EReal)) (ix2 r z) = ((rinv 1024 (rowOf x r) : ℝ) : EReal) :=
  Cert.Loss.v7_real x r z

/-- Its derivative. -/
theorem v10_real (r : Fin 2048) (z : Fin 1) :
    val_main_v10 (F := Ideal) (fun i => ((x i : ℝ) : EReal)) (ix2 r z) =
      ((-(1 / 2) * (rinv 1024 (rowOf x r) / ms 1024 (rowOf x r)) : ℝ) : EReal) :=
  Cert.Loss.v10_real x r z

/-- The normed rows. -/
theorem v12_real (r : Fin 2048) (d : Fin 1024) :
    val_main_v12 (F := Ideal) (fun i => ((x i : ℝ) : EReal)) (ix2 r d) = ((x (ix2 r d) * rinv 1024 (rowOf x r) : ℝ) : EReal) :=
  Cert.Loss.v12_real x r d

/-- The cotangent of the normed rows. -/
theorem v17_real (r : Fin 2048) (d : Fin 1024) :
    val_main_v17 (F := Ideal) (fun i => ((P i : ℝ) : EReal)) (fun i => ((W i : ℝ) : EReal)) (ix2 r d) = ((mulT P W r d : ℝ) : EReal) := by
  unfold val_main_v17
  pointwise
  simp only [← EReal.coe_mul, sum_coe]
  rfl

/-- The gradient. -/
theorem v38_real (r : Fin 2048) (d : Fin 1024) :
    val_main_v38 (F := Ideal) (fun i => ((P i : ℝ) : EReal)) (fun i => ((W i : ℝ) : EReal)) (fun i => ((x i : ℝ) : EReal))
        (fun i => ((g i : ℝ) : EReal)) (fun i => ((D i : ℝ) : EReal)) (ix2 r d) =
      ((D (ix2 r d) + back 1024 (rowOf x r) (fun e => mulT P W r e * g (ix1 e)) d : ℝ) : EReal) := by
  unfold val_main_v38 val_main_v37 val_main_v36 val_main_v35 val_main_v34 val_main_v33 val_main_v32 val_main_v31 val_main_v30
    val_main_v29 val_main_v28 val_main_v27 val_main_v26 val_main_v25 val_main_v24 val_main_v22 val_main_v21 val_main_v13
    val_main_cst_5 val_main_cst_6 val_main_cst_7
  pointwise
  simp only [v17_real, v7_real, v10_real, ofBits_1024, ← EReal.coe_mul, sum_coe, div_coe_coe _ (show (1024 : ℝ) ≠ 0 by norm_num),
    Fin.sum_univ_one, ← EReal.coe_add]
  exact congrArg _ (add_back_eq (w := 1024) (by norm_num) (rowOf x r) (fun e => mulT P W r e * g (ix1 e)) _ d)

/-- The gradient, its second copy. -/
theorem v39_real (r : Fin 2048) (d : Fin 1024) :
    val_main_v39 (F := Ideal) (fun i => ((P i : ℝ) : EReal)) (fun i => ((W i : ℝ) : EReal)) (fun i => ((x i : ℝ) : EReal))
        (fun i => ((g i : ℝ) : EReal)) (fun i => ((D i : ℝ) : EReal)) (ix2 r d) =
      ((D (ix2 r d) + back 1024 (rowOf x r) (fun e => mulT P W r e * g (ix1 e)) d : ℝ) : EReal) := by
  unfold val_main_v39
  pointwise
  exact v38_real P W x D g r d

/-- The gain's gradient. -/
theorem v40_real (z : Fin 1) (d : Fin 1024) :
    val_main_v40 (F := Ideal) (fun i => ((P i : ℝ) : EReal)) (fun i => ((W i : ℝ) : EReal)) (fun i => ((x i : ℝ) : EReal)) (ix2 z d) =
      ((∑ r, gainOf 1024 (rowOf x r) (mulT P W r) d : ℝ) : EReal) := by
  unfold val_main_v40 val_main_v23 val_main_v20 val_main_v19 val_main_v18 val_main_cst_3 val_main_cst_4
  pointwise
  simp only [v12_real, v17_real, ← EReal.coe_mul, sum_coe, Fin.sum_univ_one]
  exact congrArg _ (Finset.sum_congr rfl fun r _ => mul_comm _ _)

end Cert.In
-- ==== Proof.In.Claim.lean ====
/-
  The input norm's backward step against the derivative of the forward lines: where the arguments are finite, both programs
  run and leave the same three arrays.
-/
module

public import proofs.«01_k».proof.Defs
public import proofs.«01_k».proof.Proof.In.Kernel
public import proofs.«01_k».proof.Proof.In.Ref
public import proofs.«01_k».proof.Proof.Gen.Reference4Ideal.Run
public import proofs.«01_k».proof.Proof.Gen.Pre_finite_in
public import Idealize.ShloMosaic.Lib.Quiescent

@[expose] public section

set_option maxRecDepth 16384

noncomputable section

namespace Cert.In

open Idealize.ShloMosaic Idealize.SL.Sem Cert.Coe

/-- Both programs run, and from equal finite arguments their results are equal. -/
theorem algebraic : Cert.algebraic_Kernel4Ideal_Reference4Ideal_pre_finite_in (hKernel4Ideal := Cert.Kernel4Ideal.Gen.facts)
    (hReference4Ideal := Cert.Reference4Ideal.Gen.facts) (hPre_finite_in := Cert.Pre_finite_in.Gen.facts) := by
  intro m ρ m' ρ' hp hargs
  refine ⟨_, _, _, (θ_run (Cert.Kernel4Ideal.defs (F := Ideal)) _ _).mono (fun r h c => h c) (Cert.Kernel4Ideal.Value.run_blocks (F := Ideal) m ρ), ?_⟩
  refine (θ_run (Cert.Reference4Ideal.defs (F := Ideal)) _ _).mono (fun r h c => ?_) (Cert.Reference4Ideal.Value.run (F := Ideal) m' ρ')
  obtain ⟨e0, e1, e2, kept⟩ := h c
  obtain ⟨a0, a1, a2, a3, a4⟩ := hargs c
  obtain ⟨f0, f1, f2, f3, f4⟩ := hp c
  obtain ⟨P, H0⟩ := exists_real _ fun i => congrFun f0 i
  obtain ⟨W, H1⟩ := exists_real _ fun i => congrFun f1 i
  obtain ⟨x, H2⟩ := exists_real _ fun i => congrFun f2 i
  obtain ⟨g, H3⟩ := exists_real _ fun i => congrFun f3 i
  obtain ⟨D, H4⟩ := exists_real _ fun i => congrFun f4 i
  refine ⟨e0.trans ?_, e1.trans ?_, e2.trans ?_, kept⟩
  · rw [Cert.Reference4Ideal.Read.val_main_v38_eq, a0, a1, a2, a3, a4, arr5 m c P W x D g H0 H1 H2 H3 H4, H0, H1, H2, H3, H4]
    exact funext fun j => by
      obtain ⟨r, d, rfl⟩ : ∃ r d, j = ix2 r d := ⟨_, _, eq_ix2 j⟩
      exact v38_real P W x D g r d
  · rw [Cert.Reference4Ideal.Read.val_main_v39_eq, a0, a1, a2, a3, a4, arr6 m c P W x D g H0 H1 H2 H3 H4, H0, H1, H2, H3, H4]
    exact funext fun j => by
      obtain ⟨r, d, rfl⟩ : ∃ r d, j = ix2 r d := ⟨_, _, eq_ix2 j⟩
      exact v39_real P W x D g r d
  · rw [Cert.Reference4Ideal.Read.val_main_v40_eq, a0, a1, a2, arr7 m c P W x H0 H1 H2, H0, H1, H2]
    exact funext fun j => (congrArg _ (eq_ix2 j)).trans (v40_real P W x (j 0) (j 1))

/-- The reference runs, its arguments stay, and it has no counters. -/
theorem frame_ref : Cert.quiescent_Reference4Ideal (hReference4Ideal := Cert.Reference4Ideal.Gen.facts) := fun m ρ _ =>
  (θ_run (Cert.Reference4Ideal.defs (F := Ideal)) _ _).mono
    (fun _ h => ⟨fun c => (h c).2.2.2, sem_eq_zero_of_no_sems (by decide) _⟩) (Cert.Reference4Ideal.Value.run (F := Ideal) m ρ)

end Cert.In
-- ==== Proof.Up.Tile.lean ====
/-
  What the backward step of the half-step's norm stores for one tile of 256 rows of real numbers, at an index. The cotangent
  of the normed tile is a sum of two products, one for the gate and one for the other half.
-/
module

public import proofs.«01_k».proof.Proof.Rows
public import proofs.«01_k».proof.Proof.Gen.Kernel5Ideal.Skeleton
public import Idealize.ShloMosaic.Lib.Tactic
public import Idealize.ShloMosaic.Lib.ValueIdx
public import Idealize.ShloMosaic.Lib.Pointwise

@[expose] public section

set_option maxRecDepth 16384

noncomputable section

namespace Cert.Up

open Cert.Kernel5Ideal Cert.Kernel5Ideal.Gen Cert.Coe Cert.Norm Cert.Rows Idealize.ShloMosaic

variable (P Q : S1x256x2816.Idx → ℝ) (W Y : S1x2816x1024.Idx → ℝ) (X D : S256x1024.Idx → ℝ) (G : S1x1024.Idx → ℝ)

/-- The two products of a tile with the turned weights, at a row. -/
def prod (r : Fin 256) (d : Fin 1024) : ℝ := (∑ k, P (ix3 0 r k) * W (ix3 0 k d)) + ∑ k, Q (ix3 0 r k) * Y (ix3 0 k d)

/-- The cotangent of the normed tile. -/
theorem pay5_real (r : Fin 256) (d : Fin 1024) :
    k0_pay5 (F := Ideal) (fun i => ((P i : ℝ) : EReal)) (fun i => ((W i : ℝ) : EReal)) (fun i => ((Q i : ℝ) : EReal))
        (fun i => ((Y i : ℝ) : EReal)) (ix2 r d) =
      ((prod P Q W Y r d : ℝ) : EReal) := by
  pointwise [k0_pay5]
  simp only [← EReal.coe_mul, sum_coe, ← EReal.coe_add]
  rfl

/-- The reciprocal root of the tile's rows. -/
theorem pay6_real (r : Fin 256) (z : Fin 1) :
    k0_pay6 (F := Ideal) (fun i => ((X i : ℝ) : EReal)) (ix2 r z) = ((rinv 1024 (rowOf X r) : ℝ) : EReal) := by
  pointwise [k0_pay6]
  simp only [ofBits_1024, ofBits_eps]
  exact rsqrt_mean (by norm_num) (rowOf X r)

/-- The normed tile. -/
theorem pay7_real (r : Fin 256) (d : Fin 1024) :
    k0_pay7 (F := Ideal) (fun i => ((X i : ℝ) : EReal)) (ix2 r d) = ((X (ix2 r d) * rinv 1024 (rowOf X r) : ℝ) : EReal) := by
  pointwise [k0_pay7]
  simp only [pay6_real, ← EReal.coe_mul]

/-- The tile's gradient block. -/
theorem block_real (r : Fin 256) (d : Fin 1024) :
    k0_pay1 (F := Ideal) (k0_pay6 (F := Ideal) (fun i => ((X i : ℝ) : EReal))) (k0_pay7 (F := Ideal) (fun i => ((X i : ℝ) : EReal)))
        (k0_pay8 (F := Ideal) (fun i => ((P i : ℝ) : EReal)) (fun i => ((W i : ℝ) : EReal)) (fun i => ((Q i : ℝ) : EReal)) (fun i => ((Y i : ℝ) : EReal)) (fun i => ((G i : ℝ) : EReal)))
        (k0_pay9 (F := Ideal) (fun i => ((P i : ℝ) : EReal)) (fun i => ((W i : ℝ) : EReal)) (fun i => ((Q i : ℝ) : EReal)) (fun i => ((Y i : ℝ) : EReal)) (fun i => ((X i : ℝ) : EReal)) (fun i => ((G i : ℝ) : EReal)))
        (k0_pay10 (F := Ideal)) (fun i => ((D i : ℝ) : EReal)) (ix2 r d) =
      ((D (ix2 r d) + back 1024 (rowOf X r) (fun e => prod P Q W Y r e * G (ix2 0 e)) d : ℝ) : EReal) := by
  pointwise [k0_pay1, k0_pay8, k0_pay9, k0_pay10]
  simp only [pay5_real, pay6_real, pay7_real, ofBits_1024, ← EReal.coe_mul, sum_coe,
    div_coe_coe _ (show (1024 : ℝ) ≠ 0 by norm_num), ← EReal.coe_sub, ← EReal.coe_add]
  rfl

/-- What the tile adds to the gain's gradient. -/
theorem pay3_real (B : FVec Ideal S1x1024 .f32) (z : Fin 1) (d : Fin 1024) :
    k0_pay3 (F := Ideal)
        (k0_pay5 (F := Ideal) (fun i => ((P i : ℝ) : EReal)) (fun i => ((W i : ℝ) : EReal)) (fun i => ((Q i : ℝ) : EReal))
          (fun i => ((Y i : ℝ) : EReal)))
        (k0_pay7 (F := Ideal) (fun i => ((X i : ℝ) : EReal))) B (ix2 z d) =
      B (ix2 z d) + ((∑ r : Fin 256, gainOf 1024 (rowOf X r) (prod P Q W Y r) d : ℝ) : EReal) := by
  pointwise [k0_pay3]
  simp only [pay5_real, pay7_real, ← EReal.coe_mul, sum_coe]
  rfl

end Cert.Up
-- ==== Proof.Up.Kernel.lean ====
/-
  The arrays of the half-step's norm's backward step after its run, for real arguments: the gradient and its second copy row by
  row, the gain's gradient as a sum over all rows.
-/
module

public import proofs.«01_k».proof.Proof.Up.Tile
public import proofs.«01_k».proof.Proof.Gen.Kernel5Ideal.Value
public import Idealize.ShloMosaic.Lib.Pipeline.ValueKit

@[expose] public section

set_option maxRecDepth 16384

noncomputable section

namespace Cert.Up

open Cert.Kernel5Ideal Cert.Kernel5Ideal.Gen Cert.Coe Cert.Norm Cert.Rows Idealize.ShloMosaic Idealize.ShloMosaic.TcCoe

variable (m : (ℓ : Loc nD τ sig) → Buf (Elt Ideal) ℓ) (c : Dev nD)
variable (P : S2x2048x2816.Idx → ℝ) (W : S1024x5632.Idx → ℝ) (x D : S2048x1024.Idx → ℝ) (g : S1024.Idx → ℝ)

/-- The tile a point reads of slab `s` of the incoming cotangent, with a leading axis of one. -/
def slab (P : S2x2048x2816.Idx → ℝ) (p : Fin cfg0.N) (s : Fin 2) : S1x256x2816.Idx → ℝ := fun j => P (ix3 s (at256 N_0 p (j 1)) (j 2))

/-- Half `s` of the weight's columns turned, with a leading axis of one. -/
def turned (W : S1024x5632.Idx → ℝ) (h : Fin 2816 → Fin 5632) : S1x2816x1024.Idx → ℝ := fun j => W (ix2 (j 2) (h (j 1)))

/-- Column `k` of half `s` of the weight's columns. -/
def col (s : Fin 2) (k : Fin 2816) : Fin 5632 := ⟨s.val * 2816 + k.val, by omega⟩

theorem col_zero (k : Fin 2816) : col 0 k = Fin.castAdd 2816 k := Fin.ext (by simp [col])

theorem col_one (k : Fin 2816) : col 1 k = Fin.natAdd 2816 k := Fin.ext (by simp [col, Nat.add_comm])

theorem idx : ∀ p : Fin cfg0.N, win0_0.index p = ![0, p.val, 0] ∧ win0_1.index p = ![0, 0, 0] ∧ win0_2.index p = ![p.val, 0]
    ∧ win0_3.index p = ![0, 0] ∧ win0_4.index p = ![p.val, 0] ∧ win0_5.index p = ![p.val, 0] ∧ win0_6.index p = ![p.val, 0]
    ∧ win0_7.index p = ![0, 0] := by
  decide +kernel

variable (H0 : m ((c : Thread nD τ).loc main_arg0) = fun i => ((P i : ℝ) : EReal))
  (H1 : m ((c : Thread nD τ).loc main_arg1) = fun i => ((W i : ℝ) : EReal))
  (H2 : m ((c : Thread nD τ).loc main_arg2) = fun i => ((x i : ℝ) : EReal))
  (H3 : m ((c : Thread nD τ).loc main_arg3) = fun i => ((g i : ℝ) : EReal))
  (H4 : m ((c : Thread nD τ).loc main_arg4) = fun i => ((D i : ℝ) : EReal))

include H0 in
theorem blk0 (p : Fin cfg0.N) : iblk m c 0 p = fun j => ((P (ix3 (j 0) (at256 N_0 p (j 1)) (j 2)) : ℝ) : EReal) := by
  funext j
  have e : iblk m c 0 p j = m ((c : Thread nD τ).loc main_arg0) (ix3 (j 0) (at256 N_0 p (j 1)) (j 2)) := by
    blk_ext! [iblk, V, idx p, at256]
  rw [e, H0]

include H1 in
theorem blk1 (p : Fin cfg0.N) : iblk m c 1 p = fun j => ((W (ix2 (j 2) (col (j 0) (j 1))) : ℝ) : EReal) := by
  funext j
  have e : iblk m c 1 p j = m ((c : Thread nD τ).loc main_arg1) (ix2 (j 2) (col (j 0) (j 1))) := by
    blk_ext! [iblk, V, idx p, col]
  rw [e, H1]

include H0 in
theorem ld0_0 (p : Fin cfg0.N) : View.ld (iblk m c 0 p) (Rect.unit ![0, 0, 0] ![1, 256, 2816] inb_S2x256x2816_S1x256x2816_0_0_0) =
    (fun j => ((slab P p 0 j : ℝ) : EReal) : S1x256x2816.Idx → EReal) := by
  rw [blk0 m c P H0]
  funext j
  refine View.ld_unit_apply_of _ _ _ _ j (ix3 0 (j 1) (j 2)) fun a => ?_
  fin_cases a <;> simp

include H0 in
theorem ld0_1 (p : Fin cfg0.N) : View.ld (iblk m c 0 p) (Rect.unit ![1, 0, 0] ![1, 256, 2816] inb_S2x256x2816_S1x256x2816_1_0_0) =
    (fun j => ((slab P p 1 j : ℝ) : EReal) : S1x256x2816.Idx → EReal) := by
  rw [blk0 m c P H0]
  funext j
  refine View.ld_unit_apply_of _ _ _ _ j (ix3 1 (j 1) (j 2)) fun a => ?_
  fin_cases a <;> simp

include H1 in
theorem ld1_0 (p : Fin cfg0.N) : View.ld (iblk m c 1 p) (Rect.unit ![0, 0, 0] ![1, 2816, 1024] inb_S2x2816x1024_S1x2816x1024_0_0_0) =
    (fun j => ((turned W (Fin.castAdd 2816) j : ℝ) : EReal) : S1x2816x1024.Idx → EReal) := by
  rw [blk1 m c W H1]
  funext j
  refine (View.ld_unit_apply_of _ _ _ _ j (ix3 0 (j 1) (j 2)) fun a => ?_).trans (congrArg (fun k => ((W (ix2 (j 2) k) : ℝ) : EReal)) (col_zero (j 1)))
  fin_cases a <;> simp

include H1 in
theorem ld1_1 (p : Fin cfg0.N) : View.ld (iblk m c 1 p) (Rect.unit ![1, 0, 0] ![1, 2816, 1024] inb_S2x2816x1024_S1x2816x1024_1_0_0) =
    (fun j => ((turned W (Fin.natAdd 2816) j : ℝ) : EReal) : S1x2816x1024.Idx → EReal) := by
  rw [blk1 m c W H1]
  funext j
  refine (View.ld_unit_apply_of _ _ _ _ j (ix3 1 (j 1) (j 2)) fun a => ?_).trans (congrArg (fun k => ((W (ix2 (j 2) k) : ℝ) : EReal)) (col_one (j 1)))
  fin_cases a <;> simp

include H2 in
theorem blk2 (p : Fin cfg0.N) : iblk m c 2 p = fun j => ((tile N_0 x p j : ℝ) : EReal) := by
  funext j
  have e : iblk m c 2 p j = m ((c : Thread nD τ).loc main_arg2) (ix2 (at256 N_0 p (j 0)) (j 1)) := by
    blk_ext [iblk, V, idx p, at256]
  rw [e, H2]
  rfl

include H3 in
theorem blk3 (p : Fin cfg0.N) : iblk m c 3 p = fun j => ((flat g j : ℝ) : EReal) := by
  funext j
  have e : iblk m c 3 p j = m ((c : Thread nD τ).loc main_arg3) (ix1 (j 1)) := by
    blk_ext! [iblk, V, idx p]
  rw [e, H3]
  rfl

include H4 in
theorem blk4 (p : Fin cfg0.N) : iblk m c 4 p = fun j => ((tile N_0 D p j : ℝ) : EReal) := by
  funext j
  have e : iblk m c 4 p j = m ((c : Thread nD τ).loc main_arg4) (ix2 (at256 N_0 p (j 0)) (j 1)) := by
    blk_ext [iblk, V, idx p, at256]
  rw [e, H4]
  rfl

/-- The tile's two products. -/
abbrev tprod (p : Fin cfg0.N) : Fin 256 → Fin 1024 → ℝ :=
  prod (slab P p 0) (slab P p 1) (turned W (Fin.castAdd 2816)) (turned W (Fin.natAdd 2816))

/-- The gradient, row by row. -/
def gradArr (i : S2048x1024.Idx) : ℝ := D i + back 1024 (rowOf x (i 0)) (fun e => mulT2 (k := 2816) P W (i 0) e * g (ix1 e)) (i 1)

/-- The gradient at a tile's place in the array. -/
theorem gradArr_tile (p : Fin cfg0.N) (y : S256x1024.Idx) (i : S2048x1024.Idx) (h0 : i 0 = at256 N_0 p (y 0)) (h1 : i 1 = y 1) :
    tile N_0 D p (ix2 (y 0) (y 1)) +
      back 1024 (rowOf (tile N_0 x p) (y 0)) (fun e => tprod P W p (y 0) e * flat g (ix2 0 e)) (y 1) = gradArr P W x D g i := by
  obtain ⟨a, b, rfl⟩ : ∃ a b, i = ix2 a b := ⟨_, _, eq_ix2 i⟩
  obtain rfl : a = at256 N_0 p (y 0) := h0
  obtain rfl : b = y 1 := h1
  rfl

include H0 H1 H2 H3 H4 in
/-- The gradient's array after the run. -/
theorem arr5 : (dats m 0 c).arrAt 5 cfg0.N = fun i => ((gradArr P W x D g i : ℝ) : EReal) := by
  refine (dats m 0 c).arrAt_eq_of_covers 5 _ (by decide +kernel) fun p hf y => ?_
  have e : (outsAt0 m c p.val p.isLt).1 y = ((tile N_0 D p (ix2 (y 0) (y 1)) +
      back 1024 (rowOf (tile N_0 x p) (y 0)) (fun e => tprod P W p (y 0) e * flat g (ix2 0 e)) (y 1) : ℝ) : EReal) := by
    obtain ⟨r, d, rfl⟩ : ∃ r d, y = ix2 r d := ⟨_, _, eq_ix2 y⟩
    by_cases hp : p.val % 8 = 0
    · rw [outsAt0_A m c p hp]; frame_out
      simp only [ld0_0 m c P H0, ld0_1 m c P H0, ld1_0 m c W H1, ld1_1 m c W H1]
      rw [blk2 m c x H2, blk3 m c g H3, blk4 m c D H4]
      exact block_real _ _ _ _ _ _ _ _ _
    · rw [outsAt0_B m c p hp]; frame_out
      simp only [ld0_0 m c P H0, ld0_1 m c P H0, ld1_0 m c W H1, ld1_1 m c W H1]
      rw [blk2 m c x H2, blk3 m c g H3, blk4 m c D H4]
      exact block_real _ _ _ _ _ _ _ _ _
  rw [after0_5]
  refine e.trans (congrArg _ (gradArr_tile P W x D g p y _ (Fin.ext ?_) (Fin.ext ?_)))
  · blk_simp [idx p, at256]
  · blk_simp [idx p]

include H0 H1 H2 H3 H4 in
/-- The second copy of the gradient after the run. -/
theorem arr6 : (dats m 0 c).arrAt 6 cfg0.N = fun i => ((gradArr P W x D g i : ℝ) : EReal) := by
  refine (dats m 0 c).arrAt_eq_of_covers 6 _ (by decide +kernel) fun p hf y => ?_
  have e : (outsAt0 m c p.val p.isLt).2.1 y = ((tile N_0 D p (ix2 (y 0) (y 1)) +
      back 1024 (rowOf (tile N_0 x p) (y 0)) (fun e => tprod P W p (y 0) e * flat g (ix2 0 e)) (y 1) : ℝ) : EReal) := by
    obtain ⟨r, d, rfl⟩ : ∃ r d, y = ix2 r d := ⟨_, _, eq_ix2 y⟩
    by_cases hp : p.val % 8 = 0
    · rw [outsAt0_A m c p hp]; frame_out
      simp only [ld0_0 m c P H0, ld0_1 m c P H0, ld1_0 m c W H1, ld1_1 m c W H1]
      rw [blk2 m c x H2, blk3 m c g H3, blk4 m c D H4]
      pointwise [k0_pay2]
      exact block_real _ _ _ _ _ _ _ _ _
    · rw [outsAt0_B m c p hp]; frame_out
      simp only [ld0_0 m c P H0, ld0_1 m c P H0, ld1_0 m c W H1, ld1_1 m c W H1]
      rw [blk2 m c x H2, blk3 m c g H3, blk4 m c D H4]
      pointwise [k0_pay2]
      exact block_real _ _ _ _ _ _ _ _ _
  rw [after0_6]
  refine e.trans (congrArg _ (gradArr_tile P W x D g p y _ (Fin.ext ?_) (Fin.ext ?_)))
  · blk_simp [idx p, at256]
  · blk_simp [idx p]

include H0 H1 H2 in
/-- The gain's gradient after the run. -/
theorem arr7 : (dats m 0 c).arrAt 7 cfg0.N = fun i => ((∑ r, gainOf 1024 (rowOf x r) (mulT2 (k := 2816) P W r) (i 1) : ℝ) : EReal) := by
  refine (dats m 0 c).arrAt_eq_of_after_last 7 t0_7 (by decide +kernel) _ fun j => ?_
  obtain ⟨z, d, rfl⟩ : ∃ z d, j = ix2 z d := ⟨_, _, eq_ix2 j⟩
  blk_simp
  rw [after0_7, Pipeline.eq_sum_fin_of_reset_step_apply_last (fun n h => (outsAt0 m c n h).2.2) 8 (fun _ => 0)
    (fun p j => ((∑ r : Fin 256, gainOf 1024 (rowOf (tile N_0 x p) r) (tprod P W p r) (j 1) : ℝ) : EReal))
    (fun p hp j => by
      obtain ⟨z, d, rfl⟩ : ∃ z d, j = ix2 z d := ⟨_, _, eq_ix2 j⟩
      rw [outsAt0_A m c p hp]; frame_out
      rw [ld0_0 m c P H0, ld0_1 m c P H0, ld1_0 m c W H1, ld1_1 m c W H1, blk2 m c x H2, pay3_real]
      pointwise [k0_pay4])
    (fun p hp j => by
      obtain ⟨z, d, rfl⟩ : ∃ z d, j = ix2 z d := ⟨_, _, eq_ix2 j⟩
      rw [outsAt0_B m c p hp]; frame_out
      rw [ld0_0 m c P H0, ld0_1 m c P H0, ld1_0 m c W H1, ld1_1 m c W H1, blk2 m c x H2, pay3_real]
      rfl)
    (le_of_eq N_0) t0_7 rfl, zero_add, sum_coe]
  exact congrArg _ (sum_tiles N_0 fun r => gainOf 1024 (rowOf x r) (mulT2 (k := 2816) P W r) d)

end Cert.Up
-- ==== Proof.Up.Ref.lean ====
/-
  The reference's results for the half-step's norm, for real arguments: differentiation of the forward lines, the split into
  gate and other half included, gives the gradient and the sum over rows of the gain's gradient. The norm's own lines are
  those the loss head's reference has.
-/
module

public import proofs.«01_k».proof.Proof.Rows
public import proofs.«01_k».proof.Proof.Loss.Ref
public import proofs.«01_k».proof.Proof.Gen.Reference5Ideal.Read
public import Idealize.ShloMosaic.Lib.Tactic
public import Idealize.ShloMosaic.Lib.ValueIdx
public import Idealize.ShloMosaic.Lib.Pointwise

@[expose] public section

set_option maxRecDepth 16384

noncomputable section

namespace Cert.Up

open Cert.Reference5Ideal Cert.Reference5Ideal.Gen Cert.Reference5Ideal.Read Cert.Coe Cert.Norm Cert.Rows Idealize.ShloMosaic

variable (P : S2x2048x2816.Idx → ℝ) (W : S1024x5632.Idx → ℝ) (x D : S2048x1024.Idx → ℝ) (g : S1024.Idx → ℝ)

/-- The reciprocal root of the rows. -/
theorem v7_real (r : Fin 2048) (z : Fin 1) :
    val_main_v7 (F := Ideal) (fun i => ((x i : ℝ) : EReal)) (ix2 r z) = ((rinv 1024 (rowOf x r) : ℝ) : EReal) :=
  Cert.Loss.v7_real x r z

/-- Its derivative. -/
theorem v10_real (r : Fin 2048) (z : Fin 1) :
    val_main_v10 (F := Ideal) (fun i => ((x i : ℝ) : EReal)) (ix2 r z) =
      ((-(1 / 2) * (rinv 1024 (rowOf x r) / ms 1024 (rowOf x r)) : ℝ) : EReal) :=
  Cert.Loss.v10_real x r z

/-- The normed rows. -/
theorem v12_real (r : Fin 2048) (d : Fin 1024) :
    val_main_v12 (F := Ideal) (fun i => ((x i : ℝ) : EReal)) (ix2 r d) = ((x (ix2 r d) * rinv 1024 (rowOf x r) : ℝ) : EReal) :=
  Cert.Loss.v12_real x r d

/-- The two halves side by side, on the left. -/
theorem v23_left (r : Fin 2048) (k : Fin 2816) :
    val_main_v23 (F := Ideal) (fun i => ((P i : ℝ) : EReal)) (ix2 r (Fin.castAdd 2816 k)) = ((P (ix3 0 r k) : ℝ) : EReal) := by
  unfold val_main_v23 val_main_v22 val_main_v21 val_main_v20 val_main_v19
  pointwise
  simp

/-- On the right. -/
theorem v23_right (r : Fin 2048) (k : Fin 2816) :
    val_main_v23 (F := Ideal) (fun i => ((P i : ℝ) : EReal)) (ix2 r (Fin.natAdd 2816 k)) = ((P (ix3 1 r k) : ℝ) : EReal) := by
  unfold val_main_v23 val_main_v22 val_main_v21 val_main_v20 val_main_v19
  pointwise
  simp

/-- The cotangent of the normed rows. -/
theorem v24_real (r : Fin 2048) (d : Fin 1024) :
    val_main_v24 (F := Ideal) (fun i => ((P i : ℝ) : EReal)) (fun i => ((W i : ℝ) : EReal)) (ix2 r d) = ((mulT2 (k := 2816) P W r d : ℝ) : EReal) := by
  unfold val_main_v24
  pointwise
  rw [Fin.sum_univ_add (a := 2816) (b := 2816)]
  simp only [v23_left, v23_right, ← EReal.coe_mul, sum_coe, ← EReal.coe_add]
  rfl

/-- The gradient. -/
theorem v45_real (r : Fin 2048) (d : Fin 1024) :
    val_main_v45 (F := Ideal) (fun i => ((P i : ℝ) : EReal)) (fun i => ((W i : ℝ) : EReal)) (fun i => ((x i : ℝ) : EReal))
        (fun i => ((g i : ℝ) : EReal)) (fun i => ((D i : ℝ) : EReal)) (ix2 r d) =
      ((D (ix2 r d) + back 1024 (rowOf x r) (fun e => mulT2 (k := 2816) P W r e * g (ix1 e)) d : ℝ) : EReal) := by
  unfold val_main_v45 val_main_v44 val_main_v43 val_main_v42 val_main_v41 val_main_v40 val_main_v39 val_main_v38 val_main_v37
    val_main_v36 val_main_v35 val_main_v34 val_main_v33 val_main_v32 val_main_v31 val_main_v29 val_main_v28 val_main_v13
    val_main_cst_5 val_main_cst_6 val_main_cst_7
  pointwise
  simp only [v24_real, v7_real, v10_real, ofBits_1024, ← EReal.coe_mul, sum_coe, div_coe_coe _ (show (1024 : ℝ) ≠ 0 by norm_num),
    Fin.sum_univ_one, ← EReal.coe_add]
  exact congrArg _ (add_back_eq (w := 1024) (by norm_num) (rowOf x r) (fun e => mulT2 (k := 2816) P W r e * g (ix1 e)) _ d)

/-- The gradient, its second copy. -/
theorem v46_real (r : Fin 2048) (d : Fin 1024) :
    val_main_v46 (F := Ideal) (fun i => ((P i : ℝ) : EReal)) (fun i => ((W i : ℝ) : EReal)) (fun i => ((x i : ℝ) : EReal))
        (fun i => ((g i : ℝ) : EReal)) (fun i => ((D i : ℝ) : EReal)) (ix2 r d) =
      ((D (ix2 r d) + back 1024 (rowOf x r) (fun e => mulT2 (k := 2816) P W r e * g (ix1 e)) d : ℝ) : EReal) := by
  unfold val_main_v46
  pointwise
  exact v45_real P W x D g r d

/-- The gain's gradient. -/
theorem v47_real (z : Fin 1) (d : Fin 1024) :
    val_main_v47 (F := Ideal) (fun i => ((P i : ℝ) : EReal)) (fun i => ((W i : ℝ) : EReal)) (fun i => ((x i : ℝ) : EReal)) (ix2 z d) =
      ((∑ r, gainOf 1024 (rowOf x r) (mulT2 (k := 2816) P W r) d : ℝ) : EReal) := by
  unfold val_main_v47 val_main_v30 val_main_v27 val_main_v26 val_main_v25 val_main_cst_3 val_main_cst_4
  pointwise
  simp only [v12_real, v24_real, ← EReal.coe_mul, sum_coe, Fin.sum_univ_one]
  exact congrArg _ (Finset.sum_congr rfl fun r _ => mul_comm _ _)

end Cert.Up
-- ==== Proof.Up.Claim.lean ====
/-
  The half-step norm's backward step against the derivative of the forward lines: where the arguments are finite, both programs
  run and leave the same three arrays.
-/
module

public import proofs.«01_k».proof.Defs
public import proofs.«01_k».proof.Proof.Up.Kernel
public import proofs.«01_k».proof.Proof.Up.Ref
public import proofs.«01_k».proof.Proof.Gen.Reference5Ideal.Run
public import proofs.«01_k».proof.Proof.Gen.Pre_finite_up
public import Idealize.ShloMosaic.Lib.Quiescent

@[expose] public section

set_option maxRecDepth 16384

noncomputable section

namespace Cert.Up

open Idealize.ShloMosaic Idealize.SL.Sem Cert.Coe

/-- Both programs run, and from equal finite arguments their results are equal. -/
theorem algebraic : Cert.algebraic_Kernel5Ideal_Reference5Ideal_pre_finite_up (hKernel5Ideal := Cert.Kernel5Ideal.Gen.facts)
    (hReference5Ideal := Cert.Reference5Ideal.Gen.facts) (hPre_finite_up := Cert.Pre_finite_up.Gen.facts) := by
  intro m ρ m' ρ' hp hargs
  refine ⟨_, _, _, (θ_run (Cert.Kernel5Ideal.defs (F := Ideal)) _ _).mono (fun r h c => h c) (Cert.Kernel5Ideal.Value.run_blocks (F := Ideal) m ρ), ?_⟩
  refine (θ_run (Cert.Reference5Ideal.defs (F := Ideal)) _ _).mono (fun r h c => ?_) (Cert.Reference5Ideal.Value.run (F := Ideal) m' ρ')
  obtain ⟨e0, e1, e2, kept⟩ := h c
  obtain ⟨a0, a1, a2, a3, a4⟩ := hargs c
  obtain ⟨f0, f1, f2, f3, f4⟩ := hp c
  obtain ⟨P, H0⟩ := exists_real _ fun i => congrFun f0 i
  obtain ⟨W, H1⟩ := exists_real _ fun i => congrFun f1 i
  obtain ⟨x, H2⟩ := exists_real _ fun i => congrFun f2 i
  obtain ⟨g, H3⟩ := exists_real _ fun i => congrFun f3 i
  obtain ⟨D, H4⟩ := exists_real _ fun i => congrFun f4 i
  refine ⟨e0.trans ?_, e1.trans ?_, e2.trans ?_, kept⟩
  · rw [Cert.Reference5Ideal.Read.val_main_v45_eq, a0, a1, a2, a3, a4, arr5 m c P W x D g H0 H1 H2 H3 H4, H0, H1, H2, H3, H4]
    exact funext fun j => by
      obtain ⟨r, d, rfl⟩ : ∃ r d, j = ix2 r d := ⟨_, _, eq_ix2 j⟩
      exact v45_real P W x D g r d
  · rw [Cert.Reference5Ideal.Read.val_main_v46_eq, a0, a1, a2, a3, a4, arr6 m c P W x D g H0 H1 H2 H3 H4, H0, H1, H2, H3, H4]
    exact funext fun j => by
      obtain ⟨r, d, rfl⟩ : ∃ r d, j = ix2 r d := ⟨_, _, eq_ix2 j⟩
      exact v46_real P W x D g r d
  · rw [Cert.Reference5Ideal.Read.val_main_v47_eq, a0, a1, a2, arr7 m c P W x H0 H1 H2, H0, H1, H2]
    exact funext fun j => (congrArg _ (eq_ix2 j)).trans (v47_real P W x (j 0) (j 1))

/-- The reference runs, its arguments stay, and it has no counters. -/
theorem frame_ref : Cert.quiescent_Reference5Ideal (hReference5Ideal := Cert.Reference5Ideal.Gen.facts) := fun m ρ _ =>
  (θ_run (Cert.Reference5Ideal.defs (F := Ideal)) _ _).mono
    (fun _ h => ⟨fun c => (h c).2.2.2, sem_eq_zero_of_no_sems (by decide) _⟩) (Cert.Reference5Ideal.Value.run (F := Ideal) m ρ)

end Cert.Up
-- ==== Proof.Down.Math.lean ====
/-
  The gate of a half-step over the real numbers: the logistic function, the gate's two factors, and the gradients they give.
-/
module

public import proofs.«01_k».proof.Proof.Rows
public import Idealize.ShloMosaic.Lib.Pointwise

@[expose] public section

noncomputable section

namespace Cert.Down

open Cert.Coe Cert.Rows Idealize.ShloMosaic

/-- The logistic function. -/
def lgs (x : ℝ) : ℝ := 1 / (1 + Real.exp (-x))

/-- The logistic function as both programs compute it. -/
theorem lgs_coe (x : ℝ) : Ideal.div ((1 : ℝ) : EReal) (((1 : ℝ) : EReal) + Ideal.exp (-(x : EReal))) = ((lgs x : ℝ) : EReal) := by
  rw [← EReal.coe_neg, Ideal.exp_coe, ← EReal.coe_add, div_coe_coe _ (by positivity)]
  rfl

variable (DH N : Mat 2048 1024) (WG : Mat 1024 (2816 + 2816)) (WD : Mat 2816 1024)

/-- The gate's rows. -/
def gate (r : Fin 2048) (f : Fin 2816) : ℝ := ∑ d, N (ix2 r d) * WG (ix2 d (Fin.castAdd 2816 f))

/-- The rows that the gate scales. -/
def up (r : Fin 2048) (f : Fin 2816) : ℝ := ∑ d, N (ix2 r d) * WG (ix2 d (Fin.natAdd 2816 f))

/-- The gate's factor of its own gradient. -/
def fGate (r : Fin 2048) (f : Fin 2816) : ℝ :=
  up N WG r f * (lgs (gate N WG r f) * (1 + gate N WG r f * (1 - lgs (gate N WG r f))))

/-- The gate's factor of the other gradient. -/
def fUp (r : Fin 2048) (f : Fin 2816) : ℝ := gate N WG r f * lgs (gate N WG r f)

/-- The gated rows. -/
def act (r : Fin 2048) (f : Fin 2816) : ℝ := gate N WG r f * lgs (gate N WG r f) * up N WG r f

/-- The cotangent of the gated rows. -/
def da (r : Fin 2048) (f : Fin 2816) : ℝ := 1 / 2 * mulT DH WD r f

/-- The two gradients: the gate's in slab 0, the other in slab 1. -/
def dgu (s : Fin 2) (r : Fin 2048) (f : Fin 2816) : ℝ := da DH WD r f * if s = 0 then fGate N WG r f else fUp N WG r f

/-- The gradient of the weight after the gate. -/
def dwd (f : Fin 2816) (d : Fin 1024) : ℝ := 1 / 2 * ∑ r, act N WG r f * DH (ix2 r d)

/-- The gradients of the two halves of the weight before the gate. -/
def dwgu (s : Fin 2) (f : Fin 2816) (d : Fin 1024) : ℝ := ∑ r, dgu DH N WG WD s r f * N (ix2 r d)

end Cert.Down
-- ==== Proof.Down.Host.lean ====
/-
  What the host hands the gate's backward step, for real arguments: the gate's two factors and the gated rows, off the rows
  and the weight before the gate.
-/
module

public import proofs.«01_k».proof.Proof.Down.Math
public import proofs.«01_k».proof.Proof.Gen.Kernel6Ideal.Value
public import Idealize.ShloMosaic.Lib.StableHlo.ReadAt

@[expose] public section

set_option maxRecDepth 16384

noncomputable section

namespace Cert.Down

open Cert.Kernel6Ideal Cert.Kernel6Ideal.Gen Cert.Coe Cert.Rows Idealize.ShloMosaic Idealize.ShloMosaic.TcCoe

variable (m : (ℓ : Loc nD τ sig) → Buf (Elt Ideal) ℓ) (c : Dev nD)
variable (DH N : S2048x1024.Idx → ℝ) (WG : S1024x5632.Idx → ℝ) (WD : S2816x1024.Idx → ℝ)
variable (H1 : m ((c : Thread nD τ).loc main_arg1) = fun i => ((N i : ℝ) : EReal))
  (H2 : m ((c : Thread nD τ).loc main_arg2) = fun i => ((WG i : ℝ) : EReal))

include H1 in
theorem arg1_real (i : S2048x1024.Idx) : m (c, Proc.tc.devRef main_arg1) i = ((N i : ℝ) : EReal) := congrFun H1 i

include H2 in
theorem arg2_real (i : S1024x5632.Idx) : m (c, Proc.tc.devRef main_arg2) i = ((WG i : ℝ) : EReal) := congrFun H2 i

include H1 H2 in
/-- The gate's factor of its own gradient. -/
theorem v21_host (r : Fin 2048) (f : Fin 2816) : V m c main_v21 (ix2 r f) = ((fGate N WG r f : ℝ) : EReal) := by
  unfold V
  simp only [hostOps0]
  after_reads_at
  simp only [arg1_real m c N H1, arg2_real m c WG H2, ← EReal.coe_mul, sum_coe, ← EReal.coe_one, lgs_coe, ← EReal.coe_sub, ← EReal.coe_add]
  rfl

include H1 H2 in
/-- The gate's factor of the other gradient. -/
theorem v22_host (r : Fin 2048) (f : Fin 2816) : V m c main_v22 (ix2 r f) = ((fUp N WG r f : ℝ) : EReal) := by
  unfold V
  simp only [hostOps0]
  after_reads_at
  simp only [arg1_real m c N H1, arg2_real m c WG H2, ← EReal.coe_mul, sum_coe, ← EReal.coe_one, lgs_coe]
  rfl

include H1 H2 in
/-- The gated rows. -/
theorem v23_host (r : Fin 2048) (f : Fin 2816) : V m c main_v23 (ix2 r f) = ((act N WG r f : ℝ) : EReal) := by
  unfold V
  simp only [hostOps0]
  after_reads_at
  simp only [arg1_real m c N H1, arg2_real m c WG H2, ← EReal.coe_mul, sum_coe, ← EReal.coe_one, lgs_coe]
  rfl

end Cert.Down
-- ==== Proof.Down.Tile.lean ====
/-
  What the gate's backward step stores at one point, for real numbers: strips of the two gradients, the gradient of a tile
  of the weight after the gate, and that of a tile of the weight before it. The body's strips are one and the same term.
-/
module

public import proofs.«01_k».proof.Proof.Down.Math
public import proofs.«01_k».proof.Proof.Gen.Kernel6Ideal.Skeleton
public import Idealize.ShloMosaic.Lib.Tactic
public import Idealize.ShloMosaic.Lib.ValueIdx

@[expose] public section

set_option maxRecDepth 16384

noncomputable section

namespace Cert.Down

open Cert.Kernel6Ideal Cert.Kernel6Ideal.Gen Cert.Coe Cert.Rows Idealize.ShloMosaic

/-- A strip of 512 rows of a gradient: the scaled product with the weight's tile, times the gate's factor. -/
theorem pay9_real (W : S256x1024.Idx → ℝ) (X : S512x1024.Idx → ℝ) (G : S512x256.Idx → ℝ) (z : Fin 1) (r : Fin 512) (k : Fin 256) :
    k0_pay9 (F := Ideal) (fun i => ((W i : ℝ) : EReal)) (fun i => ((X i : ℝ) : EReal)) (fun i => ((G i : ℝ) : EReal)) (ix3 z r k) =
      ((1 / 2 * mulT X W r k * G (ix2 r k) : ℝ) : EReal) := by
  pointwise [k0_pay9, k0_pay8, k0_pay7]
  simp only [ofBits_half, ← EReal.coe_mul, sum_coe]
  rfl

/-- The gradient of a tile of the weight after the gate. -/
theorem pay22_real (A : S2048x256.Idx → ℝ) (X : S2048x1024.Idx → ℝ) (k : Fin 256) (d : Fin 1024) :
    k0_pay22 (F := Ideal) (fun i => ((A i : ℝ) : EReal)) (fun i => ((X i : ℝ) : EReal)) (ix2 k d) =
      ((1 / 2 * ∑ r, A (ix2 r k) * X (ix2 r d) : ℝ) : EReal) := by
  pointwise [k0_pay22]
  simp only [ofBits_half, ← EReal.coe_mul, sum_coe]

/-- The gradient of a tile of half a weight before the gate, off a slab of a gradient. -/
theorem pay5_real (A : S1x2048x256.Idx → ℝ) (X : S2048x1024.Idx → ℝ) (z : Fin 1) (k : Fin 256) (d : Fin 1024) :
    k0_pay5 (F := Ideal) (fun i => ((A i : ℝ) : EReal)) (fun i => ((X i : ℝ) : EReal)) (ix3 z k d) =
      ((∑ r, A (ix3 0 r k) * X (ix2 r d) : ℝ) : EReal) := by
  pointwise [k0_pay5, k0_pay4]
  simp only [← EReal.coe_mul, sum_coe]

end Cert.Down
-- ==== Proof.Down.Strips.lean ====
/-
  The two slabs of gradients that one point of the gate's backward step stores, strip by strip, and reads back.
-/
module

public import proofs.«01_k».proof.Proof.Down.Tile
public import proofs.«01_k».proof.Proof.Gen.Kernel6Ideal.Value
public import Idealize.ShloMosaic.Lib.Pipeline.ValueKit

@[expose] public section

set_option maxRecDepth 16384

noncomputable section

namespace Cert.Down

open Cert.Kernel6Ideal Cert.Kernel6Ideal.Gen Cert.Coe Cert.Rows Idealize.ShloMosaic Idealize.ShloMosaic.TcCoe

/-- Rows `o` to `o + 511` of a matrix. -/
def strip {n : ℕ} (o : ℕ) (ho : o + 512 ≤ 2048) (A : Mat 2048 n) : Mat 512 n := fun j => A (ix2 ⟨o + (j 0).val, by have := (j 0).isLt; simp at this; omega⟩ (j 1))

/-- A load of 512 rows of a real matrix. -/
theorem ld_strip {n : ℕ} (o : ℕ) (ho : o + 512 ≤ 2048) (A : Mat 2048 n) (inb) :
    View.ld (Val := Elt Ideal) (S := ⟨2, ![2048, n]⟩) (e' := .bf16) (fun i => ((A i : ℝ) : EReal)) (Rect.unit ![o, 0] ![512, n] inb) =
      fun j => ((strip o ho A j : ℝ) : EReal) := by
  funext j
  refine View.ld_unit_apply_of _ _ _ _ j (ix2 ⟨o + (j 0).val, ?_⟩ (j 1)) fun a => ?_
  fin_cases a <;> simp

/-- The strips in the order of their stores, the last one first. -/
def slabs (X0 : S2048x1024.Idx → Elt Ideal .bf16) (X2 : S256x1024.Idx → Elt Ideal .bf16) (X3 X4 : S2048x256.Idx → Elt Ideal .bf16) :
    List (View.Piece (Elt Ideal) S2x2048x256 .bf16) :=
  [⟨Rect.unit ![1, 1536, 0] ![1, 512, 256] inb_S2x2048x256_S1x512x256_1_1536_0,
      k0_pay21 (k0_pay7 X2) (k0_pay18 (View.ld X0 (Rect.unit ![1536, 0] ![512, 1024] inb_S2048x1024_S512x1024_1536_0))) (View.ld X4 (Rect.unit ![1536, 0] ![512, 256] inb_S2048x256_S512x256_1536_0))⟩,
    ⟨Rect.unit ![0, 1536, 0] ![1, 512, 256] inb_S2x2048x256_S1x512x256_0_1536_0,
      k0_pay20 (k0_pay7 X2) (k0_pay18 (View.ld X0 (Rect.unit ![1536, 0] ![512, 1024] inb_S2048x1024_S512x1024_1536_0))) (View.ld X3 (Rect.unit ![1536, 0] ![512, 256] inb_S2048x256_S512x256_1536_0))⟩,
    ⟨Rect.unit ![1, 1024, 0] ![1, 512, 256] inb_S2x2048x256_S1x512x256_1_1024_0,
      k0_pay17 (k0_pay7 X2) (View.ld X0 (Rect.unit ![1024, 0] ![512, 1024] inb_S2048x1024_S512x1024_1024_0)) (View.ld X4 (Rect.unit ![1024, 0] ![512, 256] inb_S2048x256_S512x256_1024_0))⟩,
    ⟨Rect.unit ![0, 1024, 0] ![1, 512, 256] inb_S2x2048x256_S1x512x256_0_1024_0,
      k0_pay16 (k0_pay7 X2) (View.ld X0 (Rect.unit ![1024, 0] ![512, 1024] inb_S2048x1024_S512x1024_1024_0)) (View.ld X3 (Rect.unit ![1024, 0] ![512, 256] inb_S2048x256_S512x256_1024_0))⟩,
    ⟨Rect.unit ![1, 512, 0] ![1, 512, 256] inb_S2x2048x256_S1x512x256_1_512_0,
      k0_pay14 (k0_pay11 X2 (View.ld X0 (Rect.unit ![512, 0] ![512, 1024] inb_S2048x1024_S512x1024_512_0))) (View.ld X4 (Rect.unit ![512, 0] ![512, 256] inb_S2048x256_S512x256_512_0))⟩,
    ⟨Rect.unit ![0, 512, 0] ![1, 512, 256] inb_S2x2048x256_S1x512x256_0_512_0,
      k0_pay13 (k0_pay12 X2 (View.ld X0 (Rect.unit ![512, 0] ![512, 1024] inb_S2048x1024_S512x1024_512_0)) (View.ld X3 (Rect.unit ![512, 0] ![512, 256] inb_S2048x256_S512x256_512_0)))⟩,
    ⟨Rect.unit ![1, 0, 0] ![1, 512, 256] inb_S2x2048x256_S1x512x256_1_0_0,
      k0_pay10 X2 (View.ld X0 (Rect.unit ![0, 0] ![512, 1024] inb_S2048x1024_S512x1024_0_0)) (View.ld X4 (Rect.unit ![0, 0] ![512, 256] inb_S2048x256_S512x256_0_0))⟩,
    ⟨Rect.unit ![0, 0, 0] ![1, 512, 256] inb_S2x2048x256_S1x512x256_0_0_0,
      k0_pay9 X2 (View.ld X0 (Rect.unit ![0, 0] ![512, 1024] inb_S2048x1024_S512x1024_0_0)) (View.ld X3 (Rect.unit ![0, 0] ![512, 256] inb_S2048x256_S512x256_0_0))⟩]

variable (A : S2048x1024.Idx → ℝ) (W : S256x1024.Idx → ℝ) (G U : S2048x256.Idx → ℝ)

/-- The two slabs of gradients of a tile of columns. -/
def slabsR (y : S2x2048x256.Idx) : ℝ :=
  1 / 2 * mulT A W (y 1) (y 2) * if (y 0).val = 0 then G (ix2 (y 1) (y 2)) else U (ix2 (y 1) (y 2))

theorem slabsR_zero {y : S2x2048x256.Idx} (h : (y 0).val = 0) : 1 / 2 * mulT A W (y 1) (y 2) * G (ix2 (y 1) (y 2)) = slabsR A W G U y := by
  rw [slabsR, if_pos h]

theorem slabsR_one {y : S2x2048x256.Idx} (h : (y 0).val = 1) : 1 / 2 * mulT A W (y 1) (y 2) * U (ix2 (y 1) (y 2)) = slabsR A W G U y := by
  rw [slabsR, if_neg (by omega)]

theorem strip_real (o : ℕ) (ho : o + 512 ≤ 2048) (x : S1x512x256.Idx) (r : Fin 2048) (k : Fin 256) (hr : (r : ℕ) = o + x 1) (hk : (k : ℕ) = x 2) :
    k0_pay9 (F := Ideal) (fun i => ((W i : ℝ) : EReal)) (fun i => ((strip o ho A i : ℝ) : EReal)) (fun i => ((strip o ho G i : ℝ) : EReal)) x =
      ((1 / 2 * mulT A W r k * G (ix2 r k) : ℝ) : EReal) := by
  obtain ⟨z, a, b, rfl⟩ : ∃ z a b, x = ix3 z a b := ⟨_, _, _, eq_ix3 x⟩
  obtain rfl : k = b := Fin.ext hk
  obtain ⟨r, hlt⟩ := r
  obtain rfl : r = o + a.val := hr
  exact pay9_real W (strip o ho A) (strip o ho G) z a k

/-- The strips' stores leave the two slabs. -/
theorem canon_slabs : View.canon (slabs (fun i => ((A i : ℝ) : EReal)) (fun i => ((W i : ℝ) : EReal)) (fun i => ((G i : ℝ) : EReal))
    (fun i => ((U i : ℝ) : EReal))) = fun y => ((slabsR A W G U y : ℝ) : EReal) := by
  funext y
  unfold slabs
  simp only [ld_strip 0 (by norm_num), ld_strip 512 (by norm_num), ld_strip 1024 (by norm_num), ld_strip 1536 (by norm_num)]
  canon_tiles x h
  · exact (strip_real A W U 1536 (by norm_num) x (y 1) (y 2) (by omega) (by omega)).trans (congrArg _ (slabsR_one A W G U (by omega)))
  · exact (strip_real A W G 1536 (by norm_num) x (y 1) (y 2) (by omega) (by omega)).trans (congrArg _ (slabsR_zero A W G U (by omega)))
  · exact (strip_real A W U 1024 (by norm_num) x (y 1) (y 2) (by omega) (by omega)).trans (congrArg _ (slabsR_one A W G U (by omega)))
  · exact (strip_real A W G 1024 (by norm_num) x (y 1) (y 2) (by omega) (by omega)).trans (congrArg _ (slabsR_zero A W G U (by omega)))
  · exact (strip_real A W U 512 (by norm_num) x (y 1) (y 2) (by omega) (by omega)).trans (congrArg _ (slabsR_one A W G U (by omega)))
  · exact (strip_real A W G 512 (by norm_num) x (y 1) (y 2) (by omega) (by omega)).trans (congrArg _ (slabsR_zero A W G U (by omega)))
  · exact (strip_real A W U 0 (by norm_num) x (y 1) (y 2) (by omega) (by omega)).trans (congrArg _ (slabsR_one A W G U (by omega)))
  · exact (strip_real A W G 0 (by norm_num) x (y 1) (y 2) (by omega) (by omega)).trans (congrArg _ (slabsR_zero A W G U (by omega)))

end Cert.Down
-- ==== Proof.Down.Kernel.lean ====
/-
  The arrays of the gate's backward step after its run, for real arguments: the two gradients, and those of the weights, tile
  of 256 columns by tile.
-/
module

public import proofs.«01_k».proof.Proof.Down.Host
public import proofs.«01_k».proof.Proof.Down.Strips

@[expose] public section

set_option maxRecDepth 16384

noncomputable section

namespace Cert.Down

open Cert.Kernel6Ideal Cert.Kernel6Ideal.Gen Cert.Coe Cert.Rows Idealize.ShloMosaic Idealize.ShloMosaic.TcCoe

variable (m : (ℓ : Loc nD τ sig) → Buf (Elt Ideal) ℓ) (c : Dev nD)
variable (DH N : S2048x1024.Idx → ℝ) (WG : S1024x5632.Idx → ℝ) (WD : S2816x1024.Idx → ℝ)

/-- Column `k` of tile `p`. -/
def at11 (p : Fin cfg0.N) (k : Fin 256) : Fin 2816 := ⟨p.val * 256 + k.val, by have h : p.val < 11 := N_0 ▸ p.isLt; omega⟩

/-- The columns of tile `p`. -/
def cols (A : Fin 2048 → Fin 2816 → ℝ) (p : Fin cfg0.N) : S2048x256.Idx → ℝ := fun j => A (j 0) (at11 p (j 1))

/-- The rows of tile `p` of the weight after the gate. -/
def rows (p : Fin cfg0.N) : S256x1024.Idx → ℝ := fun j => WD (ix2 (at11 p (j 0)) (j 1))

theorem idx : ∀ p : Fin cfg0.N, win0_0.index p = ![0, 0] ∧ win0_1.index p = ![0, 0] ∧ win0_2.index p = ![p.val, 0]
    ∧ win0_3.index p = ![0, p.val] ∧ win0_4.index p = ![0, p.val] ∧ win0_5.index p = ![0, p.val] ∧ win0_6.index p = ![0, 0, p.val]
    ∧ win0_7.index p = ![p.val, 0] ∧ win0_8.index p = ![p.val, 0] ∧ win0_9.index p = ![0, p.val, 0] ∧ win0_10.index p = ![0, p.val, 0] := by
  decide +kernel

variable (H0 : m ((c : Thread nD τ).loc main_arg0) = fun i => ((DH i : ℝ) : EReal))
  (H1 : m ((c : Thread nD τ).loc main_arg1) = fun i => ((N i : ℝ) : EReal))
  (H2 : m ((c : Thread nD τ).loc main_arg2) = fun i => ((WG i : ℝ) : EReal))
  (H3 : m ((c : Thread nD τ).loc main_arg3) = fun i => ((WD i : ℝ) : EReal))

include H0 in
theorem blk0 (p : Fin cfg0.N) : iblk m c 0 p = fun j => ((DH j : ℝ) : EReal) := by
  funext j
  have e : iblk m c 0 p j = m ((c : Thread nD τ).loc main_arg0) (ix2 (j 0) (j 1)) := by
    blk_ext! [iblk, V, idx p]
  rw [e, H0, ← eq_ix2]

include H1 in
theorem blk1 (p : Fin cfg0.N) : iblk m c 1 p = fun j => ((N j : ℝ) : EReal) := by
  funext j
  have e : iblk m c 1 p j = m ((c : Thread nD τ).loc main_arg1) (ix2 (j 0) (j 1)) := by
    blk_ext! [iblk, V, idx p]
  rw [e, H1, ← eq_ix2]

include H3 in
theorem blk2 (p : Fin cfg0.N) : iblk m c 2 p = fun j => ((rows WD p j : ℝ) : EReal) := by
  funext j
  have e : iblk m c 2 p j = m ((c : Thread nD τ).loc main_arg3) (ix2 (at11 p (j 0)) (j 1)) := by
    blk_ext! [iblk, V, idx p, at11]
  rw [e, H3]
  rfl

include H1 H2 in
theorem blk3 (p : Fin cfg0.N) : iblk m c 3 p = fun j => ((cols (fGate N WG) p j : ℝ) : EReal) := by
  funext j
  have e : iblk m c 3 p j = V m c main_v21 (ix2 (j 0) (at11 p (j 1))) := by
    blk_ext [iblk, idx p, at11]
  exact e.trans (v21_host m c N WG H1 H2 _ _)

include H1 H2 in
theorem blk4 (p : Fin cfg0.N) : iblk m c 4 p = fun j => ((cols (fUp N WG) p j : ℝ) : EReal) := by
  funext j
  have e : iblk m c 4 p j = V m c main_v22 (ix2 (j 0) (at11 p (j 1))) := by
    blk_ext [iblk, idx p, at11]
  exact e.trans (v22_host m c N WG H1 H2 _ _)

include H1 H2 in
theorem blk5 (p : Fin cfg0.N) : iblk m c 5 p = fun j => ((cols (act N WG) p j : ℝ) : EReal) := by
  funext j
  have e : iblk m c 5 p j = V m c main_v23 (ix2 (j 0) (at11 p (j 1))) := by
    blk_ext [iblk, idx p, at11]
  exact e.trans (v23_host m c N WG H1 H2 _ _)

include H0 H1 H2 H3 in
/-- The slabs that a point stores. -/
theorem slabs_real (p : Fin cfg0.N) : View.canon (slabs (iblk m c 0 p) (iblk m c 2 p) (iblk m c 3 p) (iblk m c 4 p)) =
    fun y => ((dgu DH N WG WD (y 0) (y 1) (at11 p (y 2)) : ℝ) : EReal) := by
  rw [blk0 m c DH H0, blk2 m c WD H3, blk3 m c N WG H1 H2, blk4 m c N WG H1 H2]
  refine (canon_slabs DH (rows WD p) (cols (fGate N WG) p) (cols (fUp N WG) p)).trans (funext fun y => congrArg _ ?_)
  obtain ⟨s, r, k, rfl⟩ : ∃ s r k, y = ix3 s r k := ⟨_, _, _, eq_ix3 y⟩
  fin_cases s <;> rfl

include H0 H1 H2 H3 in
/-- Slab 0 as a point reads it back. -/
theorem back_zero (p : Fin cfg0.N) : (ms0_6 p).view.readCov (slabs (iblk m c 0 p) (iblk m c 2 p) (iblk m c 3 p) (iblk m c 4 p))
    (Rect.unit ![0, 0, 0] ![1, 2048, 256] inb_S2x2048x256_S1x2048x256_0_0_0).toLoadRect =
    (fun j => ((dgu DH N WG WD 0 (j 1) (at11 p (j 2)) : ℝ) : EReal) : S1x2048x256.Idx → EReal) := by
  rw [View.readCov_eq_canon', slabs_real m c DH N WG WD H0 H1 H2 H3]
  funext j
  have e : (Rect.unit (s := S2x2048x256) ![0, 0, 0] ![1, 2048, 256] inb_S2x2048x256_S1x2048x256_0_0_0).idx j = ix3 0 (j 1) (j 2) :=
    funext fun a => Fin.ext ((Rect.idx_unit_val _ _ _ _ a).trans (by fin_cases a <;> simp))
  exact congrArg (fun y : S2x2048x256.Idx => ((dgu DH N WG WD (y 0) (y 1) (at11 p (y 2)) : ℝ) : EReal)) e

include H0 H1 H2 H3 in
/-- Slab 1 as a point reads it back. -/
theorem back_one (p : Fin cfg0.N) : (ms0_6 p).view.readCov (slabs (iblk m c 0 p) (iblk m c 2 p) (iblk m c 3 p) (iblk m c 4 p))
    (Rect.unit ![1, 0, 0] ![1, 2048, 256] inb_S2x2048x256_S1x2048x256_1_0_0).toLoadRect =
    (fun j => ((dgu DH N WG WD 1 (j 1) (at11 p (j 2)) : ℝ) : EReal) : S1x2048x256.Idx → EReal) := by
  rw [View.readCov_eq_canon', slabs_real m c DH N WG WD H0 H1 H2 H3]
  funext j
  have e : (Rect.unit (s := S2x2048x256) ![1, 0, 0] ![1, 2048, 256] inb_S2x2048x256_S1x2048x256_1_0_0).idx j = ix3 1 (j 1) (j 2) :=
    funext fun a => Fin.ext ((Rect.idx_unit_val _ _ _ _ a).trans (by fin_cases a <;> simp))
  exact congrArg (fun y : S2x2048x256.Idx => ((dgu DH N WG WD (y 0) (y 1) (at11 p (y 2)) : ℝ) : EReal)) e

theorem dgu_at (p : Fin cfg0.N) (y : S2x2048x256.Idx) (i : S2x2048x2816.Idx) (h0 : i 0 = y 0) (h1 : i 1 = y 1) (h2 : i 2 = at11 p (y 2)) :
    dgu DH N WG WD (y 0) (y 1) (at11 p (y 2)) = dgu DH N WG WD (i 0) (i 1) (i 2) := by
  rw [h0, h1, h2]

theorem dwd_at (p : Fin cfg0.N) (y : S256x1024.Idx) (i : S2816x1024.Idx) (h0 : i 0 = at11 p (y 0)) (h1 : i 1 = y 1) :
    dwd DH N WG (at11 p (y 0)) (y 1) = dwd DH N WG (i 0) (i 1) := by
  rw [h0, h1]

theorem dwgu_at (p : Fin cfg0.N) (y : S2x256x1024.Idx) (i : S2x2816x1024.Idx) (h0 : i 0 = y 0) (h1 : i 1 = at11 p (y 1)) (h2 : i 2 = y 2) :
    dwgu DH N WG WD (y 0) (at11 p (y 1)) (y 2) = dwgu DH N WG WD (i 0) (i 1) (i 2) := by
  rw [h0, h1, h2]

include H0 H1 H2 H3 in
/-- What a point stores of the gradient of half a weight, at slab `s`. -/
theorem slab_real (p : Fin cfg0.N) (s : Fin 2) (x : S1x256x1024.Idx) (y : S2x256x1024.Idx) (h0 : (y 0 : ℕ) = s) (h1 : (y 1 : ℕ) = x 1)
    (h2 : (y 2 : ℕ) = x 2) :
    k0_pay5 (F := Ideal) (fun j => ((dgu DH N WG WD s (j 1) (at11 p (j 2)) : ℝ) : EReal)) (iblk m c 1 p) x =
      ((dwgu DH N WG WD (y 0) (at11 p (y 1)) (y 2) : ℝ) : EReal) := by
  obtain ⟨z, k, d, rfl⟩ : ∃ z k d, x = ix3 z k d := ⟨_, _, _, eq_ix3 x⟩
  rw [blk1 m c N H1, pay5_real, show y 0 = s from Fin.ext h0, show y 1 = k from Fin.ext h1, show y 2 = d from Fin.ext h2]
  rfl

include H0 H1 H2 H3 in
/-- The gradients' array after the run. -/
theorem arr6 : (dats m 0 c).arrAt 6 cfg0.N = fun i => ((dgu DH N WG WD (i 0) (i 1) (i 2) : ℝ) : EReal) := by
  refine (dats m 0 c).arrAt_eq_of_covers 6 _ (by decide +kernel) fun p hf y => ?_
  have e : (outsAt0 m c p).1 y = ((dgu DH N WG WD (y 0) (y 1) (at11 p (y 2)) : ℝ) : EReal) := by
    unfold outsAt0
    frame_out
    exact congrFun (slabs_real m c DH N WG WD H0 H1 H2 H3 p) y
  rw [after0_6]
  refine e.trans (congrArg _ (dgu_at DH N WG WD p y _ (Fin.ext ?_) (Fin.ext ?_) (Fin.ext ?_))) <;> blk_simp [idx p, at11]

include H0 H1 H2 in
/-- The array of the weight's gradient after the gate. -/
theorem arr7 : (dats m 0 c).arrAt 7 cfg0.N = fun i => ((dwd DH N WG (i 0) (i 1) : ℝ) : EReal) := by
  refine (dats m 0 c).arrAt_eq_of_covers 7 _ (by decide +kernel) fun p hf y => ?_
  have e : (outsAt0 m c p).2.1 y = ((dwd DH N WG (at11 p (y 0)) (y 1) : ℝ) : EReal) := by
    obtain ⟨k, d, rfl⟩ : ∃ k d, y = ix2 k d := ⟨_, _, eq_ix2 y⟩
    unfold outsAt0
    frame_out
    rw [blk0 m c DH H0, blk5 m c N WG H1 H2]
    exact pay22_real _ _ _ _
  rw [after0_7]
  refine e.trans (congrArg _ (dwd_at DH N WG p y _ (Fin.ext ?_) (Fin.ext ?_))) <;> blk_simp [idx p, at11]

include H0 H1 H2 in
/-- The second copy of the weight's gradient after the gate. -/
theorem arr8 : (dats m 0 c).arrAt 8 cfg0.N = fun i => ((dwd DH N WG (i 0) (i 1) : ℝ) : EReal) := by
  refine (dats m 0 c).arrAt_eq_of_covers 8 _ (by decide +kernel) fun p hf y => ?_
  have e : (outsAt0 m c p).2.2.1 y = ((dwd DH N WG (at11 p (y 0)) (y 1) : ℝ) : EReal) := by
    obtain ⟨k, d, rfl⟩ : ∃ k d, y = ix2 k d := ⟨_, _, eq_ix2 y⟩
    unfold outsAt0
    frame_out
    rw [blk0 m c DH H0, blk5 m c N WG H1 H2]
    exact pay22_real _ _ _ _
  rw [after0_8]
  refine e.trans (congrArg _ (dwd_at DH N WG p y _ (Fin.ext ?_) (Fin.ext ?_))) <;> blk_simp [idx p, at11]

include H0 H1 H2 H3 in
/-- The array of the gradients of the weight before the gate. -/
theorem arr9 : (dats m 0 c).arrAt 9 cfg0.N = fun i => ((dwgu DH N WG WD (i 0) (i 1) (i 2) : ℝ) : EReal) := by
  refine (dats m 0 c).arrAt_eq_of_covers 9 _ (by decide +kernel) fun p hf y => ?_
  have e : (outsAt0 m c p).2.2.2.1 y = ((dwgu DH N WG WD (y 0) (at11 p (y 1)) (y 2) : ℝ) : EReal) := by
    unfold outsAt0
    frame_out
    canon_tiles x h
    · exact (congrArg (fun v => k0_pay5 v (iblk m c 1 p) x) (back_one m c DH N WG WD H0 H1 H2 H3 p)).trans
        (slab_real m c DH N WG WD H0 H1 H2 H3 p 1 x y (by omega) h1 h2)
    · exact (congrArg (fun v => k0_pay5 v (iblk m c 1 p) x) (back_zero m c DH N WG WD H0 H1 H2 H3 p)).trans
        (slab_real m c DH N WG WD H0 H1 H2 H3 p 0 x y (by omega) h1 h2)
  rw [after0_9]
  refine e.trans (congrArg _ (dwgu_at DH N WG WD p y _ (Fin.ext ?_) (Fin.ext ?_) (Fin.ext ?_))) <;> blk_simp [idx p, at11]

include H0 H1 H2 H3 in
/-- The second copy of the gradients of the weight before the gate. -/
theorem arr10 : (dats m 0 c).arrAt 10 cfg0.N = fun i => ((dwgu DH N WG WD (i 0) (i 1) (i 2) : ℝ) : EReal) := by
  refine (dats m 0 c).arrAt_eq_of_covers 10 _ (by decide +kernel) fun p hf y => ?_
  have e : (outsAt0 m c p).2.2.2.2 y = ((dwgu DH N WG WD (y 0) (at11 p (y 1)) (y 2) : ℝ) : EReal) := by
    unfold outsAt0
    frame_out
    canon_tiles x h
    · exact (congrArg (fun v => k0_pay6 v (iblk m c 1 p) x) (back_one m c DH N WG WD H0 H1 H2 H3 p)).trans
        (slab_real m c DH N WG WD H0 H1 H2 H3 p 1 x y (by omega) h1 h2)
    · exact (congrArg (fun v => k0_pay6 v (iblk m c 1 p) x) (back_zero m c DH N WG WD H0 H1 H2 H3 p)).trans
        (slab_real m c DH N WG WD H0 H1 H2 H3 p 0 x y (by omega) h1 h2)
  rw [after0_10]
  refine e.trans (congrArg _ (dwgu_at DH N WG WD p y _ (Fin.ext ?_) (Fin.ext ?_) (Fin.ext ?_))) <;> blk_simp [idx p, at11]

end Cert.Down
-- ==== Proof.Down.Ref.lean ====
/-
  The reference's results for the gate's half-step, for real arguments: differentiation of the forward lines gives the two
  gradients, and those of the weights.
-/
module

public import proofs.«01_k».proof.Proof.Down.Math
public import proofs.«01_k».proof.Proof.Gen.Reference6Ideal.Read
public import Idealize.ShloMosaic.Lib.Tactic
public import Idealize.ShloMosaic.Lib.ValueIdx

@[expose] public section

set_option maxRecDepth 16384

noncomputable section

namespace Cert.Down

open Cert.Reference6Ideal Cert.Reference6Ideal.Gen Cert.Reference6Ideal.Read Cert.Coe Cert.Rows Idealize.ShloMosaic

variable (DH N : S2048x1024.Idx → ℝ) (WG : S1024x5632.Idx → ℝ) (WD : S2816x1024.Idx → ℝ)

/-- The gate's rows. -/
theorem v1_real (r : Fin 2048) (f : Fin 2816) :
    val_main_v1 (F := Ideal) (fun i => ((N i : ℝ) : EReal)) (fun i => ((WG i : ℝ) : EReal)) (ix2 r f) = ((gate N WG r f : ℝ) : EReal) := by
  unfold val_main_v1 val_main_v0
  pointwise
  simp only [← EReal.coe_mul, sum_coe]
  rfl

/-- The rows that the gate scales. -/
theorem v2_real (r : Fin 2048) (f : Fin 2816) :
    val_main_v2 (F := Ideal) (fun i => ((N i : ℝ) : EReal)) (fun i => ((WG i : ℝ) : EReal)) (ix2 r f) = ((up N WG r f : ℝ) : EReal) := by
  unfold val_main_v2 val_main_v0
  pointwise
  simp only [← EReal.coe_mul, sum_coe]
  rfl

/-- The logistic function of the gate's rows. -/
theorem s_real (r : Fin 2048) (f : Fin 2816) :
    val_main_v3_2 (F := Ideal) (fun i => ((N i : ℝ) : EReal)) (fun i => ((WG i : ℝ) : EReal)) (ix2 r f) = ((lgs (gate N WG r f) : ℝ) : EReal) := by
  unfold val_main_v3_2 val_main_call0_v4 val_main_call0_v3 val_main_call0_v2 val_main_call0_v1 val_main_call0_v0 val_main_call0_cst_0 val_main_call0_cst
  pointwise
  simp only [v1_real, ← EReal.coe_one, lgs_coe]

/-- The cotangent of the gated rows. -/
theorem v12_real (r : Fin 2048) (f : Fin 2816) :
    val_main_v12 (F := Ideal) (fun i => ((DH i : ℝ) : EReal)) (fun i => ((WD i : ℝ) : EReal)) (ix2 r f) = ((da DH WD r f : ℝ) : EReal) := by
  unfold val_main_v12 val_main_v9 val_main_v8 val_main_cst_0
  pointwise
  simp only [ofBits_half, ← EReal.coe_mul, sum_coe]
  rw [da, mulT, Finset.mul_sum]
  simp only [mul_assoc]

/-- The other gradient. -/
theorem v13_real (r : Fin 2048) (f : Fin 2816) :
    val_main_v13 (F := Ideal) (fun i => ((DH i : ℝ) : EReal)) (fun i => ((N i : ℝ) : EReal)) (fun i => ((WG i : ℝ) : EReal))
      (fun i => ((WD i : ℝ) : EReal)) (ix2 r f) = ((dgu DH N WG WD 1 r f : ℝ) : EReal) := by
  unfold val_main_v13 val_main_v3_0
  pointwise
  simp only [v1_real, s_real, v12_real, ← EReal.coe_mul]
  exact congrArg _ (mul_comm _ _)

/-- The gate's gradient. -/
theorem v15_real (r : Fin 2048) (f : Fin 2816) :
    val_main_v15 (F := Ideal) (fun i => ((DH i : ℝ) : EReal)) (fun i => ((N i : ℝ) : EReal)) (fun i => ((WG i : ℝ) : EReal))
      (fun i => ((WD i : ℝ) : EReal)) (ix2 r f) = ((dgu DH N WG WD 0 r f : ℝ) : EReal) := by
  unfold val_main_v15 val_main_call1_v2 val_main_call1_v1 val_main_call1_v0 val_main_v14 val_main_v3_1 val_main_call0_v7 val_main_call0_v6 val_main_call0_cst_1
  pointwise
  simp only [v1_real, v2_real, s_real, v12_real, ← EReal.coe_one, ← EReal.coe_mul, ← EReal.coe_sub, ← EReal.coe_add]
  refine congrArg _ ?_
  rw [dgu, if_pos rfl, fGate]
  ring

/-- The weight's gradient after the gate. -/
theorem v11_real (f : Fin 2816) (d : Fin 1024) :
    val_main_v11 (F := Ideal) (fun i => ((DH i : ℝ) : EReal)) (fun i => ((N i : ℝ) : EReal)) (fun i => ((WG i : ℝ) : EReal)) (ix2 f d) =
      ((dwd DH N WG f d : ℝ) : EReal) := by
  unfold val_main_v11 val_main_v10 val_main_v9 val_main_v8 val_main_cst_0 val_main_v4 val_main_v3_0
  pointwise
  simp only [v1_real, v2_real, s_real, ofBits_half, ← EReal.coe_mul, sum_coe]
  rw [dwd, Finset.mul_sum]
  exact congrArg _ (Finset.sum_congr rfl fun r _ => by rw [act]; ring)

/-- The two gradients in one array. -/
theorem v24_real (s : Fin 2) (r : Fin 2048) (f : Fin 2816) :
    val_main_v24 (F := Ideal) (fun i => ((DH i : ℝ) : EReal)) (fun i => ((N i : ℝ) : EReal)) (fun i => ((WG i : ℝ) : EReal))
      (fun i => ((WD i : ℝ) : EReal)) (ix3 s r f) = ((dgu DH N WG WD s r f : ℝ) : EReal) := by
  unfold val_main_v24 val_main_v23 val_main_v22 val_main_v21
  pointwise
  by_cases h : s.val < 1
  · obtain rfl : s = 0 := Fin.ext (by show s.val = 0; omega)
    rw [dif_pos h, v15_real]
  · obtain rfl : s = 1 := Fin.ext (by show s.val = 1; omega)
    rw [dif_neg h, v13_real]

/-- The weight's gradient before the gate, its two halves in one array. -/
theorem v20_real (s : Fin 2) (f : Fin 2816) (d : Fin 1024) :
    val_main_v20 (F := Ideal) (fun i => ((DH i : ℝ) : EReal)) (fun i => ((N i : ℝ) : EReal)) (fun i => ((WG i : ℝ) : EReal))
      (fun i => ((WD i : ℝ) : EReal)) (ix3 s f d) = ((dwgu DH N WG WD s f d : ℝ) : EReal) := by
  unfold val_main_v20 val_main_v19 val_main_v18 val_main_v17 val_main_v16
  pointwise
  have e (r : Fin 2048) : (if h : s.val * 2816 + f.val < 2816 then
      val_main_v15 (F := Ideal) (fun i => ((DH i : ℝ) : EReal)) (fun i => ((N i : ℝ) : EReal)) (fun i => ((WG i : ℝ) : EReal))
        (fun i => ((WD i : ℝ) : EReal)) (ix2 r ⟨s.val * 2816 + f.val, h⟩)
      else val_main_v13 (F := Ideal) (fun i => ((DH i : ℝ) : EReal)) (fun i => ((N i : ℝ) : EReal)) (fun i => ((WG i : ℝ) : EReal))
        (fun i => ((WD i : ℝ) : EReal)) (ix2 r ⟨s.val * 2816 + f.val - 2816, by have := f.isLt; have := s.isLt; omega⟩)) =
      ((dgu DH N WG WD s r f : ℝ) : EReal) := by
    have hf := f.isLt
    split_ifs with h
    · obtain rfl : s = 0 := Fin.ext (by show s.val = 0; omega)
      rw [v15_real]
      exact congrArg (fun k => ((dgu DH N WG WD 0 r k : ℝ) : EReal)) (Fin.ext (by simp))
    · obtain rfl : s = 1 := Fin.ext (by show s.val = 1; omega)
      rw [v13_real]
      exact congrArg (fun k => ((dgu DH N WG WD 1 r k : ℝ) : EReal)) (Fin.ext (by simp))
  refine (Finset.sum_congr rfl fun r _ => congrArg (· * ((N (ix2 r d) : ℝ) : EReal)) (e r)).trans ?_
  simp only [← EReal.coe_mul, sum_coe]
  rfl

/-- The weight's gradient after the gate, its second copy. -/
theorem v25_real (f : Fin 2816) (d : Fin 1024) :
    val_main_v25 (F := Ideal) (fun i => ((DH i : ℝ) : EReal)) (fun i => ((N i : ℝ) : EReal)) (fun i => ((WG i : ℝ) : EReal)) (ix2 f d) =
      ((dwd DH N WG f d : ℝ) : EReal) := by
  unfold val_main_v25
  pointwise
  exact v11_real DH N WG f d

/-- The weight's gradient before the gate, its second copy. -/
theorem v26_real (s : Fin 2) (f : Fin 2816) (d : Fin 1024) :
    val_main_v26 (F := Ideal) (fun i => ((DH i : ℝ) : EReal)) (fun i => ((N i : ℝ) : EReal)) (fun i => ((WG i : ℝ) : EReal))
      (fun i => ((WD i : ℝ) : EReal)) (ix3 s f d) = ((dwgu DH N WG WD s f d : ℝ) : EReal) := by
  unfold val_main_v26
  pointwise
  exact v20_real DH N WG WD s f d

end Cert.Down
-- ==== Proof.Down.Claim.lean ====
/-
  The gate's backward step against the derivative of the forward lines: where the arguments are finite, both programs run
  and leave the same five arrays.
-/
module

public import proofs.«01_k».proof.Defs
public import proofs.«01_k».proof.Proof.Down.Kernel
public import proofs.«01_k».proof.Proof.Down.Ref
public import proofs.«01_k».proof.Proof.Gen.Reference6Ideal.Run
public import proofs.«01_k».proof.Proof.Gen.Pre_finite_ffn
public import Idealize.ShloMosaic.Lib.Quiescent

@[expose] public section

set_option maxRecDepth 16384

noncomputable section

namespace Cert.Down

open Idealize.ShloMosaic Idealize.SL.Sem Cert.Coe

set_option maxHeartbeats 1000000 in
/-- Both programs run, and from equal finite arguments their results are equal. -/
theorem algebraic : Cert.algebraic_Kernel6Ideal_Reference6Ideal_pre_finite_ffn (hKernel6Ideal := Cert.Kernel6Ideal.Gen.facts)
    (hReference6Ideal := Cert.Reference6Ideal.Gen.facts) (hPre_finite_ffn := Cert.Pre_finite_ffn.Gen.facts) := by
  intro m ρ m' ρ' hp hargs
  refine ⟨_, _, _, _, _, (θ_run (Cert.Kernel6Ideal.defs (F := Ideal)) _ _).mono (fun r h c => h c) (Cert.Kernel6Ideal.Value.run_blocks (F := Ideal) m ρ), ?_⟩
  refine (θ_run (Cert.Reference6Ideal.defs (F := Ideal)) _ _).mono (fun r h c => ?_) (Cert.Reference6Ideal.Value.run (F := Ideal) m' ρ')
  obtain ⟨e0, e1, e2, e3, e4, kept⟩ := h c
  obtain ⟨a0, a1, a2, a3⟩ := hargs c
  obtain ⟨f0, f1, f2, f3⟩ := hp c
  obtain ⟨DH, H0⟩ := exists_real _ fun i => congrFun f0 i
  obtain ⟨N, H1⟩ := exists_real _ fun i => congrFun f1 i
  obtain ⟨WG, H2⟩ := exists_real _ fun i => congrFun f2 i
  obtain ⟨WD, H3⟩ := exists_real _ fun i => congrFun f3 i
  refine ⟨e0.trans ?_, e1.trans ?_, e2.trans ?_, e3.trans ?_, e4.trans ?_, kept⟩
  · rw [Cert.Reference6Ideal.Read.val_main_v24_eq, a0, a1, a2, a3, arr6 m c DH N WG WD H0 H1 H2 H3, H0, H1, H2, H3]
    exact funext fun j => by
      obtain ⟨s, r, f, rfl⟩ : ∃ s r f, j = ix3 s r f := ⟨_, _, _, eq_ix3 j⟩
      exact v24_real DH N WG WD s r f
  · rw [Cert.Reference6Ideal.Read.val_main_v11_eq, a0, a1, a2, arr7 m c DH N WG H0 H1 H2, H0, H1, H2]
    exact funext fun j => by
      obtain ⟨f, d, rfl⟩ : ∃ f d, j = ix2 f d := ⟨_, _, eq_ix2 j⟩
      exact v11_real DH N WG f d
  · rw [Cert.Reference6Ideal.Read.val_main_v25_eq, a0, a1, a2, arr8 m c DH N WG H0 H1 H2, H0, H1, H2]
    exact funext fun j => by
      obtain ⟨f, d, rfl⟩ : ∃ f d, j = ix2 f d := ⟨_, _, eq_ix2 j⟩
      exact v25_real DH N WG f d
  · rw [Cert.Reference6Ideal.Read.val_main_v20_eq, a0, a1, a2, a3, arr9 m c DH N WG WD H0 H1 H2 H3, H0, H1, H2, H3]
    exact funext fun j => by
      obtain ⟨s, r, f, rfl⟩ : ∃ s r f, j = ix3 s r f := ⟨_, _, _, eq_ix3 j⟩
      exact v20_real DH N WG WD s r f
  · rw [Cert.Reference6Ideal.Read.val_main_v26_eq, a0, a1, a2, a3, arr10 m c DH N WG WD H0 H1 H2 H3, H0, H1, H2, H3]
    exact funext fun j => by
      obtain ⟨s, r, f, rfl⟩ : ∃ s r f, j = ix3 s r f := ⟨_, _, _, eq_ix3 j⟩
      exact v26_real DH N WG WD s r f

/-- The reference runs, its arguments stay, and it has no counters. -/
theorem frame_ref : Cert.quiescent_Reference6Ideal (hReference6Ideal := Cert.Reference6Ideal.Gen.facts) := fun m ρ _ =>
  (θ_run (Cert.Reference6Ideal.defs (F := Ideal)) _ _).mono
    (fun _ h => ⟨fun c => (h c).2.2.2.2.2, sem_eq_zero_of_no_sems (by decide) _⟩) (Cert.Reference6Ideal.Value.run (F := Ideal) m ρ)

end Cert.Down
-- ==== Proof.Rel.Fold.lean ====
/-
  The body of the bias's step as a fold: each head in turn, each bucket in turn, one entry of the table written.
-/
module

public import proofs.«01_k».proof.Proof.Gen.Kernel7Ideal.Value

@[expose] public section

noncomputable section

namespace Cert.Rel

open Cert.Kernel7Ideal Cert.Kernel7Ideal.Gen Idealize.ShloMosaic Idealize.ShloMosaic.TcCoe Idealize.SL.Sem

variable {F : FTy → Type} [FloatOps F]

/-- The sum of a block's entries whose bucket is `b`. -/
def cell (bk : IVec S128x128 32) (t : FVec F S128x128 .f32) (b : BitVec 32) : F .f32 :=
  extractAt ![0, 0, 0] (shapeCast S1x1x1 (multiReduction .add [1, 2] S1
    (shapeCast S1x128x128 (select (cmpi .eq bk (broadcast S128x128 b)) t (broadcast S128x128 (Scalar.ofBits .f32 0x00000000#32)))
      shapeCasts_S128x128_S1x128x128) 0x00000000#32 reduces_S1x128x128_S1 (.inl rfl) rfl) shapeCasts_S1_S1x1x1) inpos_S1x1x1_p0_0_0

/-- One step: bucket `b` of head `h` is written into the table. -/
def put (bp bc : IVec S128x128 32) (t0 t1 : FVec F S128x128 .f32) (h b : BitVec 32) (out : FVec F S32x128 .f32) : FVec F S32x128 .f32 :=
  select (andi (cmpi .eq (iota .tc S32x128 32 [0] iota_S32x128_d0_w32) (broadcast S32x128 b)) (cmpi .eq (iota .tc S32x128 32 [1] iota_S32x128_d1_w32) (broadcast S32x128 h)))
    (broadcast S32x128 (Scalar.addf (cell bp t0 b) (cell bc t1 b))) out

/-- The first `n` buckets of head `h`. -/
def row (bp bc : IVec S128x128 32) (t0 t1 : FVec F S128x128 .f32) (h : BitVec 32) (out : FVec F S32x128 .f32) : Nat → FVec F S32x128 .f32
  | 0 => out
  | n + 1 => put bp bc t0 t1 h (BitVec.ofNat 32 n) (row bp bc t0 t1 h out n)

theorem block_fits (h : Fin 8) (b : Fin 2) : ∀ a, (![(h : Nat), (b : Nat), 0, 0] : Fin 4 → Nat) a + S1x1x128x128.size a ≤ S8x2x128x128.size a := by
  revert h b; decide

/-- The rectangle of head `h` and block `b`. -/
abbrev blockRect (h : Fin 8) (b : Fin 2) : Rect S8x2x128x128 :=
  Rect.unit (s := S8x2x128x128) ![(h : Nat), (b : Nat), 0, 0] S1x1x128x128.size (block_fits h b)

/-- The two layers' block, added to zero one after the other. -/
def both (x0 x1 : Vec F S8x2x128x128 .f32) (h : Fin 8) (b : Fin 2) : FVec F S128x128 .f32 :=
  addf (addf (broadcast S128x128 (Scalar.ofBits .f32 0x00000000#32)) (shapeCast S128x128 (View.ld x0 (blockRect h b)) shapeCasts_S1x1x128x128_S128x128))
    (shapeCast S128x128 (View.ld x1 (blockRect h b)) shapeCasts_S1x1x128x128_S128x128)

/-- The table after the first `n` heads. -/
def table (x0 x1 : Vec F S8x2x128x128 .f32) (bp bc : IVec S128x128 32) : (n : Nat) → n ≤ 8 → FVec F S32x128 .f32
  | 0, _ => broadcast S32x128 (Scalar.ofBits .f32 0x00000000#32)
  | n + 1, h => row bp bc (both x0 x1 ⟨n, h⟩ 0) (both x0 x1 ⟨n, h⟩ 1) (BitVec.ofNat 32 n) (table x0 x1 bp bc n (Nat.le_of_succ_le h)) 32

set_option maxRecDepth 100000 in
set_option maxHeartbeats 4000000 in
/-- What the body stores is the table of all eight heads. -/
theorem out_eq (x0 x1 : Vec F S8x2x128x128 .f32) (x2 x3 : Vec F S128x128 .i32) :
    out0_4 x0 x1 x2 x3 = View.canon [⟨r0_17, table x0 x1 (k0_pay372 x0 x1 x2 x3) (k0_pay373 x0 x1 x2 x3) 8 (Nat.le_refl 8)⟩] := by
  rfl

end Cert.Rel
-- ==== Proof.Rel.Table.lean ====
/-
  The table of bucket sums at an entry: bucket `r` of head `l` is the sum of the entries of head `l` whose bucket is `r`,
  in the previous block and in the block itself; the lanes after the heads are zero.
-/
module

public import proofs.«01_k».proof.Proof.Rel.Fold
public import Idealize.ShloMosaic.Lib.ValueIdx
public import Idealize.ShloMosaic.Lib.Pointwise
public import Idealize.ShloMosaic.Lib.Pipeline.ValueKit.Tiles

@[expose] public section

set_option maxRecDepth 16384

noncomputable section

namespace Cert.Rel

open Cert.Kernel7Ideal Cert.Kernel7Ideal.Gen Idealize.ShloMosaic

/-- The sum of a block's entries whose bucket is `b`. -/
def sumAt (bk : Fin 128 → Fin 128 → BitVec 32) (t : Fin 128 → Fin 128 → EReal) (b : BitVec 32) : EReal :=
  ∑ q : Fin 128, ∑ k : Fin 128, if bk q k = b then t q k else 0

/-- A choice by a one-bit word that says whether a statement holds. -/
theorem select_ofBool {α : Type} (p : Prop) [Decidable p] (x y : α) : Scalar.select (BitVec.ofBool (decide p)) x y = if p then x else y := by
  by_cases h : p <;> simp [Scalar.select, h]

theorem cmpi_eq (a b : BitVec 32) : IntOp.cmpi .eq a b = BitVec.ofBool (decide (a = b)) := rfl

theorem andi_ofBool (p q : Prop) [Decidable p] [Decidable q] :
    IntOp.andi (BitVec.ofBool (decide p)) (BitVec.ofBool (decide q)) = BitVec.ofBool (decide (p ∧ q)) := by
  by_cases hp : p <;> by_cases hq : q <;> simp [IntOp.andi, hp, hq]

/-- The bucket's sum over a block, entry by entry. -/
theorem cell_eq (bk : IVec S128x128 32) (t : FVec Ideal S128x128 .f32) (b : BitVec 32) :
    cell bk t b = sumAt (fun q k => bk (ix2 q k)) (fun q k => t (ix2 q k)) b := by
  unfold cell sumAt
  pointwise
  simp only [cmpi_eq, select_ofBool]

/-- One step writes one entry. -/
theorem put_eq (bp bc : IVec S128x128 32) (t0 t1 : FVec Ideal S128x128 .f32) (h b : BitVec 32) (out : FVec Ideal S32x128 .f32)
    (r : Fin 32) (l : Fin 128) :
    put bp bc t0 t1 h b out (ix2 r l) =
      if BitVec.ofNat 32 r = b ∧ BitVec.ofNat 32 l = h then (cell bp t0 b + cell bc t1 b : EReal) else out (ix2 r l) := by
  unfold put
  pointwise
  simp only [cmpi_eq, andi_ofBool, select_ofBool]

theorem ofNat_eq_iff {a b : Nat} (ha : a < 128) (hb : b < 128) : BitVec.ofNat 32 a = BitVec.ofNat 32 b ↔ a = b := by
  constructor
  · intro h
    have := congrArg BitVec.toNat h
    simp only [BitVec.toNat_ofNat] at this
    omega
  · rintro rfl; rfl

/-- The first `n` buckets of head `h`, at an entry. -/
theorem row_eq (bp bc : IVec S128x128 32) (t0 t1 : FVec Ideal S128x128 .f32) (h : Nat) (hh : h < 8) (out : FVec Ideal S32x128 .f32)
    (n : Nat) (hn : n ≤ 32) (r : Fin 32) (l : Fin 128) :
    row bp bc t0 t1 (BitVec.ofNat 32 h) out n (ix2 r l) =
      if (r : Nat) < n ∧ (l : Nat) = h then (cell bp t0 (BitVec.ofNat 32 r) + cell bc t1 (BitVec.ofNat 32 r) : EReal) else out (ix2 r l) := by
  induction n with
  | zero => simp [row]
  | succ n ih =>
    rw [row, put_eq, ih (by omega)]
    simp only [ofNat_eq_iff (show (r : Nat) < 128 by omega) (show n < 128 by omega), ofNat_eq_iff l.isLt (show h < 128 by omega)]
    by_cases hl : (l : Nat) = h
    · by_cases hr : (r : Nat) = n
      · rw [if_pos ⟨hr, hl⟩, if_pos ⟨by omega, hl⟩, hr]
      · rw [if_neg (fun c => hr c.1)]
        by_cases hr' : (r : Nat) < n
        · rw [if_pos ⟨hr', hl⟩, if_pos ⟨by omega, hl⟩]
        · rw [if_neg (fun c => hr' c.1), if_neg (fun c => by omega)]
    · rw [if_neg (fun c => hl c.2), if_neg (fun c => hl c.2), if_neg (fun c => hl c.2)]

/-- A block without its two unit axes. -/
theorem flat_eq (y : S1x1x128x128.Idx → EReal) (q k : Fin 128) :
    shapeCast S128x128 y shapeCasts_S1x1x128x128_S128x128 (ix2 q k) = y (ix4 0 0 q k) := by
  pointwise

/-- A block's entry. -/
theorem block_eq (x : Vec Ideal S8x2x128x128 .f32) (h : Fin 8) (b : Fin 2) (q k : Fin 128) :
    (View.ld x (blockRect h b) : S1x1x128x128.Idx → EReal) (ix4 0 0 q k) = x (ix4 h b q k) := by
  refine View.ld_unit_apply_of _ _ _ _ _ (ix4 h b q k) fun a => ?_
  fin_cases a
  · exact (Nat.add_zero _).symm
  · exact (Nat.add_zero _).symm
  · exact (Nat.zero_add _).symm
  · exact (Nat.zero_add _).symm

/-- The two layers' entry. -/
theorem both_eq (x0 x1 : Vec Ideal S8x2x128x128 .f32) (h : Fin 8) (b : Fin 2) (q k : Fin 128) :
    both x0 x1 h b (ix2 q k) = (x0 (ix4 h b q k) + x1 (ix4 h b q k) : EReal) := by
  rw [← block_eq x0, ← block_eq x1, ← flat_eq (View.ld x0 (blockRect h b)), ← flat_eq (View.ld x1 (blockRect h b))]
  unfold both
  generalize (View.ld x0 (blockRect h b) : S1x1x128x128.Idx → EReal) = y0
  generalize (View.ld x1 (blockRect h b) : S1x1x128x128.Idx → EReal) = y1
  exact congrArg (· + _) ((congrArg (· + _) (show (Scalar.ofBits (F := Ideal) .f32 0x00000000#32 : EReal) = 0 from by simp)).trans (zero_add _))

/-- The table after `n` heads, at an entry. -/
theorem table_eq (x0 x1 : Vec Ideal S8x2x128x128 .f32) (bp bc : IVec S128x128 32) (n : Nat) (hn : n ≤ 8) (r : Fin 32) (l : Fin 128) :
    table x0 x1 bp bc n hn (ix2 r l) =
      if hl : (l : Nat) < n then
        (sumAt (fun q k => bp (ix2 q k)) (fun q k => x0 (ix4 ⟨l, by omega⟩ 0 q k) + x1 (ix4 ⟨l, by omega⟩ 0 q k)) (BitVec.ofNat 32 r) +
          sumAt (fun q k => bc (ix2 q k)) (fun q k => x0 (ix4 ⟨l, by omega⟩ 1 q k) + x1 (ix4 ⟨l, by omega⟩ 1 q k)) (BitVec.ofNat 32 r) : EReal)
      else 0 := by
  induction n with
  | zero =>
    rw [dif_neg (by omega), table]
    pointwise
  | succ n ih =>
    rw [table, row_eq _ _ _ _ n (by omega) _ 32 le_rfl, ih (by omega)]
    by_cases hl : (l : Nat) = n
    · rw [if_pos ⟨r.isLt, hl⟩, dif_pos (by omega), cell_eq, cell_eq]
      simp only [both_eq]
      congr! <;> exact hl.symm
    · rw [if_neg (fun c => hl c.2)]
      by_cases hl' : (l : Nat) < n
      · rw [dif_pos hl', dif_pos (by omega)]
      · rw [dif_neg hl', dif_neg (by omega)]

end Cert.Rel
-- ==== Proof.Rel.Bucket.lean ====
/-
  The bucket of a distance: the distance itself below 16, and above it 16 and the whole part of a logarithm, at most 31.
-/
module

public import Idealize.ShloMosaic.PureOps.Ideal
public import Idealize.ShloMosaic.Lib.ValueIdx
public import Idealize.ShloMosaic.Lib.Pointwise

@[expose] public section

noncomputable section

namespace Cert.Rel

open Idealize.ShloMosaic

/-- The words above 15: 16 and the whole part of the logarithm of a sixteenth of the distance. -/
def far (e : BitVec 32) : BitVec 32 :=
  FloatOps.fptosi (F := Ideal) (φ := .f32) 32
    (Ideal.div (Ideal.log (Ideal.div (FloatOps.sitofp (F := Ideal) FTy.f32 (IntOp.maxsi e 1#32)) (Ideal.ofBits FTy.f32 1098907648#32)))
      (Ideal.ofBits FTy.f32 1074075026#32) * Ideal.ofBits FTy.f32 1098907648#32)

/-- The bucket of the distance `d`. -/
def bucketOf (d : BitVec 32) : BitVec 32 :=
  Scalar.select (IntOp.cmpi .slt (IntOp.maxsi d 0#32) 16#32) (IntOp.maxsi d 0#32)
    (IntOp.minsi (IntOp.addi 16#32 (far (IntOp.maxsi d 0#32))) 31#32)

/-- The word of 16. -/
theorem ofBits_16 : Ideal.ofBits FTy.f32 1098907648#32 = ((16 : ℝ) : EReal) := by
  simp [Ideal.ofBits, Ideal.ieee, -EReal.coe_mul]; norm_num

/-- What the logarithm is divided by is over 2. -/
theorem ofBits_base : ∃ c : ℝ, 2 ≤ c ∧ Ideal.ofBits FTy.f32 1074075026#32 = ((c : ℝ) : EReal) := by
  refine ⟨8721810 * (2 ^ 22)⁻¹, by norm_num, ?_⟩
  simp [Ideal.ofBits, Ideal.ieee, -EReal.coe_mul]
  try norm_num

/-- Above 15 the logarithm's word is not negative and far below the largest word. -/
theorem far_range (e : BitVec 32) (he : 16 ≤ e.toInt) : 0 ≤ (far e).toInt ∧ (far e).toInt ≤ 2 ^ 30 := by
  obtain ⟨c, hc, hbase⟩ := ofBits_base
  have hm : IntOp.maxsi e 1#32 = e := by
    have h1 : (1#32).toInt = 1 := by decide
    simp only [IntOp.maxsi, BitVec.slt, h1]
    rw [if_pos (decide_eq_true (by omega))]
  have hlt : e.toInt < 2 ^ 31 := by have := BitVec.toInt_lt (x := e); omega
  have h16 : (16 : ℝ) ≤ (e.toInt : ℝ) := by exact_mod_cast he
  have hlt' : (e.toInt : ℝ) < 2 ^ 31 := by exact_mod_cast hlt
  have hv : ∃ v : ℝ, 0 ≤ v ∧ v ≤ 2 ^ 30 ∧ far e = Ideal.fptosi 32 (v : EReal) := by
    refine ⟨Real.log ((e.toInt : ℝ) / 16) / c * 16, ?_, ?_, ?_⟩
    · have := Real.log_nonneg (show (1 : ℝ) ≤ (e.toInt : ℝ) / 16 by linarith)
      positivity
    · have h1 := Real.log_le_sub_one_of_pos (show (0 : ℝ) < (e.toInt : ℝ) / 16 by linarith)
      have h2 : Real.log ((e.toInt : ℝ) / 16) / c ≤ 2 ^ 26 := by
        rw [div_le_iff₀ (by linarith)]
        nlinarith
      linarith
    · rw [far, hm, hbase, ofBits_16]
      show Ideal.fptosi 32 _ = _
      congr 1
      show Ideal.div (Ideal.log (Ideal.div ((e.toInt : ℝ) : EReal) _)) _ * _ = _
      have hlog : Ideal.log (((e.toInt : ℝ) * (1 / 16) : ℝ) : EReal) = ((Real.log ((e.toInt : ℝ) * (1 / 16)) : ℝ) : EReal) :=
        if_neg (by push Not; linarith)
      rw [Ideal.div_coe (by norm_num : (16 : ℝ) ≠ 0), Ideal.div_coe (show c ≠ 0 by intro h; linarith), ← EReal.coe_mul, hlog, ← EReal.coe_mul, ← EReal.coe_mul]
      congr 1
      rw [div_eq_mul_one_div (e.toInt : ℝ), div_eq_mul_one_div (Real.log _)]
  obtain ⟨v, h0, h1, hf⟩ := hv
  have hfl0 : 0 ≤ ⌊v⌋ := Int.floor_nonneg.2 h0
  have hfl1 : ⌊v⌋ ≤ 2 ^ 30 := by
    have := Int.floor_le v
    exact_mod_cast this.trans h1
  have ht : (far e).toInt = ⌊v⌋ := by
    rw [hf, Ideal.fptosi, Ideal.toIntClamped_coe, if_pos h0, BitVec.toInt_ofInt]
    have : max (-((2 ^ (32 - 1) : Nat) : Int)) (min (((2 ^ (32 - 1) : Nat) : Int) - 1) ⌊v⌋) = ⌊v⌋ := by
      norm_num
      omega
    rw [this]
    rw [Int.bmod_def]
    omega
  rw [ht]
  exact ⟨hfl0, hfl1⟩

/-- Every bucket is one of the 32. -/
theorem bucketOf_range (d : BitVec 32) : 0 ≤ (bucketOf d).toInt ∧ (bucketOf d).toInt < 32 := by
  have c0 : (0#32).toInt = 0 := by decide
  have c16 : (16#32).toInt = 16 := by decide
  have c31 : (31#32).toInt = 31 := by decide
  have hmax : 0 ≤ (IntOp.maxsi d 0#32).toInt := by
    simp only [IntOp.maxsi, BitVec.slt, c0]
    split
    · rename_i h
      have := of_decide_eq_true h
      omega
    · exact le_of_eq c0.symm
  unfold bucketOf
  generalize IntOp.maxsi d 0#32 = e at hmax
  simp only [IntOp.cmpi, Scalar.select, BitVec.slt, c16, IntOp.minsi, c31]
  by_cases he : e.toInt < 16
  · simp [he]
    omega
  · obtain ⟨f0, f1⟩ := far_range e (by omega)
    have ha : (IntOp.addi 16#32 (far e)).toInt = 16 + (far e).toInt := by
      rw [IntOp.addi, BitVec.toInt_add, c16, Int.bmod_def]
      omega
    simp [he, ha]
    split
    · rw [ha]; omega
    · simp

/-- The distance of entry `k` of the two blocks from row `q`. -/
def dist (q : Fin 128) (k : Fin 256) : BitVec 32 := IntOp.subi (IntOp.addi 128#32 (BitVec.ofNat 32 q)) (BitVec.ofNat 32 k)

/-- The gradient of the bias: for bucket `r` of head `l`, what both layers hold at the entries of that bucket, over both
    blocks; zero in the lanes after the heads. -/
def biasGrad (A0 A1 : (⟨4, ![8, 2, 128, 128]⟩ : Shape).Idx → EReal) (r : Fin 32) (l : Fin 128) : EReal :=
  if h : (l : Nat) < 8 then
    ∑ q : Fin 128, ∑ b : Fin 2, ∑ k : Fin 128, if bucketOf (dist q ⟨b * 128 + k, by omega⟩) = BitVec.ofNat 32 r then
      A0 (ix4 ⟨l, h⟩ b q k) + A1 (ix4 ⟨l, h⟩ b q k) else 0
  else 0

end Cert.Rel
-- ==== Proof.Rel.Host.lean ====
/-
  The buckets the host hands the bias's step: those of the previous block's entries, and those of the block itself.
-/
module

public import proofs.«01_k».proof.Proof.Rel.Bucket
public import proofs.«01_k».proof.Proof.Gen.Kernel7Ideal.Value
public import Idealize.ShloMosaic.Lib.StableHlo.ReadAt

@[expose] public section

set_option maxRecDepth 16384

noncomputable section

namespace Cert.Rel

open Cert.Kernel7Ideal Cert.Kernel7Ideal.Gen Idealize.ShloMosaic Idealize.ShloMosaic.TcCoe

variable (m : (ℓ : Loc nD τ sig) → Buf (Elt Ideal) ℓ) (c : Dev nD)

/-- The previous block's buckets. -/
theorem prev_host (q k : Fin 128) : V m c main_v24 (ix2 q k) = bucketOf (dist q ⟨(0 : Fin 2) * 128 + k, by omega⟩) := by
  have e : dist q ⟨(0 : Fin 2) * 128 + k, by omega⟩ = IntOp.subi (IntOp.addi 128#32 (BitVec.ofNat 32 q)) (BitVec.ofNat 32 k) := by
    simp only [dist, Fin.val_zero, Nat.zero_mul, Nat.zero_add]
  rw [e]
  unfold V
  simp only [hostOps0, hostOps0_1, hostOps0_2, hostOps0_3, List.flatten, List.append]
  after_reads_at
  rfl

/-- The block's own buckets. -/
theorem cur_host (q k : Fin 128) : V m c main_v45 (ix2 q k) = bucketOf (dist q ⟨(1 : Fin 2) * 128 + k, by omega⟩) := by
  have e : dist q ⟨(1 : Fin 2) * 128 + k, by omega⟩ = IntOp.subi (BitVec.ofNat 32 q) (BitVec.ofNat 32 k) := by
    simp only [dist, Fin.val_one, Nat.one_mul, IntOp.subi, IntOp.addi, BitVec.ofNat_add]
    refine BitVec.eq_of_toNat_eq ?_
    simp only [BitVec.toNat_sub, BitVec.toNat_add, BitVec.toNat_ofNat]
    omega
  rw [e]
  unfold V
  simp only [hostOps0, hostOps0_1, hostOps0_2, hostOps0_3, List.flatten, List.append]
  after_reads_at
  rfl

end Cert.Rel
-- ==== Proof.Rel.Kernel.lean ====
/-
  The gradient of the relative bias after the run, at an entry.
-/
module

public import proofs.«01_k».proof.Proof.Rel.Table
public import proofs.«01_k».proof.Proof.Rel.Host
public import Idealize.ShloMosaic.Lib.Pipeline.ValueKit

@[expose] public section

set_option maxRecDepth 16384

noncomputable section

namespace Cert.Rel

open Cert.Kernel7Ideal Cert.Kernel7Ideal.Gen Idealize.ShloMosaic Idealize.ShloMosaic.TcCoe

variable (m : (ℓ : Loc nD τ sig) → Buf (Elt Ideal) ℓ) (c : Dev nD)
variable (A0 A1 : S8x2x128x128.Idx → EReal) (h0 : m ((c : Thread nD τ).loc main_arg0) = A0) (h1 : m ((c : Thread nD τ).loc main_arg1) = A1)

theorem idx : ∀ p : Fin cfg0.N, win0_0.index p = ![0, 0, 0, 0] ∧ win0_1.index p = ![0, 0, 0, 0] ∧ win0_2.index p = ![0, 0]
    ∧ win0_3.index p = ![0, 0] ∧ win0_4.index p = ![0, 0] := by
  decide +kernel

include h0 in
theorem blk0 (p : Fin cfg0.N) : iblk m c 0 p = A0 := by
  funext j
  have e : iblk m c 0 p j = m ((c : Thread nD τ).loc main_arg0) (ix4 (j 0) (j 1) (j 2) (j 3)) := by
    blk_ext! [iblk, V, idx p]
  rw [e, h0, ← eq_ix4]

include h1 in
theorem blk1 (p : Fin cfg0.N) : iblk m c 1 p = A1 := by
  funext j
  have e : iblk m c 1 p j = m ((c : Thread nD τ).loc main_arg1) (ix4 (j 0) (j 1) (j 2) (j 3)) := by
    blk_ext! [iblk, V, idx p]
  rw [e, h1, ← eq_ix4]

theorem blk2 (p : Fin cfg0.N) : iblk m c 2 p = V m c main_v24 := by
  funext j
  have e : iblk m c 2 p j = V m c main_v24 (ix2 (j 0) (j 1)) := by
    blk_ext! [iblk, idx p]
  rw [e, ← eq_ix2]

theorem blk3 (p : Fin cfg0.N) : iblk m c 3 p = V m c main_v45 := by
  funext j
  have e : iblk m c 3 p j = V m c main_v45 (ix2 (j 0) (j 1)) := by
    blk_ext! [iblk, idx p]
  rw [e, ← eq_ix2]

/-- A block of buckets as the body reads it. -/
theorem ld_eq (x : Vec Ideal S128x128 .i32) (q k : Fin 128) : View.ld x r0_0 (ix2 q k) = x (ix2 q k) := by
  refine View.ld_unit_apply_of _ _ _ _ _ (ix2 q k) fun a => ?_
  fin_cases a <;> exact (Nat.zero_add _).symm

theorem pay1_eq (x : Vec Ideal S128x128 .i32) (q k : Fin 128) : k0_pay1 (F := Ideal) (View.ld x r0_0) (ix2 q k) = x (ix2 q k) := by
  rw [← ld_eq x]
  pointwise [k0_pay1]

theorem pay2_eq (x : Vec Ideal S128x128 .i32) (q k : Fin 128) : k0_pay2 (F := Ideal) (View.ld x r0_0) (ix2 q k) = x (ix2 q k) := by
  rw [← ld_eq x]
  pointwise [k0_pay2]

/-- The one store is the whole array. -/
theorem canon_one (t : FVec Ideal S32x128 .f32) (r : Fin 32) (l : Fin 128) :
    (View.canon [⟨r0_17, t⟩] : Vec Ideal S32x128 .f32) (ix2 r l) = t (ix2 r l) := by
  canon_tiles x h
  refine congrArg t ((eq_ix2 x).trans ?_)
  rw [show x 0 = r from Fin.ext h0.symm, show x 1 = l from Fin.ext h1.symm]

/-- The table of eight heads is the gradient of the bias. -/
theorem table_grad (bp bc : IVec S128x128 32)
    (hp : ∀ q k : Fin 128, bp (ix2 q k) = bucketOf (dist q ⟨(0 : Fin 2) * 128 + k, by omega⟩))
    (hc : ∀ q k : Fin 128, bc (ix2 q k) = bucketOf (dist q ⟨(1 : Fin 2) * 128 + k, by omega⟩)) (r : Fin 32) (l : Fin 128) :
    table (F := Ideal) A0 A1 bp bc 8 le_rfl (ix2 r l) = biasGrad A0 A1 r l := by
  rw [table_eq, biasGrad]
  by_cases h : (l : Nat) < 8
  · rw [dif_pos h, dif_pos h]
    simp only [Fin.sum_univ_two, Finset.sum_add_distrib, sumAt, hp, hc]
  · rw [dif_neg h, dif_neg h]

include h0 h1 in
/-- The array after the run. -/
theorem arr4 (r : Fin 32) (l : Fin 128) : (dats m 0 c).arrAt 4 cfg0.N (ix2 r l) = biasGrad A0 A1 r l := by
  refine congrFun ((dats m 0 c).arrAt_eq_of_covers 4 (fun i => biasGrad A0 A1 (i 0) (i 1)) (by decide +kernel) fun p hf y => ?_) (ix2 r l)
  have e : out0_4 (iblk m c 0 p) (iblk m c 1 p) (iblk m c 2 p) (iblk m c 3 p) y = biasGrad A0 A1 (y 0) (y 1) := by
    rw [out_eq, blk0 m c A0 h0, blk1 m c A1 h1, blk2, blk3]
    obtain ⟨r, l, rfl⟩ : ∃ r l, y = ix2 r l := ⟨_, _, eq_ix2 y⟩
    exact (canon_one _ r l).trans (table_grad A0 A1 _ _
      (fun q k => (pay1_eq (V m c main_v24) q k).trans (prev_host m c q k)) (fun q k => (pay2_eq (V m c main_v45) q k).trans (cur_host m c q k)) r l)
  rw [after0_4]
  refine e.trans (congrArg₂ _ (Fin.ext ?_) (Fin.ext ?_)) <;> blk_simp [idx p]

end Cert.Rel
-- ==== Proof.Rel.Scatter.lean ====
/-
  The sum of the entries into the table of buckets: entry `(r, h)` gains what the block's entries of head `h` hold whose
  bucket is `r`.
-/
module

public import proofs.«01_k».proof.Proof.Gen.Reference7Ideal
public import Idealize.ShloMosaic.Lib.ValueIdx
public import Idealize.ShloMosaic.Lib.Pointwise
public import Idealize.ShloMosaic.Lib.Routing.OpsPair

@[expose] public section

noncomputable section

namespace Cert.Rel

open Cert.Reference7Ideal Cert.Reference7Ideal.Gen Idealize.ShloMosaic

abbrev dims := scatter_S32x8_S128x256x1_S128x256x8_2_0_0_2

/-- An update's row is its bucket, read signed. -/
theorem start0 (idx : IVec S128x256x1 32) (q : Fin 128) (k : Fin 256) (h' : Fin 8) :
    dims.start (ix3 q k h') idx 0 = (idx (ix3 q k 0)).toInt := by
  show (idx _).toInt = _
  congr 2
  funext b
  fin_cases b <;> rfl

theorem start1 (idx : IVec S128x256x1 32) (j : S128x256x8.Idx) : dims.start j idx 1 = 0 := rfl

theorem window0 (j : S128x256x8.Idx) : dims.window j 0 = 0 := rfl

theorem window1 (q : Fin 128) (k : Fin 256) (h' : Fin 8) : dims.window (ix3 q k h') 1 = h' := rfl

/-- An update lands at entry `(r, h)` where its bucket is `r` and its head `h`. -/
theorem lands (idx : IVec S128x256x1 32) (q : Fin 128) (k : Fin 256) (h' : Fin 8) (r : Fin 32) (h : Fin 8) :
    dims.resultIdx? (ix3 q k h') idx = some (ix2 r h) ↔ (idx (ix3 q k 0)).toInt = r ∧ h' = h := by
  refine (Routing.resultIdx?_ix2 dims (ix3 q k h') idx r h).trans ?_
  rw [start0, start1, window0, window1, Fin.ext_iff]
  omega

/-- The table after the sum, at an entry. -/
theorem scatter_eq (x : FVec Ideal S32x8 .f32) (idx : IVec S128x256x1 32) (u : FVec Ideal S128x256x8 .f32) (r : Fin 32) (h : Fin 8) :
    Host.scatterAdd dims x idx u (ix2 r h) =
      (x (ix2 r h) + ∑ q : Fin 128, ∑ k : Fin 256, if (idx (ix3 q k 0)).toInt = r then u (ix3 q k h) else 0 : EReal) := by
  show Ideal.hostScatterAdd dims x idx u (ix2 r h) = _
  unfold Ideal.hostScatterAdd
  rw [Finset.sum_filter, sum_idx3]
  simp only [lands]
  refine congrArg (x (ix2 r h) + ·) (Finset.sum_congr rfl fun q _ => Finset.sum_congr rfl fun k _ => ?_)
  by_cases hb : (idx (ix3 q k 0)).toInt = r
  · simp [hb]
  · simp [hb]

end Cert.Rel
-- ==== Proof.Rel.Ref.lean ====
/-
  The gradient of the relative bias by differentiation of the lookup, at an entry.
-/
module

public import proofs.«01_k».proof.Proof.Rel.Scatter
public import proofs.«01_k».proof.Proof.Rel.Bucket
public import proofs.«01_k».proof.Proof.Gen.Reference7Ideal.Run

@[expose] public section

set_option maxRecDepth 16384

noncomputable section

namespace Cert.Rel

open Cert.Reference7Ideal Cert.Reference7Ideal.Gen Idealize.ShloMosaic Idealize.ShloMosaic.TcCoe

variable (m : (ℓ : Loc nD τ sig) → Buf (Elt Ideal) ℓ) (c : Dev nD)

/-- A layer's gradients, its two blocks side by side. -/
theorem side_eq (A : S8x2x128x128.Idx → EReal) (h : Fin 8) (q : Fin 128) (b : Fin 2) (k : Fin 128) (k' : Fin 256) (hk : (k' : Nat) = b * 128 + k) :
    shapeCast S8x128x256 (transpose S8x128x2x128 [0, 2, 1, 3] A transposes_S8x2x128x128_S8x128x2x128_0_2_1_3)
      shapeCasts_S8x128x2x128_S8x128x256 (ix3 h q k') = A (ix4 h b q k) := by
  have hb : (⟨(k' : Nat) / 128, by omega⟩ : Fin 2) = b := Fin.ext (by show (k' : Nat) / 128 = b; omega)
  have hm : (⟨(k' : Nat) % 128, by omega⟩ : Fin 128) = k := Fin.ext (by show (k' : Nat) % 128 = k; omega)
  pointwise
  rw [hb, hm]

/-- The table with zero lanes after the heads. -/
theorem pad_eq (y : S32x8.Idx → EReal) (v : S_.Idx → EReal) (r : Fin 32) (l : Fin 128) :
    pad S32x128 ![0, 0] ![0, 120] ![0, 0] y v pads_S32x8_S32x128_000_01200 h_S_ (ix2 r l) =
      if h : (l : Nat) < 8 then y (ix2 r ⟨l, h⟩) else v (Shape.Idx.first h_S_) := by
  pointwise

/-- A bucket that is not negative stays where it is. -/
theorem wrap_eq (b : BitVec 32) (hb : 0 ≤ b.toInt) : Scalar.select (IntOp.cmpi .slt b 0#32) (IntOp.addi b 32#32) b = b := by
  have c0 : (0#32).toInt = 0 := by decide
  have h : ¬ b.toInt < 0 := by omega
  simp [IntOp.cmpi, Scalar.select, BitVec.slt, c0, h]

/-- The lookup's gradient is the sum of the entries into their buckets, with zero lanes. -/
theorem res_eq (A0 A1 : S8x2x128x128.Idx → EReal) (h0 : m ((c : Thread nD τ).loc main_arg0) = A0) (h1 : m ((c : Thread nD τ).loc main_arg1) = A1) :
    ∃ (x : S32x8.Idx → EReal) (idx : IVec S128x256x1 32) (u : S128x256x8.Idx → EReal) (v : S_.Idx → EReal),
    Cert.Reference7Ideal.Value.res_main_v46 m c = pad S32x128 ![0, 0] ![0, 120] ![0, 0] (Host.scatterAdd (F := Ideal) (φ := .f32) dims x idx u) v pads_S32x8_S32x128_000_01200 h_S_ ∧
    (∀ r h, x (ix2 r h) = 0) ∧ (∀ q k, idx (ix3 q k 0) = bucketOf (dist q k)) ∧
    (∀ q (b : Fin 2) (k : Fin 128) (k' : Fin 256) h, (k' : Nat) = b * 128 + k →
      u (ix3 q k' h) = A0 (ix4 h b q k) + A1 (ix4 h b q k)) ∧
    v (Shape.Idx.first h_S_) = 0 := by
  unfold Cert.Reference7Ideal.Value.res_main_v46
  rw [h0, h1]
  refine ⟨_, _, _, _, rfl, ?_, ?_, ?_, ?_⟩
  · intro r h
    pointwise
  · intro q k
    pointwise
    exact wrap_eq (bucketOf (dist q k)) (bucketOf_range _).1
  · intro q b k k' h hk
    rw [← side_eq A0 h q b k k' hk, ← side_eq A1 h q b k k' hk]
    pointwise
  · pointwise
    show (((0#32).toInt : ℝ) : EReal) = 0
    simp

/-- An entry's word is the row's, read signed. -/
theorem toInt_eq_iff (b : BitVec 32) (r : Fin 32) : b.toInt = (r : Nat) ↔ b = BitVec.ofNat 32 r := by
  have e : (BitVec.ofNat 32 (r : Nat)).toInt = (r : Nat) := by
    revert r; decide
  rw [← e, BitVec.toInt_inj]

/-- The lookup's gradient at an entry: bucket `r` of head `l`, over the two blocks. -/
theorem ref_eq (A0 A1 : S8x2x128x128.Idx → EReal) (h0 : m ((c : Thread nD τ).loc main_arg0) = A0) (h1 : m ((c : Thread nD τ).loc main_arg1) = A1)
    (r : Fin 32) (l : Fin 128) : Cert.Reference7Ideal.Value.res_main_v46 m c (ix2 r l) = biasGrad A0 A1 r l := by
  unfold biasGrad
  obtain ⟨x, idx, u, v, e, hx, hi, hu, hv⟩ := res_eq m c A0 A1 h0 h1
  refine (congrFun e _).trans ((pad_eq _ _ r l).trans ?_)
  by_cases h : (l : Nat) < 8
  · rw [dif_pos h, dif_pos h, scatter_eq, hx, zero_add]
    refine Finset.sum_congr rfl fun q _ => ?_
    rw [← Equiv.sum_comp (finProdFinEquiv (m := 2) (n := 128)), Fintype.sum_prod_type]
    refine Finset.sum_congr rfl fun b _ => Finset.sum_congr rfl fun k _ => ?_
    have hk : finProdFinEquiv (b, k) = (⟨b * 128 + k, by omega⟩ : Fin 256) := Fin.ext (by show (k : Nat) + 128 * b = b * 128 + k; omega)
    rw [hk, hi, hu q b k _ _ rfl]
    simp only [toInt_eq_iff]
  · rw [dif_neg h, dif_neg h, hv]

end Cert.Rel
-- ==== Proof.Rel.Claim.lean ====
/-
  The relative bias's gradient against the derivative of the lookup: both programs run and leave the same array.
-/
module

public import proofs.«01_k».proof.Defs
public import proofs.«01_k».proof.Proof.Rel.Kernel
public import proofs.«01_k».proof.Proof.Rel.Ref
public import Idealize.ShloMosaic.Lib.Quiescent

@[expose] public section

set_option maxRecDepth 16384

noncomputable section

namespace Cert.Rel

open Idealize.ShloMosaic Idealize.SL.Sem

/-- Both programs run, and from equal arguments their results are equal. -/
theorem algebraic : Cert.algebraic_Kernel7Ideal_Reference7Ideal (hKernel7Ideal := Cert.Kernel7Ideal.Gen.facts)
    (hReference7Ideal := Cert.Reference7Ideal.Gen.facts) := by
  intro m ρ m' ρ' _ hargs
  refine ⟨_, (θ_run (Cert.Kernel7Ideal.defs (F := Ideal)) _ _).mono (fun r h c => h c) (Cert.Kernel7Ideal.Value.run_blocks (F := Ideal) m ρ), ?_⟩
  refine (θ_run (Cert.Reference7Ideal.defs (F := Ideal)) _ _).mono (fun r h c => ?_) (Cert.Reference7Ideal.Value.run (F := Ideal) m' ρ')
  obtain ⟨e0, kept⟩ := h c
  obtain ⟨a0, a1⟩ := hargs c
  refine ⟨e0.trans (funext fun j => ?_), kept⟩
  obtain ⟨r, l, rfl⟩ : ∃ r l, j = ix2 r l := ⟨_, _, eq_ix2 j⟩
  exact (ref_eq m' c _ _ a0 a1 r l).trans (arr4 m c _ _ rfl rfl r l).symm

/-- The reference runs, its arguments stay, and it has no counters. -/
theorem frame_ref : Cert.quiescent_Reference7Ideal (hReference7Ideal := Cert.Reference7Ideal.Gen.facts) := fun m ρ _ =>
  (θ_run (Cert.Reference7Ideal.defs (F := Ideal)) _ _).mono
    (fun _ h => ⟨fun c => (h c).2, sem_eq_zero_of_no_sems (by decide) _⟩) (Cert.Reference7Ideal.Value.run (F := Ideal) m ρ)

end Cert.Rel
-- ==== Proof.Swa.Safe.lean ====
module

public import proofs.«01_k».proof.Proof.Gen.Kernel8Ideal.Frame
public import proofs.«01_k».proof.Proof.Gen.Kernel8Ideal.Skeleton
public import proofs.«01_k».proof.Proof.Gen.Kernel8Ideal.Points

@[expose] public section

set_option maxRecDepth 16384

noncomputable section

/-! Programs that run to their end and hold their buffers again, whatever they compute: the rules by which a long
    body is shown to be one, operation by operation. -/

namespace Cert.Swa

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A program that, holding `S`, runs to its end and holds `S` again, whatever it computes. -/
def Safe (c : Dev nD) (S : sProp 𝕄) {α : Type} (p : Prog (TpuEff nD τ sig (Elt F) Λ₀ .tc) α) : Prop :=
  ∀ (E : Set ℕ) (K : α → sProp 𝕄),
    iprop(S ∗ (∀ r, S -∗ K r)) ⊢ wp frame (wpE (defs₀ (F := F)) Variants.none (c : Thread nD τ) none) E p K

/-- `S` holds the buffer of `a`, and takes it back as it was. -/
class Keeps (c : Dev nD) (S : sProp 𝕄) {sp : CoreSpace} {s : Shape} {e : EltTy} (a : Memref sig .tc sp s e) : Prop where
  out : S ⊢ iprop(∃ f, (a.view.loc (c : Thread nD τ) ↦[a.view.set]{fullShare} f)
    ∗ ((a.view.loc (c : Thread nD τ) ↦[a.view.set]{fullShare} f) -∗ S))

/-- `S` holds the buffer of `a`, and takes it back at any contents. -/
class Gives (c : Dev nD) (S : sProp 𝕄) {sp : CoreSpace} {s : Shape} {e : EltTy} (a : Memref sig .tc sp s e) : Prop where
  out : S ⊢ iprop(∃ f, (a.view.loc (c : Thread nD τ) ↦[a.view.set]{fullShare} f)
    ∗ (∀ f', (a.view.loc (c : Thread nD τ) ↦[a.view.set]{fullShare} f') -∗ S))

section
variable {c : Dev nD} {S T : sProp (MT nD τ sig Unit (Elt F) ℕ (UR sig nD τ) ℕ)} {α β : Type}
variable {sp : CoreSpace} {s : Shape} {e : EltTy} {a : Memref sig .tc sp s e}

/-- A buffer held at stated contents is kept. -/
instance Keeps.owns (d : Vec F s e) : Keeps c (owns (c : Thread nD τ) a fullShare d : sProp 𝕄) a where
  out := by
    unfold Idealize.ShloMosaic.owns
    iintro ⟨%f, %hf, H⟩
    iexists f; isplitl [H]; · iexact H
    iintro H; iexists f; isplitr; · ipureintro; exact hf
    iexact H

/-- A buffer held at some contents is given. -/
instance Gives.owns : Gives c (iprop(∃ d, owns (c : Thread nD τ) a fullShare d) : sProp 𝕄) a where
  out := by
    unfold Idealize.ShloMosaic.owns
    iintro ⟨%d, %f, -, H⟩
    iexists f; isplitl [H]; · iexact H
    iintro %f' H; iexists _, f'; isplitr; swap; · iexact H
    ipureintro; rfl

instance Keeps.left [h : Keeps c S a] : Keeps c iprop(S ∗ T) a where
  out := by
    refine (sep_mono_left h.out).trans ?_
    iintro ⟨⟨%f, H, Hs⟩, Ht⟩
    iexists f; isplitl [H]; · iexact H
    iintro H; isplitl [H Hs]
    · iapply Hs; iexact H
    iexact Ht

instance Keeps.right [h : Keeps c T a] : Keeps c iprop(S ∗ T) a where
  out := by
    refine (sep_mono_right h.out).trans ?_
    iintro ⟨Hs, ⟨%f, H, Ht⟩⟩
    iexists f; isplitl [H]; · iexact H
    iintro H; isplitl [Hs]; · iexact Hs
    iapply Ht; iexact H

instance Gives.left [h : Gives c S a] : Gives c iprop(S ∗ T) a where
  out := by
    refine (sep_mono_left h.out).trans ?_
    iintro ⟨⟨%f, H, Hs⟩, Ht⟩
    iexists f; isplitl [H]; · iexact H
    iintro %f' H; isplitl [H Hs]
    · iapply Hs; iexact H
    iexact Ht

instance Gives.right [h : Gives c T a] : Gives c iprop(S ∗ T) a where
  out := by
    refine (sep_mono_right h.out).trans ?_
    iintro ⟨Hs, ⟨%f, H, Ht⟩⟩
    iexists f; isplitl [H]; · iexact H
    iintro %f' H; isplitl [Hs]; · iexact Hs
    iapply Ht; iexact H

/-- What is given is kept. -/
instance Gives.keeps [h : Gives c S a] : Keeps c S a where
  out := by
    refine h.out.trans ?_
    iintro ⟨%f, H, Hs⟩
    iexists f; isplitl [H]; · iexact H
    iintro H; iapply Hs; iexact H

theorem Safe.ret (x : α) : Safe (F := F) c S (Pure.pure x) := fun E K => by
  iintro ⟨H, Hk⟩
  sl_step
  iapply Hk; iexact H

theorem Safe.bind {p : Prog (TpuEff nD τ sig (Elt F) Λ₀ .tc) α} {k : α → Prog (TpuEff nD τ sig (Elt F) Λ₀ .tc) β}
    (hp : Safe c S p) (hk : ∀ x, Safe c S (k x)) : Safe c S (p >>= k) := fun E K => by
  rw [wp_bind]
  refine BIBase.Entails.trans ?_ (hp E _)
  iintro ⟨H, Hk⟩
  isplitl [H]; · iexact H
  iintro %x H
  iapply (hk x E K)
  isplitl [H]; · iexact H
  iexact Hk

/-- `Safe.bind`, what follows first: the goals of a long sequence then stay in a row. -/
theorem Safe.seq {p : Prog (TpuEff nD τ sig (Elt F) Λ₀ .tc) α} {k : α → Prog (TpuEff nD τ sig (Elt F) Λ₀ .tc) β}
    (hk : ∀ x, Safe c S (k x)) (hp : Safe c S p) : Safe c S (p >>= k) := hp.bind hk

theorem Safe.dite {P : Prop} [Decidable P] {p : P → Prog (TpuEff nD τ sig (Elt F) Λ₀ .tc) α} {q : ¬P → Prog (TpuEff nD τ sig (Elt F) Λ₀ .tc) α}
    (hp : ∀ h, Safe c S (p h)) (hq : ∀ h, Safe c S (q h)) : Safe c S (if h : P then p h else q h) := by
  by_cases h : P
  · rw [dif_pos h]; exact hp h
  · rw [dif_neg h]; exact hq h

theorem Safe.load [h : Keeps c S a] (r : LoadRect s) (hl : a.view.LoadsAt r) :
    Safe c S (Prog.lift (.load a r hl : TpuEff nD τ sig (Elt F) Λ₀ .tc _)) := fun E K => by
  refine (sep_mono_left h.out).trans ?_
  unfold Prog.lift
  iintro ⟨⟨%f, H, Hs⟩, Hk⟩
  sl_step
  sl_step
  iapply Hk; iapply Hs; iexact H

theorem Safe.smemLoad {a : Memref sig .tc .smem s e} [h : Keeps c S a] (r : Rect s) (h1 : r.shape.numel = 1) (hp : e.packing = 1) :
    Safe c S (Idealize.ShloMosaic.smemLoad (Val := Elt F) (nD := nD) (τ := τ) (Λ := Λ₀) a r h1 hp) := fun E K => by
  refine (sep_mono_left h.out).trans ?_
  unfold Idealize.ShloMosaic.smemLoad smemLoadElt
  iintro ⟨⟨%f, H, Hs⟩, Hk⟩
  sl_step
  sl_step
  iapply Hk; iapply Hs; iexact H

theorem Safe.store [h : Gives c S a] (r : Rect s) (w : r.shape.Idx → Elt F e) (M : Finset r.shape.Idx)
    (hx : (a.access r).Stores M) (hm : M = Finset.univ ∨ ∀ x, r.stride x = 1) :
    Safe c S (Prog.lift (.store a r w M hx hm : TpuEff nD τ sig (Elt F) Λ₀ .tc _)) := fun E K => by
  refine (sep_mono_left h.out).trans ?_
  unfold Prog.lift
  iintro ⟨⟨%f, H, Hs⟩, Hk⟩
  sl_step
  sl_step
  iapply Hk; iapply Hs; iexact H

end

end Cert.Swa

end
-- ==== Proof.Swa.Body.lean ====
module

public import proofs.«01_k».proof.Proof.Swa.Safe
public import proofs.«01_k».proof.Proof.Gen.Kernel8Ideal.Skeleton
public import proofs.«01_k».proof.Proof.Gen.Kernel8Ideal.Points

@[expose] public section

set_option maxRecDepth 16384

noncomputable section

/-! The body of the sliding window's backward kernel runs to its end at any point of the grid, its inputs kept. -/

namespace Cert.Swa

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords) (S : sProp (MT nD τ sig Unit (Elt F) ℕ (UR sig nD τ) ℕ))
variable (arg1 : Memref sig .tc .vmem S128x512 .bf16) (harg1 : arg1.IsWhole)
variable (arg2 : Memref sig .tc .vmem S128x128 .bf16) (harg2 : arg2.IsWhole)
variable (arg3 : Memref sig .tc .vmem S128x128 .bf16) (harg3 : arg3.IsWhole)
variable (arg4 : Memref sig .tc .vmem S128x128 .bf16) (harg4 : arg4.IsWhole)
variable (arg5 : Memref sig .tc .vmem S128x128 .bf16) (harg5 : arg5.IsWhole)
variable (arg6 : Memref sig .tc .vmem S128x512 .f32) (harg6 : arg6.IsWhole)
variable (arg7 : Memref sig .tc .vmem S128x1024 .f32) (harg7 : arg7.IsWhole)
variable (arg8 : Memref sig .tc .vmem S128x128 .i32) (harg8 : arg8.IsWhole)
variable (arg9 : Memref sig .tc .vmem S128x128 .i32) (harg9 : arg9.IsWhole)
variable (arg10 : Memref sig .tc .smem S1x8 .f32) (harg10 : arg10.IsWhole)
variable (arg11 : Memref sig .tc .smem S32x8 .f32) (harg11 : arg11.IsWhole)
variable (arg12 : Memref sig .tc .vmem S128x512 .bf16) (harg12 : arg12.IsWhole)
variable (arg13 : Memref sig .tc .vmem S2048x128 .bf16) (harg13 : arg13.IsWhole)
variable (arg14 : Memref sig .tc .vmem S2048x128 .bf16) (harg14 : arg14.IsWhole)
variable (arg15 : Memref sig .tc .vmem S1x128 .f32) (harg15 : arg15.IsWhole)
variable (arg16 : Memref sig .tc .vmem S8x2x128x128 .f32) (harg16 : arg16.IsWhole)
variable (arg17 : Memref sig .tc .vmem S8x2x128x128 .f32) (harg17 : arg17.IsWhole)
variable (arg18 : Memref sig .tc .vmem S2048x128 .f32) (harg18 : arg18.IsWhole)
variable (arg19 : Memref sig .tc .vmem S2048x128 .f32) (harg19 : arg19.IsWhole)
variable [Keeps c S arg1] [Keeps c S arg2] [Keeps c S arg3] [Keeps c S arg4] [Keeps c S arg5] [Keeps c S arg6] [Keeps c S arg7] [Keeps c S arg8] [Keeps c S arg9] [Keeps c S arg10] [Keeps c S arg11] [Gives c S arg12] [Gives c S arg13] [Gives c S arg14] [Gives c S arg15] [Gives c S arg16] [Gives c S arg17] [Gives c S arg18] [Gives c S arg19]

set_option maxHeartbeats 8000000 in
/-- The first sixty of the parts that set the bias table at the first point. -/
theorem bias_head : Safe c S (k0_part72 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) := by
  rw [k0_part72_eq_skeleton]; unfold k0_part72_skel
  iterate 60 refine Safe.seq (fun _ => ?_) ?_
  · exact Safe.ret _
  all_goals simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
  all_goals
    repeat' first
      | with_reducible exact Safe.load _ _
      | with_reducible exact Safe.store _ _ _ _ _
      | with_reducible exact Safe.ret _
      | refine Safe.bind ?_ fun _ => ?_
      | refine Safe.dite (fun _ => ?_) (fun _ => ?_)
      | exact Safe.smemLoad _ _ _
      | exact Safe.ret _

set_option maxHeartbeats 8000000 in
/-- The body's first part: the bias table, where the point is the first. -/
theorem first_part : Safe c S (k0_part73 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) := by
  rw [k0_part73_eq_skeleton]; unfold k0_part73_skel
  refine Safe.dite (fun _ => Safe.seq (fun _ => ?_) (bias_head c i S arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)) (fun _ => ?_)
  iterate 11 refine Safe.seq (fun _ => ?_) ?_
  all_goals try simp only [k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton]
  all_goals
    repeat' first
      | with_reducible exact Safe.load _ _
      | with_reducible exact Safe.store _ _ _ _ _
      | with_reducible exact Safe.ret _
      | refine Safe.bind ?_ fun _ => ?_
      | refine Safe.dite (fun _ => ?_) (fun _ => ?_)
      | exact Safe.smemLoad _ _ _
      | exact Safe.ret _

set_option maxHeartbeats 8000000 in
/-- The whole body, at any point: whatever it computes, it ends with every buffer held, the inputs as they were. -/
theorem body_safe : Safe c S (cc0_swa_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) := by
  rw [cc0_swa_bwd_eq_skeleton]; unfold cc0_swa_bwd_skel
  refine Safe.bind (first_part c i S arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) fun _ => ?_
  iterate 22 refine Safe.seq (fun _ => ?_) ?_
  · exact Safe.ret _
  all_goals simp only [k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton]
  all_goals
    repeat' first
      | with_reducible exact Safe.load _ _
      | with_reducible exact Safe.store _ _ _ _ _
      | with_reducible exact Safe.ret _
      | refine Safe.bind ?_ fun _ => ?_
      | refine Safe.dite (fun _ => ?_) (fun _ => ?_)
      | exact Safe.smemLoad _ _ _
      | exact Safe.ret _

end Cert.Swa

end
-- ==== Proof.Swa.Data.lean ====
module

public import proofs.«01_k».proof.Proof.Gen.Kernel8Ideal.Frame
public import proofs.«01_k».proof.Proof.Gen.Kernel8Ideal.Points

@[expose] public section

set_option maxRecDepth 16384

noncomputable section

namespace Cert.Swa

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RDat)

variable {F : FTy → Type} [FloatOps F]

local notation "𝕄" => MT nD τ sig Unit (Elt F) ℕ (UR sig nD τ) ℕ

/-! The launch of the sliding window's backward kernel, its outputs' contents not named: a body that keeps its inputs
    gives the program's frame. -/

variable (m : (ℓ : Loc nD τ sig) → Buf (Elt F) ℓ) (ρ : Dev nD → PrngReg)

/-- The scratch buffers and the generator register, each at some contents: all the invariant says. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- What the launch is told: the arrays as the region finds them, each input's block left in place, the outputs'
    contents not named, the scratch at anything throughout. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨_ + 11, _⟩ => fun _ => Classical.choice inferInstance
  Φ _ := Pipeline.ΦA spec0 c
  q w := Pipeline.shareOf spec0 w
  owed _ := 0

/-- The windows whose contents the launch is not told: the five outputs. -/
def outs (w : Fin cfg0.W) : Bool := Nat.ble 11 w.val

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = X0_0 m c t :=
  before0_0_of m (dats m 0 c) (A_eq m c 0) (fun _ => by dsimp only [dats]) t d
theorem before_1 (c : Dev nD) (t : Fin cfg0.N) (d) : (dats m 0 c).before 1 t d = iblk m c 1 t :=
  before0_1_of m (dats m 0 c) (A_eq m c 1) (fun _ => by dsimp only [dats]) t d
theorem before_2 (c : Dev nD) (t : Fin cfg0.N) (d) : (dats m 0 c).before 2 t d = iblk m c 2 t :=
  before0_2_of m (dats m 0 c) (A_eq m c 2) (fun _ => by dsimp only [dats]) t d
theorem before_3 (c : Dev nD) (t : Fin cfg0.N) (d) : (dats m 0 c).before 3 t d = iblk m c 3 t :=
  before0_3_of m (dats m 0 c) (A_eq m c 3) (fun _ => by dsimp only [dats]) t d
theorem before_4 (c : Dev nD) (t : Fin cfg0.N) (d) : (dats m 0 c).before 4 t d = iblk m c 4 t :=
  before0_4_of m (dats m 0 c) (A_eq m c 4) (fun _ => by dsimp only [dats]) t d
theorem before_5 (c : Dev nD) (t : Fin cfg0.N) (d) : (dats m 0 c).before 5 t d = iblk m c 5 t :=
  before0_5_of m (dats m 0 c) (A_eq m c 5) (fun _ => by dsimp only [dats]) t d
theorem before_6 (c : Dev nD) (t : Fin cfg0.N) (d) : (dats m 0 c).before 6 t d = iblk m c 6 t :=
  before0_6_of m (dats m 0 c) (A_eq m c 6) (fun _ => by dsimp only [dats]) t d
theorem before_7 (c : Dev nD) (t : Fin cfg0.N) (d) : (dats m 0 c).before 7 t d = iblk m c 7 t :=
  before0_7_of m (dats m 0 c) (A_eq m c 7) (fun _ => by dsimp only [dats]) t d
theorem before_8 (c : Dev nD) (t : Fin cfg0.N) (d) : (dats m 0 c).before 8 t d = iblk m c 8 t :=
  before0_8_of m (dats m 0 c) (A_eq m c 8) (fun _ => by dsimp only [dats]) t d
theorem before_9 (c : Dev nD) (t : Fin cfg0.N) (d) : (dats m 0 c).before 9 t d = iblk m c 9 t :=
  before0_9_of m (dats m 0 c) (A_eq m c 9) (fun _ => by dsimp only [dats]) t d
theorem before_10 (c : Dev nD) (t : Fin cfg0.N) (d) : (dats m 0 c).before 10 t d = iblk m c 10 t :=
  before0_10_of m (dats m 0 c) (A_eq m c 10) (fun _ => by dsimp only [dats]) t d

/-- The body table's row at a point is the body at that point's buffers. -/
theorem defs_row (t : Fin cfg0.N) :
    defs₀ (F := F) .tc cfg0.body (cfg0.bodyArgs t (cfg0.slots t)) = bodyAt0 t := by
  unfold defs₀; rw [Defs.onTc_tc]

section
set_option backward.isDefEq.respectTransparency.types false in
/-- The launch: from a body that keeps its inputs, the program ends, the counters are at zero, every input array is as
    it was and every buffer the pipeline does not stage is as the region found it. -/
theorem run_of (hbody : ∀ c, BodyObligation (dats m 0 c) (defs₀ (F := F)) Variants.none () Set.univ outs) :
    θ_run defs (onTc (τ := τ) (main (F := F))) (s₀ m ρ)
      (fun r => RDat.FramePost cfg0 (fun c => (dats m 0 c).toRForget outs) (V m) r ∧ r.2.sem = fun _ => 0) :=
  Pipeline.θ_run_frame_forget_shared (Q' := _) cfgs (dats m) (0 : Fin 1) launch₀0 defs₀ Variants.none outs m ρ main
    (hbody := fun c => (hbody c).loose) (hq := fun _ _ _ => rfl)
    (howed := fun _ _ => rfl) (V := V m) (hmain := hmain m Variants.none) (hA := A_eq m) (hΦ := fun _ _ => rfl)
end

/-- An input array ends as the region found it. -/
theorem input_kept {r} (h : RDat.FramePost cfg0 (fun c => (dats m 0 c).toRForget outs) (V m) r) (c : Dev nD) (w : Fin cfg0.W)
    (hw : outs w = false) (hin : (cfg0.win w).isOut = false) :
    r.2.mem ((cfg0.spec w).arr.view.loc (c : Thread nD τ)) = V m c (Pipeline.arrRef spec0 w) :=
  (((dats m 0 c).toRForget_arrAt_iff hw _ _).mp ((h c).1 w)).trans (((dats m 0 c).arrAt_in w hin _).trans (A_eq m c w))

/-- So the arguments end unchanged. -/
theorem frame_of_body (hbody : ∀ c, BodyObligation (dats m 0 c) (defs₀ (F := F)) Variants.none () Set.univ outs) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      (input_kept m h.1 c 5 rfl rfl).trans (V_main_arg1 m c),
      ((h.1 c).2 main_arg2 (Pipeline.mem_restRefs_of main_arg2 (by decide) (by decide))).trans (V_main_arg2 m c),
      (input_kept m h.1 c 10 rfl rfl).trans (V_main_arg3 m c)⟩, h.2⟩) (run_of m ρ hbody)

end Cert.Swa

end
-- ==== Proof.Swa.Frame.lean ====
module

public import proofs.«01_k».proof.Proof.Swa.Body
public import proofs.«01_k».proof.Proof.Swa.Data

@[expose] public section

set_option maxRecDepth 16384

noncomputable section

namespace Cert.Swa

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RDat)

variable {F : FTy → Type} [FloatOps F]

local notation "𝕄" => MT nD τ sig Unit (Elt F) ℕ (UR sig nD τ) ℕ

/-! The frame of the sliding window's backward kernel: the body keeps its inputs at every point of the grid. -/

variable (c : Dev nD) (i : grid0.Coords)
variable (arg1 : Memref sig .tc .vmem S128x512 .bf16) (harg1 : arg1.IsWhole) (d1 : Vec F S128x512 .bf16)
variable (arg2 : Memref sig .tc .vmem S128x128 .bf16) (harg2 : arg2.IsWhole) (d2 : Vec F S128x128 .bf16)
variable (arg3 : Memref sig .tc .vmem S128x128 .bf16) (harg3 : arg3.IsWhole) (d3 : Vec F S128x128 .bf16)
variable (arg4 : Memref sig .tc .vmem S128x128 .bf16) (harg4 : arg4.IsWhole) (d4 : Vec F S128x128 .bf16)
variable (arg5 : Memref sig .tc .vmem S128x128 .bf16) (harg5 : arg5.IsWhole) (d5 : Vec F S128x128 .bf16)
variable (arg6 : Memref sig .tc .vmem S128x512 .f32) (harg6 : arg6.IsWhole) (d6 : Vec F S128x512 .f32)
variable (arg7 : Memref sig .tc .vmem S128x1024 .f32) (harg7 : arg7.IsWhole) (d7 : Vec F S128x1024 .f32)
variable (arg8 : Memref sig .tc .vmem S128x128 .i32) (harg8 : arg8.IsWhole) (d8 : Vec F S128x128 .i32)
variable (arg9 : Memref sig .tc .vmem S128x128 .i32) (harg9 : arg9.IsWhole) (d9 : Vec F S128x128 .i32)
variable (arg10 : Memref sig .tc .smem S1x8 .f32) (harg10 : arg10.IsWhole) (d10 : Vec F S1x8 .f32)
variable (arg11 : Memref sig .tc .smem S32x8 .f32) (harg11 : arg11.IsWhole) (d11 : Vec F S32x8 .f32)
variable (arg12 : Memref sig .tc .vmem S128x512 .bf16) (harg12 : arg12.IsWhole)
variable (arg13 : Memref sig .tc .vmem S2048x128 .bf16) (harg13 : arg13.IsWhole)
variable (arg14 : Memref sig .tc .vmem S2048x128 .bf16) (harg14 : arg14.IsWhole)
variable (arg15 : Memref sig .tc .vmem S1x128 .f32) (harg15 : arg15.IsWhole)
variable (arg16 : Memref sig .tc .vmem S8x2x128x128 .f32) (harg16 : arg16.IsWhole)
variable (arg17 : Memref sig .tc .vmem S8x2x128x128 .f32) (harg17 : arg17.IsWhole)
variable (arg18 : Memref sig .tc .vmem S2048x128 .f32) (harg18 : arg18.IsWhole)
variable (arg19 : Memref sig .tc .vmem S2048x128 .f32) (harg19 : arg19.IsWhole)

/-- The body's buffers: the inputs at stated contents, the outputs and the scratch at some. -/
abbrev held : sProp 𝕄 :=
  iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d))

/-- The body, run on its buffers, ends and holds them again, the inputs as they were. -/
theorem body_held : Safe c (held c arg1 d1 arg2 d2 arg3 d3 arg4 d4 arg5 d5 arg6 d6 arg7 d7 arg8 d8 arg9 d9 arg10 d10 arg11 d11 arg12 arg13 arg14 arg15 arg16 arg17 arg18 arg19) (cc0_swa_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) := by
  refine @body_safe F _ c i _ arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ?_ ?_ ?_ ?_ ?_ ?_ ?_ ?_ ?_ ?_ ?_ ?_ ?_ ?_ ?_ ?_ ?_ ?_ ?_
  all_goals
    repeat first
      | with_reducible exact Keeps.left (h := Keeps.owns _)
      | with_reducible exact Gives.left (h := Gives.owns)
      | with_reducible exact Gives.owns
      | refine Keeps.right (h := ?_)
      | refine Gives.right (h := ?_)

variable (m : (ℓ : Loc nD τ sig) → Buf (Elt F) ℓ) (ρ : Dev nD → PrngReg)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ X, owns (c : Thread nD τ) (win0_11.stage (cfg0.slots t 11)) fullShare X)
    ∗ (∃ X, owns (c : Thread nD τ) (win0_12.stage (cfg0.slots t 12)) fullShare X)
    ∗ (∃ X, owns (c : Thread nD τ) (win0_13.stage (cfg0.slots t 13)) fullShare X)
    ∗ (∃ X, owns (c : Thread nD τ) (win0_14.stage (cfg0.slots t 14)) fullShare X)
    ∗ (∃ X, owns (c : Thread nD τ) (win0_15.stage (cfg0.slots t 15)) fullShare X))

/-- and what it returns: the inputs in place, the outputs at some contents. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (∃ X, owns (c : Thread nD τ) (win0_11.stage (cfg0.slots t 11)) fullShare X)
    ∗ (∃ X, owns (c : Thread nD τ) (win0_12.stage (cfg0.slots t 12)) fullShare X)
    ∗ (∃ X, owns (c : Thread nD τ) (win0_13.stage (cfg0.slots t 13)) fullShare X)
    ∗ (∃ X, owns (c : Thread nD τ) (win0_14.stage (cfg0.slots t 14)) fullShare X)
    ∗ (∃ X, owns (c : Thread nD τ) (win0_15.stage (cfg0.slots t 15)) fullShare X))

/- What each input's buffer is left at: its block. -/
theorem after_0 (c : Dev nD) (t : Fin cfg0.N) : (dats m 0 c).after 0 t = X0_0 m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]

/-- An input's buffer is left at its block. -/
theorem leaves_in (c : Dev nD) (t : Fin cfg0.N) (w : Fin cfg0.W) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

set_option maxHeartbeats 4000000 in
/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA_eq]
  rw [show (dats m 0 c).leavesExact 0 t = owns (c : Thread nD τ) (win0_0.stage (cfg0.slots t 0)) fullShare (X0_0 m c t) from
    (leaves_in m c t 0 rfl).trans (by rw [after_0])]
  rw [show (dats m 0 c).leavesExact 1 t = owns (c : Thread nD τ) (win0_1.stage (cfg0.slots t 1)) fullShare (iblk m c 1 t) from
    (leaves_in m c t 1 rfl).trans (by rw [after_1])]
  rw [show (dats m 0 c).leavesExact 2 t = owns (c : Thread nD τ) (win0_2.stage (cfg0.slots t 2)) fullShare (iblk m c 2 t) from
    (leaves_in m c t 2 rfl).trans (by rw [after_2])]
  rw [show (dats m 0 c).leavesExact 3 t = owns (c : Thread nD τ) (win0_3.stage (cfg0.slots t 3)) fullShare (iblk m c 3 t) from
    (leaves_in m c t 3 rfl).trans (by rw [after_3])]
  rw [show (dats m 0 c).leavesExact 4 t = owns (c : Thread nD τ) (win0_4.stage (cfg0.slots t 4)) fullShare (iblk m c 4 t) from
    (leaves_in m c t 4 rfl).trans (by rw [after_4])]
  rw [show (dats m 0 c).leavesExact 5 t = owns (c : Thread nD τ) (win0_5.stage (cfg0.slots t 5)) fullShare (iblk m c 5 t) from
    (leaves_in m c t 5 rfl).trans (by rw [after_5])]
  rw [show (dats m 0 c).leavesExact 6 t = owns (c : Thread nD τ) (win0_6.stage (cfg0.slots t 6)) fullShare (iblk m c 6 t) from
    (leaves_in m c t 6 rfl).trans (by rw [after_6])]
  rw [show (dats m 0 c).leavesExact 7 t = owns (c : Thread nD τ) (win0_7.stage (cfg0.slots t 7)) fullShare (iblk m c 7 t) from
    (leaves_in m c t 7 rfl).trans (by rw [after_7])]
  rw [show (dats m 0 c).leavesExact 8 t = owns (c : Thread nD τ) (win0_8.stage (cfg0.slots t 8)) fullShare (iblk m c 8 t) from
    (leaves_in m c t 8 rfl).trans (by rw [after_8])]
  rw [show (dats m 0 c).leavesExact 9 t = owns (c : Thread nD τ) (win0_9.stage (cfg0.slots t 9)) fullShare (iblk m c 9 t) from
    (leaves_in m c t 9 rfl).trans (by rw [after_9])]
  rw [show (dats m 0 c).leavesExact 10 t = owns (c : Thread nD τ) (win0_10.stage (cfg0.slots t 10)) fullShare (iblk m c 10 t) from
    (leaves_in m c t 10 rfl).trans (by rw [after_10])]
  iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12, H13, H14, H15⟩
  iapply (body_held c (grid0.coords t) _ _ _ _ _ _ _ _ _ _ _ _ _ _ _ _ _ _ _ _ _ _ _ _ _ _ _ _ _ _ _ _ _ _ _ _ _ _ _ _ _ _ _ _ _ _ _ _ _ Set.univ _)
  isplitl [H0 H1 H2 H3 H4 H5 H6 H7 H8 H9 H10 H11 H12 H13 H14 H15 S0 S1 S2]
  · isplitl [H0]; iexact H0; isplitl [H1]; iexact H1; isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; isplitl [H14]; iexact H14; isplitl [H15]; iexact H15; isplitl [S0]; iexact S0; isplitl [S1]; iexact S1; iexact S2
  iintro %r ⟨H0, H1, H2, H3, H4, H5, H6, H7, H8, H9, H10, H11, H12, H13, H14, H15, S0, S1, S2⟩
  isplitl [S0 S1 S2 Hg]
  · isplitl [S0 S1 S2]
    · isplitl [S0]; iexact S0; isplitl [S1]; iexact S1; iexact S2
    iexact Hg
  isplitl [Ho]; iexact Ho
  isplitl [H0]; iexact H0; isplitl [H1]; iexact H1; isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10; isplitl [H11]; iexact H11; isplitl [H12]; iexact H12; isplitl [H13]; iexact H13; isplitl [H14]; iexact H14; iexact H15

set_option maxHeartbeats 4000000 in
/-- The body obligation at every point. -/
theorem body_obligation (c : Dev nD) : BodyObligation (dats (F := F) m 0 c) (defs₀ (F := F)) Variants.none () Set.univ outs := fun t => by
  rw [bigSep_W0, bigSep_W0, defs_row]
  simp only [show outs 0 = false from rfl, show outs 1 = false from rfl, show outs 2 = false from rfl, show outs 3 = false from rfl, show outs 4 = false from rfl, show outs 5 = false from rfl, show outs 6 = false from rfl, show outs 7 = false from rfl, show outs 8 = false from rfl, show outs 9 = false from rfl, show outs 10 = false from rfl, show outs 11 = true from rfl, show outs 12 = true from rfl, show outs 13 = true from rfl, show outs 14 = true from rfl, show outs 15 = true from rfl]
  refine triple_restated (sound_body m c t) rfl ?_ fun _ => ?_
  · unfold bodyPre
    with_reducible_and_instances exact .rfl
  · unfold bodyPost
    with_reducible_and_instances exact .rfl

/-- What a frame says of the printed program, at one choice of float values. -/
def FrameAt (F : FTy → Type) [FloatOps F] : Prop :=
  ∀ (m : (ℓ : Loc nD τ sig) → Buf (Elt F) ℓ) (ρ : Dev nD → PrngReg),
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

/-- The frame of the program, over any float values. -/
theorem frame : FrameAt F := fun m ρ =>
  frame_of_body m ρ (body_obligation m)

end Cert.Swa

end
-- ==== Proof.Swa.Both.lean ====
module

public import proofs.«01_k».proof.Defs
public import proofs.«01_k».proof.Proof.Gen.Kernel8
public import proofs.«01_k».proof.Proof.Gen.Kernel8Ideal
public import proofs.«01_k».proof.Proof.Swa.Frame

@[expose] public section

set_option maxRecDepth 16384

noncomputable section

/-! The two frames of the sliding window's backward kernel, from one run. -/

namespace Cert.Swa

open Idealize.ShloMosaic Idealize.ShloMosaic.Tactic Idealize.SL.Sem

section
open Cert.Kernel8

/-- The two programs have the same text, so that a frame of one is a frame of the other. -/
theorem same_text : (FrameAt Bits) = (∀ (m : (ℓ : Loc nD τ sig) → Buf (Elt Bits) ℓ) (ρ : Dev nD → PrngReg),
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)) := by
  sl_kernel_rfl
end

/-- The frame of the kernel as printed for its own float values, taken from the other's run. -/
theorem frame_bits : quiescent_Kernel8 := fun m ρ _ => same_text.mp frame m ρ

/-- The frame of the kernel printed for reading. -/
theorem frame_ideal : quiescent_Kernel8Ideal := fun m ρ _ => frame m ρ

end Cert.Swa

end
-- ==== Proof.Fwd.Row.lean ====
/-
  Rows of extended real numbers, as the forward calls use them: a row's root-mean-square norm with its gain, and a row's
  product with a column. Nothing here asks the numbers to be finite.
-/
module

public import proofs.«01_k».proof.Proof.Rows

@[expose] public section

noncomputable section

namespace Cert.Fwd

open Cert.Coe Cert.Rows Idealize.ShloMosaic

/-- A matrix of extended real numbers. -/
abbrev EMat (a b : ℕ) : Type := (⟨2, ![a, b]⟩ : Shape).Idx → EReal

variable {a b n : ℕ}

/-- Row `r` of a matrix. -/
def row (A : EMat a b) (r : Fin a) : Fin b → EReal := fun d => A (ix2 r d)

/-- A vector by its places. -/
def vec (g : (⟨1, ![n]⟩ : Shape).Idx → EReal) : Fin n → EReal := fun d => g (ix1 d)

/-- A vector as a matrix of one row. -/
def line (g : (⟨1, ![n]⟩ : Shape).Idx → EReal) : EMat 1 n := fun j => g (ix1 (j 1))

/-- The norm of the row `x` with gain `g`; `w` is the row's width. -/
def nrm (w : ℝ) (x g : Fin n → EReal) (d : Fin n) : EReal :=
  x d * Ideal.rsqrt (Ideal.div (∑ e, x e * x e) (w : EReal) + (eps : EReal)) * g d

/-- The product of a row with column `j` of a matrix. -/
def dot (x : Fin a → EReal) (W : EMat a b) (j : Fin b) : EReal := ∑ e, x e * W (ix2 e j)

/-- The rows of tile `p`, for eight tiles of 256 rows. -/
def part {N : ℕ} (h : N = 8) (A : EMat 2048 n) (p : Fin N) : EMat 256 n := fun j => A (ix2 (at256 h p (j 0)) (j 1))

/-- The matrix of the rows `f`. -/
def arrOf (f : Fin a → Fin n → EReal) (i : (⟨2, ![a, n]⟩ : Shape).Idx) : EReal := f (i 0) (i 1)

/-- The matrix of the rows `f` at an index that is row `r`, place `d`. -/
theorem arr_at (f : Fin a → Fin n → EReal) (r : Fin a) (d : Fin n) (i : (⟨2, ![a, n]⟩ : Shape).Idx) (h0 : i 0 = r) (h1 : i 1 = d) :
    f r d = arrOf f i := by
  unfold arrOf
  rw [h0, h1]

end Cert.Fwd
-- ==== Proof.Fwd.MixIn.lean ====
/-
  The mixers' input call of the forward pass: the norm of the hidden rows, and its product with the input weight. Tile by
  tile it computes what the reference computes on the whole array, at every argument.
-/
module

public import proofs.«01_k».proof.Defs
public import proofs.«01_k».proof.Proof.Fwd.Row
public import proofs.«01_k».proof.Proof.Gen.Kernel9Ideal.Value
public import proofs.«01_k».proof.Proof.Gen.Reference9Ideal.Run
public import proofs.«01_k».proof.Proof.Gen.Reference9Ideal.Read
public import Idealize.ShloMosaic.Lib.Tactic
public import Idealize.ShloMosaic.Lib.ValueIdx
public import Idealize.ShloMosaic.Lib.Pointwise
public import Idealize.ShloMosaic.Lib.Pipeline.ValueKit
public import Idealize.ShloMosaic.Lib.Quiescent

@[expose] public section

set_option maxRecDepth 16384

noncomputable section

namespace Cert.Fwd.MixIn

section Tile

open Cert.Kernel9Ideal Cert.Kernel9Ideal.Gen Cert.Coe Cert.Rows Cert.Fwd Idealize.ShloMosaic Idealize.ShloMosaic.TcCoe

/-- The norm of a tile's rows. -/
theorem pay1_at (x : FVec Ideal S256x1024 .f32) (g : FVec Ideal S1x1024 .f32) (r : Fin 256) (d : Fin 1024) :
    k0_pay1 (F := Ideal) x g (ix2 r d) = nrm 1024 (row x r) (row g 0) d := by
  pointwise [k0_pay1]
  simp only [ofBits_1024, ofBits_eps]
  rfl

/-- Their product with the transposed weight. -/
theorem pay2_at (x : FVec Ideal S256x1024 .f32) (g : FVec Ideal S1x1024 .f32) (w : FVec Ideal S2304x1024 .bf16) (r : Fin 256) (j : Fin 2304) :
    k0_pay2 (F := Ideal) x g w (ix2 r j) = ∑ e, nrm 1024 (row x r) (row g 0) e * w (ix2 j e) := by
  pointwise [k0_pay2]
  simp only [pay1_at]

variable (m : (ℓ : Loc nD τ sig) → Buf (Elt Ideal) ℓ) (c : Dev nD)

theorem idx : ∀ p : Fin cfg0.N, win0_0.index p = ![p.val, 0] ∧ win0_1.index p = ![0, 0] ∧ win0_2.index p = ![0, 0]
    ∧ win0_3.index p = ![p.val, 0] ∧ win0_4.index p = ![p.val, 0] := by
  decide +kernel

variable (x : S2048x1024.Idx → EReal) (g : S1024.Idx → EReal) (w : S1024x2304.Idx → EReal)
  (H0 : m ((c : Thread nD τ).loc main_arg0) = x) (H1 : m ((c : Thread nD τ).loc main_arg1) = g)
  (H2 : m ((c : Thread nD τ).loc main_arg2) = w)

include H0 in
/-- The tile of rows a point reads. -/
theorem blk0 (p : Fin cfg0.N) : iblk m c 0 p = part N_0 x p := by
  funext j
  have e : iblk m c 0 p j = m ((c : Thread nD τ).loc main_arg0) (ix2 (at256 N_0 p (j 0)) (j 1)) := by
    blk_ext [iblk, V, idx p, at256]
  rw [e, H0]
  rfl

include H1 in
/-- The gain a point reads. -/
theorem blk1 (p : Fin cfg0.N) : iblk m c 1 p = line g := by
  funext j
  have e : iblk m c 1 p j = m ((c : Thread nD τ).loc main_arg1) (ix1 (j 1)) := by
    blk_ext! [iblk, V, idx p]
  rw [e, H1]
  rfl

include H2 in
/-- The transposed weight a point reads. -/
theorem blk2 (p : Fin cfg0.N) : iblk m c 2 p = fun j => w (ix2 (j 1) (j 0)) := by
  funext j
  have e : iblk m c 2 p j = m ((c : Thread nD τ).loc main_arg2) (ix2 (j 1) (j 0)) := by
    blk_ext! [iblk, V, idx p]
  rw [e, H2]

include H0 H1 in
/-- The normed rows after the run. -/
theorem arr3 : (dats m 0 c).arrAt 3 cfg0.N = arrOf fun r => nrm 1024 (row x r) (vec g) := by
  have hG := arr_at fun r => nrm 1024 (row x r) (vec g)
  generalize (arrOf fun r => nrm 1024 (row x r) (vec g)) = G at hG ⊢
  refine (dats m 0 c).arrAt_eq_of_covers 3 _ (by decide +kernel) fun p hf y => ?_
  have e : ∀ y, out0_3 (iblk m c 0 p) (iblk m c 1 p) (iblk m c 2 p) y = nrm 1024 (row x (at256 N_0 p (y 0))) (vec g) (y 1) := by
    intro y
    obtain ⟨r, d, rfl⟩ : ∃ r d, y = ix2 r d := ⟨_, _, eq_ix2 y⟩
    frame_out
    rw [blk0 m c x H0 p, blk1 m c g H1 p]
    exact pay1_at _ _ _ _
  rw [after0_3, cast_eq, e]
  refine hG _ _ _ (Fin.ext ?_) (Fin.ext ?_)
  · blk_simp [idx p, at256]
  · blk_simp [idx p]

include H0 H1 H2 in
/-- Their product with the weight after the run. -/
theorem arr4 : (dats m 0 c).arrAt 4 cfg0.N = arrOf fun r => dot (nrm 1024 (row x r) (vec g)) w := by
  have hG := arr_at fun r => dot (nrm 1024 (row x r) (vec g)) w
  generalize (arrOf fun r => dot (nrm 1024 (row x r) (vec g)) w) = G at hG ⊢
  refine (dats m 0 c).arrAt_eq_of_covers 4 _ (by decide +kernel) fun p hf y => ?_
  have e : ∀ y, out0_4 (iblk m c 0 p) (iblk m c 1 p) (iblk m c 2 p) y = dot (nrm 1024 (row x (at256 N_0 p (y 0))) (vec g)) w (y 1) := by
    intro y
    obtain ⟨r, j, rfl⟩ : ∃ r j, y = ix2 r j := ⟨_, _, eq_ix2 y⟩
    frame_out
    rw [blk0 m c x H0 p, blk1 m c g H1 p, blk2 m c w H2 p]
    exact pay2_at _ _ _ _ _
  rw [after0_4, cast_eq, e]
  refine hG _ _ _ (Fin.ext ?_) (Fin.ext ?_)
  · blk_simp [idx p, at256]
  · blk_simp [idx p]

end Tile

section Ref

open Cert.Reference9Ideal Cert.Reference9Ideal.Gen Cert.Reference9Ideal.Read Cert.Coe Cert.Rows Cert.Fwd Idealize.ShloMosaic

/-- The reference's normed rows. -/
theorem v12_at (x : FVec Ideal S2048x1024 .f32) (g : FVec Ideal S1024 .f32) (r : Fin 2048) (d : Fin 1024) :
    val_main_v12 (F := Ideal) x g (ix2 r d) = nrm 1024 (row x r) (vec g) d := by
  unfold val_main_v12 val_main_v11 val_main_v10 val_main_v9 val_main_v8 val_main_v7 val_main_v6 val_main_v5 val_main_v4 val_main_v3
    val_main_v2 val_main_v1 val_main_v0 val_main_cst val_main_cst_0 val_main_cst_1
  pointwise
  simp only [ofBits_1024, ofBits_eps]
  rfl

/-- As the reference returns them. -/
theorem v13_at (x : FVec Ideal S2048x1024 .f32) (g : FVec Ideal S1024 .f32) (i : S2048x1024.Idx) :
    val_main_v13 (F := Ideal) x g i = nrm 1024 (row x (i 0)) (vec g) (i 1) := by
  obtain ⟨r, d, rfl⟩ : ∃ r d, i = ix2 r d := ⟨_, _, eq_ix2 i⟩
  unfold val_main_v13
  pointwise
  exact v12_at x g r d

/-- The reference's product. -/
theorem v15_at (x : FVec Ideal S2048x1024 .f32) (g : FVec Ideal S1024 .f32) (w : FVec Ideal S1024x2304 .f32) (i : S2048x2304.Idx) :
    val_main_v15 (F := Ideal) x g w i = dot (nrm 1024 (row x (i 0)) (vec g)) w (i 1) := by
  obtain ⟨r, j, rfl⟩ : ∃ r j, i = ix2 r j := ⟨_, _, eq_ix2 i⟩
  unfold val_main_v15 val_main_v14
  pointwise
  simp only [v12_at]
  rfl

end Ref

open Idealize.ShloMosaic Idealize.SL.Sem

/-- Both programs run, and from equal arguments their results are equal. -/
theorem algebraic : Cert.algebraic_Kernel9Ideal_Reference9Ideal (hKernel9Ideal := Cert.Kernel9Ideal.Gen.facts)
    (hReference9Ideal := Cert.Reference9Ideal.Gen.facts) := by
  intro m ρ m' ρ' _ hargs
  refine ⟨_, _, (θ_run (Cert.Kernel9Ideal.defs (F := Ideal)) _ _).mono (fun r h c => h c) (Cert.Kernel9Ideal.Value.run_blocks (F := Ideal) m ρ), ?_⟩
  refine (θ_run (Cert.Reference9Ideal.defs (F := Ideal)) _ _).mono (fun r h c => ?_) (Cert.Reference9Ideal.Value.run (F := Ideal) m' ρ')
  obtain ⟨e0, e1, kept⟩ := h c
  obtain ⟨a0, a1, a2⟩ := hargs c
  refine ⟨e0.trans ?_, e1.trans ?_, kept⟩
  · rw [Cert.Reference9Ideal.Read.val_main_v13_eq, a0, a1, arr3 m c _ _ rfl rfl]
    exact funext fun i => v13_at _ _ i
  · rw [Cert.Reference9Ideal.Read.val_main_v15_eq, a0, a1, a2, arr4 m c _ _ _ rfl rfl rfl]
    exact funext fun i => v15_at _ _ _ i

/-- The reference runs, its arguments stay, and it has no counters. -/
theorem frame_ref : Cert.quiescent_Reference9Ideal (hReference9Ideal := Cert.Reference9Ideal.Gen.facts) := fun m ρ _ =>
  (θ_run (Cert.Reference9Ideal.defs (F := Ideal)) _ _).mono
    (fun _ h => ⟨fun c => (h c).2.2, sem_eq_zero_of_no_sems (by decide) _⟩) (Cert.Reference9Ideal.Value.run (F := Ideal) m ρ)

end Cert.Fwd.MixIn
-- ==== Proof.Fwd.MixOut.lean ====
/-
  The mixers' output call of the forward pass, without its exchange: the two branches are normed and set side by side, their
  product with the output weight is added to the hidden rows, and the sum is normed. Tile by tile the call computes what the
  reference computes on the whole array, at every argument.
-/
module

public import proofs.«01_k».proof.Defs
public import proofs.«01_k».proof.Proof.Fwd.Row
public import proofs.«01_k».proof.Proof.Gen.Kernel10Ideal.Value
public import proofs.«01_k».proof.Proof.Gen.Reference10Ideal.Run
public import proofs.«01_k».proof.Proof.Gen.Reference10Ideal.Read
public import Idealize.ShloMosaic.Lib.Tactic
public import Idealize.ShloMosaic.Lib.ValueIdx
public import Idealize.ShloMosaic.Lib.Pointwise
public import Idealize.ShloMosaic.Lib.Pipeline.ValueKit
public import Idealize.ShloMosaic.Lib.Quiescent

@[expose] public section

set_option maxRecDepth 16384

noncomputable section

namespace Cert.Fwd.MixOut

/-- Two branches normed and set side by side. -/
def pair (x y g k : Fin 512 → EReal) (d : Fin 1024) : EReal :=
  if h : d.val < 512 then nrm 512 x g ⟨d.val, h⟩ else nrm 512 y k ⟨d.val - 512, by omega⟩

theorem pair_left (x y g k : Fin 512 → EReal) (d : Fin 1024) (e : Fin 512) (h : (d : ℕ) = e) : nrm 512 x g e = pair x y g k d := by
  rw [pair, dif_pos (show (d : ℕ) < 512 by omega)]
  exact congrArg _ (Fin.ext h.symm)

theorem pair_right (x y g k : Fin 512 → EReal) (d : Fin 1024) (e : Fin 512) (h : (d : ℕ) = 512 + e) : nrm 512 y k e = pair x y g k d := by
  rw [pair, dif_neg (by omega)]
  exact congrArg _ (Fin.ext (by show (e : ℕ) = d - 512; omega))

/-- The mixed row `r` of two branches. -/
def mixed {a : ℕ} (x y : EMat a 512) (g k : Fin 512 → EReal) (r : Fin a) : Fin 1024 → EReal := pair (row x r) (row y r) g k

/-- A hidden row with the product of a mixed row added. -/
def add (h z : Fin 1024 → EReal) (W : EMat 1024 1024) (j : Fin 1024) : EReal := h j + dot z W j

section Tile

open Cert.Kernel10Ideal Cert.Kernel10Ideal.Gen Cert.Coe Cert.Rows Cert.Fwd Idealize.ShloMosaic Idealize.ShloMosaic.TcCoe

/-- The norm of a tile of the first branch. -/
theorem pay3_at (x : FVec Ideal S256x512 .f32) (g : FVec Ideal S1x512 .f32) (r : Fin 256) (d : Fin 512) :
    k0_pay3 (F := Ideal) x g (ix2 r d) = nrm 512 (row x r) (row g 0) d := by
  pointwise [k0_pay3]
  simp only [ofBits_512, ofBits_eps]
  rfl

/-- The norm of a tile of the second branch. -/
theorem pay4_at (x : FVec Ideal S256x512 .f32) (g : FVec Ideal S1x512 .f32) (r : Fin 256) (d : Fin 512) :
    k0_pay4 (F := Ideal) x g (ix2 r d) = nrm 512 (row x r) (row g 0) d := by
  pointwise [k0_pay4]
  simp only [ofBits_512, ofBits_eps]
  rfl

/-- The sum, on a tile. -/
theorem pay1_at (h : FVec Ideal S256x1024 .f32) (z : FVec Ideal S256x1024 .bf16) (w : FVec Ideal S1024x1024 .bf16) (r : Fin 256) (j : Fin 1024) :
    k0_pay1 (F := Ideal) h z w (ix2 r j) = add (row h r) (row z r) w j := by
  pointwise [k0_pay1]
  rfl

/-- Its norm, on a tile. -/
theorem pay2_at (h : FVec Ideal S256x1024 .f32) (z : FVec Ideal S256x1024 .bf16) (w : FVec Ideal S1024x1024 .bf16) (g : FVec Ideal S1x1024 .f32)
    (r : Fin 256) (j : Fin 1024) :
    k0_pay2 (F := Ideal) h z w g (ix2 r j) = nrm 1024 (add (row h r) (row z r) w) (row g 0) j := by
  pointwise [k0_pay2]
  simp only [pay1_at, ofBits_1024, ofBits_eps]
  rfl

/-- The stores of a tile's mixed rows, the last one first. -/
def halves (x y : FVec Ideal S256x512 .f32) (g k : FVec Ideal S1x512 .f32) : List (View.Piece (Elt Ideal) S256x1024 .bf16) :=
  [⟨Rect.unit ![0, 512] ![256, 512] inb_S256x1024_S256x512_0_512, k0_pay4 (F := Ideal) y k⟩, ⟨Rect.unit ![0, 0] ![256, 512] inb_S256x1024_S256x512_0_0, k0_pay3 (F := Ideal) x g⟩]

/-- They leave the mixed rows. -/
theorem canon_halves (x y : FVec Ideal S256x512 .f32) (g k : FVec Ideal S1x512 .f32) :
    View.canon (halves x y g k) = arrOf (mixed x y (row g 0) (row k 0)) := by
  funext u
  unfold halves
  canon_tiles v e
  · obtain ⟨r, d, rfl⟩ : ∃ r d, v = ix2 r d := ⟨_, _, eq_ix2 v⟩
    obtain rfl : r = u 0 := Fin.ext e0.symm
    exact (pay4_at y k _ d).trans (pair_right _ _ _ _ _ _ e1)
  · obtain ⟨r, d, rfl⟩ : ∃ r d, v = ix2 r d := ⟨_, _, eq_ix2 v⟩
    obtain rfl : r = u 0 := Fin.ext e0.symm
    exact (pay3_at x g _ d).trans (pair_left _ _ _ _ _ _ e1)

variable (m : (ℓ : Loc nD τ sig) → Buf (Elt Ideal) ℓ) (c : Dev nD)

theorem idx : ∀ p : Fin cfg0.N, win0_0.index p = ![p.val, 0] ∧ win0_1.index p = ![p.val, 0] ∧ win0_2.index p = ![0, 0]
    ∧ win0_3.index p = ![0, 0] ∧ win0_4.index p = ![0, 0] ∧ win0_5.index p = ![p.val, 0] ∧ win0_6.index p = ![0, 0]
    ∧ win0_7.index p = ![p.val, 0] ∧ win0_8.index p = ![p.val, 0] ∧ win0_9.index p = ![p.val, 0] := by
  decide +kernel

variable (x y : S2048x512.Idx → EReal) (g k : S512.Idx → EReal) (w : S1024x1024.Idx → EReal) (h : S2048x1024.Idx → EReal)
  (q : S1024.Idx → EReal)
  (H0 : m ((c : Thread nD τ).loc main_arg0) = x) (H1 : m ((c : Thread nD τ).loc main_arg1) = y)
  (H2 : m ((c : Thread nD τ).loc main_arg2) = g) (H3 : m ((c : Thread nD τ).loc main_arg3) = k)
  (H4 : m ((c : Thread nD τ).loc main_arg4) = w) (H5 : m ((c : Thread nD τ).loc main_arg5) = h)
  (H6 : m ((c : Thread nD τ).loc main_arg6) = q)

include H0 in
/-- The rows of the first branch that a point reads. -/
theorem blk0 (p : Fin cfg0.N) : iblk m c 0 p = part N_0 x p := by
  funext j
  have e : iblk m c 0 p j = m ((c : Thread nD τ).loc main_arg0) (ix2 (at256 N_0 p (j 0)) (j 1)) := by
    blk_ext [iblk, V, idx p, at256]
  rw [e, H0]
  rfl

include H1 in
/-- The rows of the second branch that a point reads. -/
theorem blk1 (p : Fin cfg0.N) : iblk m c 1 p = part N_0 y p := by
  funext j
  have e : iblk m c 1 p j = m ((c : Thread nD τ).loc main_arg1) (ix2 (at256 N_0 p (j 0)) (j 1)) := by
    blk_ext [iblk, V, idx p, at256]
  rw [e, H1]
  rfl

include H2 in
/-- The first branch's gain that a point reads. -/
theorem blk2 (p : Fin cfg0.N) : iblk m c 2 p = line g := by
  funext j
  have e : iblk m c 2 p j = m ((c : Thread nD τ).loc main_arg2) (ix1 (j 1)) := by
    blk_ext! [iblk, V, idx p]
  rw [e, H2]
  rfl

include H3 in
/-- The second branch's gain that a point reads. -/
theorem blk3 (p : Fin cfg0.N) : iblk m c 3 p = line k := by
  funext j
  have e : iblk m c 3 p j = m ((c : Thread nD τ).loc main_arg3) (ix1 (j 1)) := by
    blk_ext! [iblk, V, idx p]
  rw [e, H3]
  rfl

include H4 in
/-- The weight that a point reads. -/
theorem blk4 (p : Fin cfg0.N) : iblk m c 4 p = w := by
  funext j
  have e : iblk m c 4 p j = m ((c : Thread nD τ).loc main_arg4) (ix2 (j 0) (j 1)) := by
    blk_ext [iblk, V, idx p]
  rw [e, H4, ← eq_ix2]

include H5 in
/-- The hidden rows that a point reads. -/
theorem blk5 (p : Fin cfg0.N) : iblk m c 5 p = part N_0 h p := by
  funext j
  have e : iblk m c 5 p j = m ((c : Thread nD τ).loc main_arg5) (ix2 (at256 N_0 p (j 0)) (j 1)) := by
    blk_ext [iblk, V, idx p, at256]
  rw [e, H5]
  rfl

include H6 in
/-- The gain of the last norm that a point reads. -/
theorem blk6 (p : Fin cfg0.N) : iblk m c 6 p = line q := by
  funext j
  have e : iblk m c 6 p j = m ((c : Thread nD τ).loc main_arg6) (ix1 (j 1)) := by
    blk_ext! [iblk, V, idx p]
  rw [e, H6]
  rfl

include H0 H1 H2 H3 in
/-- What a point's stores of the mixed rows leave. -/
theorem canon_at (p : Fin cfg0.N) : View.canon (halves (iblk m c 0 p) (iblk m c 1 p) (iblk m c 2 p) (iblk m c 3 p)) =
    arrOf fun r => mixed x y (vec g) (vec k) (at256 N_0 p r) := by
  rw [blk0 m c x H0 p, blk1 m c y H1 p, blk2 m c g H2 p, blk3 m c k H3 p]
  exact canon_halves _ _ _ _

include H0 H1 H2 H3 in
/-- The mixed rows as a point reads them back. -/
theorem back_at (p : Fin cfg0.N) : (ms0_7 p).view.readCov (halves (iblk m c 0 p) (iblk m c 1 p) (iblk m c 2 p) (iblk m c 3 p))
    (Rect.unit ![0, 0] ![256, 1024] inb_S256x1024_S256x1024_0_0).toLoadRect =
    (arrOf fun r => mixed x y (vec g) (vec k) (at256 N_0 p r) : S256x1024.Idx → EReal) := by
  rw [View.readCov_eq_canon', canon_at m c x y g k H0 H1 H2 H3]
  funext j
  have e : (Rect.unit (s := S256x1024) ![0, 0] ![256, 1024] inb_S256x1024_S256x1024_0_0).idx j = j :=
    funext fun a => Fin.ext ((Rect.idx_unit_val _ _ _ _ a).trans (by fin_cases a <;> simp))
  exact congrArg (arrOf fun r => mixed x y (vec g) (vec k) (at256 N_0 p r)) e

include H0 H1 H2 H3 in
/-- The mixed rows after the run. -/
theorem arr7 : (dats m 0 c).arrAt 7 cfg0.N = arrOf (mixed x y (vec g) (vec k)) := by
  have hG := arr_at (mixed x y (vec g) (vec k))
  generalize arrOf (mixed x y (vec g) (vec k)) = G at hG ⊢
  refine (dats m 0 c).arrAt_eq_of_covers 7 _ (by decide +kernel) fun p hf u => ?_
  have e : ∀ u, (outsAt0 m c p).1 u = mixed x y (vec g) (vec k) (at256 N_0 p (u 0)) (u 1) := by
    intro u
    unfold outsAt0
    frame_out
    exact congrFun (canon_at m c x y g k H0 H1 H2 H3 p) u
  rw [after0_7, cast_eq, e]
  refine hG _ _ _ (Fin.ext ?_) (Fin.ext ?_)
  · blk_simp [idx p, at256]
  · blk_simp [idx p]

include H0 H1 H2 H3 H4 H5 in
/-- The sums after the run. -/
theorem arr8 : (dats m 0 c).arrAt 8 cfg0.N = arrOf fun r => add (row h r) (mixed x y (vec g) (vec k) r) w := by
  have hG := arr_at fun r => add (row h r) (mixed x y (vec g) (vec k) r) w
  generalize (arrOf fun r => add (row h r) (mixed x y (vec g) (vec k) r) w) = G at hG ⊢
  refine (dats m 0 c).arrAt_eq_of_covers 8 _ (by decide +kernel) fun p hf u => ?_
  have e : ∀ u, (outsAt0 m c p).2.1 u =
      add (row h (at256 N_0 p (u 0))) (mixed x y (vec g) (vec k) (at256 N_0 p (u 0))) w (u 1) := by
    intro u
    obtain ⟨r, j, rfl⟩ : ∃ r j, u = ix2 r j := ⟨_, _, eq_ix2 u⟩
    unfold outsAt0
    frame_out
    refine (congrArg (fun v => k0_pay1 (iblk m c 5 p) v (iblk m c 4 p) (ix2 r j)) (back_at m c x y g k H0 H1 H2 H3 p)).trans ?_
    rw [blk4 m c w H4 p, blk5 m c h H5 p]
    exact pay1_at _ _ _ _ _
  rw [after0_8, cast_eq, e]
  refine hG _ _ _ (Fin.ext ?_) (Fin.ext ?_)
  · blk_simp [idx p, at256]
  · blk_simp [idx p]

include H0 H1 H2 H3 H4 H5 H6 in
/-- Their norms after the run. -/
theorem arr9 : (dats m 0 c).arrAt 9 cfg0.N = arrOf fun r => nrm 1024 (add (row h r) (mixed x y (vec g) (vec k) r) w) (vec q) := by
  have hG := arr_at fun r => nrm 1024 (add (row h r) (mixed x y (vec g) (vec k) r) w) (vec q)
  generalize (arrOf fun r => nrm 1024 (add (row h r) (mixed x y (vec g) (vec k) r) w) (vec q)) = G at hG ⊢
  refine (dats m 0 c).arrAt_eq_of_covers 9 _ (by decide +kernel) fun p hf u => ?_
  have e : ∀ u, (outsAt0 m c p).2.2 u =
      nrm 1024 (add (row h (at256 N_0 p (u 0))) (mixed x y (vec g) (vec k) (at256 N_0 p (u 0))) w) (vec q) (u 1) := by
    intro u
    obtain ⟨r, j, rfl⟩ : ∃ r j, u = ix2 r j := ⟨_, _, eq_ix2 u⟩
    unfold outsAt0
    frame_out
    refine (congrArg (fun v => k0_pay2 (iblk m c 5 p) v (iblk m c 4 p) (iblk m c 6 p) (ix2 r j)) (back_at m c x y g k H0 H1 H2 H3 p)).trans ?_
    rw [blk4 m c w H4 p, blk5 m c h H5 p, blk6 m c q H6 p]
    exact pay2_at _ _ _ _ _ _
  rw [after0_9, cast_eq, e]
  refine hG _ _ _ (Fin.ext ?_) (Fin.ext ?_)
  · blk_simp [idx p, at256]
  · blk_simp [idx p]

end Tile

section Ref

open Cert.Reference10Ideal Cert.Reference10Ideal.Gen Cert.Reference10Ideal.Read Cert.Coe Cert.Rows Cert.Fwd Idealize.ShloMosaic

/-- The reference's first branch normed. -/
theorem v12_at (x : FVec Ideal S2048x512 .f32) (g : FVec Ideal S512 .f32) (r : Fin 2048) (d : Fin 512) :
    val_main_v12 (F := Ideal) x g (ix2 r d) = nrm 512 (row x r) (vec g) d := by
  unfold val_main_v12 val_main_v11 val_main_v10 val_main_v9 val_main_v8 val_main_v7 val_main_v6 val_main_v5 val_main_v4 val_main_v3
    val_main_v2 val_main_v1 val_main_v0 val_main_cst val_main_cst_0 val_main_cst_1
  pointwise
  simp only [ofBits_512, ofBits_eps]
  rfl

/-- The reference's second branch normed. -/
theorem v25_at (y : FVec Ideal S2048x512 .f32) (k : FVec Ideal S512 .f32) (r : Fin 2048) (d : Fin 512) :
    val_main_v25 (F := Ideal) y k (ix2 r d) = nrm 512 (row y r) (vec k) d := v12_at y k r d

variable (x y : FVec Ideal S2048x512 .f32) (g k : FVec Ideal S512 .f32) (w : FVec Ideal S1024x1024 .f32) (h : FVec Ideal S2048x1024 .f32)
  (q : FVec Ideal S1024 .f32) (r : Fin 2048) (j : Fin 1024)

/-- The reference's branches side by side. -/
theorem v26_at : val_main_v26 (F := Ideal) x y g k (ix2 r j) = mixed x y (vec g) (vec k) r j := by
  unfold val_main_v26
  pointwise
  simp only [v12_at, v25_at]
  rfl

/-- The reference's sums. -/
theorem v28_at : val_main_v28 (F := Ideal) x y g k w h (ix2 r j) = add (row h r) (mixed x y (vec g) (vec k) r) w j := by
  unfold val_main_v28 val_main_v27
  pointwise
  simp only [v26_at]
  rfl

/-- The reference's norms. -/
theorem v43_at : val_main_v43 (F := Ideal) x y g k w h q (ix2 r j) = nrm 1024 (add (row h r) (mixed x y (vec g) (vec k) r) w) (vec q) j := by
  unfold val_main_v43 val_main_v42 val_main_v41 val_main_v40 val_main_v39 val_main_v38 val_main_v37 val_main_v36 val_main_v35 val_main_v34
    val_main_v33 val_main_v32 val_main_v31 val_main_v30 val_main_cst_5 val_main_cst_6 val_main_cst_7
  pointwise
  simp only [v28_at, ofBits_1024, ofBits_eps]
  rfl

end Ref

open Idealize.ShloMosaic Idealize.SL.Sem Cert.Rows

/-- Both programs run, and from equal arguments their results are equal. -/
theorem algebraic : Cert.algebraic_Kernel10Ideal_Reference10Ideal (hKernel10Ideal := Cert.Kernel10Ideal.Gen.facts)
    (hReference10Ideal := Cert.Reference10Ideal.Gen.facts) := by
  intro m ρ m' ρ' _ hargs
  refine ⟨_, _, _, (θ_run (Cert.Kernel10Ideal.defs (F := Ideal)) _ _).mono (fun r h c => h c) (Cert.Kernel10Ideal.Value.run_blocks (F := Ideal) m ρ), ?_⟩
  refine (θ_run (Cert.Reference10Ideal.defs (F := Ideal)) _ _).mono (fun r h c => ?_) (Cert.Reference10Ideal.Value.run (F := Ideal) m' ρ')
  obtain ⟨e0, e1, e2, kept⟩ := h c
  obtain ⟨a0, a1, a2, a3, a4, a5, a6⟩ := hargs c
  refine ⟨e0.trans ?_, e1.trans ?_, e2.trans ?_, kept⟩
  · rw [Cert.Reference10Ideal.Read.val_main_v29_eq, a0, a1, a2, a3, arr7 m c _ _ _ _ rfl rfl rfl rfl]
    refine funext fun i => ?_
    obtain ⟨r, j, rfl⟩ : ∃ r j, i = ix2 r j := ⟨_, _, eq_ix2 i⟩
    exact v26_at _ _ _ _ r j
  · rw [Cert.Reference10Ideal.Read.val_main_v28_eq, a0, a1, a2, a3, a4, a5, arr8 m c _ _ _ _ _ _ rfl rfl rfl rfl rfl rfl]
    refine funext fun i => ?_
    obtain ⟨r, j, rfl⟩ : ∃ r j, i = ix2 r j := ⟨_, _, eq_ix2 i⟩
    exact v28_at _ _ _ _ _ _ r j
  · rw [Cert.Reference10Ideal.Read.val_main_v43_eq, a0, a1, a2, a3, a4, a5, a6, arr9 m c _ _ _ _ _ _ _ rfl rfl rfl rfl rfl rfl rfl]
    refine funext fun i => ?_
    obtain ⟨r, j, rfl⟩ : ∃ r j, i = ix2 r j := ⟨_, _, eq_ix2 i⟩
    exact v43_at _ _ _ _ _ _ _ r j

/-- The reference runs, its arguments stay, and it has no counters. -/
theorem frame_ref : Cert.quiescent_Reference10Ideal (hReference10Ideal := Cert.Reference10Ideal.Gen.facts) := fun m ρ _ =>
  (θ_run (Cert.Reference10Ideal.defs (F := Ideal)) _ _).mono
    (fun _ h => ⟨fun c => (h c).2.2.2, sem_eq_zero_of_no_sems (by decide) _⟩) (Cert.Reference10Ideal.Value.run (F := Ideal) m ρ)

end Cert.Fwd.MixOut
-- ==== Proof.Fwd.Half.lean ====
/-
  The second half of a feed-forward block in the forward pass, without its exchange: half the product of the gated rows
  with the output weight is added to the hidden rows, and the sum is normed. Tile by tile the call computes what the
  reference computes on the whole array, at every argument.
-/
module

public import proofs.«01_k».proof.Defs
public import proofs.«01_k».proof.Proof.Fwd.Row
public import proofs.«01_k».proof.Proof.Gen.Kernel11Ideal.Value
public import proofs.«01_k».proof.Proof.Gen.Reference11Ideal.Run
public import proofs.«01_k».proof.Proof.Gen.Reference11Ideal.Read
public import Idealize.ShloMosaic.Lib.Tactic
public import Idealize.ShloMosaic.Lib.ValueIdx
public import Idealize.ShloMosaic.Lib.Pointwise
public import Idealize.ShloMosaic.Lib.Pipeline.ValueKit
public import Idealize.ShloMosaic.Lib.Quiescent

@[expose] public section

set_option maxRecDepth 16384

noncomputable section

namespace Cert.Fwd.Half

/-- A hidden row with half the product of a gated row added. -/
def half (h : Fin 1024 → EReal) (a : Fin 2816 → EReal) (W : EMat 2816 1024) (j : Fin 1024) : EReal :=
  h j + ((1 / 2 : ℝ) : EReal) * dot a W j

section Tile

open Cert.Kernel11Ideal Cert.Kernel11Ideal.Gen Cert.Coe Cert.Rows Cert.Fwd Idealize.ShloMosaic Idealize.ShloMosaic.TcCoe

/-- The sum, on a tile. -/
theorem pay1_at (h : FVec Ideal S256x1024 .f32) (a : FVec Ideal S256x2816 .bf16) (w : FVec Ideal S2816x1024 .bf16) (r : Fin 256) (j : Fin 1024) :
    k0_pay1 (F := Ideal) h a w (ix2 r j) = half (row h r) (row a r) w j := by
  pointwise [k0_pay1]
  simp only [ofBits_half]
  rfl

/-- Its norm, on a tile. -/
theorem pay2_at (h : FVec Ideal S256x1024 .f32) (a : FVec Ideal S256x2816 .bf16) (w : FVec Ideal S2816x1024 .bf16) (g : FVec Ideal S1x1024 .f32)
    (r : Fin 256) (j : Fin 1024) :
    k0_pay2 (F := Ideal) h a w g (ix2 r j) = nrm 1024 (half (row h r) (row a r) w) (row g 0) j := by
  pointwise [k0_pay2]
  simp only [pay1_at, ofBits_1024, ofBits_eps]
  rfl

variable (m : (ℓ : Loc nD τ sig) → Buf (Elt Ideal) ℓ) (c : Dev nD)

theorem idx : ∀ p : Fin cfg0.N, win0_0.index p = ![p.val, 0] ∧ win0_1.index p = ![0, 0] ∧ win0_2.index p = ![p.val, 0]
    ∧ win0_3.index p = ![0, 0] ∧ win0_4.index p = ![p.val, 0] ∧ win0_5.index p = ![p.val, 0] := by
  decide +kernel

variable (a : S2048x2816.Idx → EReal) (w : S2816x1024.Idx → EReal) (h : S2048x1024.Idx → EReal) (g : S1024.Idx → EReal)
  (H0 : m ((c : Thread nD τ).loc main_arg0) = a) (H1 : m ((c : Thread nD τ).loc main_arg1) = w)
  (H2 : m ((c : Thread nD τ).loc main_arg2) = h) (H3 : m ((c : Thread nD τ).loc main_arg3) = g)

include H0 in
/-- The gated rows a point reads. -/
theorem blk0 (p : Fin cfg0.N) : iblk m c 0 p = part N_0 a p := by
  funext j
  have e : iblk m c 0 p j = m ((c : Thread nD τ).loc main_arg0) (ix2 (at256 N_0 p (j 0)) (j 1)) := by
    blk_ext [iblk, V, idx p, at256]
  rw [e, H0]
  rfl

include H1 in
/-- The weight a point reads. -/
theorem blk1 (p : Fin cfg0.N) : iblk m c 1 p = w := by
  funext j
  have e : iblk m c 1 p j = m ((c : Thread nD τ).loc main_arg1) (ix2 (j 0) (j 1)) := by
    blk_ext [iblk, V, idx p]
  rw [e, H1, ← eq_ix2]

include H2 in
/-- The hidden rows a point reads. -/
theorem blk2 (p : Fin cfg0.N) : iblk m c 2 p = part N_0 h p := by
  funext j
  have e : iblk m c 2 p j = m ((c : Thread nD τ).loc main_arg2) (ix2 (at256 N_0 p (j 0)) (j 1)) := by
    blk_ext [iblk, V, idx p, at256]
  rw [e, H2]
  rfl

include H3 in
/-- The gain a point reads. -/
theorem blk3 (p : Fin cfg0.N) : iblk m c 3 p = line g := by
  funext j
  have e : iblk m c 3 p j = m ((c : Thread nD τ).loc main_arg3) (ix1 (j 1)) := by
    blk_ext! [iblk, V, idx p]
  rw [e, H3]
  rfl

include H0 H1 H2 in
/-- The sums after the run. -/
theorem arr4 : (dats m 0 c).arrAt 4 cfg0.N = arrOf fun r => half (row h r) (row a r) w := by
  have hG := arr_at fun r => half (row h r) (row a r) w
  generalize (arrOf fun r => half (row h r) (row a r) w) = G at hG ⊢
  refine (dats m 0 c).arrAt_eq_of_covers 4 _ (by decide +kernel) fun p hf y => ?_
  have e : ∀ y, out0_4 (iblk m c 0 p) (iblk m c 1 p) (iblk m c 2 p) (iblk m c 3 p) y =
      half (row h (at256 N_0 p (y 0))) (row a (at256 N_0 p (y 0))) w (y 1) := by
    intro y
    obtain ⟨r, j, rfl⟩ : ∃ r j, y = ix2 r j := ⟨_, _, eq_ix2 y⟩
    frame_out
    rw [blk0 m c a H0 p, blk1 m c w H1 p, blk2 m c h H2 p]
    exact pay1_at _ _ _ _ _
  rw [after0_4, cast_eq, e]
  refine hG _ _ _ (Fin.ext ?_) (Fin.ext ?_)
  · blk_simp [idx p, at256]
  · blk_simp [idx p]

include H0 H1 H2 H3 in
/-- Their norms after the run. -/
theorem arr5 : (dats m 0 c).arrAt 5 cfg0.N = arrOf fun r => nrm 1024 (half (row h r) (row a r) w) (vec g) := by
  have hG := arr_at fun r => nrm 1024 (half (row h r) (row a r) w) (vec g)
  generalize (arrOf fun r => nrm 1024 (half (row h r) (row a r) w) (vec g)) = G at hG ⊢
  refine (dats m 0 c).arrAt_eq_of_covers 5 _ (by decide +kernel) fun p hf y => ?_
  have e : ∀ y, out0_5 (iblk m c 0 p) (iblk m c 1 p) (iblk m c 2 p) (iblk m c 3 p) y =
      nrm 1024 (half (row h (at256 N_0 p (y 0))) (row a (at256 N_0 p (y 0))) w) (vec g) (y 1) := by
    intro y
    obtain ⟨r, j, rfl⟩ : ∃ r j, y = ix2 r j := ⟨_, _, eq_ix2 y⟩
    frame_out
    rw [blk0 m c a H0 p, blk1 m c w H1 p, blk2 m c h H2 p, blk3 m c g H3 p]
    exact pay2_at _ _ _ _ _ _
  rw [after0_5, cast_eq, e]
  refine hG _ _ _ (Fin.ext ?_) (Fin.ext ?_)
  · blk_simp [idx p, at256]
  · blk_simp [idx p]

end Tile

section Ref

open Cert.Reference11Ideal Cert.Reference11Ideal.Gen Cert.Reference11Ideal.Read Cert.Coe Cert.Rows Cert.Fwd Idealize.ShloMosaic

/-- The reference's sums. -/
theorem v3_at (a : FVec Ideal S2048x2816 .f32) (w : FVec Ideal S2816x1024 .f32) (h : FVec Ideal S2048x1024 .f32) (r : Fin 2048) (j : Fin 1024) :
    val_main_v3 (F := Ideal) a w h (ix2 r j) = half (row h r) (row a r) w j := by
  unfold val_main_v3 val_main_v2 val_main_v1 val_main_v0 val_main_cst
  pointwise
  simp only [ofBits_half]
  rfl

/-- The reference's norms. -/
theorem v17_at (a : FVec Ideal S2048x2816 .f32) (w : FVec Ideal S2816x1024 .f32) (h : FVec Ideal S2048x1024 .f32) (g : FVec Ideal S1024 .f32)
    (r : Fin 2048) (j : Fin 1024) :
    val_main_v17 (F := Ideal) a w h g (ix2 r j) = nrm 1024 (half (row h r) (row a r) w) (vec g) j := by
  unfold val_main_v17 val_main_v16 val_main_v15 val_main_v14 val_main_v13 val_main_v12 val_main_v11 val_main_v10 val_main_v9 val_main_v8
    val_main_v7 val_main_v6 val_main_v5 val_main_v4 val_main_cst_0 val_main_cst_1 val_main_cst_2
  pointwise
  simp only [v3_at, ofBits_1024, ofBits_eps]
  rfl

end Ref

open Idealize.ShloMosaic Idealize.SL.Sem Cert.Rows

/-- Both programs run, and from equal arguments their results are equal. -/
theorem algebraic : Cert.algebraic_Kernel11Ideal_Reference11Ideal (hKernel11Ideal := Cert.Kernel11Ideal.Gen.facts)
    (hReference11Ideal := Cert.Reference11Ideal.Gen.facts) := by
  intro m ρ m' ρ' _ hargs
  refine ⟨_, _, (θ_run (Cert.Kernel11Ideal.defs (F := Ideal)) _ _).mono (fun r h c => h c) (Cert.Kernel11Ideal.Value.run_blocks (F := Ideal) m ρ), ?_⟩
  refine (θ_run (Cert.Reference11Ideal.defs (F := Ideal)) _ _).mono (fun r h c => ?_) (Cert.Reference11Ideal.Value.run (F := Ideal) m' ρ')
  obtain ⟨e0, e1, kept⟩ := h c
  obtain ⟨a0, a1, a2, a3⟩ := hargs c
  refine ⟨e0.trans ?_, e1.trans ?_, kept⟩
  · rw [Cert.Reference11Ideal.Read.val_main_v3_eq, a0, a1, a2, arr4 m c _ _ _ rfl rfl rfl]
    refine funext fun i => ?_
    obtain ⟨r, j, rfl⟩ : ∃ r j, i = ix2 r j := ⟨_, _, eq_ix2 i⟩
    exact v3_at _ _ _ r j
  · rw [Cert.Reference11Ideal.Read.val_main_v17_eq, a0, a1, a2, a3, arr5 m c _ _ _ _ rfl rfl rfl rfl]
    refine funext fun i => ?_
    obtain ⟨r, j, rfl⟩ : ∃ r j, i = ix2 r j := ⟨_, _, eq_ix2 i⟩
    exact v17_at _ _ _ _ r j

/-- The reference runs, its arguments stay, and it has no counters. -/
theorem frame_ref : Cert.quiescent_Reference11Ideal (hReference11Ideal := Cert.Reference11Ideal.Gen.facts) := fun m ρ _ =>
  (θ_run (Cert.Reference11Ideal.defs (F := Ideal)) _ _).mono
    (fun _ h => ⟨fun c => (h c).2.2, sem_eq_zero_of_no_sems (by decide) _⟩) (Cert.Reference11Ideal.Value.run (F := Ideal) m ρ)

end Cert.Fwd.Half
-- ==== Proof.lean ====
/-
  The claims of this directory, call by call: both frames of each kernel, the frame of its reference, and the algebraic claim.
-/
module

public import proofs.«01_k».proof.Proof.Gen.KernelIdeal.Value
public import proofs.«01_k».proof.Proof.Gen.ReferenceIdeal.Run
public import proofs.«01_k».proof.Proof.Gen.ReferenceIdeal.Read
public import proofs.«01_k».proof.Proof.Loss.Claim
public import proofs.«01_k».proof.Proof.SB.Claim
public import proofs.«01_k».proof.Proof.Mix.Claim
public import proofs.«01_k».proof.Proof.In.Claim
public import proofs.«01_k».proof.Proof.Up.Claim
public import proofs.«01_k».proof.Proof.Down.Claim
public import proofs.«01_k».proof.Proof.Rel.Claim
public import proofs.«01_k».proof.Proof.Swa.Both
public import proofs.«01_k».proof.Proof.Fwd.MixIn
public import proofs.«01_k».proof.Proof.Fwd.MixOut
public import proofs.«01_k».proof.Proof.Fwd.Half
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite_sb
public import proofs.«01_k».proof.Proof.Gen.Pre_finite
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite_mix
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite_in
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite_up
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Kernel7
public import proofs.«01_k».proof.Proof.Gen.Kernel8
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite_ffn
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Pre_finite.Gen.facts, Cert.Pre_finite_sb.Gen.facts, Cert.Pre_finite_mix.Gen.facts, Cert.Pre_finite_in.Gen.facts, Cert.Pre_finite_up.Gen.facts, Cert.Pre_finite_ffn.Gen.facts,
  fun m ρ _ => Cert.Kernel.Gen.frame m ρ,
  fun m ρ _ => Cert.KernelIdeal.Gen.frame m ρ, fun m ρ _ => Cert.KernelIdeal.Gen.frame m ρ,
  Cert.Loss.frame_ref, fun m ρ _ => Cert.Loss.frame_ref m ρ trivial,
  fun m ρ _ => Cert.Kernel2.Gen.frame m ρ,
  fun m ρ _ => Cert.Kernel2Ideal.Gen.frame m ρ, fun m ρ _ => Cert.Kernel2Ideal.Gen.frame m ρ,
  Cert.SB.frame_ref, fun m ρ _ => Cert.SB.frame_ref m ρ trivial,
  fun m ρ _ => Cert.Kernel3.Gen.frame m ρ,
  fun m ρ _ => Cert.Kernel3Ideal.Gen.frame m ρ, fun m ρ _ => Cert.Kernel3Ideal.Gen.frame m ρ,
  Cert.Mix.frame_ref, fun m ρ _ => Cert.Mix.frame_ref m ρ trivial,
  fun m ρ _ => Cert.Kernel4.Gen.frame m ρ,
  fun m ρ _ => Cert.Kernel4Ideal.Gen.frame m ρ, fun m ρ _ => Cert.Kernel4Ideal.Gen.frame m ρ,
  Cert.In.frame_ref, fun m ρ _ => Cert.In.frame_ref m ρ trivial,
  fun m ρ _ => Cert.Kernel5.Gen.frame m ρ,
  fun m ρ _ => Cert.Kernel5Ideal.Gen.frame m ρ, fun m ρ _ => Cert.Kernel5Ideal.Gen.frame m ρ,
  Cert.Up.frame_ref, fun m ρ _ => Cert.Up.frame_ref m ρ trivial,
  fun m ρ _ => Cert.Kernel6.Gen.frame m ρ,
  fun m ρ _ => Cert.Kernel6Ideal.Gen.frame m ρ, fun m ρ _ => Cert.Kernel6Ideal.Gen.frame m ρ,
  Cert.Down.frame_ref, fun m ρ _ => Cert.Down.frame_ref m ρ trivial,
  fun m ρ _ => Cert.Kernel7.Gen.frame m ρ, fun m ρ _ => Cert.Kernel7Ideal.Gen.frame m ρ, Cert.Rel.frame_ref,
  Cert.Swa.frame_bits, Cert.Swa.frame_ideal,
  fun m ρ _ => Cert.Kernel9.Gen.frame m ρ, fun m ρ _ => Cert.Kernel9Ideal.Gen.frame m ρ, Cert.Fwd.MixIn.frame_ref,
  fun m ρ _ => Cert.Kernel10.Gen.frame m ρ, fun m ρ _ => Cert.Kernel10Ideal.Gen.frame m ρ, Cert.Fwd.MixOut.frame_ref,
  fun m ρ _ => Cert.Kernel11.Gen.frame m ρ, fun m ρ _ => Cert.Kernel11Ideal.Gen.frame m ρ, Cert.Fwd.Half.frame_ref,
  trivial, Cert.Loss.algebraic,
  trivial, Cert.SB.algebraic,
  trivial, Cert.Mix.algebraic,
  trivial, Cert.In.algebraic,
  trivial, Cert.Up.algebraic,
  trivial, Cert.Down.algebraic,
  trivial, Cert.Rel.algebraic,
  trivial,
  trivial, Cert.Fwd.MixIn.algebraic,
  trivial, Cert.Fwd.MixOut.algebraic,
  trivial, Cert.Fwd.Half.algebraic⟩

end Cert.Proof

end
